-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysIdeal_keys_finite [hPre_keys_finite : Cert.Pre_keys_finite.Facts] (m : (ℓ : Loc Cert.KeysIdeal.nD Cert.KeysIdeal.τ Cert.KeysIdeal.sig) → Buf (Elt Ideal) ℓ) : Prop :=
  ∀ c : Dev Cert.KeysIdeal.nD,
    (Cert.Pre_keys_finite.fn (F := Ideal) (m ((c.tc : Thread Cert.KeysIdeal.nD Cert.KeysIdeal.τ).loc Cert.KeysIdeal.main_arg0)) (m ((c.tc : Thread Cert.KeysIdeal.nD Cert.KeysIdeal.τ).loc Cert.KeysIdeal.main_arg1)) (m ((c.tc : Thread Cert.KeysIdeal.nD Cert.KeysIdeal.τ).loc Cert.KeysIdeal.main_arg2)) (m ((c.tc : Thread Cert.KeysIdeal.nD Cert.KeysIdeal.τ).loc Cert.KeysIdeal.main_arg3))) = (fun _ => 1#1)

def Pre_KeysReferenceIdeal (m : (ℓ : Loc Cert.KeysReferenceIdeal.nD Cert.KeysReferenceIdeal.τ Cert.KeysReferenceIdeal.sig) → Buf (Elt Ideal) ℓ) : Prop :=
  True

def Pre_KeysReferenceIdeal_keys_finite [hPre_keys_finite : Cert.Pre_keys_finite.Facts] (m : (ℓ : Loc Cert.KeysReferenceIdeal.nD Cert.KeysReferenceIdeal.τ Cert.KeysReferenceIdeal.sig) → Buf (Elt Ideal) ℓ) : Prop :=
  ∀ c : Dev Cert.KeysReferenceIdeal.nD,
    (Cert.Pre_keys_finite.fn (F := Ideal) (m ((c.tc : Thread Cert.KeysReferenceIdeal.nD Cert.KeysReferenceIdeal.τ).loc Cert.KeysReferenceIdeal.main_arg0)) (m ((c.tc : Thread Cert.KeysReferenceIdeal.nD Cert.KeysReferenceIdeal.τ).loc Cert.KeysReferenceIdeal.main_arg1)) (m ((c.tc : Thread Cert.KeysReferenceIdeal.nD Cert.KeysReferenceIdeal.τ).loc Cert.KeysReferenceIdeal.main_arg2)) (m ((c.tc : Thread Cert.KeysReferenceIdeal.nD Cert.KeysReferenceIdeal.τ).loc Cert.KeysReferenceIdeal.main_arg3))) = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesIdeal_keys_finite [hPre_keys_finite : Cert.Pre_keys_finite.Facts] (m : (ℓ : Loc Cert.QueriesIdeal.nD Cert.QueriesIdeal.τ Cert.QueriesIdeal.sig) → Buf (Elt Ideal) ℓ) : Prop :=
  ∀ c : Dev Cert.QueriesIdeal.nD,
    (Cert.Pre_keys_finite.fn (F := Ideal) (m ((c.tc : Thread Cert.QueriesIdeal.nD Cert.QueriesIdeal.τ).loc Cert.QueriesIdeal.main_arg0)) (m ((c.tc : Thread Cert.QueriesIdeal.nD Cert.QueriesIdeal.τ).loc Cert.QueriesIdeal.main_arg1)) (m ((c.tc : Thread Cert.QueriesIdeal.nD Cert.QueriesIdeal.τ).loc Cert.QueriesIdeal.main_arg2)) (m ((c.tc : Thread Cert.QueriesIdeal.nD Cert.QueriesIdeal.τ).loc Cert.QueriesIdeal.main_arg3))) = (fun _ => 1#1)

def Pre_QueriesReferenceIdeal (m : (ℓ : Loc Cert.QueriesReferenceIdeal.nD Cert.QueriesReferenceIdeal.τ Cert.QueriesReferenceIdeal.sig) → Buf (Elt Ideal) ℓ) : Prop :=
  True

def Pre_QueriesReferenceIdeal_keys_finite [hPre_keys_finite : Cert.Pre_keys_finite.Facts] (m : (ℓ : Loc Cert.QueriesReferenceIdeal.nD Cert.QueriesReferenceIdeal.τ Cert.QueriesReferenceIdeal.sig) → Buf (Elt Ideal) ℓ) : Prop :=
  ∀ c : Dev Cert.QueriesReferenceIdeal.nD,
    (Cert.Pre_keys_finite.fn (F := Ideal) (m ((c.tc : Thread Cert.QueriesReferenceIdeal.nD Cert.QueriesReferenceIdeal.τ).loc Cert.QueriesReferenceIdeal.main_arg0)) (m ((c.tc : Thread Cert.QueriesReferenceIdeal.nD Cert.QueriesReferenceIdeal.τ).loc Cert.QueriesReferenceIdeal.main_arg1)) (m ((c.tc : Thread Cert.QueriesReferenceIdeal.nD Cert.QueriesReferenceIdeal.τ).loc Cert.QueriesReferenceIdeal.main_arg2)) (m ((c.tc : Thread Cert.QueriesReferenceIdeal.nD Cert.QueriesReferenceIdeal.τ).loc Cert.QueriesReferenceIdeal.main_arg3))) = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_SampleGlu (m : (ℓ : Loc Cert.SampleGlu.nD Cert.SampleGlu.τ Cert.SampleGlu.sig) → Buf (Elt Bits) ℓ) : Prop :=
  True

def Pre_SampleGluIdeal (m : (ℓ : Loc Cert.SampleGluIdeal.nD Cert.SampleGluIdeal.τ Cert.SampleGluIdeal.sig) → Buf (Elt Ideal) ℓ) : Prop :=
  True

def Pre_SampleGluReferenceIdeal (m : (ℓ : Loc Cert.SampleGluReferenceIdeal.nD Cert.SampleGluReferenceIdeal.τ Cert.SampleGluReferenceIdeal.sig) → Buf (Elt Ideal) ℓ) : Prop :=
  True

def Pre_SampleEmbed (m : (ℓ : Loc Cert.SampleEmbed.nD Cert.SampleEmbed.τ Cert.SampleEmbed.sig) → Buf (Elt Bits) ℓ) : Prop :=
  True

def Pre_SampleEmbedIdeal (m : (ℓ : Loc Cert.SampleEmbedIdeal.nD Cert.SampleEmbedIdeal.τ Cert.SampleEmbedIdeal.sig) → Buf (Elt Ideal) ℓ) : Prop :=
  True

def Pre_SampleEmbedReferenceIdeal (m : (ℓ : Loc Cert.SampleEmbedReferenceIdeal.nD Cert.SampleEmbedReferenceIdeal.τ Cert.SampleEmbedReferenceIdeal.sig) → Buf (Elt Ideal) ℓ) : Prop :=
  True

def Pre_SampleValues (m : (ℓ : Loc Cert.SampleValues.nD Cert.SampleValues.τ Cert.SampleValues.sig) → Buf (Elt Bits) ℓ) : Prop :=
  True

def Pre_SampleValuesIdeal (m : (ℓ : Loc Cert.SampleValuesIdeal.nD Cert.SampleValuesIdeal.τ Cert.SampleValuesIdeal.sig) → Buf (Elt Ideal) ℓ) : Prop :=
  True

def Pre_SampleValuesReferenceIdeal (m : (ℓ : Loc Cert.SampleValuesReferenceIdeal.nD Cert.SampleValuesReferenceIdeal.τ Cert.SampleValuesReferenceIdeal.sig) → Buf (Elt Ideal) ℓ) : Prop :=
  True

def Pre_SampleKeys (m : (ℓ : Loc Cert.SampleKeys.nD Cert.SampleKeys.τ Cert.SampleKeys.sig) → Buf (Elt Bits) ℓ) : Prop :=
  True

def Pre_SampleKeysIdeal (m : (ℓ : Loc Cert.SampleKeysIdeal.nD Cert.SampleKeysIdeal.τ Cert.SampleKeysIdeal.sig) → Buf (Elt Ideal) ℓ) : Prop :=
  True

def Pre_SampleKeysIdeal_sample_keys_finite [hPre_sample_keys_finite : Cert.Pre_sample_keys_finite.Facts] (m : (ℓ : Loc Cert.SampleKeysIdeal.nD Cert.SampleKeysIdeal.τ Cert.SampleKeysIdeal.sig) → Buf (Elt Ideal) ℓ) : Prop :=
  ∀ c : Dev Cert.SampleKeysIdeal.nD,
    (Cert.Pre_sample_keys_finite.fn (F := Ideal) (m ((c.tc : Thread Cert.SampleKeysIdeal.nD Cert.SampleKeysIdeal.τ).loc Cert.SampleKeysIdeal.main_arg0)) (m ((c.tc : Thread Cert.SampleKeysIdeal.nD Cert.SampleKeysIdeal.τ).loc Cert.SampleKeysIdeal.main_arg1)) (m ((c.tc : Thread Cert.SampleKeysIdeal.nD Cert.SampleKeysIdeal.τ).loc Cert.SampleKeysIdeal.main_arg2)) (m ((c.tc : Thread Cert.SampleKeysIdeal.nD Cert.SampleKeysIdeal.τ).loc Cert.SampleKeysIdeal.main_arg3))) = (fun _ => 1#1)

def Pre_SampleKeysReferenceIdeal (m : (ℓ : Loc Cert.SampleKeysReferenceIdeal.nD Cert.SampleKeysReferenceIdeal.τ Cert.SampleKeysReferenceIdeal.sig) → Buf (Elt Ideal) ℓ) : Prop :=
  True

def Pre_SampleKeysReferenceIdeal_sample_keys_finite [hPre_sample_keys_finite : Cert.Pre_sample_keys_finite.Facts] (m : (ℓ : Loc Cert.SampleKeysReferenceIdeal.nD Cert.SampleKeysReferenceIdeal.τ Cert.SampleKeysReferenceIdeal.sig) → Buf (Elt Ideal) ℓ) : Prop :=
  ∀ c : Dev Cert.SampleKeysReferenceIdeal.nD,
    (Cert.Pre_sample_keys_finite.fn (F := Ideal) (m ((c.tc : Thread Cert.SampleKeysReferenceIdeal.nD Cert.SampleKeysReferenceIdeal.τ).loc Cert.SampleKeysReferenceIdeal.main_arg0)) (m ((c.tc : Thread Cert.SampleKeysReferenceIdeal.nD Cert.SampleKeysReferenceIdeal.τ).loc Cert.SampleKeysReferenceIdeal.main_arg1)) (m ((c.tc : Thread Cert.SampleKeysReferenceIdeal.nD Cert.SampleKeysReferenceIdeal.τ).loc Cert.SampleKeysReferenceIdeal.main_arg2)) (m ((c.tc : Thread Cert.SampleKeysReferenceIdeal.nD Cert.SampleKeysReferenceIdeal.τ).loc Cert.SampleKeysReferenceIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1)
      ∧ r.2.mem ((c.tc : Thread Cert.ValuesReferenceIdeal.nD Cert.ValuesReferenceIdeal.τ).loc Cert.ValuesReferenceIdeal.main_arg2) = m ((c.tc : Thread Cert.ValuesReferenceIdeal.nD Cert.ValuesReferenceIdeal.τ).loc Cert.ValuesReferenceIdeal.main_arg2))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3))
      ∧ r.2.sem = fun _ => 0)

def quiescent_KeysIdeal_pre_keys_finite [hKeysIdeal : Cert.KeysIdeal.Facts] [hPre_keys_finite : Cert.Pre_keys_finite.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal_keys_finite m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2)
      ∧ r.2.mem ((c.tc : Thread Cert.KeysReferenceIdeal.nD Cert.KeysReferenceIdeal.τ).loc Cert.KeysReferenceIdeal.main_arg3) = m ((c.tc : Thread Cert.KeysReferenceIdeal.nD Cert.KeysReferenceIdeal.τ).loc Cert.KeysReferenceIdeal.main_arg3))
      ∧ r.2.sem = fun _ => 0)

def quiescent_KeysReferenceIdeal_pre_keys_finite [hKeysReferenceIdeal : Cert.KeysReferenceIdeal.Facts] [hPre_keys_finite : Cert.Pre_keys_finite.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal_keys_finite m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2)
      ∧ r.2.mem ((c.tc : Thread Cert.KeysReferenceIdeal.nD Cert.KeysReferenceIdeal.τ).loc Cert.KeysReferenceIdeal.main_arg3) = m ((c.tc : Thread Cert.KeysReferenceIdeal.nD Cert.KeysReferenceIdeal.τ).loc Cert.KeysReferenceIdeal.main_arg3))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2)
      ∧ r.2.mem ((c.tc : Thread Cert.Queries.nD Cert.Queries.τ).loc Cert.Queries.main_arg3) = m ((c.tc : Thread Cert.Queries.nD Cert.Queries.τ).loc Cert.Queries.main_arg3))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ r.2.sem = fun _ => 0)

def quiescent_QueriesIdeal_pre_keys_finite [hQueriesIdeal : Cert.QueriesIdeal.Facts] [hPre_keys_finite : Cert.Pre_keys_finite.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal_keys_finite m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1)
      ∧ r.2.mem ((c.tc : Thread Cert.QueriesReferenceIdeal.nD Cert.QueriesReferenceIdeal.τ).loc Cert.QueriesReferenceIdeal.main_arg2) = m ((c.tc : Thread Cert.QueriesReferenceIdeal.nD Cert.QueriesReferenceIdeal.τ).loc Cert.QueriesReferenceIdeal.main_arg2)
      ∧ r.2.mem ((c.tc : Thread Cert.QueriesReferenceIdeal.nD Cert.QueriesReferenceIdeal.τ).loc Cert.QueriesReferenceIdeal.main_arg3) = m ((c.tc : Thread Cert.QueriesReferenceIdeal.nD Cert.QueriesReferenceIdeal.τ).loc Cert.QueriesReferenceIdeal.main_arg3))
      ∧ r.2.sem = fun _ => 0)

def quiescent_QueriesReferenceIdeal_pre_keys_finite [hQueriesReferenceIdeal : Cert.QueriesReferenceIdeal.Facts] [hPre_keys_finite : Cert.Pre_keys_finite.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal_keys_finite m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1)
      ∧ r.2.mem ((c.tc : Thread Cert.QueriesReferenceIdeal.nD Cert.QueriesReferenceIdeal.τ).loc Cert.QueriesReferenceIdeal.main_arg2) = m ((c.tc : Thread Cert.QueriesReferenceIdeal.nD Cert.QueriesReferenceIdeal.τ).loc Cert.QueriesReferenceIdeal.main_arg2)
      ∧ r.2.mem ((c.tc : Thread Cert.QueriesReferenceIdeal.nD Cert.QueriesReferenceIdeal.τ).loc Cert.QueriesReferenceIdeal.main_arg3) = m ((c.tc : Thread Cert.QueriesReferenceIdeal.nD Cert.QueriesReferenceIdeal.τ).loc Cert.QueriesReferenceIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_SampleGlu [hSampleGlu : Cert.SampleGlu.Facts] : Prop :=
  ∀ (m : (ℓ : Loc Cert.SampleGlu.nD Cert.SampleGlu.τ Cert.SampleGlu.sig) → Buf (Elt Bits) ℓ) (g : Dev Cert.SampleGlu.nD → PrngReg), Pre_SampleGlu m →
    θ_run (Cert.SampleGlu.defs (F := Bits)) (onTc (τ := Cert.SampleGlu.τ) (Cert.SampleGlu.main (F := Bits))) ⟨m, fun _ => 0, g⟩ (fun r => (∀ c : Dev Cert.SampleGlu.nD,
      r.2.mem ((c.tc : Thread Cert.SampleGlu.nD Cert.SampleGlu.τ).loc Cert.SampleGlu.main_arg0) = m ((c.tc : Thread Cert.SampleGlu.nD Cert.SampleGlu.τ).loc Cert.SampleGlu.main_arg0)
      ∧ r.2.mem ((c.tc : Thread Cert.SampleGlu.nD Cert.SampleGlu.τ).loc Cert.SampleGlu.main_arg1) = m ((c.tc : Thread Cert.SampleGlu.nD Cert.SampleGlu.τ).loc Cert.SampleGlu.main_arg1)
      ∧ r.2.mem ((c.tc : Thread Cert.SampleGlu.nD Cert.SampleGlu.τ).loc Cert.SampleGlu.main_arg2) = m ((c.tc : Thread Cert.SampleGlu.nD Cert.SampleGlu.τ).loc Cert.SampleGlu.main_arg2))
      ∧ r.2.sem = fun _ => 0)

def quiescent_SampleGluIdeal [hSampleGluIdeal : Cert.SampleGluIdeal.Facts] : Prop :=
  ∀ (m : (ℓ : Loc Cert.SampleGluIdeal.nD Cert.SampleGluIdeal.τ Cert.SampleGluIdeal.sig) → Buf (Elt Ideal) ℓ) (g : Dev Cert.SampleGluIdeal.nD → PrngReg), Pre_SampleGluIdeal m →
    θ_run (Cert.SampleGluIdeal.defs (F := Ideal)) (onTc (τ := Cert.SampleGluIdeal.τ) (Cert.SampleGluIdeal.main (F := Ideal))) ⟨m, fun _ => 0, g⟩ (fun r => (∀ c : Dev Cert.SampleGluIdeal.nD,
      r.2.mem ((c.tc : Thread Cert.SampleGluIdeal.nD Cert.SampleGluIdeal.τ).loc Cert.SampleGluIdeal.main_arg0) = m ((c.tc : Thread Cert.SampleGluIdeal.nD Cert.SampleGluIdeal.τ).loc Cert.SampleGluIdeal.main_arg0)
      ∧ r.2.mem ((c.tc : Thread Cert.SampleGluIdeal.nD Cert.SampleGluIdeal.τ).loc Cert.SampleGluIdeal.main_arg1) = m ((c.tc : Thread Cert.SampleGluIdeal.nD Cert.SampleGluIdeal.τ).loc Cert.SampleGluIdeal.main_arg1)
      ∧ r.2.mem ((c.tc : Thread Cert.SampleGluIdeal.nD Cert.SampleGluIdeal.τ).loc Cert.SampleGluIdeal.main_arg2) = m ((c.tc : Thread Cert.SampleGluIdeal.nD Cert.SampleGluIdeal.τ).loc Cert.SampleGluIdeal.main_arg2))
      ∧ r.2.sem = fun _ => 0)

def quiescent_SampleGluReferenceIdeal [hSampleGluReferenceIdeal : Cert.SampleGluReferenceIdeal.Facts] : Prop :=
  ∀ (m : (ℓ : Loc Cert.SampleGluReferenceIdeal.nD Cert.SampleGluReferenceIdeal.τ Cert.SampleGluReferenceIdeal.sig) → Buf (Elt Ideal) ℓ) (g : Dev Cert.SampleGluReferenceIdeal.nD → PrngReg), Pre_SampleGluReferenceIdeal m →
    θ_run (Cert.SampleGluReferenceIdeal.defs (F := Ideal)) (onTc (τ := Cert.SampleGluReferenceIdeal.τ) (Cert.SampleGluReferenceIdeal.main (F := Ideal))) ⟨m, fun _ => 0, g⟩ (fun r => (∀ c : Dev Cert.SampleGluReferenceIdeal.nD,
      r.2.mem ((c.tc : Thread Cert.SampleGluReferenceIdeal.nD Cert.SampleGluReferenceIdeal.τ).loc Cert.SampleGluReferenceIdeal.main_arg0) = m ((c.tc : Thread Cert.SampleGluReferenceIdeal.nD Cert.SampleGluReferenceIdeal.τ).loc Cert.SampleGluReferenceIdeal.main_arg0)
      ∧ r.2.mem ((c.tc : Thread Cert.SampleGluReferenceIdeal.nD Cert.SampleGluReferenceIdeal.τ).loc Cert.SampleGluReferenceIdeal.main_arg1) = m ((c.tc : Thread Cert.SampleGluReferenceIdeal.nD Cert.SampleGluReferenceIdeal.τ).loc Cert.SampleGluReferenceIdeal.main_arg1)
      ∧ r.2.mem ((c.tc : Thread Cert.SampleGluReferenceIdeal.nD Cert.SampleGluReferenceIdeal.τ).loc Cert.SampleGluReferenceIdeal.main_arg2) = m ((c.tc : Thread Cert.SampleGluReferenceIdeal.nD Cert.SampleGluReferenceIdeal.τ).loc Cert.SampleGluReferenceIdeal.main_arg2))
      ∧ r.2.sem = fun _ => 0)

def quiescent_SampleEmbed [hSampleEmbed : Cert.SampleEmbed.Facts] : Prop :=
  ∀ (m : (ℓ : Loc Cert.SampleEmbed.nD Cert.SampleEmbed.τ Cert.SampleEmbed.sig) → Buf (Elt Bits) ℓ) (g : Dev Cert.SampleEmbed.nD → PrngReg), Pre_SampleEmbed m →
    θ_run (Cert.SampleEmbed.defs (F := Bits)) (onTc (τ := Cert.SampleEmbed.τ) (Cert.SampleEmbed.main (F := Bits))) ⟨m, fun _ => 0, g⟩ (fun r => (∀ c : Dev Cert.SampleEmbed.nD,
      r.2.mem ((c.tc : Thread Cert.SampleEmbed.nD Cert.SampleEmbed.τ).loc Cert.SampleEmbed.main_arg0) = m ((c.tc : Thread Cert.SampleEmbed.nD Cert.SampleEmbed.τ).loc Cert.SampleEmbed.main_arg0)
      ∧ r.2.mem ((c.tc : Thread Cert.SampleEmbed.nD Cert.SampleEmbed.τ).loc Cert.SampleEmbed.main_arg1) = m ((c.tc : Thread Cert.SampleEmbed.nD Cert.SampleEmbed.τ).loc Cert.SampleEmbed.main_arg1)
      ∧ r.2.mem ((c.tc : Thread Cert.SampleEmbed.nD Cert.SampleEmbed.τ).loc Cert.SampleEmbed.main_arg2) = m ((c.tc : Thread Cert.SampleEmbed.nD Cert.SampleEmbed.τ).loc Cert.SampleEmbed.main_arg2)
      ∧ r.2.mem ((c.tc : Thread Cert.SampleEmbed.nD Cert.SampleEmbed.τ).loc Cert.SampleEmbed.main_arg3) = m ((c.tc : Thread Cert.SampleEmbed.nD Cert.SampleEmbed.τ).loc Cert.SampleEmbed.main_arg3)
      ∧ r.2.mem ((c.tc : Thread Cert.SampleEmbed.nD Cert.SampleEmbed.τ).loc Cert.SampleEmbed.main_arg4) = m ((c.tc : Thread Cert.SampleEmbed.nD Cert.SampleEmbed.τ).loc Cert.SampleEmbed.main_arg4))
      ∧ r.2.sem = fun _ => 0)

def quiescent_SampleEmbedIdeal [hSampleEmbedIdeal : Cert.SampleEmbedIdeal.Facts] : Prop :=
  ∀ (m : (ℓ : Loc Cert.SampleEmbedIdeal.nD Cert.SampleEmbedIdeal.τ Cert.SampleEmbedIdeal.sig) → Buf (Elt Ideal) ℓ) (g : Dev Cert.SampleEmbedIdeal.nD → PrngReg), Pre_SampleEmbedIdeal m →
    θ_run (Cert.SampleEmbedIdeal.defs (F := Ideal)) (onTc (τ := Cert.SampleEmbedIdeal.τ) (Cert.SampleEmbedIdeal.main (F := Ideal))) ⟨m, fun _ => 0, g⟩ (fun r => (∀ c : Dev Cert.SampleEmbedIdeal.nD,
      r.2.mem ((c.tc : Thread Cert.SampleEmbedIdeal.nD Cert.SampleEmbedIdeal.τ).loc Cert.SampleEmbedIdeal.main_arg0) = m ((c.tc : Thread Cert.SampleEmbedIdeal.nD Cert.SampleEmbedIdeal.τ).loc Cert.SampleEmbedIdeal.main_arg0)
      ∧ r.2.mem ((c.tc : Thread Cert.SampleEmbedIdeal.nD Cert.SampleEmbedIdeal.τ).loc Cert.SampleEmbedIdeal.main_arg1) = m ((c.tc : Thread Cert.SampleEmbedIdeal.nD Cert.SampleEmbedIdeal.τ).loc Cert.SampleEmbedIdeal.main_arg1)
      ∧ r.2.mem ((c.tc : Thread Cert.SampleEmbedIdeal.nD Cert.SampleEmbedIdeal.τ).loc Cert.SampleEmbedIdeal.main_arg2) = m ((c.tc : Thread Cert.SampleEmbedIdeal.nD Cert.SampleEmbedIdeal.τ).loc Cert.SampleEmbedIdeal.main_arg2)
      ∧ r.2.mem ((c.tc : Thread Cert.SampleEmbedIdeal.nD Cert.SampleEmbedIdeal.τ).loc Cert.SampleEmbedIdeal.main_arg3) = m ((c.tc : Thread Cert.SampleEmbedIdeal.nD Cert.SampleEmbedIdeal.τ).loc Cert.SampleEmbedIdeal.main_arg3)
      ∧ r.2.mem ((c.tc : Thread Cert.SampleEmbedIdeal.nD Cert.SampleEmbedIdeal.τ).loc Cert.SampleEmbedIdeal.main_arg4) = m ((c.tc : Thread Cert.SampleEmbedIdeal.nD Cert.SampleEmbedIdeal.τ).loc Cert.SampleEmbedIdeal.main_arg4))
      ∧ r.2.sem = fun _ => 0)

def quiescent_SampleEmbedReferenceIdeal [hSampleEmbedReferenceIdeal : Cert.SampleEmbedReferenceIdeal.Facts] : Prop :=
  ∀ (m : (ℓ : Loc Cert.SampleEmbedReferenceIdeal.nD Cert.SampleEmbedReferenceIdeal.τ Cert.SampleEmbedReferenceIdeal.sig) → Buf (Elt Ideal) ℓ) (g : Dev Cert.SampleEmbedReferenceIdeal.nD → PrngReg), Pre_SampleEmbedReferenceIdeal m →
    θ_run (Cert.SampleEmbedReferenceIdeal.defs (F := Ideal)) (onTc (τ := Cert.SampleEmbedReferenceIdeal.τ) (Cert.SampleEmbedReferenceIdeal.main (F := Ideal))) ⟨m, fun _ => 0, g⟩ (fun r => (∀ c : Dev Cert.SampleEmbedReferenceIdeal.nD,
      r.2.mem ((c.tc : Thread Cert.SampleEmbedReferenceIdeal.nD Cert.SampleEmbedReferenceIdeal.τ).loc Cert.SampleEmbedReferenceIdeal.main_arg0) = m ((c.tc : Thread Cert.SampleEmbedReferenceIdeal.nD Cert.SampleEmbedReferenceIdeal.τ).loc Cert.SampleEmbedReferenceIdeal.main_arg0)
      ∧ r.2.mem ((c.tc : Thread Cert.SampleEmbedReferenceIdeal.nD Cert.SampleEmbedReferenceIdeal.τ).loc Cert.SampleEmbedReferenceIdeal.main_arg1) = m ((c.tc : Thread Cert.SampleEmbedReferenceIdeal.nD Cert.SampleEmbedReferenceIdeal.τ).loc Cert.SampleEmbedReferenceIdeal.main_arg1)
      ∧ r.2.mem ((c.tc : Thread Cert.SampleEmbedReferenceIdeal.nD Cert.SampleEmbedReferenceIdeal.τ).loc Cert.SampleEmbedReferenceIdeal.main_arg2) = m ((c.tc : Thread Cert.SampleEmbedReferenceIdeal.nD Cert.SampleEmbedReferenceIdeal.τ).loc Cert.SampleEmbedReferenceIdeal.main_arg2)
      ∧ r.2.mem ((c.tc : Thread Cert.SampleEmbedReferenceIdeal.nD Cert.SampleEmbedReferenceIdeal.τ).loc Cert.SampleEmbedReferenceIdeal.main_arg3) = m ((c.tc : Thread Cert.SampleEmbedReferenceIdeal.nD Cert.SampleEmbedReferenceIdeal.τ).loc Cert.SampleEmbedReferenceIdeal.main_arg3)
      ∧ r.2.mem ((c.tc : Thread Cert.SampleEmbedReferenceIdeal.nD Cert.SampleEmbedReferenceIdeal.τ).loc Cert.SampleEmbedReferenceIdeal.main_arg4) = m ((c.tc : Thread Cert.SampleEmbedReferenceIdeal.nD Cert.SampleEmbedReferenceIdeal.τ).loc Cert.SampleEmbedReferenceIdeal.main_arg4))
      ∧ r.2.sem = fun _ => 0)

def quiescent_SampleValues [hSampleValues : Cert.SampleValues.Facts] : Prop :=
  ∀ (m : (ℓ : Loc Cert.SampleValues.nD Cert.SampleValues.τ Cert.SampleValues.sig) → Buf (Elt Bits) ℓ) (g : Dev Cert.SampleValues.nD → PrngReg), Pre_SampleValues m →
    θ_run (Cert.SampleValues.defs (F := Bits)) (onTc (τ := Cert.SampleValues.τ) (Cert.SampleValues.main (F := Bits))) ⟨m, fun _ => 0, g⟩ (fun r => (∀ c : Dev Cert.SampleValues.nD,
      r.2.mem ((c.tc : Thread Cert.SampleValues.nD Cert.SampleValues.τ).loc Cert.SampleValues.main_arg0) = m ((c.tc : Thread Cert.SampleValues.nD Cert.SampleValues.τ).loc Cert.SampleValues.main_arg0)
      ∧ r.2.mem ((c.tc : Thread Cert.SampleValues.nD Cert.SampleValues.τ).loc Cert.SampleValues.main_arg1) = m ((c.tc : Thread Cert.SampleValues.nD Cert.SampleValues.τ).loc Cert.SampleValues.main_arg1)
      ∧ r.2.mem ((c.tc : Thread Cert.SampleValues.nD Cert.SampleValues.τ).loc Cert.SampleValues.main_arg2) = m ((c.tc : Thread Cert.SampleValues.nD Cert.SampleValues.τ).loc Cert.SampleValues.main_arg2))
      ∧ r.2.sem = fun _ => 0)

def quiescent_SampleValuesIdeal [hSampleValuesIdeal : Cert.SampleValuesIdeal.Facts] : Prop :=
  ∀ (m : (ℓ : Loc Cert.SampleValuesIdeal.nD Cert.SampleValuesIdeal.τ Cert.SampleValuesIdeal.sig) → Buf (Elt Ideal) ℓ) (g : Dev Cert.SampleValuesIdeal.nD → PrngReg), Pre_SampleValuesIdeal m →
    θ_run (Cert.SampleValuesIdeal.defs (F := Ideal)) (onTc (τ := Cert.SampleValuesIdeal.τ) (Cert.SampleValuesIdeal.main (F := Ideal))) ⟨m, fun _ => 0, g⟩ (fun r => (∀ c : Dev Cert.SampleValuesIdeal.nD,
      r.2.mem ((c.tc : Thread Cert.SampleValuesIdeal.nD Cert.SampleValuesIdeal.τ).loc Cert.SampleValuesIdeal.main_arg0) = m ((c.tc : Thread Cert.SampleValuesIdeal.nD Cert.SampleValuesIdeal.τ).loc Cert.SampleValuesIdeal.main_arg0)
      ∧ r.2.mem ((c.tc : Thread Cert.SampleValuesIdeal.nD Cert.SampleValuesIdeal.τ).loc Cert.SampleValuesIdeal.main_arg1) = m ((c.tc : Thread Cert.SampleValuesIdeal.nD Cert.SampleValuesIdeal.τ).loc Cert.SampleValuesIdeal.main_arg1)
      ∧ r.2.mem ((c.tc : Thread Cert.SampleValuesIdeal.nD Cert.SampleValuesIdeal.τ).loc Cert.SampleValuesIdeal.main_arg2) = m ((c.tc : Thread Cert.SampleValuesIdeal.nD Cert.SampleValuesIdeal.τ).loc Cert.SampleValuesIdeal.main_arg2))
      ∧ r.2.sem = fun _ => 0)

def quiescent_SampleValuesReferenceIdeal [hSampleValuesReferenceIdeal : Cert.SampleValuesReferenceIdeal.Facts] : Prop :=
  ∀ (m : (ℓ : Loc Cert.SampleValuesReferenceIdeal.nD Cert.SampleValuesReferenceIdeal.τ Cert.SampleValuesReferenceIdeal.sig) → Buf (Elt Ideal) ℓ) (g : Dev Cert.SampleValuesReferenceIdeal.nD → PrngReg), Pre_SampleValuesReferenceIdeal m →
    θ_run (Cert.SampleValuesReferenceIdeal.defs (F := Ideal)) (onTc (τ := Cert.SampleValuesReferenceIdeal.τ) (Cert.SampleValuesReferenceIdeal.main (F := Ideal))) ⟨m, fun _ => 0, g⟩ (fun r => (∀ c : Dev Cert.SampleValuesReferenceIdeal.nD,
      r.2.mem ((c.tc : Thread Cert.SampleValuesReferenceIdeal.nD Cert.SampleValuesReferenceIdeal.τ).loc Cert.SampleValuesReferenceIdeal.main_arg0) = m ((c.tc : Thread Cert.SampleValuesReferenceIdeal.nD Cert.SampleValuesReferenceIdeal.τ).loc Cert.SampleValuesReferenceIdeal.main_arg0)
      ∧ r.2.mem ((c.tc : Thread Cert.SampleValuesReferenceIdeal.nD Cert.SampleValuesReferenceIdeal.τ).loc Cert.SampleValuesReferenceIdeal.main_arg1) = m ((c.tc : Thread Cert.SampleValuesReferenceIdeal.nD Cert.SampleValuesReferenceIdeal.τ).loc Cert.SampleValuesReferenceIdeal.main_arg1)
      ∧ r.2.mem ((c.tc : Thread Cert.SampleValuesReferenceIdeal.nD Cert.SampleValuesReferenceIdeal.τ).loc Cert.SampleValuesReferenceIdeal.main_arg2) = m ((c.tc : Thread Cert.SampleValuesReferenceIdeal.nD Cert.SampleValuesReferenceIdeal.τ).loc Cert.SampleValuesReferenceIdeal.main_arg2))
      ∧ r.2.sem = fun _ => 0)

def quiescent_SampleKeys [hSampleKeys : Cert.SampleKeys.Facts] : Prop :=
  ∀ (m : (ℓ : Loc Cert.SampleKeys.nD Cert.SampleKeys.τ Cert.SampleKeys.sig) → Buf (Elt Bits) ℓ) (g : Dev Cert.SampleKeys.nD → PrngReg), Pre_SampleKeys m →
    θ_run (Cert.SampleKeys.defs (F := Bits)) (onTc (τ := Cert.SampleKeys.τ) (Cert.SampleKeys.main (F := Bits))) ⟨m, fun _ => 0, g⟩ (fun r => (∀ c : Dev Cert.SampleKeys.nD,
      r.2.mem ((c.tc : Thread Cert.SampleKeys.nD Cert.SampleKeys.τ).loc Cert.SampleKeys.main_arg0) = m ((c.tc : Thread Cert.SampleKeys.nD Cert.SampleKeys.τ).loc Cert.SampleKeys.main_arg0)
      ∧ r.2.mem ((c.tc : Thread Cert.SampleKeys.nD Cert.SampleKeys.τ).loc Cert.SampleKeys.main_arg1) = m ((c.tc : Thread Cert.SampleKeys.nD Cert.SampleKeys.τ).loc Cert.SampleKeys.main_arg1)
      ∧ r.2.mem ((c.tc : Thread Cert.SampleKeys.nD Cert.SampleKeys.τ).loc Cert.SampleKeys.main_arg2) = m ((c.tc : Thread Cert.SampleKeys.nD Cert.SampleKeys.τ).loc Cert.SampleKeys.main_arg2)
      ∧ r.2.mem ((c.tc : Thread Cert.SampleKeys.nD Cert.SampleKeys.τ).loc Cert.SampleKeys.main_arg3) = m ((c.tc : Thread Cert.SampleKeys.nD Cert.SampleKeys.τ).loc Cert.SampleKeys.main_arg3))
      ∧ r.2.sem = fun _ => 0)

def quiescent_SampleKeysIdeal [hSampleKeysIdeal : Cert.SampleKeysIdeal.Facts] : Prop :=
  ∀ (m : (ℓ : Loc Cert.SampleKeysIdeal.nD Cert.SampleKeysIdeal.τ Cert.SampleKeysIdeal.sig) → Buf (Elt Ideal) ℓ) (g : Dev Cert.SampleKeysIdeal.nD → PrngReg), Pre_SampleKeysIdeal m →
    θ_run (Cert.SampleKeysIdeal.defs (F := Ideal)) (onTc (τ := Cert.SampleKeysIdeal.τ) (Cert.SampleKeysIdeal.main (F := Ideal))) ⟨m, fun _ => 0, g⟩ (fun r => (∀ c : Dev Cert.SampleKeysIdeal.nD,
      r.2.mem ((c.tc : Thread Cert.SampleKeysIdeal.nD Cert.SampleKeysIdeal.τ).loc Cert.SampleKeysIdeal.main_arg0) = m ((c.tc : Thread Cert.SampleKeysIdeal.nD Cert.SampleKeysIdeal.τ).loc Cert.SampleKeysIdeal.main_arg0)
      ∧ r.2.mem ((c.tc : Thread Cert.SampleKeysIdeal.nD Cert.SampleKeysIdeal.τ).loc Cert.SampleKeysIdeal.main_arg1) = m ((c.tc : Thread Cert.SampleKeysIdeal.nD Cert.SampleKeysIdeal.τ).loc Cert.SampleKeysIdeal.main_arg1)
      ∧ r.2.mem ((c.tc : Thread Cert.SampleKeysIdeal.nD Cert.SampleKeysIdeal.τ).loc Cert.SampleKeysIdeal.main_arg2) = m ((c.tc : Thread Cert.SampleKeysIdeal.nD Cert.SampleKeysIdeal.τ).loc Cert.SampleKeysIdeal.main_arg2)
      ∧ r.2.mem ((c.tc : Thread Cert.SampleKeysIdeal.nD Cert.SampleKeysIdeal.τ).loc Cert.SampleKeysIdeal.main_arg3) = m ((c.tc : Thread Cert.SampleKeysIdeal.nD Cert.SampleKeysIdeal.τ).loc Cert.SampleKeysIdeal.main_arg3))
      ∧ r.2.sem = fun _ => 0)

def quiescent_SampleKeysIdeal_pre_sample_keys_finite [hSampleKeysIdeal : Cert.SampleKeysIdeal.Facts] [hPre_sample_keys_finite : Cert.Pre_sample_keys_finite.Facts] : Prop :=
  ∀ (m : (ℓ : Loc Cert.SampleKeysIdeal.nD Cert.SampleKeysIdeal.τ Cert.SampleKeysIdeal.sig) → Buf (Elt Ideal) ℓ) (g : Dev Cert.SampleKeysIdeal.nD → PrngReg), Pre_SampleKeysIdeal_sample_keys_finite m →
    θ_run (Cert.SampleKeysIdeal.defs (F := Ideal)) (onTc (τ := Cert.SampleKeysIdeal.τ) (Cert.SampleKeysIdeal.main (F := Ideal))) ⟨m, fun _ => 0, g⟩ (fun r => (∀ c : Dev Cert.SampleKeysIdeal.nD,
      r.2.mem ((c.tc : Thread Cert.SampleKeysIdeal.nD Cert.SampleKeysIdeal.τ).loc Cert.SampleKeysIdeal.main_arg0) = m ((c.tc : Thread Cert.SampleKeysIdeal.nD Cert.SampleKeysIdeal.τ).loc Cert.SampleKeysIdeal.main_arg0)
      ∧ r.2.mem ((c.tc : Thread Cert.SampleKeysIdeal.nD Cert.SampleKeysIdeal.τ).loc Cert.SampleKeysIdeal.main_arg1) = m ((c.tc : Thread Cert.SampleKeysIdeal.nD Cert.SampleKeysIdeal.τ).loc Cert.SampleKeysIdeal.main_arg1)
      ∧ r.2.mem ((c.tc : Thread Cert.SampleKeysIdeal.nD Cert.SampleKeysIdeal.τ).loc Cert.SampleKeysIdeal.main_arg2) = m ((c.tc : Thread Cert.SampleKeysIdeal.nD Cert.SampleKeysIdeal.τ).loc Cert.SampleKeysIdeal.main_arg2)
      ∧ r.2.mem ((c.tc : Thread Cert.SampleKeysIdeal.nD Cert.SampleKeysIdeal.τ).loc Cert.SampleKeysIdeal.main_arg3) = m ((c.tc : Thread Cert.SampleKeysIdeal.nD Cert.SampleKeysIdeal.τ).loc Cert.SampleKeysIdeal.main_arg3))
      ∧ r.2.sem = fun _ => 0)

def quiescent_SampleKeysReferenceIdeal [hSampleKeysReferenceIdeal : Cert.SampleKeysReferenceIdeal.Facts] : Prop :=
  ∀ (m : (ℓ : Loc Cert.SampleKeysReferenceIdeal.nD Cert.SampleKeysReferenceIdeal.τ Cert.SampleKeysReferenceIdeal.sig) → Buf (Elt Ideal) ℓ) (g : Dev Cert.SampleKeysReferenceIdeal.nD → PrngReg), Pre_SampleKeysReferenceIdeal m →
    θ_run (Cert.SampleKeysReferenceIdeal.defs (F := Ideal)) (onTc (τ := Cert.SampleKeysReferenceIdeal.τ) (Cert.SampleKeysReferenceIdeal.main (F := Ideal))) ⟨m, fun _ => 0, g⟩ (fun r => (∀ c : Dev Cert.SampleKeysReferenceIdeal.nD,
      r.2.mem ((c.tc : Thread Cert.SampleKeysReferenceIdeal.nD Cert.SampleKeysReferenceIdeal.τ).loc Cert.SampleKeysReferenceIdeal.main_arg0) = m ((c.tc : Thread Cert.SampleKeysReferenceIdeal.nD Cert.SampleKeysReferenceIdeal.τ).loc Cert.SampleKeysReferenceIdeal.main_arg0)
      ∧ r.2.mem ((c.tc : Thread Cert.SampleKeysReferenceIdeal.nD Cert.SampleKeysReferenceIdeal.τ).loc Cert.SampleKeysReferenceIdeal.main_arg1) = m ((c.tc : Thread Cert.SampleKeysReferenceIdeal.nD Cert.SampleKeysReferenceIdeal.τ).loc Cert.SampleKeysReferenceIdeal.main_arg1)
      ∧ r.2.mem ((c.tc : Thread Cert.SampleKeysReferenceIdeal.nD Cert.SampleKeysReferenceIdeal.τ).loc Cert.SampleKeysReferenceIdeal.main_arg2) = m ((c.tc : Thread Cert.SampleKeysReferenceIdeal.nD Cert.SampleKeysReferenceIdeal.τ).loc Cert.SampleKeysReferenceIdeal.main_arg2)
      ∧ r.2.mem ((c.tc : Thread Cert.SampleKeysReferenceIdeal.nD Cert.SampleKeysReferenceIdeal.τ).loc Cert.SampleKeysReferenceIdeal.main_arg3) = m ((c.tc : Thread Cert.SampleKeysReferenceIdeal.nD Cert.SampleKeysReferenceIdeal.τ).loc Cert.SampleKeysReferenceIdeal.main_arg3))
      ∧ r.2.sem = fun _ => 0)

def quiescent_SampleKeysReferenceIdeal_pre_sample_keys_finite [hSampleKeysReferenceIdeal : Cert.SampleKeysReferenceIdeal.Facts] [hPre_sample_keys_finite : Cert.Pre_sample_keys_finite.Facts] : Prop :=
  ∀ (m : (ℓ : Loc Cert.SampleKeysReferenceIdeal.nD Cert.SampleKeysReferenceIdeal.τ Cert.SampleKeysReferenceIdeal.sig) → Buf (Elt Ideal) ℓ) (g : Dev Cert.SampleKeysReferenceIdeal.nD → PrngReg), Pre_SampleKeysReferenceIdeal_sample_keys_finite m →
    θ_run (Cert.SampleKeysReferenceIdeal.defs (F := Ideal)) (onTc (τ := Cert.SampleKeysReferenceIdeal.τ) (Cert.SampleKeysReferenceIdeal.main (F := Ideal))) ⟨m, fun _ => 0, g⟩ (fun r => (∀ c : Dev Cert.SampleKeysReferenceIdeal.nD,
      r.2.mem ((c.tc : Thread Cert.SampleKeysReferenceIdeal.nD Cert.SampleKeysReferenceIdeal.τ).loc Cert.SampleKeysReferenceIdeal.main_arg0) = m ((c.tc : Thread Cert.SampleKeysReferenceIdeal.nD Cert.SampleKeysReferenceIdeal.τ).loc Cert.SampleKeysReferenceIdeal.main_arg0)
      ∧ r.2.mem ((c.tc : Thread Cert.SampleKeysReferenceIdeal.nD Cert.SampleKeysReferenceIdeal.τ).loc Cert.SampleKeysReferenceIdeal.main_arg1) = m ((c.tc : Thread Cert.SampleKeysReferenceIdeal.nD Cert.SampleKeysReferenceIdeal.τ).loc Cert.SampleKeysReferenceIdeal.main_arg1)
      ∧ r.2.mem ((c.tc : Thread Cert.SampleKeysReferenceIdeal.nD Cert.SampleKeysReferenceIdeal.τ).loc Cert.SampleKeysReferenceIdeal.main_arg2) = m ((c.tc : Thread Cert.SampleKeysReferenceIdeal.nD Cert.SampleKeysReferenceIdeal.τ).loc Cert.SampleKeysReferenceIdeal.main_arg2)
      ∧ r.2.mem ((c.tc : Thread Cert.SampleKeysReferenceIdeal.nD Cert.SampleKeysReferenceIdeal.τ).loc Cert.SampleKeysReferenceIdeal.main_arg3) = m ((c.tc : Thread Cert.SampleKeysReferenceIdeal.nD Cert.SampleKeysReferenceIdeal.τ).loc Cert.SampleKeysReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v22) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v1) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v17) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Embed_EmbedIdeal : Prop :=
  True

def algebraic_EmbedIdeal_EmbedReferenceIdeal [hEmbedIdeal : Cert.EmbedIdeal.Facts] [hEmbedReferenceIdeal : Cert.EmbedReferenceIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)
      ∧ m' ((c.tc : Thread Cert.EmbedReferenceIdeal.nD Cert.EmbedReferenceIdeal.τ).loc Cert.EmbedReferenceIdeal.main_arg3) = m ((c.tc : Thread Cert.EmbedIdeal.nD Cert.EmbedIdeal.τ).loc Cert.EmbedIdeal.main_arg3)
      ∧ m' ((c.tc : Thread Cert.EmbedReferenceIdeal.nD Cert.EmbedReferenceIdeal.τ).loc Cert.EmbedReferenceIdeal.main_arg4) = m ((c.tc : Thread Cert.EmbedIdeal.nD Cert.EmbedIdeal.τ).loc Cert.EmbedIdeal.main_arg4)) →
    ∃ (v0 : (c : Dev Cert.EmbedIdeal.nD) → Buf (Elt Ideal) ((c.tc : Thread Cert.EmbedIdeal.nD Cert.EmbedIdeal.τ).loc Cert.EmbedIdeal.main_v1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v1) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v22) = v0 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3)
          ∧ r.2.mem ((c.tc : Thread Cert.EmbedReferenceIdeal.nD Cert.EmbedReferenceIdeal.τ).loc Cert.EmbedReferenceIdeal.main_arg4) = m' ((c.tc : Thread Cert.EmbedReferenceIdeal.nD Cert.EmbedReferenceIdeal.τ).loc Cert.EmbedReferenceIdeal.main_arg4))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)
      ∧ m' ((c.tc : Thread Cert.ValuesReferenceIdeal.nD Cert.ValuesReferenceIdeal.τ).loc Cert.ValuesReferenceIdeal.main_arg2) = m ((c.tc : Thread Cert.ValuesIdeal.nD Cert.ValuesIdeal.τ).loc Cert.ValuesIdeal.main_arg2)) →
    ∃ (v0 : (c : Dev Cert.ValuesIdeal.nD) → Buf (Elt Ideal) ((c.tc : Thread Cert.ValuesIdeal.nD Cert.ValuesIdeal.τ).loc Cert.ValuesIdeal.main_v1)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v1) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v13) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1)
          ∧ r.2.mem ((c.tc : Thread Cert.ValuesReferenceIdeal.nD Cert.ValuesReferenceIdeal.τ).loc Cert.ValuesReferenceIdeal.main_arg2) = m' ((c.tc : Thread Cert.ValuesReferenceIdeal.nD Cert.ValuesReferenceIdeal.τ).loc Cert.ValuesReferenceIdeal.main_arg2))

def preserves_Keys_KeysIdeal : Prop :=
  True

def algebraic_KeysIdeal_KeysReferenceIdeal_pre_keys_finite [hKeysIdeal : Cert.KeysIdeal.Facts] [hKeysReferenceIdeal : Cert.KeysReferenceIdeal.Facts] [hPre_keys_finite : Cert.Pre_keys_finite.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal_keys_finite m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)
      ∧ m' ((c.tc : Thread Cert.KeysReferenceIdeal.nD Cert.KeysReferenceIdeal.τ).loc Cert.KeysReferenceIdeal.main_arg2) = m ((c.tc : Thread Cert.KeysIdeal.nD Cert.KeysIdeal.τ).loc Cert.KeysIdeal.main_arg2)
      ∧ m' ((c.tc : Thread Cert.KeysReferenceIdeal.nD Cert.KeysReferenceIdeal.τ).loc Cert.KeysReferenceIdeal.main_arg3) = m ((c.tc : Thread Cert.KeysIdeal.nD Cert.KeysIdeal.τ).loc Cert.KeysIdeal.main_arg3)) →
    ∃ (v0 : (c : Dev Cert.KeysIdeal.nD) → Buf (Elt Ideal) ((c.tc : Thread Cert.KeysIdeal.nD Cert.KeysIdeal.τ).loc Cert.KeysIdeal.main_v13)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v13) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v28) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2)
          ∧ r.2.mem ((c.tc : Thread Cert.KeysReferenceIdeal.nD Cert.KeysReferenceIdeal.τ).loc Cert.KeysReferenceIdeal.main_arg3) = m' ((c.tc : Thread Cert.KeysReferenceIdeal.nD Cert.KeysReferenceIdeal.τ).loc Cert.KeysReferenceIdeal.main_arg3))

def preserves_Queries_QueriesIdeal : Prop :=
  True

def algebraic_QueriesIdeal_QueriesReferenceIdeal_pre_keys_finite [hQueriesIdeal : Cert.QueriesIdeal.Facts] [hQueriesReferenceIdeal : Cert.QueriesReferenceIdeal.Facts] [hPre_keys_finite : Cert.Pre_keys_finite.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesIdeal_keys_finite m →
    (∀ c : Dev Cert.QueriesIdeal.nD,
      m' ((c.tc : Thread Cert.QueriesReferenceIdeal.nD Cert.QueriesReferenceIdeal.τ).loc Cert.QueriesReferenceIdeal.main_arg0) = m ((c.tc : Thread Cert.QueriesIdeal.nD Cert.QueriesIdeal.τ).loc Cert.QueriesIdeal.main_arg0)
      ∧ m' ((c.tc : Thread Cert.QueriesReferenceIdeal.nD Cert.QueriesReferenceIdeal.τ).loc Cert.QueriesReferenceIdeal.main_arg1) = m ((c.tc : Thread Cert.QueriesIdeal.nD Cert.QueriesIdeal.τ).loc Cert.QueriesIdeal.main_arg1)
      ∧ m' ((c.tc : Thread Cert.QueriesReferenceIdeal.nD Cert.QueriesReferenceIdeal.τ).loc Cert.QueriesReferenceIdeal.main_arg2) = m ((c.tc : Thread Cert.QueriesIdeal.nD Cert.QueriesIdeal.τ).loc Cert.QueriesIdeal.main_arg2)
      ∧ m' ((c.tc : Thread Cert.QueriesReferenceIdeal.nD Cert.QueriesReferenceIdeal.τ).loc Cert.QueriesReferenceIdeal.main_arg3) = m ((c.tc : Thread Cert.QueriesIdeal.nD Cert.QueriesIdeal.τ).loc Cert.QueriesIdeal.main_arg3)) →
    ∃ (v0 : (c : Dev Cert.QueriesIdeal.nD) → Buf (Elt Ideal) ((c.tc : Thread Cert.QueriesIdeal.nD Cert.QueriesIdeal.τ).loc Cert.QueriesIdeal.main_v13)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v13) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
          ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v29) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1)
          ∧ r.2.mem ((c.tc : Thread Cert.QueriesReferenceIdeal.nD Cert.QueriesReferenceIdeal.τ).loc Cert.QueriesReferenceIdeal.main_arg2) = m' ((c.tc : Thread Cert.QueriesReferenceIdeal.nD Cert.QueriesReferenceIdeal.τ).loc Cert.QueriesReferenceIdeal.main_arg2)
          ∧ r.2.mem ((c.tc : Thread Cert.QueriesReferenceIdeal.nD Cert.QueriesReferenceIdeal.τ).loc Cert.QueriesReferenceIdeal.main_arg3) = m' ((c.tc : Thread Cert.QueriesReferenceIdeal.nD Cert.QueriesReferenceIdeal.τ).loc Cert.QueriesReferenceIdeal.main_arg3))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v2) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2))

def preserves_Attn_AttnIdeal : Prop :=
  True

def algebraic_AttnIdeal_AttnReferenceIdeal_pre_attn_finite [hAttnIdeal : Cert.AttnIdeal.Facts] [hAttnReferenceIdeal : Cert.AttnReferenceIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v23) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_SampleGlu_SampleGluIdeal : Prop :=
  True

def algebraic_SampleGluIdeal_SampleGluReferenceIdeal [hSampleGluIdeal : Cert.SampleGluIdeal.Facts] [hSampleGluReferenceIdeal : Cert.SampleGluReferenceIdeal.Facts] : Prop :=
  ∀ (m : (ℓ : Loc Cert.SampleGluIdeal.nD Cert.SampleGluIdeal.τ Cert.SampleGluIdeal.sig) → Buf (Elt Ideal) ℓ) (g : Dev Cert.SampleGluIdeal.nD → PrngReg)
    (m' : (ℓ : Loc Cert.SampleGluReferenceIdeal.nD Cert.SampleGluReferenceIdeal.τ Cert.SampleGluReferenceIdeal.sig) → Buf (Elt Ideal) ℓ) (g' : Dev Cert.SampleGluReferenceIdeal.nD → PrngReg), Pre_SampleGluIdeal m →
    (∀ c : Dev Cert.SampleGluIdeal.nD,
      m' ((c.tc : Thread Cert.SampleGluReferenceIdeal.nD Cert.SampleGluReferenceIdeal.τ).loc Cert.SampleGluReferenceIdeal.main_arg0) = m ((c.tc : Thread Cert.SampleGluIdeal.nD Cert.SampleGluIdeal.τ).loc Cert.SampleGluIdeal.main_arg0)
      ∧ m' ((c.tc : Thread Cert.SampleGluReferenceIdeal.nD Cert.SampleGluReferenceIdeal.τ).loc Cert.SampleGluReferenceIdeal.main_arg1) = m ((c.tc : Thread Cert.SampleGluIdeal.nD Cert.SampleGluIdeal.τ).loc Cert.SampleGluIdeal.main_arg1)
      ∧ m' ((c.tc : Thread Cert.SampleGluReferenceIdeal.nD Cert.SampleGluReferenceIdeal.τ).loc Cert.SampleGluReferenceIdeal.main_arg2) = m ((c.tc : Thread Cert.SampleGluIdeal.nD Cert.SampleGluIdeal.τ).loc Cert.SampleGluIdeal.main_arg2)) →
    ∃ (v0 : (c : Dev Cert.SampleGluIdeal.nD) → Buf (Elt Ideal) ((c.tc : Thread Cert.SampleGluIdeal.nD Cert.SampleGluIdeal.τ).loc Cert.SampleGluIdeal.main_v1)),
      θ_run (Cert.SampleGluIdeal.defs (F := Ideal)) (onTc (τ := Cert.SampleGluIdeal.τ) (Cert.SampleGluIdeal.main (F := Ideal))) ⟨m, fun _ => 0, g⟩ (fun r => ∀ c : Dev Cert.SampleGluIdeal.nD,
          r.2.mem ((c.tc : Thread Cert.SampleGluIdeal.nD Cert.SampleGluIdeal.τ).loc Cert.SampleGluIdeal.main_v1) = v0 c
          ∧ r.2.mem ((c.tc : Thread Cert.SampleGluIdeal.nD Cert.SampleGluIdeal.τ).loc Cert.SampleGluIdeal.main_arg0) = m ((c.tc : Thread Cert.SampleGluIdeal.nD Cert.SampleGluIdeal.τ).loc Cert.SampleGluIdeal.main_arg0)
          ∧ r.2.mem ((c.tc : Thread Cert.SampleGluIdeal.nD Cert.SampleGluIdeal.τ).loc Cert.SampleGluIdeal.main_arg1) = m ((c.tc : Thread Cert.SampleGluIdeal.nD Cert.SampleGluIdeal.τ).loc Cert.SampleGluIdeal.main_arg1)
          ∧ r.2.mem ((c.tc : Thread Cert.SampleGluIdeal.nD Cert.SampleGluIdeal.τ).loc Cert.SampleGluIdeal.main_arg2) = m ((c.tc : Thread Cert.SampleGluIdeal.nD Cert.SampleGluIdeal.τ).loc Cert.SampleGluIdeal.main_arg2))
      ∧ θ_run (Cert.SampleGluReferenceIdeal.defs (F := Ideal)) (onTc (τ := Cert.SampleGluReferenceIdeal.τ) (Cert.SampleGluReferenceIdeal.main (F := Ideal))) ⟨m', fun _ => 0, g'⟩ (fun r => ∀ c : Dev Cert.SampleGluReferenceIdeal.nD,
          r.2.mem ((c.tc : Thread Cert.SampleGluReferenceIdeal.nD Cert.SampleGluReferenceIdeal.τ).loc Cert.SampleGluReferenceIdeal.main_v22) = v0 c
          ∧ r.2.mem ((c.tc : Thread Cert.SampleGluReferenceIdeal.nD Cert.SampleGluReferenceIdeal.τ).loc Cert.SampleGluReferenceIdeal.main_arg0) = m' ((c.tc : Thread Cert.SampleGluReferenceIdeal.nD Cert.SampleGluReferenceIdeal.τ).loc Cert.SampleGluReferenceIdeal.main_arg0)
          ∧ r.2.mem ((c.tc : Thread Cert.SampleGluReferenceIdeal.nD Cert.SampleGluReferenceIdeal.τ).loc Cert.SampleGluReferenceIdeal.main_arg1) = m' ((c.tc : Thread Cert.SampleGluReferenceIdeal.nD Cert.SampleGluReferenceIdeal.τ).loc Cert.SampleGluReferenceIdeal.main_arg1)
          ∧ r.2.mem ((c.tc : Thread Cert.SampleGluReferenceIdeal.nD Cert.SampleGluReferenceIdeal.τ).loc Cert.SampleGluReferenceIdeal.main_arg2) = m' ((c.tc : Thread Cert.SampleGluReferenceIdeal.nD Cert.SampleGluReferenceIdeal.τ).loc Cert.SampleGluReferenceIdeal.main_arg2))

def preserves_SampleEmbed_SampleEmbedIdeal : Prop :=
  True

def algebraic_SampleEmbedIdeal_SampleEmbedReferenceIdeal [hSampleEmbedIdeal : Cert.SampleEmbedIdeal.Facts] [hSampleEmbedReferenceIdeal : Cert.SampleEmbedReferenceIdeal.Facts] : Prop :=
  ∀ (m : (ℓ : Loc Cert.SampleEmbedIdeal.nD Cert.SampleEmbedIdeal.τ Cert.SampleEmbedIdeal.sig) → Buf (Elt Ideal) ℓ) (g : Dev Cert.SampleEmbedIdeal.nD → PrngReg)
    (m' : (ℓ : Loc Cert.SampleEmbedReferenceIdeal.nD Cert.SampleEmbedReferenceIdeal.τ Cert.SampleEmbedReferenceIdeal.sig) → Buf (Elt Ideal) ℓ) (g' : Dev Cert.SampleEmbedReferenceIdeal.nD → PrngReg), Pre_SampleEmbedIdeal m →
    (∀ c : Dev Cert.SampleEmbedIdeal.nD,
      m' ((c.tc : Thread Cert.SampleEmbedReferenceIdeal.nD Cert.SampleEmbedReferenceIdeal.τ).loc Cert.SampleEmbedReferenceIdeal.main_arg0) = m ((c.tc : Thread Cert.SampleEmbedIdeal.nD Cert.SampleEmbedIdeal.τ).loc Cert.SampleEmbedIdeal.main_arg0)
      ∧ m' ((c.tc : Thread Cert.SampleEmbedReferenceIdeal.nD Cert.SampleEmbedReferenceIdeal.τ).loc Cert.SampleEmbedReferenceIdeal.main_arg1) = m ((c.tc : Thread Cert.SampleEmbedIdeal.nD Cert.SampleEmbedIdeal.τ).loc Cert.SampleEmbedIdeal.main_arg1)
      ∧ m' ((c.tc : Thread Cert.SampleEmbedReferenceIdeal.nD Cert.SampleEmbedReferenceIdeal.τ).loc Cert.SampleEmbedReferenceIdeal.main_arg2) = m ((c.tc : Thread Cert.SampleEmbedIdeal.nD Cert.SampleEmbedIdeal.τ).loc Cert.SampleEmbedIdeal.main_arg2)
      ∧ m' ((c.tc : Thread Cert.SampleEmbedReferenceIdeal.nD Cert.SampleEmbedReferenceIdeal.τ).loc Cert.SampleEmbedReferenceIdeal.main_arg3) = m ((c.tc : Thread Cert.SampleEmbedIdeal.nD Cert.SampleEmbedIdeal.τ).loc Cert.SampleEmbedIdeal.main_arg3)
      ∧ m' ((c.tc : Thread Cert.SampleEmbedReferenceIdeal.nD Cert.SampleEmbedReferenceIdeal.τ).loc Cert.SampleEmbedReferenceIdeal.main_arg4) = m ((c.tc : Thread Cert.SampleEmbedIdeal.nD Cert.SampleEmbedIdeal.τ).loc Cert.SampleEmbedIdeal.main_arg4)) →
    ∃ (v0 : (c : Dev Cert.SampleEmbedIdeal.nD) → Buf (Elt Ideal) ((c.tc : Thread Cert.SampleEmbedIdeal.nD Cert.SampleEmbedIdeal.τ).loc Cert.SampleEmbedIdeal.main_v1)),
      θ_run (Cert.SampleEmbedIdeal.defs (F := Ideal)) (onTc (τ := Cert.SampleEmbedIdeal.τ) (Cert.SampleEmbedIdeal.main (F := Ideal))) ⟨m, fun _ => 0, g⟩ (fun r => ∀ c : Dev Cert.SampleEmbedIdeal.nD,
          r.2.mem ((c.tc : Thread Cert.SampleEmbedIdeal.nD Cert.SampleEmbedIdeal.τ).loc Cert.SampleEmbedIdeal.main_v1) = v0 c
          ∧ r.2.mem ((c.tc : Thread Cert.SampleEmbedIdeal.nD Cert.SampleEmbedIdeal.τ).loc Cert.SampleEmbedIdeal.main_arg0) = m ((c.tc : Thread Cert.SampleEmbedIdeal.nD Cert.SampleEmbedIdeal.τ).loc Cert.SampleEmbedIdeal.main_arg0)
          ∧ r.2.mem ((c.tc : Thread Cert.SampleEmbedIdeal.nD Cert.SampleEmbedIdeal.τ).loc Cert.SampleEmbedIdeal.main_arg1) = m ((c.tc : Thread Cert.SampleEmbedIdeal.nD Cert.SampleEmbedIdeal.τ).loc Cert.SampleEmbedIdeal.main_arg1)
          ∧ r.2.mem ((c.tc : Thread Cert.SampleEmbedIdeal.nD Cert.SampleEmbedIdeal.τ).loc Cert.SampleEmbedIdeal.main_arg2) = m ((c.tc : Thread Cert.SampleEmbedIdeal.nD Cert.SampleEmbedIdeal.τ).loc Cert.SampleEmbedIdeal.main_arg2)
          ∧ r.2.mem ((c.tc : Thread Cert.SampleEmbedIdeal.nD Cert.SampleEmbedIdeal.τ).loc Cert.SampleEmbedIdeal.main_arg3) = m ((c.tc : Thread Cert.SampleEmbedIdeal.nD Cert.SampleEmbedIdeal.τ).loc Cert.SampleEmbedIdeal.main_arg3)
          ∧ r.2.mem ((c.tc : Thread Cert.SampleEmbedIdeal.nD Cert.SampleEmbedIdeal.τ).loc Cert.SampleEmbedIdeal.main_arg4) = m ((c.tc : Thread Cert.SampleEmbedIdeal.nD Cert.SampleEmbedIdeal.τ).loc Cert.SampleEmbedIdeal.main_arg4))
      ∧ θ_run (Cert.SampleEmbedReferenceIdeal.defs (F := Ideal)) (onTc (τ := Cert.SampleEmbedReferenceIdeal.τ) (Cert.SampleEmbedReferenceIdeal.main (F := Ideal))) ⟨m', fun _ => 0, g'⟩ (fun r => ∀ c : Dev Cert.SampleEmbedReferenceIdeal.nD,
          r.2.mem ((c.tc : Thread Cert.SampleEmbedReferenceIdeal.nD Cert.SampleEmbedReferenceIdeal.τ).loc Cert.SampleEmbedReferenceIdeal.main_v22) = v0 c
          ∧ r.2.mem ((c.tc : Thread Cert.SampleEmbedReferenceIdeal.nD Cert.SampleEmbedReferenceIdeal.τ).loc Cert.SampleEmbedReferenceIdeal.main_arg0) = m' ((c.tc : Thread Cert.SampleEmbedReferenceIdeal.nD Cert.SampleEmbedReferenceIdeal.τ).loc Cert.SampleEmbedReferenceIdeal.main_arg0)
          ∧ r.2.mem ((c.tc : Thread Cert.SampleEmbedReferenceIdeal.nD Cert.SampleEmbedReferenceIdeal.τ).loc Cert.SampleEmbedReferenceIdeal.main_arg1) = m' ((c.tc : Thread Cert.SampleEmbedReferenceIdeal.nD Cert.SampleEmbedReferenceIdeal.τ).loc Cert.SampleEmbedReferenceIdeal.main_arg1)
          ∧ r.2.mem ((c.tc : Thread Cert.SampleEmbedReferenceIdeal.nD Cert.SampleEmbedReferenceIdeal.τ).loc Cert.SampleEmbedReferenceIdeal.main_arg2) = m' ((c.tc : Thread Cert.SampleEmbedReferenceIdeal.nD Cert.SampleEmbedReferenceIdeal.τ).loc Cert.SampleEmbedReferenceIdeal.main_arg2)
          ∧ r.2.mem ((c.tc : Thread Cert.SampleEmbedReferenceIdeal.nD Cert.SampleEmbedReferenceIdeal.τ).loc Cert.SampleEmbedReferenceIdeal.main_arg3) = m' ((c.tc : Thread Cert.SampleEmbedReferenceIdeal.nD Cert.SampleEmbedReferenceIdeal.τ).loc Cert.SampleEmbedReferenceIdeal.main_arg3)
          ∧ r.2.mem ((c.tc : Thread Cert.SampleEmbedReferenceIdeal.nD Cert.SampleEmbedReferenceIdeal.τ).loc Cert.SampleEmbedReferenceIdeal.main_arg4) = m' ((c.tc : Thread Cert.SampleEmbedReferenceIdeal.nD Cert.SampleEmbedReferenceIdeal.τ).loc Cert.SampleEmbedReferenceIdeal.main_arg4))

def preserves_SampleValues_SampleValuesIdeal : Prop :=
  True

def algebraic_SampleValuesIdeal_SampleValuesReferenceIdeal [hSampleValuesIdeal : Cert.SampleValuesIdeal.Facts] [hSampleValuesReferenceIdeal : Cert.SampleValuesReferenceIdeal.Facts] : Prop :=
  ∀ (m : (ℓ : Loc Cert.SampleValuesIdeal.nD Cert.SampleValuesIdeal.τ Cert.SampleValuesIdeal.sig) → Buf (Elt Ideal) ℓ) (g : Dev Cert.SampleValuesIdeal.nD → PrngReg)
    (m' : (ℓ : Loc Cert.SampleValuesReferenceIdeal.nD Cert.SampleValuesReferenceIdeal.τ Cert.SampleValuesReferenceIdeal.sig) → Buf (Elt Ideal) ℓ) (g' : Dev Cert.SampleValuesReferenceIdeal.nD → PrngReg), Pre_SampleValuesIdeal m →
    (∀ c : Dev Cert.SampleValuesIdeal.nD,
      m' ((c.tc : Thread Cert.SampleValuesReferenceIdeal.nD Cert.SampleValuesReferenceIdeal.τ).loc Cert.SampleValuesReferenceIdeal.main_arg0) = m ((c.tc : Thread Cert.SampleValuesIdeal.nD Cert.SampleValuesIdeal.τ).loc Cert.SampleValuesIdeal.main_arg0)
      ∧ m' ((c.tc : Thread Cert.SampleValuesReferenceIdeal.nD Cert.SampleValuesReferenceIdeal.τ).loc Cert.SampleValuesReferenceIdeal.main_arg1) = m ((c.tc : Thread Cert.SampleValuesIdeal.nD Cert.SampleValuesIdeal.τ).loc Cert.SampleValuesIdeal.main_arg1)
      ∧ m' ((c.tc : Thread Cert.SampleValuesReferenceIdeal.nD Cert.SampleValuesReferenceIdeal.τ).loc Cert.SampleValuesReferenceIdeal.main_arg2) = m ((c.tc : Thread Cert.SampleValuesIdeal.nD Cert.SampleValuesIdeal.τ).loc Cert.SampleValuesIdeal.main_arg2)) →
    ∃ (v0 : (c : Dev Cert.SampleValuesIdeal.nD) → Buf (Elt Ideal) ((c.tc : Thread Cert.SampleValuesIdeal.nD Cert.SampleValuesIdeal.τ).loc Cert.SampleValuesIdeal.main_v1)),
      θ_run (Cert.SampleValuesIdeal.defs (F := Ideal)) (onTc (τ := Cert.SampleValuesIdeal.τ) (Cert.SampleValuesIdeal.main (F := Ideal))) ⟨m, fun _ => 0, g⟩ (fun r => ∀ c : Dev Cert.SampleValuesIdeal.nD,
          r.2.mem ((c.tc : Thread Cert.SampleValuesIdeal.nD Cert.SampleValuesIdeal.τ).loc Cert.SampleValuesIdeal.main_v1) = v0 c
          ∧ r.2.mem ((c.tc : Thread Cert.SampleValuesIdeal.nD Cert.SampleValuesIdeal.τ).loc Cert.SampleValuesIdeal.main_arg0) = m ((c.tc : Thread Cert.SampleValuesIdeal.nD Cert.SampleValuesIdeal.τ).loc Cert.SampleValuesIdeal.main_arg0)
          ∧ r.2.mem ((c.tc : Thread Cert.SampleValuesIdeal.nD Cert.SampleValuesIdeal.τ).loc Cert.SampleValuesIdeal.main_arg1) = m ((c.tc : Thread Cert.SampleValuesIdeal.nD Cert.SampleValuesIdeal.τ).loc Cert.SampleValuesIdeal.main_arg1)
          ∧ r.2.mem ((c.tc : Thread Cert.SampleValuesIdeal.nD Cert.SampleValuesIdeal.τ).loc Cert.SampleValuesIdeal.main_arg2) = m ((c.tc : Thread Cert.SampleValuesIdeal.nD Cert.SampleValuesIdeal.τ).loc Cert.SampleValuesIdeal.main_arg2))
      ∧ θ_run (Cert.SampleValuesReferenceIdeal.defs (F := Ideal)) (onTc (τ := Cert.SampleValuesReferenceIdeal.τ) (Cert.SampleValuesReferenceIdeal.main (F := Ideal))) ⟨m', fun _ => 0, g'⟩ (fun r => ∀ c : Dev Cert.SampleValuesReferenceIdeal.nD,
          r.2.mem ((c.tc : Thread Cert.SampleValuesReferenceIdeal.nD Cert.SampleValuesReferenceIdeal.τ).loc Cert.SampleValuesReferenceIdeal.main_v13) = v0 c
          ∧ r.2.mem ((c.tc : Thread Cert.SampleValuesReferenceIdeal.nD Cert.SampleValuesReferenceIdeal.τ).loc Cert.SampleValuesReferenceIdeal.main_arg0) = m' ((c.tc : Thread Cert.SampleValuesReferenceIdeal.nD Cert.SampleValuesReferenceIdeal.τ).loc Cert.SampleValuesReferenceIdeal.main_arg0)
          ∧ r.2.mem ((c.tc : Thread Cert.SampleValuesReferenceIdeal.nD Cert.SampleValuesReferenceIdeal.τ).loc Cert.SampleValuesReferenceIdeal.main_arg1) = m' ((c.tc : Thread Cert.SampleValuesReferenceIdeal.nD Cert.SampleValuesReferenceIdeal.τ).loc Cert.SampleValuesReferenceIdeal.main_arg1)
          ∧ r.2.mem ((c.tc : Thread Cert.SampleValuesReferenceIdeal.nD Cert.SampleValuesReferenceIdeal.τ).loc Cert.SampleValuesReferenceIdeal.main_arg2) = m' ((c.tc : Thread Cert.SampleValuesReferenceIdeal.nD Cert.SampleValuesReferenceIdeal.τ).loc Cert.SampleValuesReferenceIdeal.main_arg2))

def preserves_SampleKeys_SampleKeysIdeal : Prop :=
  True

def algebraic_SampleKeysIdeal_SampleKeysReferenceIdeal_pre_sample_keys_finite [hSampleKeysIdeal : Cert.SampleKeysIdeal.Facts] [hSampleKeysReferenceIdeal : Cert.SampleKeysReferenceIdeal.Facts] [hPre_sample_keys_finite : Cert.Pre_sample_keys_finite.Facts] : Prop :=
  ∀ (m : (ℓ : Loc Cert.SampleKeysIdeal.nD Cert.SampleKeysIdeal.τ Cert.SampleKeysIdeal.sig) → Buf (Elt Ideal) ℓ) (g : Dev Cert.SampleKeysIdeal.nD → PrngReg)
    (m' : (ℓ : Loc Cert.SampleKeysReferenceIdeal.nD Cert.SampleKeysReferenceIdeal.τ Cert.SampleKeysReferenceIdeal.sig) → Buf (Elt Ideal) ℓ) (g' : Dev Cert.SampleKeysReferenceIdeal.nD → PrngReg), Pre_SampleKeysIdeal_sample_keys_finite m →
    (∀ c : Dev Cert.SampleKeysIdeal.nD,
      m' ((c.tc : Thread Cert.SampleKeysReferenceIdeal.nD Cert.SampleKeysReferenceIdeal.τ).loc Cert.SampleKeysReferenceIdeal.main_arg0) = m ((c.tc : Thread Cert.SampleKeysIdeal.nD Cert.SampleKeysIdeal.τ).loc Cert.SampleKeysIdeal.main_arg0)
      ∧ m' ((c.tc : Thread Cert.SampleKeysReferenceIdeal.nD Cert.SampleKeysReferenceIdeal.τ).loc Cert.SampleKeysReferenceIdeal.main_arg1) = m ((c.tc : Thread Cert.SampleKeysIdeal.nD Cert.SampleKeysIdeal.τ).loc Cert.SampleKeysIdeal.main_arg1)
      ∧ m' ((c.tc : Thread Cert.SampleKeysReferenceIdeal.nD Cert.SampleKeysReferenceIdeal.τ).loc Cert.SampleKeysReferenceIdeal.main_arg2) = m ((c.tc : Thread Cert.SampleKeysIdeal.nD Cert.SampleKeysIdeal.τ).loc Cert.SampleKeysIdeal.main_arg2)
      ∧ m' ((c.tc : Thread Cert.SampleKeysReferenceIdeal.nD Cert.SampleKeysReferenceIdeal.τ).loc Cert.SampleKeysReferenceIdeal.main_arg3) = m ((c.tc : Thread Cert.SampleKeysIdeal.nD Cert.SampleKeysIdeal.τ).loc Cert.SampleKeysIdeal.main_arg3)) →
    ∃ (v0 : (c : Dev Cert.SampleKeysIdeal.nD) → Buf (Elt Ideal) ((c.tc : Thread Cert.SampleKeysIdeal.nD Cert.SampleKeysIdeal.τ).loc Cert.SampleKeysIdeal.main_v13)),
      θ_run (Cert.SampleKeysIdeal.defs (F := Ideal)) (onTc (τ := Cert.SampleKeysIdeal.τ) (Cert.SampleKeysIdeal.main (F := Ideal))) ⟨m, fun _ => 0, g⟩ (fun r => ∀ c : Dev Cert.SampleKeysIdeal.nD,
          r.2.mem ((c.tc : Thread Cert.SampleKeysIdeal.nD Cert.SampleKeysIdeal.τ).loc Cert.SampleKeysIdeal.main_v13) = v0 c
          ∧ r.2.mem ((c.tc : Thread Cert.SampleKeysIdeal.nD Cert.SampleKeysIdeal.τ).loc Cert.SampleKeysIdeal.main_arg0) = m ((c.tc : Thread Cert.SampleKeysIdeal.nD Cert.SampleKeysIdeal.τ).loc Cert.SampleKeysIdeal.main_arg0)
          ∧ r.2.mem ((c.tc : Thread Cert.SampleKeysIdeal.nD Cert.SampleKeysIdeal.τ).loc Cert.SampleKeysIdeal.main_arg1) = m ((c.tc : Thread Cert.SampleKeysIdeal.nD Cert.SampleKeysIdeal.τ).loc Cert.SampleKeysIdeal.main_arg1)
          ∧ r.2.mem ((c.tc : Thread Cert.SampleKeysIdeal.nD Cert.SampleKeysIdeal.τ).loc Cert.SampleKeysIdeal.main_arg2) = m ((c.tc : Thread Cert.SampleKeysIdeal.nD Cert.SampleKeysIdeal.τ).loc Cert.SampleKeysIdeal.main_arg2)
          ∧ r.2.mem ((c.tc : Thread Cert.SampleKeysIdeal.nD Cert.SampleKeysIdeal.τ).loc Cert.SampleKeysIdeal.main_arg3) = m ((c.tc : Thread Cert.SampleKeysIdeal.nD Cert.SampleKeysIdeal.τ).loc Cert.SampleKeysIdeal.main_arg3))
      ∧ θ_run (Cert.SampleKeysReferenceIdeal.defs (F := Ideal)) (onTc (τ := Cert.SampleKeysReferenceIdeal.τ) (Cert.SampleKeysReferenceIdeal.main (F := Ideal))) ⟨m', fun _ => 0, g'⟩ (fun r => ∀ c : Dev Cert.SampleKeysReferenceIdeal.nD,
          r.2.mem ((c.tc : Thread Cert.SampleKeysReferenceIdeal.nD Cert.SampleKeysReferenceIdeal.τ).loc Cert.SampleKeysReferenceIdeal.main_v28) = v0 c
          ∧ r.2.mem ((c.tc : Thread Cert.SampleKeysReferenceIdeal.nD Cert.SampleKeysReferenceIdeal.τ).loc Cert.SampleKeysReferenceIdeal.main_arg0) = m' ((c.tc : Thread Cert.SampleKeysReferenceIdeal.nD Cert.SampleKeysReferenceIdeal.τ).loc Cert.SampleKeysReferenceIdeal.main_arg0)
          ∧ r.2.mem ((c.tc : Thread Cert.SampleKeysReferenceIdeal.nD Cert.SampleKeysReferenceIdeal.τ).loc Cert.SampleKeysReferenceIdeal.main_arg1) = m' ((c.tc : Thread Cert.SampleKeysReferenceIdeal.nD Cert.SampleKeysReferenceIdeal.τ).loc Cert.SampleKeysReferenceIdeal.main_arg1)
          ∧ r.2.mem ((c.tc : Thread Cert.SampleKeysReferenceIdeal.nD Cert.SampleKeysReferenceIdeal.τ).loc Cert.SampleKeysReferenceIdeal.main_arg2) = m' ((c.tc : Thread Cert.SampleKeysReferenceIdeal.nD Cert.SampleKeysReferenceIdeal.τ).loc Cert.SampleKeysReferenceIdeal.main_arg2)
          ∧ r.2.mem ((c.tc : Thread Cert.SampleKeysReferenceIdeal.nD Cert.SampleKeysReferenceIdeal.τ).loc Cert.SampleKeysReferenceIdeal.main_arg3) = m' ((c.tc : Thread Cert.SampleKeysReferenceIdeal.nD Cert.SampleKeysReferenceIdeal.τ).loc Cert.SampleKeysReferenceIdeal.main_arg3))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v245) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)) →
    ∃ (v0 : (c : Dev Cert.StepIdeal.nD) → Buf (Elt Ideal) ((c.tc : Thread Cert.StepIdeal.nD Cert.StepIdeal.τ).loc Cert.StepIdeal.main_v5)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v5) = v0 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v246) = v0 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluReferenceIdeal : Cert.GluReferenceIdeal.Facts) (hHidden : Cert.Hidden.Facts) (hHiddenIdeal : Cert.HiddenIdeal.Facts) (hHiddenReferenceIdeal : Cert.HiddenReferenceIdeal.Facts) (hDown : Cert.Down.Facts) (hDownIdeal : Cert.DownIdeal.Facts) (hDownReferenceIdeal : Cert.DownReferenceIdeal.Facts) (hEmbed : Cert.Embed.Facts) (hEmbedIdeal : Cert.EmbedIdeal.Facts) (hEmbedReferenceIdeal : Cert.EmbedReferenceIdeal.Facts) (hValues : Cert.Values.Facts) (hValuesIdeal : Cert.ValuesIdeal.Facts) (hValuesReferenceIdeal : Cert.ValuesReferenceIdeal.Facts) (hKeys : Cert.Keys.Facts) (hKeysIdeal : Cert.KeysIdeal.Facts) (hKeysReferenceIdeal : Cert.KeysReferenceIdeal.Facts) (hQueries : Cert.Queries.Facts) (hQueriesIdeal : Cert.QueriesIdeal.Facts) (hQueriesReferenceIdeal : Cert.QueriesReferenceIdeal.Facts) (hBack : Cert.Back.Facts) (hBackIdeal : Cert.BackIdeal.Facts) (hBackReferenceIdeal : Cert.BackReferenceIdeal.Facts) (hAttn : Cert.Attn.Facts) (hAttnIdeal : Cert.AttnIdeal.Facts) (hAttnReferenceIdeal : Cert.AttnReferenceIdeal.Facts) (hSampleGlu : Cert.SampleGlu.Facts) (hSampleGluIdeal : Cert.SampleGluIdeal.Facts) (hSampleGluReferenceIdeal : Cert.SampleGluReferenceIdeal.Facts) (hSampleEmbed : Cert.SampleEmbed.Facts) (hSampleEmbedIdeal : Cert.SampleEmbedIdeal.Facts) (hSampleEmbedReferenceIdeal : Cert.SampleEmbedReferenceIdeal.Facts) (hSampleValues : Cert.SampleValues.Facts) (hSampleValuesIdeal : Cert.SampleValuesIdeal.Facts) (hSampleValuesReferenceIdeal : Cert.SampleValuesReferenceIdeal.Facts) (hSampleKeys : Cert.SampleKeys.Facts) (hSampleKeysIdeal : Cert.SampleKeysIdeal.Facts) (hSampleKeysReferenceIdeal : Cert.SampleKeysReferenceIdeal.Facts) (hConv : Cert.Conv.Facts) (hConvIdeal : Cert.ConvIdeal.Facts) (hConvReferenceIdeal : Cert.ConvReferenceIdeal.Facts) (hStep : Cert.Step.Facts) (hStepIdeal : Cert.StepIdeal.Facts) (hStepReferenceIdeal : Cert.StepReferenceIdeal.Facts) (hPre_router_finite : Cert.Pre_router_finite.Facts) (hPre_keys_finite : Cert.Pre_keys_finite.Facts) (hPre_attn_finite : Cert.Pre_attn_finite.Facts) (hPre_sample_keys_finite : Cert.Pre_sample_keys_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Glu (hGlu := hGlu)
    ∧ quiescent_GluIdeal (hGluIdeal := hGluIdeal)
    ∧ quiescent_GluReferenceIdeal (hGluReferenceIdeal := hGluReferenceIdeal)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Down (hDown := hDown)
    ∧ quiescent_DownIdeal (hDownIdeal := hDownIdeal)
    ∧ quiescent_DownReferenceIdeal (hDownReferenceIdeal := hDownReferenceIdeal)
    ∧ quiescent_Embed (hEmbed := hEmbed)
    ∧ quiescent_EmbedIdeal (hEmbedIdeal := hEmbedIdeal)
    ∧ quiescent_EmbedReferenceIdeal (hEmbedReferenceIdeal := hEmbedReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Keys (hKeys := hKeys)
    ∧ quiescent_KeysIdeal (hKeysIdeal := hKeysIdeal)
    ∧ quiescent_KeysIdeal_pre_keys_finite (hKeysIdeal := hKeysIdeal) (hPre_keys_finite := hPre_keys_finite)
    ∧ quiescent_KeysReferenceIdeal (hKeysReferenceIdeal := hKeysReferenceIdeal)
    ∧ quiescent_KeysReferenceIdeal_pre_keys_finite (hKeysReferenceIdeal := hKeysReferenceIdeal) (hPre_keys_finite := hPre_keys_finite)
    ∧ quiescent_Queries (hQueries := hQueries)
    ∧ quiescent_QueriesIdeal (hQueriesIdeal := hQueriesIdeal)
    ∧ quiescent_QueriesIdeal_pre_keys_finite (hQueriesIdeal := hQueriesIdeal) (hPre_keys_finite := hPre_keys_finite)
    ∧ quiescent_QueriesReferenceIdeal (hQueriesReferenceIdeal := hQueriesReferenceIdeal)
    ∧ quiescent_QueriesReferenceIdeal_pre_keys_finite (hQueriesReferenceIdeal := hQueriesReferenceIdeal) (hPre_keys_finite := hPre_keys_finite)
    ∧ quiescent_Back (hBack := hBack)
    ∧ quiescent_BackIdeal (hBackIdeal := hBackIdeal)
    ∧ quiescent_BackReferenceIdeal (hBackReferenceIdeal := hBackReferenceIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_SampleGlu (hSampleGlu := hSampleGlu)
    ∧ quiescent_SampleGluIdeal (hSampleGluIdeal := hSampleGluIdeal)
    ∧ quiescent_SampleGluReferenceIdeal (hSampleGluReferenceIdeal := hSampleGluReferenceIdeal)
    ∧ quiescent_SampleEmbed (hSampleEmbed := hSampleEmbed)
    ∧ quiescent_SampleEmbedIdeal (hSampleEmbedIdeal := hSampleEmbedIdeal)
    ∧ quiescent_SampleEmbedReferenceIdeal (hSampleEmbedReferenceIdeal := hSampleEmbedReferenceIdeal)
    ∧ quiescent_SampleValues (hSampleValues := hSampleValues)
    ∧ quiescent_SampleValuesIdeal (hSampleValuesIdeal := hSampleValuesIdeal)
    ∧ quiescent_SampleValuesReferenceIdeal (hSampleValuesReferenceIdeal := hSampleValuesReferenceIdeal)
    ∧ quiescent_SampleKeys (hSampleKeys := hSampleKeys)
    ∧ quiescent_SampleKeysIdeal (hSampleKeysIdeal := hSampleKeysIdeal)
    ∧ quiescent_SampleKeysIdeal_pre_sample_keys_finite (hSampleKeysIdeal := hSampleKeysIdeal) (hPre_sample_keys_finite := hPre_sample_keys_finite)
    ∧ quiescent_SampleKeysReferenceIdeal (hSampleKeysReferenceIdeal := hSampleKeysReferenceIdeal)
    ∧ quiescent_SampleKeysReferenceIdeal_pre_sample_keys_finite (hSampleKeysReferenceIdeal := hSampleKeysReferenceIdeal) (hPre_sample_keys_finite := hPre_sample_keys_finite)
    ∧ quiescent_Conv (hConv := hConv)
    ∧ quiescent_ConvIdeal (hConvIdeal := hConvIdeal)
    ∧ quiescent_ConvReferenceIdeal (hConvReferenceIdeal := hConvReferenceIdeal)
    ∧ quiescent_Step (hStep := hStep)
    ∧ quiescent_StepIdeal (hStepIdeal := hStepIdeal)
    ∧ quiescent_StepReferenceIdeal (hStepReferenceIdeal := hStepReferenceIdeal)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Glu_GluIdeal
    ∧ algebraic_GluIdeal_GluReferenceIdeal (hGluIdeal := hGluIdeal) (hGluReferenceIdeal := hGluReferenceIdeal)
    ∧ preserves_Hidden_HiddenIdeal
    ∧ algebraic_HiddenIdeal_HiddenReferenceIdeal (hHiddenIdeal := hHiddenIdeal) (hHiddenReferenceIdeal := hHiddenReferenceIdeal)
    ∧ preserves_Down_DownIdeal
    ∧ algebraic_DownIdeal_DownReferenceIdeal (hDownIdeal := hDownIdeal) (hDownReferenceIdeal := hDownReferenceIdeal)
    ∧ preserves_Embed_EmbedIdeal
    ∧ algebraic_EmbedIdeal_EmbedReferenceIdeal (hEmbedIdeal := hEmbedIdeal) (hEmbedReferenceIdeal := hEmbedReferenceIdeal)
    ∧ preserves_Values_ValuesIdeal
    ∧ algebraic_ValuesIdeal_ValuesReferenceIdeal (hValuesIdeal := hValuesIdeal) (hValuesReferenceIdeal := hValuesReferenceIdeal)
    ∧ preserves_Keys_KeysIdeal
    ∧ algebraic_KeysIdeal_KeysReferenceIdeal_pre_keys_finite (hKeysIdeal := hKeysIdeal) (hKeysReferenceIdeal := hKeysReferenceIdeal) (hPre_keys_finite := hPre_keys_finite)
    ∧ preserves_Queries_QueriesIdeal
    ∧ algebraic_QueriesIdeal_QueriesReferenceIdeal_pre_keys_finite (hQueriesIdeal := hQueriesIdeal) (hQueriesReferenceIdeal := hQueriesReferenceIdeal) (hPre_keys_finite := hPre_keys_finite)
    ∧ preserves_Back_BackIdeal
    ∧ algebraic_BackIdeal_BackReferenceIdeal (hBackIdeal := hBackIdeal) (hBackReferenceIdeal := hBackReferenceIdeal)
    ∧ preserves_Attn_AttnIdeal
    ∧ algebraic_AttnIdeal_AttnReferenceIdeal_pre_attn_finite (hAttnIdeal := hAttnIdeal) (hAttnReferenceIdeal := hAttnReferenceIdeal) (hPre_attn_finite := hPre_attn_finite)
    ∧ preserves_SampleGlu_SampleGluIdeal
    ∧ algebraic_SampleGluIdeal_SampleGluReferenceIdeal (hSampleGluIdeal := hSampleGluIdeal) (hSampleGluReferenceIdeal := hSampleGluReferenceIdeal)
    ∧ preserves_SampleEmbed_SampleEmbedIdeal
    ∧ algebraic_SampleEmbedIdeal_SampleEmbedReferenceIdeal (hSampleEmbedIdeal := hSampleEmbedIdeal) (hSampleEmbedReferenceIdeal := hSampleEmbedReferenceIdeal)
    ∧ preserves_SampleValues_SampleValuesIdeal
    ∧ algebraic_SampleValuesIdeal_SampleValuesReferenceIdeal (hSampleValuesIdeal := hSampleValuesIdeal) (hSampleValuesReferenceIdeal := hSampleValuesReferenceIdeal)
    ∧ preserves_SampleKeys_SampleKeysIdeal
    ∧ algebraic_SampleKeysIdeal_SampleKeysReferenceIdeal_pre_sample_keys_finite (hSampleKeysIdeal := hSampleKeysIdeal) (hSampleKeysReferenceIdeal := hSampleKeysReferenceIdeal) (hPre_sample_keys_finite := hPre_sample_keys_finite)
    ∧ preserves_Conv_ConvIdeal
    ∧ algebraic_ConvIdeal_ConvReferenceIdeal (hConvIdeal := hConvIdeal) (hConvReferenceIdeal := hConvReferenceIdeal)
    ∧ preserves_Step_StepIdeal
    ∧ algebraic_StepIdeal_StepReferenceIdeal (hStepIdeal := hStepIdeal) (hStepReferenceIdeal := hStepReferenceIdeal)
-- ==== Pre_attn_finite.lean ====
abbrev S4x16x4096x64 : Shape := ⟨4, ![4, 16, 4096, 64]⟩
abbrev S16 : Shape := ⟨1, ![16]⟩
abbrev S_ : Shape := ⟨0, ![]⟩
abbrev S1x16x1x1 : Shape := ⟨4, ![1, 16, 1, 1]⟩

class Facts : Prop where
  bitsLt_bf16_f32 : FTy.bits .bf16 < FTy.bits .f32
  bcast_S_S4x16x4096x64 : S_.BroadcastsInDim S4x16x4096x64 (![] : Fin 0 → Fin S4x16x4096x64.rank)
  bcast_S16_S1x16x1x1_1 : S16.BroadcastsInDim S1x16x1x1 (![1] : Fin 1 → Fin S1x16x1x1.rank)
  bcast_S_S1x16x1x1 : S_.BroadcastsInDim S1x16x1x1 (![] : Fin 0 → Fin S1x16x1x1.rank)
  bcast_S1x16x1x1_S4x16x4096x64_0_1_2_3 : S1x16x1x1.BroadcastsInDim S4x16x4096x64 (![0, 1, 2, 3] : Fin 4 → Fin S4x16x4096x64.rank)

variable [Facts]

def fn {F : FTy → Type} [FloatOps F] (main_arg0 : FVec F S4x16x4096x64 .bf16) (main_arg1 : FVec F S4x16x4096x64 .bf16) (main_arg2 : FVec F S4x16x4096x64 .bf16) (main_arg3 : FVec F S16 .f32) : IVec S4x16x4096x64 1 :=
  let main_v0 : FVec F S4x16x4096x64 .f32 := (extf .f32 · bitsLt_bf16_f32) main_arg0
  let main_v1 : FVec F S4x16x4096x64 .f32 := Host.absf main_v0
  let main_cst : FVec F S_ .f32 := constant S_ .f32 0x7F800000#32
  let main_v2 : FVec F S4x16x4096x64 .f32 := broadcastInDim S4x16x4096x64 ![] bcast_S_S4x16x4096x64 main_cst
  let main_v3 : IVec S4x16x4096x64 1 := cmpf .olt main_v1 main_v2
  let main_v4 : FVec F S4x16x4096x64 .f32 := (extf .f32 · bitsLt_bf16_f32) main_arg1
  let main_v5 : FVec F S4x16x4096x64 .f32 := Host.absf main_v4
  let main_cst_0 : FVec F S_ .f32 := constant S_ .f32 0x7F800000#32
  let main_v6 : FVec F S4x16x4096x64 .f32 := broadcastInDim S4x16x4096x64 ![] bcast_S_S4x16x4096x64 main_cst_0
  let main_v7 : IVec S4x16x4096x64 1 := cmpf .olt main_v5 main_v6
  let main_v8 : IVec S4x16x4096x64 1 := andi main_v3 main_v7
  let main_v9 : FVec F S16 .f32 := Host.absf main_arg3
  let main_v10 : FVec F S1x16x1x1 .f32 := broadcastInDim S1x16x1x1 ![1] bcast_S16_S1x16x1x1_1 main_v9
  let main_cst_1 : FVec F S_ .f32 := constant S_ .f32 0x7F800000#32
  let main_v11 : FVec F S1x16x1x1 .f32 := broadcastInDim S1x16x1x1 ![] bcast_S_S1x16x1x1 main_cst_1
  let main_v12 : IVec S1x16x1x1 1 := cmpf .olt main_v10 main_v11
  let main_v13 : IVec S4x16x4096x64 1 := broadcastInDim S4x16x4096x64 ![0, 1, 2, 3] bcast_S1x16x1x1_S4x16x4096x64_0_1_2_3 main_v12
  let main_v14 : IVec S4x16x4096x64 1 := andi main_v8 main_v13
  main_v14
-- ==== Pre_keys_finite.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S1024x1 : Shape := ⟨2, ![1024, 1]⟩

class Facts : Prop where
  bcast_S_S1024x1024 : S_.BroadcastsInDim S1024x1024 (![] : Fin 0 → Fin S1024x1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)

variable [Facts]

def fn {F : FTy → Type} [FloatOps F] (main_arg0 : FVec F S16384x1024 .f32) (main_arg1 : FVec F S1024 .f32) (main_arg2 : FVec F S1024x1024 .f32) (main_arg3 : FVec F S64 .f32) : IVec S1024x1024 1 :=
  let main_v0 : FVec F S1024x1024 .f32 := Host.absf main_arg2
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024 .f32 := Host.absf main_arg1
  let main_v4 : FVec F S1024x1 .f32 := broadcastInDim S1024x1 ![0] bcast_S1024_S1024x1_0 main_v3
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_v7 : IVec S1024x1024 1 := broadcastInDim S1024x1024 ![0, 1] bcast_S1024x1_S1024x1024_0_1 main_v6
  let main_v8 : IVec S1024x1024 1 := andi main_v2 main_v7
  main_v8
-- ==== Pre_router_finite.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x1 : Shape := ⟨2, ![1024, 1]⟩

class Facts : Prop where
  bcast_S_S1024x8 : S_.BroadcastsInDim S1024x8 (![] : Fin 0 → Fin S1024x8.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x8_0_1 : S1024x1.BroadcastsInDim S1024x8 (![0, 1] : Fin 2 → Fin S1024x8.rank)

variable [Facts]

def fn {F : FTy → Type} [FloatOps F] (main_arg0 : FVec F S16384x1024 .f32) (main_arg1 : FVec F S1024 .f32) (main_arg2 : FVec F S1024x8 .f32) (main_arg3 : FVec F S8x1024x3584 .f32) (main_arg4 : FVec F S8x1024x3584 .f32) (main_arg5 : FVec F S8x3584x1024 .f32) : IVec S1024x8 1 :=
  let main_v0 : FVec F S1024x8 .f32 := Host.absf main_arg2
  let main_cst : FVec F S_ .f32 := constant S_ .f32 0x7F800000#32
  let main_v1 : FVec F S1024x8 .f32 := broadcastInDim S1024x8 ![] bcast_S_S1024x8 main_cst
  let main_v2 : IVec S1024x8 1 := cmpf .olt main_v0 main_v1
  let main_v3 : FVec F S1024 .f32 := Host.absf main_arg1
  let main_v4 : FVec F S1024x1 .f32 := broadcastInDim S1024x1 ![0] bcast_S1024_S1024x1_0 main_v3
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_v7 : IVec S1024x8 1 := broadcastInDim S1024x8 ![0, 1] bcast_S1024x1_S1024x8_0_1 main_v6
  let main_v8 : IVec S1024x8 1 := andi main_v2 main_v7
  main_v8
-- ==== Pre_sample_keys_finite.lean ====
abbrev S128x1024 : Shape := ⟨2, ![128, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S1024x1 : Shape := ⟨2, ![1024, 1]⟩

class Facts : Prop where
  bcast_S_S1024x1024 : S_.BroadcastsInDim S1024x1024 (![] : Fin 0 → Fin S1024x1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)

variable [Facts]

def fn {F : FTy → Type} [FloatOps F] (main_arg0 : FVec F S128x1024 .f32) (main_arg1 : FVec F S1024 .f32) (main_arg2 : FVec F S1024x1024 .f32) (main_arg3 : FVec F S64 .f32) : IVec S1024x1024 1 :=
  let main_v0 : FVec F S1024x1024 .f32 := Host.absf main_arg2
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024 .f32 := Host.absf main_arg1
  let main_v4 : FVec F S1024x1 .f32 := broadcastInDim S1024x1 ![0] bcast_S1024_S1024x1_0 main_v3
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_v7 : IVec S1024x1024 1 := broadcastInDim S1024x1024 ![0, 1] bcast_S1024x1_S1024x1024_0_1 main_v6
  let main_v8 : IVec S1024x1024 1 := andi main_v2 main_v7
  main_v8
-- ==== Kernel.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S_, .f32⟩
  | .hbm, ⟨7, _⟩ => ⟨S1024x128, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x128, .f32⟩
  | .local _ .vmem, ⟨14, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 8, 14], ![false, false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let arg2 : BitVec 32 := BitVec.ofNat 32 (i 2).val
  let c13_i32 : BitVec 32 := 13#32
  let v44 : BitVec 1 := Scalar.cmpi .eq arg2 c13_i32
  let v45 : BitVec 1 := Scalar.andi v43 v44
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S16384x3584 : Shape := ⟨2, ![16384, 3584]⟩

abbrev nBuf : Space → Nat
  | .hbm => 233
  | .vmem => 0
  | .smem => 0
  | _ => 0

abbrev hbmTy0_0 (i : Nat) : BufTy := match i % 128 with
  | 0 => ⟨S16384x1024, .f32⟩
  | 1 => ⟨S1024, .f32⟩
  | 2 => ⟨S1024x8, .f32⟩
  | 3 => ⟨S8x1024x3584, .f32⟩
  | 4 => ⟨S8x1024x3584, .f32⟩
  | 5 => ⟨S8x3584x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x8, .f32⟩
  | 23 => ⟨S16384x2, .f32⟩
  | 24 => ⟨S16384x2, .i32⟩
  | 25 => ⟨S_, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S16384x2, .f32⟩
  | 32 => ⟨S16384x2, .f32⟩
  | 33 => ⟨S16384x2, .f32⟩
  | 34 => ⟨S_, .f32⟩
  | 35 => ⟨S16384, .f32⟩
  | 36 => ⟨S16384x1, .f32⟩
  | 37 => ⟨S16384x2, .f32⟩
  | 38 => ⟨S16384x2, .f32⟩
  | 39 => ⟨S16384x2x1, .i32⟩
  | 40 => ⟨S1x1x8, .i32⟩
  | 41 => ⟨S16384x2x8, .i32⟩
  | 42 => ⟨S16384x2x8, .i32⟩
  | 43 => ⟨S16384x2x8, .i1⟩
  | 44 => ⟨S16384x2x8, .f32⟩
  | 45 => ⟨S16384x8, .f32⟩
  | 46 => ⟨S_, .f32⟩
  | 47 => ⟨S16384x1024, .f32⟩
  | 48 => ⟨S16384x1, .f32⟩
  | 49 => ⟨S1x1024x3584, .f32⟩
  | 50 => ⟨S1024x3584, .f32⟩
  | 51 => ⟨S1x1024x3584, .f32⟩
  | 52 => ⟨S1024x3584, .f32⟩
  | 53 => ⟨S1x3584x1024, .f32⟩
  | 54 => ⟨S3584x1024, .f32⟩
  | 55 => ⟨S16384x3584, .f32⟩
  | 56 => ⟨S16384x3584, .f32⟩
  | 57 => ⟨S16384x3584, .f32⟩
  | 58 => ⟨S_, .f32⟩
  | 59 => ⟨S16384x3584, .f32⟩
  | 60 => ⟨S16384x3584, .f32⟩
  | 61 => ⟨S_, .f32⟩
  | 62 => ⟨S16384x3584, .f32⟩
  | 63 => ⟨S16384x3584, .f32⟩
  | 64 => ⟨S16384x3584, .f32⟩
  | 65 => ⟨S16384x3584, .f32⟩
  | 66 => ⟨S16384x3584, .f32⟩
  | 67 => ⟨S16384x1024, .f32⟩
  | 68 => ⟨S16384x1024, .f32⟩
  | 69 => ⟨S16384x1024, .f32⟩
  | 70 => ⟨S16384x1024, .f32⟩
  | 71 => ⟨S16384x1, .f32⟩
  | 72 => ⟨S1x1024x3584, .f32⟩
  | 73 => ⟨S1024x3584, .f32⟩
  | 74 => ⟨S1x1024x3584, .f32⟩
  | 75 => ⟨S1024x3584, .f32⟩
  | 76 => ⟨S1x3584x1024, .f32⟩
  | 77 => ⟨S3584x1024, .f32⟩
  | 78 => ⟨S16384x3584, .f32⟩
  | 79 => ⟨S16384x3584, .f32⟩
  | 80 => ⟨S16384x3584, .f32⟩
  | 81 => ⟨S_, .f32⟩
  | 82 => ⟨S16384x3584, .f32⟩
  | 83 => ⟨S16384x3584, .f32⟩
  | 84 => ⟨S_, .f32⟩
  | 85 => ⟨S16384x3584, .f32⟩
  | 86 => ⟨S16384x3584, .f32⟩
  | 87 => ⟨S16384x3584, .f32⟩
  | 88 => ⟨S16384x3584, .f32⟩
  | 89 => ⟨S16384x3584, .f32⟩
  | 90 => ⟨S16384x1024, .f32⟩
  | 91 => ⟨S16384x1024, .f32⟩
  | 92 => ⟨S16384x1024, .f32⟩
  | 93 => ⟨S16384x1024, .f32⟩
  | 94 => ⟨S16384x1, .f32⟩
  | 95 => ⟨S1x1024x3584, .f32⟩
  | 96 => ⟨S1024x3584, .f32⟩
  | 97 => ⟨S1x1024x3584, .f32⟩
  | 98 => ⟨S1024x3584, .f32⟩
  | 99 => ⟨S1x3584x1024, .f32⟩
  | 100 => ⟨S3584x1024, .f32⟩
  | 101 => ⟨S16384x3584, .f32⟩
  | 102 => ⟨S16384x3584, .f32⟩
  | 103 => ⟨S16384x3584, .f32⟩
  | 104 => ⟨S_, .f32⟩
  | 105 => ⟨S16384x3584, .f32⟩
  | 106 => ⟨S16384x3584, .f32⟩
  | 107 => ⟨S_, .f32⟩
  | 108 => ⟨S16384x3584, .f32⟩
  | 109 => ⟨S16384x3584, .f32⟩
  | 110 => ⟨S16384x3584, .f32⟩
  | 111 => ⟨S16384x3584, .f32⟩
  | 112 => ⟨S16384x3584, .f32⟩
  | 113 => ⟨S16384x1024, .f32⟩
  | 114 => ⟨S16384x1024, .f32⟩
  | 115 => ⟨S16384x1024, .f32⟩
  | 116 => ⟨S16384x1024, .f32⟩
  | 117 => ⟨S16384x1, .f32⟩
  | 118 => ⟨S1x1024x3584, .f32⟩
  | 119 => ⟨S1024x3584, .f32⟩
  | 120 => ⟨S1x1024x3584, .f32⟩
  | 121 => ⟨S1024x3584, .f32⟩
  | 122 => ⟨S1x3584x1024, .f32⟩
  | 123 => ⟨S3584x1024, .f32⟩
  | 124 => ⟨S16384x3584, .f32⟩
  | 125 => ⟨S16384x3584, .f32⟩
  | 126 => ⟨S16384x3584, .f32⟩
  | 127 => ⟨S_, .f32⟩
  | _ => ⟨S16384x1024, .f32⟩

abbrev hbmTy0_1 (i : Nat) : BufTy := match i % 128 with
  | 0 => ⟨S16384x3584, .f32⟩
  | 1 => ⟨S16384x3584, .f32⟩
  | 2 => ⟨S_, .f32⟩
  | 3 => ⟨S16384x3584, .f32⟩
  | 4 => ⟨S16384x3584, .f32⟩
  | 5 => ⟨S16384x3584, .f32⟩
  | 6 => ⟨S16384x3584, .f32⟩
  | 7 => ⟨S16384x3584, .f32⟩
  | 8 => ⟨S16384x1024, .f32⟩
  | 9 => ⟨S16384x1024, .f32⟩
  | 10 => ⟨S16384x1024, .f32⟩
  | 11 => ⟨S16384x1024, .f32⟩
  | 12 => ⟨S16384x1, .f32⟩
  | 13 => ⟨S1x1024x3584, .f32⟩
  | 14 => ⟨S1024x3584, .f32⟩
  | 15 => ⟨S1x1024x3584, .f32⟩
  | 16 => ⟨S1024x3584, .f32⟩
  | 17 => ⟨S1x3584x1024, .f32⟩
  | 18 => ⟨S3584x1024, .f32⟩
  | 19 => ⟨S16384x3584, .f32⟩
  | 20 => ⟨S16384x3584, .f32⟩
  | 21 => ⟨S16384x3584, .f32⟩
  | 22 => ⟨S_, .f32⟩
  | 23 => ⟨S16384x3584, .f32⟩
  | 24 => ⟨S16384x3584, .f32⟩
  | 25 => ⟨S_, .f32⟩
  | 26 => ⟨S16384x3584, .f32⟩
  | 27 => ⟨S16384x3584, .f32⟩
  | 28 => ⟨S16384x3584, .f32⟩
  | 29 => ⟨S16384x3584, .f32⟩
  | 30 => ⟨S16384x3584, .f32⟩
  | 31 => ⟨S16384x1024, .f32⟩
  | 32 => ⟨S16384x1024, .f32⟩
  | 33 => ⟨S16384x1024, .f32⟩
  | 34 => ⟨S16384x1024, .f32⟩
  | 35 => ⟨S16384x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S16384x3584, .f32⟩
  | 43 => ⟨S16384x3584, .f32⟩
  | 44 => ⟨S16384x3584, .f32⟩
  | 45 => ⟨S_, .f32⟩
  | 46 => ⟨S16384x3584, .f32⟩
  | 47 => ⟨S16384x3584, .f32⟩
  | 48 => ⟨S_, .f32⟩
  | 49 => ⟨S16384x3584, .f32⟩
  | 50 => ⟨S16384x3584, .f32⟩
  | 51 => ⟨S16384x3584, .f32⟩
  | 52 => ⟨S16384x3584, .f32⟩
  | 53 => ⟨S16384x3584, .f32⟩
  | 54 => ⟨S16384x1024, .f32⟩
  | 55 => ⟨S16384x1024, .f32⟩
  | 56 => ⟨S16384x1024, .f32⟩
  | 57 => ⟨S16384x1024, .f32⟩
  | 58 => ⟨S16384x1, .f32⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S16384x3584, .f32⟩
  | 66 => ⟨S16384x3584, .f32⟩
  | 67 => ⟨S16384x3584, .f32⟩
  | 68 => ⟨S_, .f32⟩
  | 69 => ⟨S16384x3584, .f32⟩
  | 70 => ⟨S16384x3584, .f32⟩
  | 71 => ⟨S_, .f32⟩
  | 72 => ⟨S16384x3584, .f32⟩
  | 73 => ⟨S16384x3584, .f32⟩
  | 74 => ⟨S16384x3584, .f32⟩
  | 75 => ⟨S16384x3584, .f32⟩
  | 76 => ⟨S16384x3584, .f32⟩
  | 77 => ⟨S16384x1024, .f32⟩
  | 78 => ⟨S16384x1024, .f32⟩
  | 79 => ⟨S16384x1024, .f32⟩
  | 80 => ⟨S16384x1024, .f32⟩
  | 81 => ⟨S16384x1, .f32⟩
  | 82 => ⟨S1x1024x3584, .f32⟩
  | 83 => ⟨S1024x3584, .f32⟩
  | 84 => ⟨S1x1024x3584, .f32⟩
  | 85 => ⟨S1024x3584, .f32⟩
  | 86 => ⟨S1x3584x1024, .f32⟩
  | 87 => ⟨S3584x1024, .f32⟩
  | 88 => ⟨S16384x3584, .f32⟩
  | 89 => ⟨S16384x3584, .f32⟩
  | 90 => ⟨S16384x3584, .f32⟩
  | 91 => ⟨S_, .f32⟩
  | 92 => ⟨S16384x3584, .f32⟩
  | 93 => ⟨S16384x3584, .f32⟩
  | 94 => ⟨S_, .f32⟩
  | 95 => ⟨S16384x3584, .f32⟩
  | 96 => ⟨S16384x3584, .f32⟩
  | 97 => ⟨S16384x3584, .f32⟩
  | 98 => ⟨S16384x3584, .f32⟩
  | 99 => ⟨S16384x3584, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call6_v0 : Ref sig .tc := ⟨.hbm, 171, rfl⟩
abbrev main_call6_v1 : Ref sig .tc := ⟨.hbm, 172, rfl⟩
abbrev main_call6_cst : Ref sig .tc := ⟨.hbm, 173, rfl⟩
abbrev main_call6_v2 : Ref sig .tc := ⟨.hbm, 174, rfl⟩
abbrev main_call6_v3 : Ref sig .tc := ⟨.hbm, 175, rfl⟩
abbrev main_call6_cst_0 : Ref sig .tc := ⟨.hbm, 176, rfl⟩
abbrev main_call6_v4 : Ref sig .tc := ⟨.hbm, 177, rfl⟩
abbrev main_call6_v5 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_call7_v0 : Ref sig .tc := ⟨.hbm, 194, rfl⟩
abbrev main_call7_v1 : Ref sig .tc := ⟨.hbm, 195, rfl⟩
abbrev main_call7_cst : Ref sig .tc := ⟨.hbm, 196, rfl⟩
abbrev main_call7_v2 : Ref sig .tc := ⟨.hbm, 197, rfl⟩
abbrev main_call7_v3 : Ref sig .tc := ⟨.hbm, 198, rfl⟩
abbrev main_call7_cst_0 : Ref sig .tc := ⟨.hbm, 199, rfl⟩
abbrev main_call7_v4 : Ref sig .tc := ⟨.hbm, 200, rfl⟩
abbrev main_call7_v5 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_call8_v0 : Ref sig .tc := ⟨.hbm, 217, rfl⟩
abbrev main_call8_v1 : Ref sig .tc := ⟨.hbm, 218, rfl⟩
abbrev main_call8_cst : Ref sig .tc := ⟨.hbm, 219, rfl⟩
abbrev main_call8_v2 : Ref sig .tc := ⟨.hbm, 220, rfl⟩
abbrev main_call8_v3 : Ref sig .tc := ⟨.hbm, 221, rfl⟩
abbrev main_call8_cst_0 : Ref sig .tc := ⟨.hbm, 222, rfl⟩
abbrev main_call8_v4 : Ref sig .tc := ⟨.hbm, 223, rfl⟩
abbrev main_call8_v5 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩

abbrev nD : Nat := 1
abbrev τ : Topo := Topo.v7x

variable {F : FTy → Type} [FloatOps F]
-- ==== Glu.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluIdeal.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluReferenceIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Hidden.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S16384x2816 : Shape := ⟨2, ![16384, 2816]⟩
abbrev S512x1024 : Shape := ⟨2, ![512, 1024]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HiddenReferenceIdeal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S_, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .f32⟩
  | .local _ .vmem, ⟨3, _⟩ => ⟨S2816x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x2816, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x1024, .f32⟩
  | .hbm, ⟨5, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Embed.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S1x1024 : Shape := ⟨2, ![1, 1024]⟩
abbrev S512x1024 : Shape := ⟨2, ![512, 1024]⟩
abbrev S1024x512 : Shape := ⟨2, ![1024, 512]⟩
abbrev S256x512 : Shape := ⟨2, ![256, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S16384x256, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S256x512, .f32⟩
  | .local _ .vmem, ⟨6, _⟩ => ⟨S256x512, .f32⟩
  | .local _ .vmem, ⟨7, _⟩ => ⟨S512x256, .f32⟩
  | .local _ .vmem, ⟨8, _⟩ => ⟨S512x256, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== EmbedIdeal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S1x1024 : Shape := ⟨2, ![1, 1024]⟩
abbrev S512x1024 : Shape := ⟨2, ![512, 1024]⟩
abbrev S1024x512 : Shape := ⟨2, ![1024, 512]⟩
abbrev S256x512 : Shape := ⟨2, ![256, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S16384x256, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S256x512, .f32⟩
  | .local _ .vmem, ⟨6, _⟩ => ⟨S256x512, .f32⟩
  | .local _ .vmem, ⟨7, _⟩ => ⟨S512x256, .f32⟩
  | .local _ .vmem, ⟨8, _⟩ => ⟨S512x256, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== EmbedReferenceIdeal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Values.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValuesIdeal.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValuesReferenceIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Keys.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 35
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S1x1024, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KeysIdeal.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 35
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S1x1024, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KeysReferenceIdeal.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x16x64, .f32⟩
  | .hbm, ⟨22, _⟩ => ⟨S16384x16x64, .f32⟩
  | .hbm, ⟨23, _⟩ => ⟨S_, .f32⟩
  | .hbm, ⟨24, _⟩ => ⟨S16384x16, .f32⟩
  | .hbm, ⟨25, _⟩ => ⟨S16384x16x1, .f32⟩
  | .hbm, ⟨26, _⟩ => ⟨S_, .f32⟩
  | .hbm, ⟨27, _⟩ => ⟨S16384x16x1, .f32⟩
  | .hbm, ⟨28, _⟩ => ⟨S16384x16x1, .f32⟩
  | .hbm, ⟨29, _⟩ => ⟨S_, .f32⟩
  | .hbm, ⟨30, _⟩ => ⟨S16384x16x1, .f32⟩
  | .hbm, ⟨31, _⟩ => ⟨S16384x16x1, .f32⟩
  | .hbm, ⟨32, _⟩ => ⟨S16384x16x1, .f32⟩
  | .hbm, ⟨33, _⟩ => ⟨S16384x16x64, .f32⟩
  | .hbm, ⟨34, _⟩ => ⟨S16384x16x64, .f32⟩
  | .hbm, ⟨35, _⟩ => ⟨S1x1x64, .f32⟩
  | .hbm, ⟨36, _⟩ => ⟨S16384x16x64, .f32⟩
  | .hbm, ⟨37, _⟩ => ⟨S16384x16x64, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Queries.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 35
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S1x1024, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueriesReferenceIdeal.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x16x64, .f32⟩
  | .hbm, ⟨22, _⟩ => ⟨S16384x16x64, .f32⟩
  | .hbm, ⟨23, _⟩ => ⟨S_, .f32⟩
  | .hbm, ⟨24, _⟩ => ⟨S16384x16, .f32⟩
  | .hbm, ⟨25, _⟩ => ⟨S16384x16x1, .f32⟩
  | .hbm, ⟨26, _⟩ => ⟨S_, .f32⟩
  | .hbm, ⟨27, _⟩ => ⟨S16384x16x1, .f32⟩
  | .hbm, ⟨28, _⟩ => ⟨S16384x16x1, .f32⟩
  | .hbm, ⟨29, _⟩ => ⟨S_, .f32⟩
  | .hbm, ⟨30, _⟩ => ⟨S16384x16x1, .f32⟩
  | .hbm, ⟨31, _⟩ => ⟨S16384x16x1, .f32⟩
  | .hbm, ⟨32, _⟩ => ⟨S16384x16x1, .f32⟩
  | .hbm, ⟨33, _⟩ => ⟨S16384x16x64, .f32⟩
  | .hbm, ⟨34, _⟩ => ⟨S16384x16x64, .f32⟩
  | .hbm, ⟨35, _⟩ => ⟨S1x1x64, .f32⟩
  | .hbm, ⟨36, _⟩ => ⟨S16384x16x64, .f32⟩
  | .hbm, ⟨37, _⟩ => ⟨S16384x16x64, .f32⟩
  | .hbm, ⟨38, _⟩ => ⟨S16384x1024, .f32⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Back.lean ====
abbrev S16384x1024 : Shape := ⟨2, ![16384, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BackReferenceIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Attn.lean ====
abbrev S4x16x4096x64 : Shape := ⟨4, ![4, 16, 4096, 64]⟩
abbrev S16 : Shape := ⟨1, ![16]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S1x1x512x64 : Shape := ⟨4, ![1, 1, 512, 64]⟩
abbrev S1x1x4096x64 : Shape := ⟨4, ![1, 1, 4096, 64]⟩
abbrev S1 : Shape := ⟨1, ![1]⟩
abbrev S512x64 : Shape := ⟨2, ![512, 64]⟩
abbrev S512x128 : Shape := ⟨2, ![512, 128]⟩
abbrev S512x512 : Shape := ⟨2, ![512, 512]⟩
abbrev S512x256 : Shape := ⟨2, ![512, 256]⟩

abbrev nBuf : Space → Nat
  | .hbm => 15
  | .vmem => 9
  | .smem => 1
  | _ => 0

abbrev bufTy : (tb : Table) → Fin (tcTables nBuf tb) → BufTy
  | .hbm, ⟨0, _⟩ => ⟨S4x16x4096x64, .bf16⟩
  | .hbm, ⟨1, _⟩ => ⟨S4x16x4096x64, .bf16⟩
  | .hbm, ⟨2, _⟩ => ⟨S4x16x4096x64, .bf16⟩
  | .hbm, ⟨3, _⟩ => ⟨S16, .f32⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .bf16⟩
  | .hbm, ⟨11, _⟩ => ⟨S_, .bf16⟩
  | .hbm, ⟨12, _⟩ => ⟨S128x128, .bf16⟩
  | .hbm, ⟨13, _⟩ => ⟨S128x256, .bf16⟩
  | .hbm, ⟨14, _⟩ => ⟨S4x16x4096x64, .bf16⟩
  | .local _ .vmem, ⟨0, _⟩ => ⟨S1x1x512x64, .bf16⟩
  | .local _ .vmem, ⟨1, _⟩ => ⟨S1x1x512x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S128x256, .bf16⟩
  | .local _ .vmem, ⟨7, _⟩ => ⟨S1x1x512x64, .bf16⟩
  | .local _ .vmem, ⟨8, _⟩ => ⟨S1x1x512x64, .bf16⟩
  | .local _ .smem, ⟨0, _⟩ => ⟨S16, .f32⟩
  | _, _ => ⟨S4x16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 16, 8], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c512_i32 : BitVec 32 := 512#32
  let v12 : BitVec 32 := Scalar.muli arg2 c512_i32
  v12
def k0_off2 (i : grid0.Coords) : Fin 4 → Nat :=
  let c0_7 : Index := 0#32
  let c0_8 : Index := 0#32
  let arg2 : BitVec 32 := BitVec.ofNat 32 (i 2).val
  let c512_i32 : BitVec 32 := 512#32
  let v12 : BitVec 32 := Scalar.muli arg2 c512_i32
  let v13 : BitVec 32 := v12
  let v14 : Index := Scalar.indexCast v13
  let c0_9 : Index := 0#32
  ![0, 0, v14.toNat, 0]
@[reducible] def k0_t1_loop (i : grid0.Coords) : Scf.Loop 32 :=
  let c0_i32_30 : BitVec 32 := 0#32
  let arg2 : BitVec 32 := BitVec.ofNat 32 (i 2).val
  let v109 : BitVec 32 := Scalar.subi arg2 c0_i32_30
  let c1_i32 : BitVec 32 := 1#32
  let v111 : BitVec 32 := Scalar.divsi v109 c1_i32
  let v112 : BitVec 32 := Scalar.muli v111 c1_i32
  let v113 : BitVec 32 := Scalar.addi c0_i32_30 v112
  let c1_i32_31 : BitVec 32 := 1#32
  ⟨c0_i32_30, v113, c1_i32_31⟩
def k0_mult2 (i : grid0.Coords) (k0_t1 : Fin (k0_t1_loop i).trips) : BitVec 32 :=
  let arg2 : BitVec 32 := BitVec.ofNat 32 (i 2).val
  let c1_i32_37 : BitVec 32 := 1#32
  let v120 : BitVec 32 := Scalar.subi arg2 c1_i32_37
  let c0_i32_30 : BitVec 32 := 0#32
  let c1_i32_31 : BitVec 32 := 1#32
  let arg9 : BitVec 32 := Scf.iv c0_i32_30 c1_i32_31 k0_t1
  let v121 : BitVec 32 := Scalar.subi v120 arg9
  let c512_i32_38 : BitVec 32 := 512#32
  let v122 : BitVec 32 := Scalar.muli v121 c512_i32_38
  v122
def k0_off3 (i : grid0.Coords) (k0_t1 : Fin (k0_t1_loop i).trips) : Fin 4 → Nat :=
  let c0_39 : Index := 0#32
  let c0_40 : Index := 0#32
  let arg2 : BitVec 32 := BitVec.ofNat 32 (i 2).val
  let c1_i32_37 : BitVec 32 := 1#32
  let v120 : BitVec 32 := Scalar.subi arg2 c1_i32_37
  let c0_i32_30 : BitVec 32 := 0#32
  let c1_i32_31 : BitVec 32 := 1#32
  let arg9 : BitVec 32 := Scf.iv c0_i32_30 c1_i32_31 k0_t1
  let v121 : BitVec 32 := Scalar.subi v120 arg9
  let c512_i32_38 : BitVec 32 := 512#32
  let v122 : BitVec 32 := Scalar.muli v121 c512_i32_38
  let v123 : BitVec 32 := v122
  let v124 : Index := Scalar.indexCast v123
  let c0_41 : Index := 0#32
  ![0, 0, v124.toNat, 0]
@[reducible] def k0_t2_loop (i : grid0.Coords) : Scf.Loop 32 :=
  let c0_i32_30 : BitVec 32 := 0#32
  let arg2 : BitVec 32 := BitVec.ofNat 32 (i 2).val
  let v109 : BitVec 32 := Scalar.subi arg2 c0_i32_30
  let c1_i32 : BitVec 32 := 1#32
  let v111 : BitVec 32 := Scalar.divsi v109 c1_i32
  let v112 : BitVec 32 := Scalar.muli v111 c1_i32
  let v113 : BitVec 32 := Scalar.addi c0_i32_30 v112
  let v110 : BitVec 32 := Scalar.addi c0_i32_30 v109
  let c1_i32_32 : BitVec 32 := 1#32
  ⟨v113, v110, c1_i32_32⟩
def k0_mult3 (i : grid0.Coords) (k0_t2 : Fin (k0_t2_loop i).trips) : BitVec 32 :=
  let arg2 : BitVec 32 := BitVec.ofNat 32 (i 2).val
  let c1_i32_37 : BitVec 32 := 1#32
  let v120 : BitVec 32 := Scalar.subi arg2 c1_i32_37
  let c0_i32_30 : BitVec 32 := 0#32
  let v109 : BitVec 32 := Scalar.subi arg2 c0_i32_30
  let c1_i32 : BitVec 32 := 1#32
  let v111 : BitVec 32 := Scalar.divsi v109 c1_i32
  let v112 : BitVec 32 := Scalar.muli v111 c1_i32
  let v113 : BitVec 32 := Scalar.addi c0_i32_30 v112
  let c1_i32_32 : BitVec 32 := 1#32
  let arg9 : BitVec 32 := Scf.iv v113 c1_i32_32 k0_t2
  let v121 : BitVec 32 := Scalar.subi v120 arg9
  let c512_i32_38 : BitVec 32 := 512#32
  let v122 : BitVec 32 := Scalar.muli v121 c512_i32_38
  v122
def k0_off4 (i : grid0.Coords) (k0_t2 : Fin (k0_t2_loop i).trips) : Fin 4 → Nat :=
  let c0_39 : Index := 0#32
  let c0_40 : Index := 0#32
  let arg2 : BitVec 32 := BitVec.ofNat 32 (i 2).val
  let c1_i32_37 : BitVec 32 := 1#32
  let v120 : BitVec 32 := Scalar.subi arg2 c1_i32_37
  let c0_i32_30 : BitVec 32 := 0#32
  let v109 : BitVec 32 := Scalar.subi arg2 c0_i32_30
  let c1_i32 : BitVec 32 := 1#32
  let v111 : BitVec 32 := Scalar.divsi v109 c1_i32
  let v112 : BitVec 32 := Scalar.muli v111 c1_i32
  let v113 : BitVec 32 := Scalar.addi c0_i32_30 v112
  let c1_i32_32 : BitVec 32 := 1#32
  let arg9 : BitVec 32 := Scf.iv v113 c1_i32_32 k0_t2
  let v121 : BitVec 32 := Scalar.subi v120 arg9
  let c512_i32_38 : BitVec 32 := 512#32
  let v122 : BitVec 32 := Scalar.muli v121 c512_i32_38
  let v123 : BitVec 32 := v122
  let v124 : Index := Scalar.indexCast v123
  let c0_41 : Index := 0#32
  ![0, 0, v124.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnReferenceIdeal.lean ====
abbrev S4x16x4096x64 : Shape := ⟨4, ![4, 16, 4096, 64]⟩
abbrev S16 : Shape := ⟨1, ![16]⟩
abbrev S4096 : Shape := ⟨1, ![4096]⟩
abbrev S4x16x4096x4096 : Shape := ⟨4, ![4, 16, 4096, 4096]⟩
abbrev S_ : Shape := ⟨0, ![]⟩
abbrev S1x16x1x1 : Shape := ⟨4, ![1, 16, 1, 1]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x16x4096x64, .bf16⟩
  | .hbm, ⟨1, _⟩ => ⟨S4x16x4096x64, .bf16⟩
  | .hbm, ⟨2, _⟩ => ⟨S4x16x4096x64, .bf16⟩
  | .hbm, ⟨3, _⟩ => ⟨S16, .f32⟩
  | .hbm, ⟨4, _⟩ => ⟨S4096, .i32⟩
  | .hbm, ⟨5, _⟩ => ⟨S4x16x4096x4096, .f32⟩
  | .hbm, ⟨6, _⟩ => ⟨S_, .f32⟩
  | .hbm, ⟨7, _⟩ => ⟨S4x16x4096x4096, .f32⟩
  | .hbm, ⟨8, _⟩ => ⟨S4x16x4096x4096, .f32⟩
  | .hbm, ⟨9, _⟩ => ⟨S1x16x1x1, .f32⟩
  | .hbm, ⟨10, _⟩ => ⟨S4x16x4096x4096, .f32⟩
  | .hbm, ⟨11, _⟩ => ⟨S4x16x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4x16x4096x4096, .f32⟩
  | .hbm, ⟨18, _⟩ => ⟨S4x16x4096x4096, .f32⟩
  | .hbm, ⟨19, _⟩ => ⟨S_, .f32⟩
  | .hbm, ⟨20, _⟩ => ⟨S4x16x4096x4096, .f32⟩
  | .hbm, ⟨21, _⟩ => ⟨S4x16x4096x4096, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .i1⟩
  | .hbm, ⟨25, _⟩ => ⟨S4x16x4096x4096, .f32⟩
  | .hbm, ⟨26, _⟩ => ⟨S4x16x4096x4096, .f32⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S_, .f32⟩
  | .hbm, ⟨35, _⟩ => ⟨S_, .f32⟩
  | .hbm, ⟨36, _⟩ => ⟨S4x16x4096x4096, .i1⟩
  | .hbm, ⟨37, _⟩ => ⟨S4x16x4096x4096, .f32⟩
  | .hbm, ⟨38, _⟩ => ⟨S4x16x4096x4096, .f32⟩
  | .hbm, ⟨39, _⟩ => ⟨S_, .f32⟩
  | .hbm, ⟨40, _⟩ => ⟨S_, .f32⟩
  | .hbm, ⟨41, _⟩ => ⟨S4x16x4096x4096, .f32⟩
  | .hbm, ⟨42, _⟩ => ⟨S4x16x4096x4096, .f32⟩
  | .hbm, ⟨43, _⟩ => ⟨S4x16x4096x4096, .f32⟩
  | .hbm, ⟨44, _⟩ => ⟨S_, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .i1⟩
  | .hbm, ⟨50, _⟩ => ⟨S4x16x4096x4096, .f32⟩
  | .hbm, ⟨51, _⟩ => ⟨S4x16x4096x4096, .f32⟩
  | .hbm, ⟨52, _⟩ => ⟨S4x16x4096x4096, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .f32⟩
  | .hbm, ⟨56, _⟩ => ⟨S4x16x4096x4096, .f32⟩
  | .hbm, ⟨57, _⟩ => ⟨S4x16x4096x4096, .f32⟩
  | .hbm, ⟨58, _⟩ => ⟨S4x16x4096x4096, .f32⟩
  | .hbm, ⟨59, _⟩ => ⟨S4x16x4096x4096, .f32⟩
  | .hbm, ⟨60, _⟩ => ⟨S4x16x4096x4096, .f32⟩
  | .hbm, ⟨61, _⟩ => ⟨S_, .f32⟩
  | .hbm, ⟨62, _⟩ => ⟨S_, .f32⟩
  | .hbm, ⟨63, _⟩ => ⟨S4x16x4096x4096, .i1⟩
  | .hbm, ⟨64, _⟩ => ⟨S4x16x4096x4096, .f32⟩
  | .hbm, ⟨65, _⟩ => ⟨S4x16x4096x4096, .f32⟩
  | .hbm, ⟨66, _⟩ => ⟨S4x16x4096x64, .f32⟩
  | .hbm, ⟨67, _⟩ => ⟨S4x16x4096x64, .f32⟩
  | .hbm, ⟨68, _⟩ => ⟨S4x16x4096x64, .bf16⟩
  | _, _ => ⟨S4x16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩

abbrev nD : Nat := 1
abbrev τ : Topo := Topo.v7x

variable {F : FTy → Type} [FloatOps F]
-- ==== SampleGlu.lean ====
abbrev S128x1024 : Shape := ⟨2, ![128, 1024]⟩
abbrev S1024 : Shape := ⟨1, ![1024]⟩
abbrev S1024x2048 : Shape := ⟨2, ![1024, 2048]⟩
abbrev S1x1024 : Shape := ⟨2, ![1, 1024]⟩
abbrev S1024x512 : Shape := ⟨2, ![1024, 512]⟩
abbrev S128x512 : Shape := ⟨2, ![128, 512]⟩
abbrev S128 : Shape := ⟨1, ![128]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S128x512, .f32⟩
  | .local _ .vmem, ⟨7, _⟩ => ⟨S128x512, .f32⟩
  | .local _ .vmem, ⟨8, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SampleGluReferenceIdeal.lean ====
abbrev S128x1024 : Shape := ⟨2, ![128, 1024]⟩
abbrev S1024 : Shape := ⟨1, ![1024]⟩
abbrev S1024x2048 : Shape := ⟨2, ![1024, 2048]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2048 : Shape := ⟨2, ![128, 2048]⟩

abbrev nBuf : Space → Nat
  | .hbm => 31
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2048, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x2048, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== SampleEmbed.lean ====
abbrev S128x1024 : Shape := ⟨2, ![128, 1024]⟩
abbrev S1024 : Shape := ⟨1, ![1024]⟩
abbrev S1024x1024 : Shape := ⟨2, ![1024, 1024]⟩
abbrev S256x1024 : Shape := ⟨2, ![256, 1024]⟩
abbrev S128x256 : Shape := ⟨2, ![128, 256]⟩
abbrev S1x1024 : Shape := ⟨2, ![1, 1024]⟩
abbrev S1024x512 : Shape := ⟨2, ![1024, 512]⟩
abbrev S256x512 : Shape := ⟨2, ![256, 512]⟩
abbrev S128x512 : Shape := ⟨2, ![128, 512]⟩
abbrev S128 : Shape := ⟨1, ![128]⟩
abbrev S128x1 : Shape := ⟨2, ![128, 1]⟩

abbrev nBuf : Space → Nat
  | .hbm => 7
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S128x256, .f32⟩
  | .hbm, ⟨5, _⟩ => ⟨S1x1024, .f32⟩
  | .hbm, ⟨6, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S256x512, .f32⟩
  | .local _ .vmem, ⟨6, _⟩ => ⟨S128x256, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SampleEmbedReferenceIdeal.lean ====
abbrev S128x1024 : Shape := ⟨2, ![128, 1024]⟩
abbrev S1024 : Shape := ⟨1, ![1024]⟩
abbrev S1024x1024 : Shape := ⟨2, ![1024, 1024]⟩
abbrev S256x1024 : Shape := ⟨2, ![256, 1024]⟩
abbrev S128x256 : Shape := ⟨2, ![128, 256]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S128x256, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== SampleValues.lean ====
abbrev S128x1024 : Shape := ⟨2, ![128, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S128x512 : Shape := ⟨2, ![128, 512]⟩
abbrev S128 : Shape := ⟨1, ![128]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | .local _ .vmem, ⟨5, _⟩ => ⟨S128x512, .f32⟩
  | .local _ .vmem, ⟨6, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleValuesReferenceIdeal.lean ====
abbrev S128x1024 : Shape := ⟨2, ![128, 1024]⟩
abbrev S1024 : Shape := ⟨1, ![1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SampleKeys.lean ====
abbrev S128x1024 : Shape := ⟨2, ![128, 1024]⟩
abbrev S1024 : Shape := ⟨1, ![1024]⟩
abbrev S1024x1024 : Shape := ⟨2, ![1024, 1024]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S1024x512 : Shape := ⟨2, ![1024, 512]⟩
abbrev S128x512 : Shape := ⟨2, ![128, 512]⟩
abbrev S128 : Shape := ⟨1, ![128]⟩
abbrev S128x1 : Shape := ⟨2, ![128, 1]⟩

abbrev nBuf : Space → Nat
  | .hbm => 35
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S1x1024, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S512x512, .bf16⟩
  | .local _ .vmem, ⟨6, _⟩ => ⟨S128x512, .f32⟩
  | .local _ .vmem, ⟨7, _⟩ => ⟨S128x512, .f32⟩
  | .local _ .vmem, ⟨8, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SampleKeysReferenceIdeal.lean ====
abbrev S128x1024 : Shape := ⟨2, ![128, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x16x64 : Shape := ⟨3, ![128, 16, 64]⟩
abbrev S128x16 : Shape := ⟨2, ![128, 16]⟩
abbrev S128x16x1 : Shape := ⟨3, ![128, 16, 1]⟩
abbrev S1x1x64 : Shape := ⟨3, ![1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x16x64, .f32⟩
  | .hbm, ⟨22, _⟩ => ⟨S128x16x64, .f32⟩
  | .hbm, ⟨23, _⟩ => ⟨S_, .f32⟩
  | .hbm, ⟨24, _⟩ => ⟨S128x16, .f32⟩
  | .hbm, ⟨25, _⟩ => ⟨S128x16x1, .f32⟩
  | .hbm, ⟨26, _⟩ => ⟨S_, .f32⟩
  | .hbm, ⟨27, _⟩ => ⟨S128x16x1, .f32⟩
  | .hbm, ⟨28, _⟩ => ⟨S128x16x1, .f32⟩
  | .hbm, ⟨29, _⟩ => ⟨S_, .f32⟩
  | .hbm, ⟨30, _⟩ => ⟨S128x16x1, .f32⟩
  | .hbm, ⟨31, _⟩ => ⟨S128x16x1, .f32⟩
  | .hbm, ⟨32, _⟩ => ⟨S128x16x1, .f32⟩
  | .hbm, ⟨33, _⟩ => ⟨S128x16x64, .f32⟩
  | .hbm, ⟨34, _⟩ => ⟨S128x16x64, .f32⟩
  | .hbm, ⟨35, _⟩ => ⟨S1x1x64, .f32⟩
  | .hbm, ⟨36, _⟩ => ⟨S128x16x64, .f32⟩
  | .hbm, ⟨37, _⟩ => ⟨S128x16x64, .f32⟩
  | .hbm, ⟨38, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Conv.lean ====
abbrev S4x4096x1024 : Shape := ⟨3, ![4, 4096, 1024]⟩
abbrev S4x30x1024 : Shape := ⟨3, ![4, 30, 1024]⟩
abbrev S31x1024 : Shape := ⟨2, ![31, 1024]⟩
abbrev S1024 : Shape := ⟨1, ![1024]⟩
abbrev S_ : Shape := ⟨0, ![]⟩
abbrev S4x2x1024 : Shape := ⟨3, ![4, 2, 1024]⟩
abbrev S4x32x1024 : Shape := ⟨3, ![4, 32, 1024]⟩
abbrev S1x1024 : Shape := ⟨2, ![1, 1024]⟩
abbrev S1x256x1024 : Shape := ⟨3, ![1, 256, 1024]⟩
abbrev S1x32x1024 : Shape := ⟨3, ![1, 32, 1024]⟩
abbrev S288x1024 : Shape := ⟨2, ![288, 1024]⟩
abbrev S32x1024 : Shape := ⟨2, ![32, 1024]⟩
abbrev S256x1024 : Shape := ⟨2, ![256, 1024]⟩
abbrev S32 : Shape := ⟨1, ![32]⟩
abbrev S32x1 : Shape := ⟨2, ![32, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4x2x1024, .f32⟩
  | .hbm, ⟨8, _⟩ => ⟨S4x32x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S288x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvReferenceIdeal.lean ====
abbrev S4x4096x1024 : Shape := ⟨3, ![4, 4096, 1024]⟩
abbrev S4x30x1024 : Shape := ⟨3, ![4, 30, 1024]⟩
abbrev S31x1024 : Shape := ⟨2, ![31, 1024]⟩
abbrev S1024 : Shape := ⟨1, ![1024]⟩
abbrev S4x4126x1024 : Shape := ⟨3, ![4, 4126, 1024]⟩
abbrev S1x1024 : Shape := ⟨2, ![1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 266
  | .vmem => 0
  | .smem => 0
  | _ => 0

abbrev hbmTy0_0 (i : Nat) : BufTy := match i % 128 with
  | 0 => ⟨S4x4096x1024, .f32⟩
  | 1 => ⟨S4x30x1024, .f32⟩
  | 2 => ⟨S31x1024, .f32⟩
  | 3 => ⟨S1024, .f32⟩
  | 4 => ⟨S1024, .f32⟩
  | 5 => ⟨S1024, .f32⟩
  | 6 => ⟨S4x4126x1024, .f32⟩
  | 7 => ⟨S4x4096x1024, .f32⟩
  | 8 => ⟨S1x1024, .f32⟩
  | 9 => ⟨S1024, .f32⟩
  | 10 => ⟨S1x1x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S1x1024, .f32⟩
  | 18 => ⟨S1024, .f32⟩
  | 19 => ⟨S1x1x1024, .f32⟩
  | 20 => ⟨S4x4096x1024, .f32⟩
  | 21 => ⟨S4x4096x1024, .f32⟩
  | 22 => ⟨S4x4096x1024, .f32⟩
  | 23 => ⟨S4x4096x1024, .f32⟩
  | 24 => ⟨S1x1024, .f32⟩
  | 25 => ⟨S1024, .f32⟩
  | 26 => ⟨S1x1x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S1x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S1x1024, .f32⟩
  | 39 => ⟨S1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S1x1024, .f32⟩
  | 46 => ⟨S1024, .f32⟩
  | 47 => ⟨S1x1x1024, .f32⟩
  | 48 => ⟨S4x4096x1024, .f32⟩
  | 49 => ⟨S4x4096x1024, .f32⟩
  | 50 => ⟨S4x4096x1024, .f32⟩
  | 51 => ⟨S4x4096x1024, .f32⟩
  | 52 => ⟨S1x1024, .f32⟩
  | 53 => ⟨S1024, .f32⟩
  | 54 => ⟨S1x1x1024, .f32⟩
  | 55 => ⟨S4x4096x1024, .f32⟩
  | 56 => ⟨S4x4096x1024, .f32⟩
  | 57 => ⟨S4x4096x1024, .f32⟩
  | 58 => ⟨S4x4096x1024, .f32⟩
  | 59 => ⟨S1x1024, .f32⟩
  | 60 => ⟨S1024, .f32⟩
  | 61 => ⟨S1x1x1024, .f32⟩
  | 62 => ⟨S4x4096x1024, .f32⟩
  | 63 => ⟨S4x4096x1024, .f32⟩
  | 64 => ⟨S4x4096x1024, .f32⟩
  | 65 => ⟨S4x4096x1024, .f32⟩
  | 66 => ⟨S1x1024, .f32⟩
  | 67 => ⟨S1024, .f32⟩
  | 68 => ⟨S1x1x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S1x1024, .f32⟩
  | 74 => ⟨S1024, .f32⟩
  | 75 => ⟨S1x1x1024, .f32⟩
  | 76 => ⟨S4x4096x1024, .f32⟩
  | 77 => ⟨S4x4096x1024, .f32⟩
  | 78 => ⟨S4x4096x1024, .f32⟩
  | 79 => ⟨S4x4096x1024, .f32⟩
  | 80 => ⟨S1x1024, .f32⟩
  | 81 => ⟨S1024, .f32⟩
  | 82 => ⟨S1x1x1024, .f32⟩
  | 83 => ⟨S4x4096x1024, .f32⟩
  | 84 => ⟨S4x4096x1024, .f32⟩
  | 85 => ⟨S4x4096x1024, .f32⟩
  | 86 => ⟨S4x4096x1024, .f32⟩
  | 87 => ⟨S1x1024, .f32⟩
  | 88 => ⟨S1024, .f32⟩
  | 89 => ⟨S1x1x1024, .f32⟩
  | 90 => ⟨S4x4096x1024, .f32⟩
  | 91 => ⟨S4x4096x1024, .f32⟩
  | 92 => ⟨S4x4096x1024, .f32⟩
  | 93 => ⟨S4x4096x1024, .f32⟩
  | 94 => ⟨S1x1024, .f32⟩
  | 95 => ⟨S1024, .f32⟩
  | 96 => ⟨S1x1x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S1x1024, .f32⟩
  | 102 => ⟨S1024, .f32⟩
  | 103 => ⟨S1x1x1024, .f32⟩
  | 104 => ⟨S4x4096x1024, .f32⟩
  | 105 => ⟨S4x4096x1024, .f32⟩
  | 106 => ⟨S4x4096x1024, .f32⟩
  | 107 => ⟨S4x4096x1024, .f32⟩
  | 108 => ⟨S1x1024, .f32⟩
  | 109 => ⟨S1024, .f32⟩
  | 110 => ⟨S1x1x1024, .f32⟩
  | 111 => ⟨S4x4096x1024, .f32⟩
  | 112 => ⟨S4x4096x1024, .f32⟩
  | 113 => ⟨S4x4096x1024, .f32⟩
  | 114 => ⟨S4x4096x1024, .f32⟩
  | 115 => ⟨S1x1024, .f32⟩
  | 116 => ⟨S1024, .f32⟩
  | 117 => ⟨S1x1x1024, .f32⟩
  | 118 => ⟨S4x4096x1024, .f32⟩
  | 119 => ⟨S4x4096x1024, .f32⟩
  | 120 => ⟨S4x4096x1024, .f32⟩
  | 121 => ⟨S4x4096x1024, .f32⟩
  | 122 => ⟨S1x1024, .f32⟩
  | 123 => ⟨S1024, .f32⟩
  | 124 => ⟨S1x1x1024, .f32⟩
  | 125 => ⟨S4x4096x1024, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S4x4096x1024, .f32⟩
  | 1 => ⟨S1x1024, .f32⟩
  | 2 => ⟨S1024, .f32⟩
  | 3 => ⟨S1x1x1024, .f32⟩
  | 4 => ⟨S4x4096x1024, .f32⟩
  | 5 => ⟨S4x4096x1024, .f32⟩
  | 6 => ⟨S4x4096x1024, .f32⟩
  | 7 => ⟨S4x4096x1024, .f32⟩
  | 8 => ⟨S1x1024, .f32⟩
  | 9 => ⟨S1024, .f32⟩
  | 10 => ⟨S1x1x1024, .f32⟩
  | 11 => ⟨S4x4096x1024, .f32⟩
  | 12 => ⟨S4x4096x1024, .f32⟩
  | 13 => ⟨S4x4096x1024, .f32⟩
  | 14 => ⟨S4x4096x1024, .f32⟩
  | 15 => ⟨S1x1024, .f32⟩
  | 16 => ⟨S1024, .f32⟩
  | 17 => ⟨S1x1x1024, .f32⟩
  | 18 => ⟨S4x4096x1024, .f32⟩
  | 19 => ⟨S4x4096x1024, .f32⟩
  | 20 => ⟨S4x4096x1024, .f32⟩
  | 21 => ⟨S4x4096x1024, .f32⟩
  | 22 => ⟨S1x1024, .f32⟩
  | 23 => ⟨S1024, .f32⟩
  | 24 => ⟨S1x1x1024, .f32⟩
  | 25 => ⟨S4x4096x1024, .f32⟩
  | 26 => ⟨S4x4096x1024, .f32⟩
  | 27 => ⟨S4x4096x1024, .f32⟩
  | 28 => ⟨S4x4096x1024, .f32⟩
  | 29 => ⟨S1x1024, .f32⟩
  | 30 => ⟨S1024, .f32⟩
  | 31 => ⟨S1x1x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S1x1024, .f32⟩
  | 37 => ⟨S1024, .f32⟩
  | 38 => ⟨S1x1x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S1x1024, .f32⟩
  | 44 => ⟨S1024, .f32⟩
  | 45 => ⟨S1x1x1024, .f32⟩
  | 46 => ⟨S4x4096x1024, .f32⟩
  | 47 => ⟨S4x4096x1024, .f32⟩
  | 48 => ⟨S4x4096x1024, .f32⟩
  | 49 => ⟨S4x4096x1024, .f32⟩
  | 50 => ⟨S1x1024, .f32⟩
  | 51 => ⟨S1024, .f32⟩
  | 52 => ⟨S1x1x1024, .f32⟩
  | 53 => ⟨S4x4096x1024, .f32⟩
  | 54 => ⟨S4x4096x1024, .f32⟩
  | 55 => ⟨S4x4096x1024, .f32⟩
  | 56 => ⟨S4x4096x1024, .f32⟩
  | 57 => ⟨S1x1024, .f32⟩
  | 58 => ⟨S1024, .f32⟩
  | 59 => ⟨S1x1x1024, .f32⟩
  | 60 => ⟨S4x4096x1024, .f32⟩
  | 61 => ⟨S4x4096x1024, .f32⟩
  | 62 => ⟨S4x4096x1024, .f32⟩
  | 63 => ⟨S4x4096x1024, .f32⟩
  | 64 => ⟨S1x1024, .f32⟩
  | 65 => ⟨S1024, .f32⟩
  | 66 => ⟨S1x1x1024, .f32⟩
  | 67 => ⟨S4x4096x1024, .f32⟩
  | 68 => ⟨S4x4096x1024, .f32⟩
  | 69 => ⟨S4x4096x1024, .f32⟩
  | 70 => ⟨S4x4096x1024, .f32⟩
  | 71 => ⟨S1x1024, .f32⟩
  | 72 => ⟨S1024, .f32⟩
  | 73 => ⟨S1x1x1024, .f32⟩
  | 74 => ⟨S4x4096x1024, .f32⟩
  | 75 => ⟨S4x4096x1024, .f32⟩
  | 76 => ⟨S4x4096x1024, .f32⟩
  | 77 => ⟨S4x4096x1024, .f32⟩
  | 78 => ⟨S1x1024, .f32⟩
  | 79 => ⟨S1024, .f32⟩
  | 80 => ⟨S1x1x1024, .f32⟩
  | 81 => ⟨S4x4096x1024, .f32⟩
  | 82 => ⟨S4x4096x1024, .f32⟩
  | 83 => ⟨S4x4096x1024, .f32⟩
  | 84 => ⟨S4x4096x1024, .f32⟩
  | 85 => ⟨S1x1024, .f32⟩
  | 86 => ⟨S1024, .f32⟩
  | 87 => ⟨S1x1x1024, .f32⟩
  | 88 => ⟨S4x4096x1024, .f32⟩
  | 89 => ⟨S4x4096x1024, .f32⟩
  | 90 => ⟨S4x4096x1024, .f32⟩
  | 91 => ⟨S4x4096x1024, .f32⟩
  | 92 => ⟨S1x1024, .f32⟩
  | 93 => ⟨S1024, .f32⟩
  | 94 => ⟨S1x1x1024, .f32⟩
  | 95 => ⟨S4x4096x1024, .f32⟩
  | 96 => ⟨S4x4096x1024, .f32⟩
  | 97 => ⟨S4x4096x1024, .f32⟩
  | 98 => ⟨S1x1x1024, .f32⟩
  | 99 => ⟨S4x4096x1024, .f32⟩
  | 100 => ⟨S4x4096x1024, .f32⟩
  | 101 => ⟨S_, .f32⟩
  | 102 => ⟨S4x4096, .f32⟩
  | 103 => ⟨S4x4096x1, .f32⟩
  | 104 => ⟨S_, .f32⟩
  | 105 => ⟨S4x4096x1, .f32⟩
  | 106 => ⟨S4x4096x1, .f32⟩
  | 107 => ⟨S4x4096x1024, .f32⟩
  | 108 => ⟨S4x4096x1024, .f32⟩
  | 109 => ⟨S4x4096x1024, .f32⟩
  | 110 => ⟨S_, .f32⟩
  | 111 => ⟨S4x4096, .f32⟩
  | 112 => ⟨S4x4096x1, .f32⟩
  | 113 => ⟨S_, .f32⟩
  | 114 => ⟨S4x4096x1, .f32⟩
  | 115 => ⟨S4x4096x1, .f32⟩
  | 116 => ⟨S_, .f32⟩
  | 117 => ⟨S4x4096x1, .f32⟩
  | 118 => ⟨S4x4096x1, .f32⟩
  | 119 => ⟨S4x4096x1, .f32⟩
  | 120 => ⟨S4x4096x1024, .f32⟩
  | 121 => ⟨S4x4096x1024, .f32⟩
  | 122 => ⟨S1x1x1024, .f32⟩
  | 123 => ⟨S4x4096x1024, .f32⟩
  | 124 => ⟨S4x4096x1024, .f32⟩
  | 125 => ⟨S1x1x1024, .f32⟩
  | 126 => ⟨S4x4096x1024, .f32⟩
  | 127 => ⟨S4x4096x1024, .f32⟩
  | _ => ⟨S4x4096x1024, .f32⟩

abbrev hbmTy0_2 (i : Nat) : BufTy := match i % 128 with
  | 0 => ⟨S4x4096x1024, .f32⟩
  | 1 => ⟨S4x4096x1024, .f32⟩
  | 2 => ⟨S_, .f32⟩
  | 3 => ⟨S4x4096x1024, .f32⟩
  | 4 => ⟨S4x4096x1024, .f32⟩
  | 5 => ⟨S_, .f32⟩
  | 6 => ⟨S4x4096x1024, .f32⟩
  | 7 => ⟨S4x4096x1024, .f32⟩
  | 8 => ⟨S4x4096x1024, .f32⟩
  | 9 => ⟨S4x4096x1024, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_cst_0 : Ref sig .tc := ⟨.hbm, 229, rfl⟩
abbrev main_v222 : Ref sig .tc := ⟨.hbm, 230, rfl⟩
abbrev main_v223 : Ref sig .tc := ⟨.hbm, 231, rfl⟩
abbrev main_cst_1 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_2 : Ref sig .tc := ⟨.hbm, 238, rfl⟩
abbrev main_v229 : Ref sig .tc := ⟨.hbm, 239, rfl⟩
abbrev main_v230 : Ref sig .tc := ⟨.hbm, 240, rfl⟩
abbrev main_cst_3 : Ref sig .tc := ⟨.hbm, 241, rfl⟩
abbrev main_v231 : Ref sig .tc := ⟨.hbm, 242, rfl⟩
abbrev main_v232 : Ref sig .tc := ⟨.hbm, 243, rfl⟩
abbrev main_cst_4 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_call0_v0 : Ref sig .tc := ⟨.hbm, 256, rfl⟩
abbrev main_call0_v1 : Ref sig .tc := ⟨.hbm, 257, rfl⟩
abbrev main_call0_cst : Ref sig .tc := ⟨.hbm, 258, rfl⟩
abbrev main_call0_v2 : Ref sig .tc := ⟨.hbm, 259, rfl⟩
abbrev main_call0_v3 : Ref sig .tc := ⟨.hbm, 260, rfl⟩
abbrev main_call0_cst_0 : Ref sig .tc := ⟨.hbm, 261, rfl⟩
abbrev main_call0_v4 : Ref sig .tc := ⟨.hbm, 262, rfl⟩
abbrev main_call0_v5 : Ref sig .tc := ⟨.hbm, 263, rfl⟩
abbrev main_v244 : Ref sig .tc := ⟨.hbm, 264, rfl⟩
abbrev main_v245 : Ref sig .tc := ⟨.hbm, 265, rfl⟩

abbrev nD : Nat := 1
abbrev τ : Topo := Topo.v7x

variable {F : FTy → Type} [FloatOps F]
-- ==== Step.lean ====
abbrev S128x1x1024 : Shape := ⟨3, ![128, 1, 1024]⟩
abbrev S128x30x1024 : Shape := ⟨3, ![128, 30, 1024]⟩
abbrev S31x1024 : Shape := ⟨2, ![31, 1024]⟩
abbrev S1024 : Shape := ⟨1, ![1024]⟩
abbrev S128x31x1024 : Shape := ⟨3, ![128, 31, 1024]⟩
abbrev S31x128x1024 : Shape := ⟨3, ![31, 128, 1024]⟩
abbrev S1x1024 : Shape := ⟨2, ![1, 1024]⟩
abbrev S128x1024 : Shape := ⟨2, ![128, 1024]⟩
abbrev S31x32x1024 : Shape := ⟨3, ![31, 32, 1024]⟩
abbrev S32x1024 : Shape := ⟨2, ![32, 1024]⟩
abbrev S1x32x1024 : Shape := ⟨3, ![1, 32, 1024]⟩
abbrev S32 : Shape := ⟨1, ![32]⟩
abbrev S32x1 : Shape := ⟨2, ![32, 1]⟩

abbrev nBuf : Space → Nat
  | .hbm => 12
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S128x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S128x31x1024, .f32⟩
  | .hbm, ⟨7, _⟩ => ⟨S31x128x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S128x1024, .bf16⟩
  | .local _ .vmem, ⟨0, _⟩ => ⟨S31x32x1024, .f32⟩
  | .local _ .vmem, ⟨1, _⟩ => ⟨S31x32x1024, .f32⟩
  | .local _ .vmem, ⟨2, _⟩ => ⟨S31x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S32x1024, .bf16⟩
  | .local _ .vmem, ⟨7, _⟩ => ⟨S32x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S31x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== StepReferenceIdeal.lean ====
abbrev S128x1x1024 : Shape := ⟨3, ![128, 1, 1024]⟩
abbrev S128x30x1024 : Shape := ⟨3, ![128, 30, 1024]⟩
abbrev S31x1024 : Shape := ⟨2, ![31, 1024]⟩
abbrev S1024 : Shape := ⟨1, ![1024]⟩
abbrev S128x31x1024 : Shape := ⟨3, ![128, 31, 1024]⟩
abbrev S1x1024 : Shape := ⟨2, ![1, 1024]⟩
abbrev S1x1x1024 : Shape := ⟨3, ![1, 1, 1024]⟩
abbrev S_ : Shape := ⟨0, ![]⟩
abbrev S128x1 : Shape := ⟨2, ![128, 1]⟩
abbrev S128x1x1 : Shape := ⟨3, ![128, 1, 1]⟩
abbrev S128x1024 : Shape := ⟨2, ![128, 1024]⟩

abbrev nBuf : Space → Nat
  | .hbm => 267
  | .vmem => 0
  | .smem => 0
  | _ => 0

abbrev hbmTy0_0 (i : Nat) : BufTy := match i % 128 with
  | 0 => ⟨S128x1x1024, .f32⟩
  | 1 => ⟨S128x30x1024, .f32⟩
  | 2 => ⟨S31x1024, .f32⟩
  | 3 => ⟨S1024, .f32⟩
  | 4 => ⟨S1024, .f32⟩
  | 5 => ⟨S1024, .f32⟩
  | 6 => ⟨S128x31x1024, .f32⟩
  | 7 => ⟨S128x1x1024, .f32⟩
  | 8 => ⟨S1x1024, .f32⟩
  | 9 => ⟨S1024, .f32⟩
  | 10 => ⟨S1x1x1024, .f32⟩
  | 11 => ⟨S128x1x1024, .f32⟩
  | 12 => ⟨S128x1x1024, .f32⟩
  | 13 => ⟨S_, .f32⟩
  | 14 => ⟨S128x1x1024, .f32⟩
  | 15 => ⟨S128x1x1024, .f32⟩
  | 16 => ⟨S128x1x1024, .f32⟩
  | 17 => ⟨S1x1024, .f32⟩
  | 18 => ⟨S1024, .f32⟩
  | 19 => ⟨S1x1x1024, .f32⟩
  | 20 => ⟨S128x1x1024, .f32⟩
  | 21 => ⟨S128x1x1024, .f32⟩
  | 22 => ⟨S128x1x1024, .f32⟩
  | 23 => ⟨S128x1x1024, .f32⟩
  | 24 => ⟨S1x1024, .f32⟩
  | 25 => ⟨S1024, .f32⟩
  | 26 => ⟨S1x1x1024, .f32⟩
  | 27 => ⟨S128x1x1024, .f32⟩
  | 28 => ⟨S128x1x1024, .f32⟩
  | 29 => ⟨S128x1x1024, .f32⟩
  | 30 => ⟨S128x1x1024, .f32⟩
  | 31 => ⟨S1x1024, .f32⟩
  | 32 => ⟨S1024, .f32⟩
  | 33 => ⟨S1x1x1024, .f32⟩
  | 34 => ⟨S128x1x1024, .f32⟩
  | 35 => ⟨S128x1x1024, .f32⟩
  | 36 => ⟨S128x1x1024, .f32⟩
  | 37 => ⟨S128x1x1024, .f32⟩
  | 38 => ⟨S1x1024, .f32⟩
  | 39 => ⟨S1024, .f32⟩
  | 40 => ⟨S1x1x1024, .f32⟩
  | 41 => ⟨S128x1x1024, .f32⟩
  | 42 => ⟨S128x1x1024, .f32⟩
  | 43 => ⟨S128x1x1024, .f32⟩
  | 44 => ⟨S128x1x1024, .f32⟩
  | 45 => ⟨S1x1024, .f32⟩
  | 46 => ⟨S1024, .f32⟩
  | 47 => ⟨S1x1x1024, .f32⟩
  | 48 => ⟨S128x1x1024, .f32⟩
  | 49 => ⟨S128x1x1024, .f32⟩
  | 50 => ⟨S128x1x1024, .f32⟩
  | 51 => ⟨S128x1x1024, .f32⟩
  | 52 => ⟨S1x1024, .f32⟩
  | 53 => ⟨S1024, .f32⟩
  | 54 => ⟨S1x1x1024, .f32⟩
  | 55 => ⟨S128x1x1024, .f32⟩
  | 56 => ⟨S128x1x1024, .f32⟩
  | 57 => ⟨S128x1x1024, .f32⟩
  | 58 => ⟨S128x1x1024, .f32⟩
  | 59 => ⟨S1x1024, .f32⟩
  | 60 => ⟨S1024, .f32⟩
  | 61 => ⟨S1x1x1024, .f32⟩
  | 62 => ⟨S128x1x1024, .f32⟩
  | 63 => ⟨S128x1x1024, .f32⟩
  | 64 => ⟨S128x1x1024, .f32⟩
  | 65 => ⟨S128x1x1024, .f32⟩
  | 66 => ⟨S1x1024, .f32⟩
  | 67 => ⟨S1024, .f32⟩
  | 68 => ⟨S1x1x1024, .f32⟩
  | 69 => ⟨S128x1x1024, .f32⟩
  | 70 => ⟨S128x1x1024, .f32⟩
  | 71 => ⟨S128x1x1024, .f32⟩
  | 72 => ⟨S128x1x1024, .f32⟩
  | 73 => ⟨S1x1024, .f32⟩
  | 74 => ⟨S1024, .f32⟩
  | 75 => ⟨S1x1x1024, .f32⟩
  | 76 => ⟨S128x1x1024, .f32⟩
  | 77 => ⟨S128x1x1024, .f32⟩
  | 78 => ⟨S128x1x1024, .f32⟩
  | 79 => ⟨S128x1x1024, .f32⟩
  | 80 => ⟨S1x1024, .f32⟩
  | 81 => ⟨S1024, .f32⟩
  | 82 => ⟨S1x1x1024, .f32⟩
  | 83 => ⟨S128x1x1024, .f32⟩
  | 84 => ⟨S128x1x1024, .f32⟩
  | 85 => ⟨S128x1x1024, .f32⟩
  | 86 => ⟨S128x1x1024, .f32⟩
  | 87 => ⟨S1x1024, .f32⟩
  | 88 => ⟨S1024, .f32⟩
  | 89 => ⟨S1x1x1024, .f32⟩
  | 90 => ⟨S128x1x1024, .f32⟩
  | 91 => ⟨S128x1x1024, .f32⟩
  | 92 => ⟨S128x1x1024, .f32⟩
  | 93 => ⟨S128x1x1024, .f32⟩
  | 94 => ⟨S1x1024, .f32⟩
  | 95 => ⟨S1024, .f32⟩
  | 96 => ⟨S1x1x1024, .f32⟩
  | 97 => ⟨S128x1x1024, .f32⟩
  | 98 => ⟨S128x1x1024, .f32⟩
  | 99 => ⟨S128x1x1024, .f32⟩
  | 100 => ⟨S128x1x1024, .f32⟩
  | 101 => ⟨S1x1024, .f32⟩
  | 102 => ⟨S1024, .f32⟩
  | 103 => ⟨S1x1x1024, .f32⟩
  | 104 => ⟨S128x1x1024, .f32⟩
  | 105 => ⟨S128x1x1024, .f32⟩
  | 106 => ⟨S128x1x1024, .f32⟩
  | 107 => ⟨S128x1x1024, .f32⟩
  | 108 => ⟨S1x1024, .f32⟩
  | 109 => ⟨S1024, .f32⟩
  | 110 => ⟨S1x1x1024, .f32⟩
  | 111 => ⟨S128x1x1024, .f32⟩
  | 112 => ⟨S128x1x1024, .f32⟩
  | 113 => ⟨S128x1x1024, .f32⟩
  | 114 => ⟨S128x1x1024, .f32⟩
  | 115 => ⟨S1x1024, .f32⟩
  | 116 => ⟨S1024, .f32⟩
  | 117 => ⟨S1x1x1024, .f32⟩
  | 118 => ⟨S128x1x1024, .f32⟩
  | 119 => ⟨S128x1x1024, .f32⟩
  | 120 => ⟨S128x1x1024, .f32⟩
  | 121 => ⟨S128x1x1024, .f32⟩
  | 122 => ⟨S1x1024, .f32⟩
  | 123 => ⟨S1024, .f32⟩
  | 124 => ⟨S1x1x1024, .f32⟩
  | 125 => ⟨S128x1x1024, .f32⟩
  | 126 => ⟨S128x1x1024, .f32⟩
  | 127 => ⟨S128x1x1024, .f32⟩
  | _ => ⟨S128x1x1024, .f32⟩

abbrev hbmTy0_1 (i : Nat) : BufTy := match i % 128 with
  | 0 => ⟨S128x1x1024, .f32⟩
  | 1 => ⟨S1x1024, .f32⟩
  | 2 => ⟨S1024, .f32⟩
  | 3 => ⟨S1x1x1024, .f32⟩
  | 4 => ⟨S128x1x1024, .f32⟩
  | 5 => ⟨S128x1x1024, .f32⟩
  | 6 => ⟨S128x1x1024, .f32⟩
  | 7 => ⟨S128x1x1024, .f32⟩
  | 8 => ⟨S1x1024, .f32⟩
  | 9 => ⟨S1024, .f32⟩
  | 10 => ⟨S1x1x1024, .f32⟩
  | 11 => ⟨S128x1x1024, .f32⟩
  | 12 => ⟨S128x1x1024, .f32⟩
  | 13 => ⟨S128x1x1024, .f32⟩
  | 14 => ⟨S128x1x1024, .f32⟩
  | 15 => ⟨S1x1024, .f32⟩
  | 16 => ⟨S1024, .f32⟩
  | 17 => ⟨S1x1x1024, .f32⟩
  | 18 => ⟨S128x1x1024, .f32⟩
  | 19 => ⟨S128x1x1024, .f32⟩
  | 20 => ⟨S128x1x1024, .f32⟩
  | 21 => ⟨S128x1x1024, .f32⟩
  | 22 => ⟨S1x1024, .f32⟩
  | 23 => ⟨S1024, .f32⟩
  | 24 => ⟨S1x1x1024, .f32⟩
  | 25 => ⟨S128x1x1024, .f32⟩
  | 26 => ⟨S128x1x1024, .f32⟩
  | 27 => ⟨S128x1x1024, .f32⟩
  | 28 => ⟨S128x1x1024, .f32⟩
  | 29 => ⟨S1x1024, .f32⟩
  | 30 => ⟨S1024, .f32⟩
  | 31 => ⟨S1x1x1024, .f32⟩
  | 32 => ⟨S128x1x1024, .f32⟩
  | 33 => ⟨S128x1x1024, .f32⟩
  | 34 => ⟨S128x1x1024, .f32⟩
  | 35 => ⟨S128x1x1024, .f32⟩
  | 36 => ⟨S1x1024, .f32⟩
  | 37 => ⟨S1024, .f32⟩
  | 38 => ⟨S1x1x1024, .f32⟩
  | 39 => ⟨S128x1x1024, .f32⟩
  | 40 => ⟨S128x1x1024, .f32⟩
  | 41 => ⟨S128x1x1024, .f32⟩
  | 42 => ⟨S128x1x1024, .f32⟩
  | 43 => ⟨S1x1024, .f32⟩
  | 44 => ⟨S1024, .f32⟩
  | 45 => ⟨S1x1x1024, .f32⟩
  | 46 => ⟨S128x1x1024, .f32⟩
  | 47 => ⟨S128x1x1024, .f32⟩
  | 48 => ⟨S128x1x1024, .f32⟩
  | 49 => ⟨S128x1x1024, .f32⟩
  | 50 => ⟨S1x1024, .f32⟩
  | 51 => ⟨S1024, .f32⟩
  | 52 => ⟨S1x1x1024, .f32⟩
  | 53 => ⟨S128x1x1024, .f32⟩
  | 54 => ⟨S128x1x1024, .f32⟩
  | 55 => ⟨S128x1x1024, .f32⟩
  | 56 => ⟨S128x1x1024, .f32⟩
  | 57 => ⟨S1x1024, .f32⟩
  | 58 => ⟨S1024, .f32⟩
  | 59 => ⟨S1x1x1024, .f32⟩
  | 60 => ⟨S128x1x1024, .f32⟩
  | 61 => ⟨S128x1x1024, .f32⟩
  | 62 => ⟨S128x1x1024, .f32⟩
  | 63 => ⟨S128x1x1024, .f32⟩
  | 64 => ⟨S1x1024, .f32⟩
  | 65 => ⟨S1024, .f32⟩
  | 66 => ⟨S1x1x1024, .f32⟩
  | 67 => ⟨S128x1x1024, .f32⟩
  | 68 => ⟨S128x1x1024, .f32⟩
  | 69 => ⟨S128x1x1024, .f32⟩
  | 70 => ⟨S128x1x1024, .f32⟩
  | 71 => ⟨S1x1024, .f32⟩
  | 72 => ⟨S1024, .f32⟩
  | 73 => ⟨S1x1x1024, .f32⟩
  | 74 => ⟨S128x1x1024, .f32⟩
  | 75 => ⟨S128x1x1024, .f32⟩
  | 76 => ⟨S128x1x1024, .f32⟩
  | 77 => ⟨S128x1x1024, .f32⟩
  | 78 => ⟨S1x1024, .f32⟩
  | 79 => ⟨S1024, .f32⟩
  | 80 => ⟨S1x1x1024, .f32⟩
  | 81 => ⟨S128x1x1024, .f32⟩
  | 82 => ⟨S128x1x1024, .f32⟩
  | 83 => ⟨S128x1x1024, .f32⟩
  | 84 => ⟨S128x1x1024, .f32⟩
  | 85 => ⟨S1x1024, .f32⟩
  | 86 => ⟨S1024, .f32⟩
  | 87 => ⟨S1x1x1024, .f32⟩
  | 88 => ⟨S128x1x1024, .f32⟩
  | 89 => ⟨S128x1x1024, .f32⟩
  | 90 => ⟨S128x1x1024, .f32⟩
  | 91 => ⟨S128x1x1024, .f32⟩
  | 92 => ⟨S1x1024, .f32⟩
  | 93 => ⟨S1024, .f32⟩
  | 94 => ⟨S1x1x1024, .f32⟩
  | 95 => ⟨S128x1x1024, .f32⟩
  | 96 => ⟨S128x1x1024, .f32⟩
  | 97 => ⟨S128x1x1024, .f32⟩
  | 98 => ⟨S1x1x1024, .f32⟩
  | 99 => ⟨S128x1x1024, .f32⟩
  | 100 => ⟨S128x1x1024, .f32⟩
  | 101 => ⟨S_, .f32⟩
  | 102 => ⟨S128x1, .f32⟩
  | 103 => ⟨S128x1x1, .f32⟩
  | 104 => ⟨S_, .f32⟩
  | 105 => ⟨S128x1x1, .f32⟩
  | 106 => ⟨S128x1x1, .f32⟩
  | 107 => ⟨S128x1x1024, .f32⟩
  | 108 => ⟨S128x1x1024, .f32⟩
  | 109 => ⟨S128x1x1024, .f32⟩
  | 110 => ⟨S_, .f32⟩
  | 111 => ⟨S128x1, .f32⟩
  | 112 => ⟨S128x1x1, .f32⟩
  | 113 => ⟨S_, .f32⟩
  | 114 => ⟨S128x1x1, .f32⟩
  | 115 => ⟨S128x1x1, .f32⟩
  | 116 => ⟨S_, .f32⟩
  | 117 => ⟨S128x1x1, .f32⟩
  | 118 => ⟨S128x1x1, .f32⟩
  | 119 => ⟨S128x1x1, .f32⟩
  | 120 => ⟨S128x1x1024, .f32⟩
  | 121 => ⟨S128x1x1024, .f32⟩
  | 122 => ⟨S1x1x1024, .f32⟩
  | 123 => ⟨S128x1x1024, .f32⟩
  | 124 => ⟨S128x1x1024, .f32⟩
  | 125 => ⟨S1x1x1024, .f32⟩
  | 126 => ⟨S128x1x1024, .f32⟩
  | 127 => ⟨S128x1x1024, .f32⟩
  | _ => ⟨S128x1x1024, .f32⟩

abbrev hbmTy0_2 (i : Nat) : BufTy := match i % 128 with
  | 0 => ⟨S128x1x1024, .f32⟩
  | 1 => ⟨S128x1x1024, .f32⟩
  | 2 => ⟨S_, .f32⟩
  | 3 => ⟨S128x1x1024, .f32⟩
  | 4 => ⟨S128x1x1024, .f32⟩
  | 5 => ⟨S_, .f32⟩
  | 6 => ⟨S128x1x1024, .f32⟩
  | 7 => ⟨S128x1x1024, .f32⟩
  | 8 => ⟨S128x1x1024, .f32⟩
  | 9 => ⟨S128x1x1024, .bf16⟩
  | 10 => ⟨S128x1024, .bf16⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_cst_0 : Ref sig .tc := ⟨.hbm, 229, rfl⟩
abbrev main_v222 : Ref sig .tc := ⟨.hbm, 230, rfl⟩
abbrev main_v223 : Ref sig .tc := ⟨.hbm, 231, rfl⟩
abbrev main_cst_1 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_2 : Ref sig .tc := ⟨.hbm, 238, rfl⟩
abbrev main_v229 : Ref sig .tc := ⟨.hbm, 239, rfl⟩
abbrev main_v230 : Ref sig .tc := ⟨.hbm, 240, rfl⟩
abbrev main_cst_3 : Ref sig .tc := ⟨.hbm, 241, rfl⟩
abbrev main_v231 : Ref sig .tc := ⟨.hbm, 242, rfl⟩
abbrev main_v232 : Ref sig .tc := ⟨.hbm, 243, rfl⟩
abbrev main_cst_4 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_call0_v0 : Ref sig .tc := ⟨.hbm, 256, rfl⟩
abbrev main_call0_v1 : Ref sig .tc := ⟨.hbm, 257, rfl⟩
abbrev main_call0_cst : Ref sig .tc := ⟨.hbm, 258, rfl⟩
abbrev main_call0_v2 : Ref sig .tc := ⟨.hbm, 259, rfl⟩
abbrev main_call0_v3 : Ref sig .tc := ⟨.hbm, 260, rfl⟩
abbrev main_call0_cst_0 : Ref sig .tc := ⟨.hbm, 261, rfl⟩
abbrev main_call0_v4 : Ref sig .tc := ⟨.hbm, 262, rfl⟩
abbrev main_call0_v5 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩

abbrev nD : Nat := 1
abbrev τ : Topo := Topo.v7x

variable {F : FTy → Type} [FloatOps F]
-- ==== Proof.Blocks.lean ====
/-
  What one grid point of the kernel leaves behind, as a function of the blocks it is given: the first point of a row
  block (case A) normalizes the rows, routes them and starts the accumulator at zero; every point adds its tile of the
  hidden axis; the last point of a row block (case C) also writes the residual sum out.
-/
module

public import proofs.«01_k».proof.Proof.Gen.KernelIdeal.Value

@[expose] public section

noncomputable section

namespace Cert.KernelIdeal.Blocks

open Cert.KernelIdeal Cert.KernelIdeal.Gen Idealize.ShloMosaic

variable {F : FTy → Type} [FloatOps F]

/-- Two zero offsets are the constant zero offset. -/
theorem zeros2 : (![0, 0] : Fin 2 → Nat) = fun _ => 0 := funext fun a => by fin_cases a <;> rfl

/-- Three zero offsets are the constant zero offset. -/
theorem zeros3 : (![0, 0, 0] : Fin 3 → Nat) = fun _ => 0 := funext fun a => by fin_cases a <;> rfl

/-- The lane numbers `0 … 127` along every row. -/
abbrev lanes : IVec S1024x128 32 := iota .tc S1024x128 32 [1] iota_S1024x128_d1_w32

/-- The combine weights of a row block: per row the two gates at the two chosen lanes, zero elsewhere. -/
abbrev weights (x0 : Vec F S1024x1024 .f32) (x1 : Vec F S1x1024 .f32) (x2 : Vec F S1024x128 .f32) : FVec F S1024x128 .f32 :=
  k0_pay11 (k0_pay5 (F := F) lanes) (k0_pay7 lanes x0 x1 x2) (k0_pay8 lanes x0 x1 x2) (k0_pay9 lanes x0 x1 x2) (k0_pay10 lanes x0 x1 x2)

/-- One step of the accumulator: the hidden tile of this point, weighted, times its rows of the down projection. -/
abbrev step (i : grid0.Coords) (x3 : Vec F S1x1024x256 .f32) (x4 : Vec F S1x1024x256 .f32) (x5 : Vec F S1x256x1024 .f32)
    (s0 : Vec F S1024x1024 .bf16) (s1 : Vec F S1024x128 .f32) (s2 : Vec F S1024x1024 .f32) : FVec F S1024x1024 .f32 :=
  k0_pay1 (k0_pay13 i s0 x3 x4 s1) s2 x5

/-- The first point of a row block leaves the normalized rows in the first scratch. -/
theorem first_rows (c : Dev nD) (i : grid0.Coords) (a3 : Memref sig .tc .vmem S1024x1024 .f32) (h3 : a3.IsWhole)
    (a4 : Memref sig .tc .vmem S1x1024 .f32) (h4 : a4.IsWhole) (a5 : Memref sig .tc .vmem S1024x128 .f32) (h5 : a5.IsWhole)
    (a6 : Memref sig .tc .vmem S1x1024x256 .f32) (h6 : a6.IsWhole) (a7 : Memref sig .tc .vmem S1x1024x256 .f32) (h7 : a7.IsWhole)
    (a8 : Memref sig .tc .vmem S1x256x1024 .f32) (h8 : a8.IsWhole) (a9 : Memref sig .tc .vmem S1024x1024 .f32) (h9 : a9.IsWhole)
    (a10 : Memref sig .tc .vmem S1024x1024 .bf16) (h10 : a10.IsWhole) (a11 : Memref sig .tc .vmem S1024x128 .f32) (h11 : a11.IsWhole)
    (a12 : Memref sig .tc .vmem S1024x1024 .f32) (h12 : a12.IsWhole) (hc : cond0_0 i) (hl : ¬cond0_1 i)
    (x0 : Vec F S1024x1024 .f32) (x1 : Vec F S1x1024 .f32) (x2 : Vec F S1024x128 .f32)
    (x3 : Vec F S1x1024x256 .f32) (x4 : Vec F S1x1024x256 .f32) (x5 : Vec F S1x256x1024 .f32) :
    sout0_A_0 c i a3 h3 a4 h4 a5 h5 a6 h6 a7 h7 a8 h8 a9 h9 a10 h10 a11 h11 a12 h12 hc hl x0 x1 x2 x3 x4 x5 = k0_pay4 x0 x1 := by
  unfold sout0_A_0
  rw [View.read_writes_eq_canon _ _ _ (scover0_A_0 c i a3 h3 a4 h4 a5 h5 a6 h6 a7 h7 a8 h8 a9 h9 a10 h10 a11 h11 a12 h12 hc hl x0 x1 x2 x3 x4 x5)]
  unfold kernelRun0_A
  dsimp only
  sl_unfold_words
  rw [View.canon_unit_zero zeros2]
  simp only [View.readAt_eq_ld, h3.read_unread, h4.read_unread, h5.read_unread, h6.read_unread, h7.read_unread, h8.read_unread,
    h10.read_unread, h11.read_unread, h12.read_unread,
    View.ld_unit_zero (S := S1024x1024) zeros2, View.ld_unit_zero (S := S1x1024) zeros2, View.ld_unit_zero (S := S1024x128) zeros2,
    View.ld_unit_zero (S := S1x1024x256) zeros3, View.ld_unit_zero (S := S1x256x1024) zeros3]

/-- The first point of a row block leaves the combine weights in the second scratch. -/
theorem first_weights (c : Dev nD) (i : grid0.Coords) (a3 : Memref sig .tc .vmem S1024x1024 .f32) (h3 : a3.IsWhole)
    (a4 : Memref sig .tc .vmem S1x1024 .f32) (h4 : a4.IsWhole) (a5 : Memref sig .tc .vmem S1024x128 .f32) (h5 : a5.IsWhole)
    (a6 : Memref sig .tc .vmem S1x1024x256 .f32) (h6 : a6.IsWhole) (a7 : Memref sig .tc .vmem S1x1024x256 .f32) (h7 : a7.IsWhole)
    (a8 : Memref sig .tc .vmem S1x256x1024 .f32) (h8 : a8.IsWhole) (a9 : Memref sig .tc .vmem S1024x1024 .f32) (h9 : a9.IsWhole)
    (a10 : Memref sig .tc .vmem S1024x1024 .bf16) (h10 : a10.IsWhole) (a11 : Memref sig .tc .vmem S1024x128 .f32) (h11 : a11.IsWhole)
    (a12 : Memref sig .tc .vmem S1024x1024 .f32) (h12 : a12.IsWhole) (hc : cond0_0 i) (hl : ¬cond0_1 i)
    (x0 : Vec F S1024x1024 .f32) (x1 : Vec F S1x1024 .f32) (x2 : Vec F S1024x128 .f32)
    (x3 : Vec F S1x1024x256 .f32) (x4 : Vec F S1x1024x256 .f32) (x5 : Vec F S1x256x1024 .f32) :
    sout0_A_1 c i a3 h3 a4 h4 a5 h5 a6 h6 a7 h7 a8 h8 a9 h9 a10 h10 a11 h11 a12 h12 hc hl x0 x1 x2 x3 x4 x5 = weights x0 x1 x2 := by
  unfold sout0_A_1
  rw [View.read_writes_eq_canon _ _ _ (scover0_A_1 c i a3 h3 a4 h4 a5 h5 a6 h6 a7 h7 a8 h8 a9 h9 a10 h10 a11 h11 a12 h12 hc hl x0 x1 x2 x3 x4 x5)]
  unfold kernelRun0_A
  dsimp only
  sl_unfold_words
  rw [View.canon_unit_zero zeros2]
  simp only [View.readAt_eq_ld, h3.read_unread, h4.read_unread, h5.read_unread, h6.read_unread, h7.read_unread, h8.read_unread,
    h10.read_unread, h11.read_unread, h12.read_unread,
    View.ld_unit_zero (S := S1024x1024) zeros2, View.ld_unit_zero (S := S1x1024) zeros2, View.ld_unit_zero (S := S1024x128) zeros2,
    View.ld_unit_zero (S := S1x1024x256) zeros3, View.ld_unit_zero (S := S1x256x1024) zeros3]

/-- The first point of a row block leaves one step from zero in the accumulator. -/
theorem first_acc (c : Dev nD) (i : grid0.Coords) (a3 : Memref sig .tc .vmem S1024x1024 .f32) (h3 : a3.IsWhole)
    (a4 : Memref sig .tc .vmem S1x1024 .f32) (h4 : a4.IsWhole) (a5 : Memref sig .tc .vmem S1024x128 .f32) (h5 : a5.IsWhole)
    (a6 : Memref sig .tc .vmem S1x1024x256 .f32) (h6 : a6.IsWhole) (a7 : Memref sig .tc .vmem S1x1024x256 .f32) (h7 : a7.IsWhole)
    (a8 : Memref sig .tc .vmem S1x256x1024 .f32) (h8 : a8.IsWhole) (a9 : Memref sig .tc .vmem S1024x1024 .f32) (h9 : a9.IsWhole)
    (a10 : Memref sig .tc .vmem S1024x1024 .bf16) (h10 : a10.IsWhole) (a11 : Memref sig .tc .vmem S1024x128 .f32) (h11 : a11.IsWhole)
    (a12 : Memref sig .tc .vmem S1024x1024 .f32) (h12 : a12.IsWhole) (hc : cond0_0 i) (hl : ¬cond0_1 i)
    (x0 : Vec F S1024x1024 .f32) (x1 : Vec F S1x1024 .f32) (x2 : Vec F S1024x128 .f32)
    (x3 : Vec F S1x1024x256 .f32) (x4 : Vec F S1x1024x256 .f32) (x5 : Vec F S1x256x1024 .f32) :
    sout0_A_2 c i a3 h3 a4 h4 a5 h5 a6 h6 a7 h7 a8 h8 a9 h9 a10 h10 a11 h11 a12 h12 hc hl x0 x1 x2 x3 x4 x5 = step i x3 x4 x5 (k0_pay4 x0 x1) (weights x0 x1 x2) k0_pay12 := by
  unfold sout0_A_2
  rw [View.read_writes_eq_canon _ _ _ (scover0_A_2 c i a3 h3 a4 h4 a5 h5 a6 h6 a7 h7 a8 h8 a9 h9 a10 h10 a11 h11 a12 h12 hc hl x0 x1 x2 x3 x4 x5)]
  unfold kernelRun0_A
  dsimp only
  sl_unfold_words
  simp only [View.canon_cons_unit_zero (S := S1024x1024) zeros2, View.readCov_unit_zero (S := S1024x1024) _ zeros2, View.readCov_unit_zero (S := S1024x128) _ zeros2]
  simp only [View.readAt_eq_ld, h3.read_unread, h4.read_unread, h5.read_unread, h6.read_unread, h7.read_unread, h8.read_unread,
    h10.read_unread, h11.read_unread, h12.read_unread,
    View.ld_unit_zero (S := S1024x1024) zeros2, View.ld_unit_zero (S := S1x1024) zeros2, View.ld_unit_zero (S := S1024x128) zeros2,
    View.ld_unit_zero (S := S1x1024x256) zeros3, View.ld_unit_zero (S := S1x256x1024) zeros3]

/-- A point inside a row block adds one step to the accumulator. -/
theorem mid_acc (c : Dev nD) (i : grid0.Coords) (a3 : Memref sig .tc .vmem S1024x1024 .f32) (h3 : a3.IsWhole)
    (a4 : Memref sig .tc .vmem S1x1024 .f32) (h4 : a4.IsWhole) (a5 : Memref sig .tc .vmem S1024x128 .f32) (h5 : a5.IsWhole)
    (a6 : Memref sig .tc .vmem S1x1024x256 .f32) (h6 : a6.IsWhole) (a7 : Memref sig .tc .vmem S1x1024x256 .f32) (h7 : a7.IsWhole)
    (a8 : Memref sig .tc .vmem S1x256x1024 .f32) (h8 : a8.IsWhole) (a9 : Memref sig .tc .vmem S1024x1024 .f32) (h9 : a9.IsWhole)
    (a10 : Memref sig .tc .vmem S1024x1024 .bf16) (h10 : a10.IsWhole) (a11 : Memref sig .tc .vmem S1024x128 .f32) (h11 : a11.IsWhole)
    (a12 : Memref sig .tc .vmem S1024x1024 .f32) (h12 : a12.IsWhole) (hc : ¬cond0_0 i) (hl : ¬cond0_1 i)
    (x0 : Vec F S1024x1024 .f32) (x1 : Vec F S1x1024 .f32) (x2 : Vec F S1024x128 .f32)
    (x3 : Vec F S1x1024x256 .f32) (x4 : Vec F S1x1024x256 .f32) (x5 : Vec F S1x256x1024 .f32) (s0 : Vec F S1024x1024 .bf16) (s1 : Vec F S1024x128 .f32) (s2 : Vec F S1024x1024 .f32) :
    sout0_B_2 c i a3 h3 a4 h4 a5 h5 a6 h6 a7 h7 a8 h8 a9 h9 a10 h10 a11 h11 a12 h12 hc hl x0 x1 x2 x3 x4 x5 s0 s1 s2 = step i x3 x4 x5 s0 s1 s2 := by
  unfold sout0_B_2
  rw [View.read_writes_eq_canon _ _ _ (scover0_B_2 c i a3 h3 a4 h4 a5 h5 a6 h6 a7 h7 a8 h8 a9 h9 a10 h10 a11 h11 a12 h12 hc hl x0 x1 x2 x3 x4 x5 s0 s1 s2)]
  unfold kernelRun0_B
  dsimp only
  sl_unfold_words
  rw [View.canon_unit_zero zeros2]
  simp only [View.readAt_eq_ld, h3.read_unread, h4.read_unread, h5.read_unread, h6.read_unread, h7.read_unread, h8.read_unread,
    h10.read_unread, h11.read_unread, h12.read_unread,
    View.ld_unit_zero (S := S1024x1024) zeros2, View.ld_unit_zero (S := S1x1024) zeros2, View.ld_unit_zero (S := S1024x128) zeros2,
    View.ld_unit_zero (S := S1x1024x256) zeros3, View.ld_unit_zero (S := S1x256x1024) zeros3]

/-- The last point of a row block adds one step to the accumulator. -/
theorem last_acc (c : Dev nD) (i : grid0.Coords) (a3 : Memref sig .tc .vmem S1024x1024 .f32) (h3 : a3.IsWhole)
    (a4 : Memref sig .tc .vmem S1x1024 .f32) (h4 : a4.IsWhole) (a5 : Memref sig .tc .vmem S1024x128 .f32) (h5 : a5.IsWhole)
    (a6 : Memref sig .tc .vmem S1x1024x256 .f32) (h6 : a6.IsWhole) (a7 : Memref sig .tc .vmem S1x1024x256 .f32) (h7 : a7.IsWhole)
    (a8 : Memref sig .tc .vmem S1x256x1024 .f32) (h8 : a8.IsWhole) (a9 : Memref sig .tc .vmem S1024x1024 .f32) (h9 : a9.IsWhole)
    (a10 : Memref sig .tc .vmem S1024x1024 .bf16) (h10 : a10.IsWhole) (a11 : Memref sig .tc .vmem S1024x128 .f32) (h11 : a11.IsWhole)
    (a12 : Memref sig .tc .vmem S1024x1024 .f32) (h12 : a12.IsWhole) (hc : ¬cond0_0 i) (hl : cond0_1 i)
    (x0 : Vec F S1024x1024 .f32) (x1 : Vec F S1x1024 .f32) (x2 : Vec F S1024x128 .f32)
    (x3 : Vec F S1x1024x256 .f32) (x4 : Vec F S1x1024x256 .f32) (x5 : Vec F S1x256x1024 .f32) (s0 : Vec F S1024x1024 .bf16) (s1 : Vec F S1024x128 .f32) (s2 : Vec F S1024x1024 .f32) :
    sout0_C_2 c i a3 h3 a4 h4 a5 h5 a6 h6 a7 h7 a8 h8 a9 h9 a10 h10 a11 h11 a12 h12 hc hl x0 x1 x2 x3 x4 x5 s0 s1 s2 = step i x3 x4 x5 s0 s1 s2 := by
  unfold sout0_C_2
  rw [View.read_writes_eq_canon _ _ _ (scover0_C_2 c i a3 h3 a4 h4 a5 h5 a6 h6 a7 h7 a8 h8 a9 h9 a10 h10 a11 h11 a12 h12 hc hl x0 x1 x2 x3 x4 x5 s0 s1 s2)]
  unfold kernelRun0_C
  dsimp only
  sl_unfold_words
  rw [View.canon_unit_zero zeros2]
  simp only [View.readAt_eq_ld, h3.read_unread, h4.read_unread, h5.read_unread, h6.read_unread, h7.read_unread, h8.read_unread,
    h10.read_unread, h11.read_unread, h12.read_unread,
    View.ld_unit_zero (S := S1024x1024) zeros2, View.ld_unit_zero (S := S1x1024) zeros2, View.ld_unit_zero (S := S1024x128) zeros2,
    View.ld_unit_zero (S := S1x1024x256) zeros3, View.ld_unit_zero (S := S1x256x1024) zeros3]

/-- The last point of a row block writes the rows plus the finished accumulator. -/
theorem last_out (c : Dev nD) (i : grid0.Coords) (a3 : Memref sig .tc .vmem S1024x1024 .f32) (h3 : a3.IsWhole)
    (a4 : Memref sig .tc .vmem S1x1024 .f32) (h4 : a4.IsWhole) (a5 : Memref sig .tc .vmem S1024x128 .f32) (h5 : a5.IsWhole)
    (a6 : Memref sig .tc .vmem S1x1024x256 .f32) (h6 : a6.IsWhole) (a7 : Memref sig .tc .vmem S1x1024x256 .f32) (h7 : a7.IsWhole)
    (a8 : Memref sig .tc .vmem S1x256x1024 .f32) (h8 : a8.IsWhole) (a9 : Memref sig .tc .vmem S1024x1024 .f32) (h9 : a9.IsWhole)
    (a10 : Memref sig .tc .vmem S1024x1024 .bf16) (h10 : a10.IsWhole) (a11 : Memref sig .tc .vmem S1024x128 .f32) (h11 : a11.IsWhole)
    (a12 : Memref sig .tc .vmem S1024x1024 .f32) (h12 : a12.IsWhole) (hc : ¬cond0_0 i) (hl : cond0_1 i)
    (x0 : Vec F S1024x1024 .f32) (x1 : Vec F S1x1024 .f32) (x2 : Vec F S1024x128 .f32)
    (x3 : Vec F S1x1024x256 .f32) (x4 : Vec F S1x1024x256 .f32) (x5 : Vec F S1x256x1024 .f32) (s0 : Vec F S1024x1024 .bf16) (s1 : Vec F S1024x128 .f32) (s2 : Vec F S1024x1024 .f32) :
    out0_C_6 c i a3 h3 a4 h4 a5 h5 a6 h6 a7 h7 a8 h8 a9 h9 a10 h10 a11 h11 a12 h12 hc hl x0 x1 x2 x3 x4 x5 s0 s1 s2 = k0_pay2 x0 (step i x3 x4 x5 s0 s1 s2) := by
  unfold out0_C_6
  rw [View.read_writes_eq_canon _ _ _ (cover0_C_6 c i a3 h3 a4 h4 a5 h5 a6 h6 a7 h7 a8 h8 a9 h9 a10 h10 a11 h11 a12 h12 hc hl x0 x1 x2 x3 x4 x5 s0 s1 s2)]
  unfold kernelRun0_C
  dsimp only
  sl_unfold_words
  simp only [View.canon_unit_zero (S := S1024x1024) zeros2, View.readCov_unit_zero (S := S1024x1024) _ zeros2]
  simp only [View.readAt_eq_ld, h3.read_unread, h4.read_unread, h5.read_unread, h6.read_unread, h7.read_unread, h8.read_unread,
    h10.read_unread, h11.read_unread, h12.read_unread,
    View.ld_unit_zero (S := S1024x1024) zeros2, View.ld_unit_zero (S := S1x1024) zeros2, View.ld_unit_zero (S := S1024x128) zeros2,
    View.ld_unit_zero (S := S1x1024x256) zeros3, View.ld_unit_zero (S := S1x256x1024) zeros3]

end Cert.KernelIdeal.Blocks

end
-- ==== Proof.Routing.lean ====
module

public import Idealize.ShloMosaic.Lib.SortFacts
public import Idealize.ShloMosaic.Lib.Pointwise

@[expose] public section
noncomputable section

/-!
The two experts of a token, as a fact about the eight router scores alone.

`Top2 L p q` says that `p` is the first of the greatest scores and `q` the first of the greatest of the others.
`gate L p q e` is what expert `e` then counts for: the softmax of the two scores at `p` and `q`, zero elsewhere.
The kernel finds the two in a row of 128 lanes, of which only the first eight hold scores; the reference sorts
the eight. Both arrive at the same gates.
-/

namespace Cert.Routing

open Idealize.ShloMosaic

/-- `p` is the first place of the greatest score, `q` the first place of the greatest of the remaining ones. -/
structure Top2 (L : Fin 8 → EReal) (p q : Fin 8) : Prop where
  first : ∀ k, L k ≤ L p
  firstLeast : ∀ k, L k = L p → p ≤ k
  ne : q ≠ p
  second : ∀ k, k ≠ p → L k ≤ L q
  secondLeast : ∀ k, k ≠ p → L k = L q → q ≤ k

/-- What expert `e` counts for when the two chosen are `p` and `q`. -/
def gate (L : Fin 8 → EReal) (p q e : Fin 8) : EReal :=
  if e = p then Ideal.div 1 (1 + Ideal.exp (L q - L p))
  else if e = q then Ideal.div (Ideal.exp (L q - L p)) (1 + Ideal.exp (L q - L p)) else 0

/-- With finite scores every gate is a finite number that is not negative. -/
theorem gate_real (L : Fin 8 → EReal) (hL : ∀ k, ∃ r : ℝ, L k = r) (p q e : Fin 8) :
    ∃ r : ℝ, 0 ≤ r ∧ gate L p q e = r := by
  obtain ⟨a, ha⟩ := hL p
  obtain ⟨b, hb⟩ := hL q
  have hE : Ideal.exp (L q - L p) = ((Real.exp (b - a) : ℝ) : EReal) := by
    rw [ha, hb, ← EReal.coe_sub]; rfl
  have hpos : 0 < Real.exp (b - a) := Real.exp_pos _
  have hone : (1 : EReal) + ((Real.exp (b - a) : ℝ) : EReal) = ((1 + Real.exp (b - a) : ℝ) : EReal) := by
    rw [EReal.coe_add, EReal.coe_one]
  have hne : (((1 + Real.exp (b - a) : ℝ)) : EReal) ≠ 0 := by
    rw [Ne, EReal.coe_eq_zero]; positivity
  unfold gate
  rw [hE, hone]
  split
  · refine ⟨1 * (1 + Real.exp (b - a))⁻¹, by positivity, ?_⟩
    unfold Ideal.div
    rw [if_neg hne, EReal.coe_mul, EReal.coe_inv, EReal.coe_one]
  · split
    · refine ⟨Real.exp (b - a) * (1 + Real.exp (b - a))⁻¹, by positivity, ?_⟩
      unfold Ideal.div
      rw [if_neg hne, EReal.coe_mul, EReal.coe_inv]
    · exact ⟨0, le_refl _, rfl⟩

/-- A finite factor that is not negative goes through a finite sum. -/
theorem mul_sum_of_real {ι : Type*} (s : Finset ι) (f : ι → EReal) (r : ℝ) (hr : 0 ≤ r) :
    ((r : ℝ) : EReal) * ∑ i ∈ s, f i = ∑ i ∈ s, ((r : ℝ) : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-! ### The kernel's way: 128 lanes -/

/-- A lane's number. -/
def laneE (l : Fin 128) : EReal := ((l.val : ℝ) : EReal)

/-- Equal lane numbers are equal lanes. -/
theorem laneE_inj {a b : Fin 128} (h : laneE a = laneE b) : a = b := by
  unfold laneE at h
  exact Fin.ext (by exact_mod_cast h)

/-- Lane numbers are equal exactly when the lanes are. -/
theorem laneE_inj_iff {a b : Fin 128} : laneE a = laneE b ↔ a = b := ⟨laneE_inj, fun h => h ▸ rfl⟩

/-- Lane numbers grow with the lanes. -/
theorem laneE_mono {a b : Fin 128} (h : a ≤ b) : laneE a ≤ laneE b := by
  unfold laneE
  exact_mod_cast h

/-- A lane number is at most 128. -/
theorem laneE_lt (a : Fin 128) : laneE a ≤ ((128 : ℝ) : EReal) := by
  unfold laneE
  have := a.isLt
  exact_mod_cast this.le

/-- The least lane number among those that pass a test. -/
theorem fold_min_lane (P : Fin 128 → Prop) [DecidablePred P] (p : Fin 128) (hp : P p) (hmin : ∀ x, P x → p ≤ x) :
    Finset.fold min (⊤ : EReal) (fun x => if P x then laneE x else ((128 : ℝ) : EReal)) Finset.univ = laneE p := by
  refine le_antisymm ?_ ?_
  · refine (Finset.fold_min_le _).2 (Or.inr ⟨p, Finset.mem_univ _, ?_⟩)
    rw [if_pos hp]
  · refine (Finset.le_fold_min _).2 ⟨le_top, fun x _ => ?_⟩
    split
    · exact laneE_mono (hmin x ‹_›)
    · exact laneE_lt p

/-- The greatest of the lanes, at a lane that is at least every other. -/
theorem fold_max_lane (M : Fin 128 → EReal) (p : Fin 128) (hp : ∀ x, M x ≤ M p) :
    Finset.fold max (⊥ : EReal) M Finset.univ = M p := by
  refine le_antisymm ?_ ?_
  · exact (Finset.fold_max_le _).2 ⟨bot_le, fun x _ => hp x⟩
  · exact (Finset.le_fold_max _).2 (Or.inr ⟨p, Finset.mem_univ _, le_rfl⟩)

/-- An expert's lane. -/
def lane (e : Fin 8) : Fin 128 := ⟨e.val, by omega⟩

/-- Experts with one lane are one expert. -/
theorem lane_inj {a b : Fin 8} : lane a = lane b ↔ a = b :=
  ⟨fun h => Fin.ext (congrArg Fin.val h : _), fun h => h ▸ rfl⟩

/-- Scores in the first eight lanes, minus infinity in the others. -/
def spread (L : Fin 8 → EReal) (l : Fin 128) : EReal := if h : l.val < 8 then L ⟨l.val, h⟩ else ⊥

/-- An expert's lane holds its score. -/
theorem spread_lane (L : Fin 8 → EReal) (e : Fin 8) : spread L (lane e) = L e := by
  unfold spread lane
  rw [dif_pos e.isLt]

/-- A lane is an expert's, or holds minus infinity. -/
theorem spread_cases (L : Fin 8 → EReal) (l : Fin 128) : (∃ e, l = lane e) ∨ (8 ≤ l.val ∧ spread L l = ⊥) := by
  by_cases h : l.val < 8
  · exact Or.inl ⟨⟨l.val, h⟩, rfl⟩
  · exact Or.inr ⟨by omega, dif_neg h⟩

variable {L : Fin 8 → EReal} {p q : Fin 8}

/-- The first maximum over the lanes is the score at `p`. -/
theorem max1 (h : Top2 L p q) : Finset.fold max (⊥ : EReal) (spread L) Finset.univ = L p := by
  rw [fold_max_lane (spread L) (lane p) fun x => ?_, spread_lane]
  rcases spread_cases L x with ⟨e, rfl⟩ | ⟨_, hx⟩
  · rw [spread_lane, spread_lane]; exact h.first e
  · rw [hx]; exact bot_le

/-- The first lane with that score is `p`'s. -/
theorem arg1 (h : Top2 L p q) :
    Finset.fold min (⊤ : EReal) (fun x => if spread L x = L p then laneE x else ((128 : ℝ) : EReal)) Finset.univ
      = laneE (lane p) := by
  refine fold_min_lane _ (lane p) (spread_lane L p) fun x hx => ?_
  rcases spread_cases L x with ⟨e, rfl⟩ | ⟨h8, _⟩
  · rw [spread_lane] at hx; exact h.firstLeast e hx
  · exact Fin.le_def.mpr (show p.val ≤ x.val by omega)

/-- The lanes with `p`'s taken out. -/
def rest (L : Fin 8 → EReal) (p : Fin 8) (l : Fin 128) : EReal := if laneE l = laneE (lane p) then ⊥ else spread L l

/-- The lane of an expert other than the first keeps its score. -/
theorem rest_lane (e : Fin 8) (he : e ≠ p) : rest L p (lane e) = L e := by
  unfold rest
  rw [if_neg fun hh => he (lane_inj.mp (laneE_inj hh)), spread_lane]

/-- A lane of the rest is another expert's, or holds minus infinity. -/
theorem rest_cases (L : Fin 8 → EReal) (p : Fin 8) (l : Fin 128) :
    (∃ e, e ≠ p ∧ l = lane e) ∨ rest L p l = ⊥ := by
  rcases spread_cases L l with ⟨e, rfl⟩ | ⟨_, hx⟩
  · by_cases he : e = p
    · subst he; exact Or.inr (if_pos rfl)
    · exact Or.inl ⟨e, he, rfl⟩
  · refine Or.inr ?_
    unfold rest
    rw [hx, ite_self]

/-- The second maximum is the score at `q`. -/
theorem max2 (h : Top2 L p q) : Finset.fold max (⊥ : EReal) (rest L p) Finset.univ = L q := by
  rw [fold_max_lane (rest L p) (lane q) fun x => ?_, rest_lane q h.ne]
  rcases rest_cases L p x with ⟨e, he, rfl⟩ | hx
  · rw [rest_lane e he, rest_lane q h.ne]; exact h.second e he
  · rw [hx]; exact bot_le

/-- The first of the remaining lanes with that score is `q`'s, the score being above minus infinity. -/
theorem arg2 (h : Top2 L p q) (hq : L q ≠ ⊥) :
    Finset.fold min (⊤ : EReal) (fun x => if rest L p x = L q then laneE x else ((128 : ℝ) : EReal)) Finset.univ
      = laneE (lane q) := by
  refine fold_min_lane _ (lane q) (rest_lane q h.ne) fun x hx => ?_
  rcases rest_cases L p x with ⟨e, he, rfl⟩ | hb
  · rw [rest_lane e he] at hx; exact h.secondLeast e he hx
  · rw [hb] at hx; exact absurd hx.symm hq

/-! ### The reference's way: a stable sort of the eight -/

/-- Higher score first, the earlier place first where two are equal. -/
def ahead (L : Fin 8 → EReal) (a b : Fin 8) : Bool := decide (L b < L a ∨ L a = L b ∧ a < b)

/-- On a list in increasing order a stable sort by score alone is the sort by score and place: an element meets
    only later ones. -/
theorem stableSort_ahead (L : Fin 8 → EReal) (before : Fin 8 → Fin 8 → Bool) (hb : ∀ a b, before a b = decide (L b < L a))
    (l : List (Fin 8)) (hl : l.Pairwise (· < ·)) : stableSort before l = stableSort (ahead L) l := by
  induction l with
  | nil => rfl
  | cons a l ih =>
    rw [List.pairwise_cons] at hl
    unfold stableSort
    rw [ih hl.2]
    refine insertBefore_congr before (ahead L) a _ fun b hb' => ?_
    have hmem : b ∈ l := (perm_stableSort (ahead L) l).mem_iff.mp hb'
    have hlt : a < b := hl.1 b hmem
    rw [hb]
    unfold ahead
    refine decide_eq_decide.mpr ⟨Or.inl, ?_⟩
    rintro (h | ⟨_, h⟩)
    · exact h
    · exact absurd h (lt_asymm hlt)

/-- Sorting by the scores with ties broken by place is the stable sort by the scores. -/
theorem sortedFrom_ahead (L : Fin 8 → EReal) (before : Fin 8 → Fin 8 → Bool) (hb : ∀ a b, before a b = decide (L b < L a)) :
    sortedFrom before = sortedFrom (ahead L) := by
  have h : sortPositions 8 before = sortPositions 8 (ahead L) :=
    stableSort_ahead L before hb _ (List.pairwise_lt_finRange 8)
  funext k
  unfold sortedFrom
  rw [List.get_of_eq h]
  rfl

/-- What is not ahead has no greater score, and no earlier place at an equal one. -/
theorem not_ahead {L : Fin 8 → EReal} {a b : Fin 8} (h : ahead L a b = false) : L a ≤ L b ∧ (L a = L b → b ≤ a) := by
  unfold ahead at h
  have h' := of_decide_eq_false h
  push Not at h'
  exact ⟨h'.1, fun e => h'.2 e⟩

/-- Later places of the sort never hold a score that belongs before an earlier one. -/
theorem ahead_sorted (L : Fin 8 → EReal) (i j : Fin 8) (hij : i < j) :
    ahead L (sortedFrom (ahead L) j) (sortedFrom (ahead L) i) = false := by
  refine sortedFrom_noInversion (ahead L) (ahead L) ?_ (fun _ _ h => h) ?_ i j hij
  · intro a b hab
    unfold ahead at hab ⊢
    have hab' := of_decide_eq_true hab
    refine decide_eq_false ?_
    rintro (h | ⟨h1, h2⟩)
    · rcases hab' with h' | ⟨h', _⟩
      · exact absurd h (lt_asymm h')
      · exact absurd h' (ne_of_lt h)
    · rcases hab' with h' | ⟨_, h'⟩
      · exact absurd h1.symm (ne_of_gt h')
      · exact absurd h2 (lt_asymm h')
  · intro a b c hab hbc
    have h1 := not_ahead hab
    have h2 := not_ahead hbc
    unfold ahead
    refine decide_eq_false ?_
    rintro (h | ⟨h3, h4⟩)
    · exact absurd h (not_lt.mpr (h1.1.trans h2.1))
    · have e1 : L a = L b := le_antisymm h1.1 (h3 ▸ h2.1)
      have e2 : L b = L c := e1 ▸ h3
      exact absurd h4 (not_lt.mpr ((h2.2 e2).trans (h1.2 e1)))

/-- The first two places of the stable sort by score are the two experts. -/
theorem top2_sorted (L : Fin 8 → EReal) (before : Fin 8 → Fin 8 → Bool) (hb : ∀ a b, before a b = decide (L b < L a)) :
    Top2 L (sortedFrom before 0) (sortedFrom before 1) := by
  rw [sortedFrom_ahead L before hb]
  have hinj := sortedFrom_injective (ahead L)
  have hsur := sortedFrom_surjective (ahead L)
  have key0 : ∀ k, L k ≤ L (sortedFrom (ahead L) 0) ∧ (L k = L (sortedFrom (ahead L) 0) → sortedFrom (ahead L) 0 ≤ k) := by
    intro k
    obtain ⟨j, rfl⟩ := hsur k
    by_cases hj : j = 0
    · subst hj; exact ⟨le_rfl, fun _ => le_rfl⟩
    · exact not_ahead (ahead_sorted L 0 j (Fin.pos_iff_ne_zero.mpr hj))
  have key1 : ∀ k, k ≠ sortedFrom (ahead L) 0 →
      L k ≤ L (sortedFrom (ahead L) 1) ∧ (L k = L (sortedFrom (ahead L) 1) → sortedFrom (ahead L) 1 ≤ k) := by
    intro k hk
    obtain ⟨j, rfl⟩ := hsur k
    have hj : j ≠ 0 := fun h => hk (h ▸ rfl)
    by_cases hj1 : j = 1
    · subst hj1; exact ⟨le_rfl, fun _ => le_rfl⟩
    · refine not_ahead (ahead_sorted L 1 j ?_)
      rw [Fin.lt_def]
      have h0 : j.val ≠ 0 := fun h => hj (Fin.ext h)
      have h1 : j.val ≠ 1 := fun h => hj1 (Fin.ext h)
      show 1 < j.val
      omega
  exact ⟨fun k => (key0 k).1, fun k => (key0 k).2, fun h => absurd (hinj h) (by decide),
    fun k hk => (key1 k hk).1, fun k hk => (key1 k hk).2⟩

end Cert.Routing
end
-- ==== Proof.Rows.lean ====
module

public import proofs.«01_k».proof.Proof.Routing

@[expose] public section
noncomputable section

/-!
One token's row, as plain functions of its 1024 numbers: the root-mean-square norm, the eight router scores, and
one hidden unit of an expert. The kernel and the reference are both read as these functions.
-/

namespace Cert.Rows

open Idealize.ShloMosaic

/-- The row's length, 1024, as the programs write it. -/
def width : EReal := Ideal.ofBits .f32 1149239296#32

/-- The norm's small constant, as the programs write it. -/
def eps : EReal := Ideal.ofBits .f32 897988541#32

/-- The norm of a row `x` with scale `g`, at place `d`. -/
def norm (x g : Fin 1024 → EReal) (d : Fin 1024) : EReal :=
  x d * Ideal.rsqrt (Ideal.div (∑ k, x k * x k) width + eps) * g d

/-- The router's score of expert `e` for a row `x`. -/
def score (x g : Fin 1024 → EReal) (w : Fin 1024 → Fin 8 → EReal) (e : Fin 8) : EReal := ∑ k, norm x g k * w k e

/-- One hidden unit: the gate's product through `a * sigmoid a`, times the other product. -/
def hiddenUnit (h a b : Fin 1024 → EReal) : EReal :=
  (∑ k, h k * a k) * Ideal.div 1 (1 + Ideal.exp (-(∑ k, h k * a k))) * ∑ k, h k * b k

/-- The width is 1024. -/
theorem width_eq : width = ((1024 : ℝ) : EReal) := by
  unfold width
  simp [Ideal.ofBits, Ideal.ieee, -EReal.coe_mul]; norm_num

/-- The small constant is a positive number. -/
theorem eps_pos : ∃ r : ℝ, 0 < r ∧ eps = r := by
  refine ⟨8796093 * (2 ^ 43)⁻¹, by positivity, ?_⟩
  unfold eps
  simp [Ideal.ofBits, Ideal.ieee, -EReal.coe_mul]

/-- The word of infinity. -/
theorem inf_bits : Ideal.ofBits .f32 2139095040#32 = ⊤ := by simp [Ideal.ofBits, Ideal.ieee]
/-- The word of minus infinity. -/
theorem neg_inf_bits : Ideal.ofBits .f32 4286578688#32 = ⊥ := by simp [Ideal.ofBits, Ideal.ieee]
/-- The word of 128. -/
theorem lanes_bits : Ideal.ofBits .f32 1124073472#32 = ((128 : ℝ) : EReal) := by
  simp [Ideal.ofBits, Ideal.ieee, -EReal.coe_mul]; norm_num

/-- A square is not negative. -/
theorem square_nonneg (a : EReal) : 0 ≤ a * a := by
  induction a with
  | bot => rw [EReal.bot_mul_bot]; exact le_top
  | top => rw [EReal.top_mul_top]; exact le_top
  | coe r => rw [← EReal.coe_mul]; exact_mod_cast mul_self_nonneg r

/-- The square of an infinity is infinity. -/
theorem square_infinite (a : EReal) (h : ¬ ∃ r : ℝ, a = r) : a * a = ⊤ := by
  induction a with
  | bot => exact EReal.bot_mul_bot
  | top => exact EReal.top_mul_top
  | coe r => exact absurd ⟨r, rfl⟩ h

/-- A finite sum of numbers is the same sum among the extended ones. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of finite numbers is finite. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨u, hu⟩ := h a (Finset.mem_insert_self a s)
    obtain ⟨v, hv⟩ := ih fun i hi => h i (Finset.mem_insert_of_mem hi)
    exact ⟨u + v, by rw [Finset.sum_insert ha, hu, hv, EReal.coe_add]⟩

/-- With a finite scale the norm of any row is finite: a row with an infinity in it has norm zero. -/
theorem norm_real (x g : Fin 1024 → EReal) (hg : ∀ k, ∃ r : ℝ, g k = r) (d : Fin 1024) : ∃ r : ℝ, norm x g d = r := by
  obtain ⟨e, he, hE⟩ := eps_pos
  obtain ⟨c, hc⟩ := hg d
  have hw : width ≠ 0 := by rw [width_eq, Ne, EReal.coe_eq_zero]; norm_num
  unfold norm
  by_cases hx : ∀ k, ∃ r : ℝ, x k = r
  · choose y hy using hx
    have hs : ∑ k, x k * x k = ((∑ k, y k * y k : ℝ) : EReal) := by
      rw [coe_sum]
      exact Finset.sum_congr rfl fun k _ => by rw [hy k, EReal.coe_mul]
    have hs0 : 0 ≤ ∑ k, y k * y k := Finset.sum_nonneg fun k _ => mul_self_nonneg _
    have hr : Ideal.div (∑ k, x k * x k) width + eps = (((∑ k, y k * y k) * (1024 : ℝ)⁻¹ + e : ℝ) : EReal) := by
      unfold Ideal.div
      rw [if_neg hw, hs, hE, width_eq, ← EReal.coe_inv, ← EReal.coe_mul, ← EReal.coe_add]
    have hpos : 0 < (∑ k, y k * y k) * (1024 : ℝ)⁻¹ + e := by positivity
    rw [hr, Ideal.rsqrt_coe, if_neg (not_lt.mpr hpos.le), if_neg hpos.ne', hy d, hc]
    exact ⟨_, by rw [← EReal.coe_mul, ← EReal.coe_mul]⟩
  · rw [not_forall] at hx
    obtain ⟨k, hk⟩ := hx
    have hs : ∑ k, x k * x k = ⊤ := by
      refine top_le_iff.mp ?_
      rw [← square_infinite (x k) hk]
      exact Finset.single_le_sum (f := fun k => x k * x k) (fun i _ => square_nonneg (x i)) (Finset.mem_univ k)
    have hr : Ideal.div (∑ k, x k * x k) width + eps = ⊤ := by
      unfold Ideal.div
      rw [if_neg hw, hs, hE, width_eq, ← EReal.coe_inv, EReal.top_mul_coe_of_pos (by norm_num), EReal.top_add_coe]
    rw [hr]
    exact ⟨0, by rw [Ideal.rsqrt_top, mul_zero, zero_mul, EReal.coe_zero]⟩

/-- With a finite scale and finite router weights every score is finite. -/
theorem score_real (x g : Fin 1024 → EReal) (w : Fin 1024 → Fin 8 → EReal) (hg : ∀ k, ∃ r : ℝ, g k = r)
    (hw : ∀ k e, ∃ r : ℝ, w k e = r) (e : Fin 8) : ∃ r : ℝ, score x g w e = r := by
  refine sum_real _ _ fun k _ => ?_
  obtain ⟨u, hu⟩ := norm_real x g hg k
  obtain ⟨v, hv⟩ := hw k e
  exact ⟨u * v, by rw [hu, hv, EReal.coe_mul]⟩

end Cert.Rows
end
-- ==== Proof.KernelRows.lean ====
module

public import proofs.«01_k».proof.Proof.Blocks
public import proofs.«01_k».proof.Proof.Rows
public import Idealize.ShloMosaic.Lib.Pointwise

@[expose] public section
noncomputable section

/-!
What one grid step of the kernel computes, place by place: the normed rows, the weight of each lane, and the
step's addition to the accumulator.
-/

namespace Cert.KernelIdeal.KernelRows

open Cert.KernelIdeal Cert.KernelIdeal.Gen Cert.KernelIdeal.Blocks Idealize.ShloMosaic Cert.Routing Cert.Rows

variable (x0 : Vec Ideal S1024x1024 .f32) (x1 : Vec Ideal S1x1024 .f32) (x2 : Vec Ideal S1024x128 .f32)

/-- The normed rows, before their rounding is dropped. -/
theorem normed (r l : Fin 1024) :
    k0_pay3 (F := Ideal) x0 x1 (ix2 r l) = norm (fun k => x0 (ix2 r k)) (fun k => x1 (ix2 0 k)) l := by
  pointwise [k0_pay3]
  rfl

/-- The normed rows as the first step keeps them. -/
theorem rows (r l : Fin 1024) :
    k0_pay4 (F := Ideal) x0 x1 (ix2 r l) = norm (fun k => x0 (ix2 r k)) (fun k => x1 (ix2 0 k)) l := by
  pointwise [k0_pay4]
  exact normed x0 x1 r l

/-- The scores of one row, from the router's first eight columns. -/
abbrev scores (r : Fin 1024) : Fin 8 → EReal :=
  score (fun k => x0 (ix2 r k)) (fun k => x1 (ix2 0 k)) (fun k e => x2 (ix2 k (lane e)))

/-- The lane numbers, as words. -/
theorem lanes_at (r : Fin 1024) (l : Fin 128) : lanes (ix2 r l) = BitVec.ofNat 32 l.val := by
  pointwise [lanes]

/-- A lane's word, read as a number. -/
theorem lane_word (l : Fin 128) : FloatOps.sitofp (F := Ideal) FTy.f32 (BitVec.ofNat 32 l.val) = laneE l := by
  show (((BitVec.ofNat 32 l.val).toInt : ℝ) : EReal) = laneE l
  have h : (BitVec.ofNat 32 l.val).toInt = (l.val : ℤ) := by
    revert l; decide +kernel
  rw [h]
  unfold laneE
  push_cast
  rfl

/-- The score lanes: the first eight hold the scores, the others minus infinity. -/
theorem masked (r : Fin 1024) (l : Fin 128) :
    k0_pay6 (F := Ideal) lanes x0 x1 x2 (ix2 r l) = spread (scores x0 x1 x2 r) l := by
  pointwise [k0_pay6]
  simp only [normed, neg_inf_bits, lanes_at]
  unfold spread
  by_cases h : l.val < 8
  · have hc : IntOp.cmpi CmpIPredicate.slt (BitVec.ofNat 32 l.val) 8#32 = 1#1 := by
      revert l; decide +kernel
    rw [dif_pos h, hc]
    rfl
  · have hc : IntOp.cmpi CmpIPredicate.slt (BitVec.ofNat 32 l.val) 8#32 = 0#1 := by
      revert l; decide +kernel
    rw [dif_neg h, hc]
    rfl

section chosen

variable {x0 x1 x2} {r : Fin 1024} {p q : Fin 8} (h : Top2 (scores x0 x1 x2 r) p q)
include h

/-- The greatest score of a row. -/
theorem top : k0_pay7 (F := Ideal) lanes x0 x1 x2 (ix2 r 0) = scores x0 x1 x2 r p := by
  pointwise [k0_pay7]
  simp only [masked, neg_inf_bits]
  exact max1 h

/-- Its first lane. -/
theorem topLane : k0_pay8 (F := Ideal) lanes x0 x1 x2 (ix2 r 0) = laneE (lane p) := by
  pointwise [k0_pay8, k0_pay5]
  simp only [masked, top h, inf_bits, lanes_bits, lanes_at, lane_word]
  exact arg1 h

/-- The lanes without it. -/
theorem others (l : Fin 128) : k0_pay9 (F := Ideal) lanes x0 x1 x2 (ix2 r l) = rest (scores x0 x1 x2 r) p l := by
  pointwise [k0_pay9, k0_pay5]
  simp only [masked, topLane h, neg_inf_bits, lanes_at, lane_word]
  rfl

/-- The greatest of the rest. -/
theorem second : k0_pay10 (F := Ideal) lanes x0 x1 x2 (ix1 r) = scores x0 x1 x2 r q := by
  pointwise [k0_pay10]
  simp only [others h, neg_inf_bits]
  exact max2 h

/-- The weight a row keeps in an expert's lane is that expert's gate. -/
theorem weight (hq : scores x0 x1 x2 r q ≠ ⊥) (e : Fin 8) :
    weights (F := Ideal) x0 x1 x2 (ix2 r (lane e)) = gate (scores x0 x1 x2 r) p q e := by
  pointwise [weights, k0_pay11, k0_pay5]
  simp only [others h, topLane h, top h, second h, inf_bits, lanes_bits, lanes_at, lane_word]
  rw [arg2 h hq]
  simp only [laneE_inj_iff, lane_inj]
  rfl

end chosen

/-- One step's addition: one tile of 256 hidden units of the expert the step is for. -/
theorem addition (i : grid0.Coords) (e : Fin 8) (he : (i 1).val = e.val) (x3 x4 : Vec Ideal S1x1024x256 .f32)
    (x5 : Vec Ideal S1x256x1024 .f32) (s0 : Vec Ideal S1024x1024 .bf16) (s1 : Vec Ideal S1024x128 .f32)
    (s2 : Vec Ideal S1024x1024 .f32) (r l : Fin 1024) :
    step (F := Ideal) i x3 x4 x5 s0 s1 s2 (ix2 r l)
      = s2 (ix2 r l) + ∑ k, hiddenUnit (fun y => s0 (ix2 r y)) (fun y => x3 (ix3 0 y k)) (fun y => x4 (ix3 0 y k))
          * s1 (ix2 r (lane e)) * x5 (ix3 0 k l) := by
  pointwise [step, k0_pay1, k0_pay13]
  have hsum : ∑ z : Fin 128, Scalar.select (IntOp.cmpi CmpIPredicate.eq (BitVec.ofNat 32 z.val) (BitVec.ofNat 32 (i 1).val))
      (s1 (ix2 r z)) 0 = s1 (ix2 r (lane e)) := by
    rw [he, Finset.sum_eq_single (lane e)]
    · have hc : IntOp.cmpi CmpIPredicate.eq (BitVec.ofNat 32 (lane e).val) (BitVec.ofNat 32 e.val) = 1#1 := by
        clear he
        revert e; decide +kernel
      rw [hc]
      rfl
    · intro z _ hz
      have hc : IntOp.cmpi CmpIPredicate.eq (BitVec.ofNat 32 z.val) (BitVec.ofNat 32 e.val) = 0#1 := by
        clear he
        revert hz
        revert z e
        decide +kernel
      rw [hc]
      rfl
    · exact fun hn => absurd (Finset.mem_univ _) hn
  refine congrArg (fun z => s2 (ix2 r l) + z) (Finset.sum_congr rfl fun k _ => ?_)
  refine congrArg (fun z => z * x5 (ix3 0 k l)) (congrArg₂ (fun z w => z * w) ?_ hsum)
  unfold hiddenUnit
  rw [zero_sub]

/-- The last step's result: the row itself and what was added up. -/
theorem result (a b : Vec Ideal S1024x1024 .f32) (r l : Fin 1024) :
    k0_pay2 (F := Ideal) a b (ix2 r l) = a (ix2 r l) + b (ix2 r l) := by
  pointwise [k0_pay2]

/-- The accumulator starts at zero. -/
theorem start (r l : Fin 1024) : k0_pay12 (F := Ideal) (ix2 r l) = 0 := by
  pointwise [k0_pay12]

end Cert.KernelIdeal.KernelRows
end
-- ==== Proof.Prelude.lean ====
module

public import proofs.«01_k».proof.Proof.Blocks
public import proofs.«01_k».proof.Proof.Gen.KernelIdeal.Value
public import proofs.«01_k».proof.Proof.Rows
public import Idealize.ShloMosaic.Lib.Pointwise

@[expose] public section
noncomputable section

/-!
What the host prepares for the kernel: the router's eight columns padded with zeros to 128, and the norm's scale
as one row.
-/

namespace Cert.KernelIdeal.Prelude

open Cert.KernelIdeal Cert.KernelIdeal.Gen Idealize.ShloMosaic Idealize.ShloMosaic.TcCoe Cert.Routing

variable (m : (ℓ : Loc nD τ sig) → Buf (Elt Ideal) ℓ)

/-- The scale's array when the kernel is entered. -/
theorem scale_eq (c : Dev nD) : V (F := Ideal) m c main_v3
    = shapeCast S1x1024 (m ((c : Thread nD τ).loc main_arg1)) shapeCasts_S1024_S1x1024 := by
  show StableHlo.after hostOps0 _ _ = _
  simp only [hostOps0, StableHlo.after_cons, StableHlo.after_nil]
  rfl

/-- The padded router's array when the kernel is entered. -/
theorem router_eq (c : Dev nD) : V (F := Ideal) m c main_v2
    = Host.scatter scatter_S1024x128_S1_S1024x8_01_n_1_0 (fun _ b => b)
        (broadcastInDim S1024x128 ![] bcast_S_S1024x128 (constant (F := Ideal) S_ .f32 0x00000000#32))
        (broadcastInDim S1 ![] bcast_S_S1 (constantI S_ 32 0#32)) (m ((c : Thread nD τ).loc main_arg2)) := by
  show StableHlo.after hostOps0 _ _ = _
  simp (discharger := decide) only [hostOps0, StableHlo.after_cons, StableHlo.after_nil, StableHlo.reshape_result_ne', StableHlo.ternary_result',
    StableHlo.unary_result', StableHlo.nullary_result', StableHlo.unary_result_ne', StableHlo.nullary_result_ne', ne_eq, not_false_eq_true]

/-- The one start of the update: the top left corner. -/
abbrev corner : IVec S1 32 := broadcastInDim S1 ![] bcast_S_S1 (constantI S_ 32 0#32)

/-- Where update `(k, e)` of the padding lands: at `(k, e)`. -/
theorem lands (j : S1024x8.Idx) :
    scatter_S1024x128_S1_S1024x8_01_n_1_0.resultIdx? j corner
      = some (ix2 (j 0) (lane (j 1))) := by
  have hs : ∀ a, scatter_S1024x128_S1_S1024x8_01_n_1_0.start j corner a = 0 := by
    intro a
    unfold ScatterDims.start
    split <;> rfl
  have hw0 : scatter_S1024x128_S1_S1024x8_01_n_1_0.window j 0 = (j 0).val := rfl
  have hw1 : scatter_S1024x128_S1_S1024x8_01_n_1_0.window j 1 = (j 1).val := rfl
  have hj0 : (j 0).val < 1024 := (j 0).isLt
  have hj1 : (j 1).val < 8 := (j 1).isLt
  unfold ScatterDims.resultIdx?
  rw [dif_pos]
  · refine congrArg some (funext fun a => Fin.ext ?_)
    match a with
    | ⟨0, _⟩ =>
      show (scatter_S1024x128_S1_S1024x8_01_n_1_0.start j corner 0 + (scatter_S1024x128_S1_S1024x8_01_n_1_0.window j 0 : ℕ)).toNat = (j 0).val
      rw [hs 0, hw0]; omega
    | ⟨1, _⟩ =>
      show (scatter_S1024x128_S1_S1024x8_01_n_1_0.start j corner 1 + (scatter_S1024x128_S1_S1024x8_01_n_1_0.window j 1 : ℕ)).toNat = (j 1).val
      rw [hs 1, hw1]; omega
  · intro a
    match a with
    | ⟨0, _⟩ =>
      show 0 ≤ scatter_S1024x128_S1_S1024x8_01_n_1_0.start j corner 0 + ((scatter_S1024x128_S1_S1024x8_01_n_1_0.window j 0 : ℕ) : ℤ)
        ∧ scatter_S1024x128_S1_S1024x8_01_n_1_0.start j corner 0 + ((scatter_S1024x128_S1_S1024x8_01_n_1_0.window j 0 : ℕ) : ℤ) < ((1024 : ℕ) : ℤ)
      rw [hs 0, hw0]; omega
    | ⟨1, _⟩ =>
      show 0 ≤ scatter_S1024x128_S1_S1024x8_01_n_1_0.start j corner 1 + ((scatter_S1024x128_S1_S1024x8_01_n_1_0.window j 1 : ℕ) : ℤ)
        ∧ scatter_S1024x128_S1_S1024x8_01_n_1_0.start j corner 1 + ((scatter_S1024x128_S1_S1024x8_01_n_1_0.window j 1 : ℕ) : ℤ) < ((128 : ℕ) : ℤ)
      rw [hs 1, hw1]; omega

/-- Writes one after another, each at a place of its own: places that no write of the list names keep their value. -/
theorem writes_miss {ι β α : Type} [DecidableEq β] (φ : ι → β) (v : ι → α) (b : β) :
    ∀ (l : List ι) (x : β → α), (∀ n ∈ l, φ n ≠ b) → l.foldl (fun r n => fun b' => if b' = φ n then v n else r b') x b = x b
  | [], _, _ => rfl
  | n :: l, x, h => by
    rw [List.foldl_cons, writes_miss φ v b l _ fun n' hn' => h n' (List.mem_cons_of_mem _ hn')]
    exact if_neg fun e => h n List.mem_cons_self e.symm

/-- And the place of a write holds that write's value. -/
theorem writes_hit {ι β α : Type} [DecidableEq β] (φ : ι → β) (hφ : Function.Injective φ) (v : ι → α) (n : ι) :
    ∀ (l : List ι) (x : β → α), l.Nodup → n ∈ l → l.foldl (fun r n => fun b' => if b' = φ n then v n else r b') x (φ n) = v n
  | [], _, _, h => absurd h List.not_mem_nil
  | n' :: l, x, hd, h => by
    rw [List.nodup_cons] at hd
    rw [List.foldl_cons]
    by_cases hn : n ∈ l
    · exact writes_hit φ hφ v n l _ hd.2 hn
    · have e : n = n' := (List.mem_cons.mp h).resolve_right hn
      subst e
      rw [writes_miss φ v (φ n) l _ fun a ha hh => hn (hφ hh ▸ ha)]
      exact if_pos rfl

/-- An update written over an array, every entry of it at a place of its own: the place reads the entry. -/
theorem scatter_hit {s si u : Shape} {α : Type} {w : Nat} (d : ScatterDims s si u) (x : s.Idx → α) (idx : IVec si w)
    (upd : u.Idx → α) (φ : u.Idx → s.Idx) (hφ : Function.Injective φ) (hl : ∀ j, d.resultIdx? j idx = some (φ j)) (j : u.Idx) :
    Host.scatter d (fun _ b => b) x idx upd (φ j) = upd j := by
  unfold Host.scatter
  simp only [hl]
  have h := writes_hit (fun n : Fin u.numel => φ (u.rowMajor.symm n)) (hφ.comp u.rowMajor.symm.injective)
    (fun n => upd (u.rowMajor.symm n)) (u.rowMajor j) (List.finRange u.numel) x (List.nodup_finRange _) (List.mem_finRange _)
  simp only [Equiv.symm_apply_apply] at h
  exact h

/-- The padded router's first eight columns are the router's. -/
theorem router_at (c : Dev nD) (k : Fin 1024) (e : Fin 8) :
    V (F := Ideal) m c main_v2 (ix2 k (lane e)) = m ((c : Thread nD τ).loc main_arg2) (ix2 k e) := by
  rw [router_eq]
  refine scatter_hit scatter_S1024x128_S1_S1024x8_01_n_1_0 _ corner _ (fun j => ix2 (j 0) (lane (j 1))) (fun a b hab => ?_) lands (ix2 k e)
  have h0 : a 0 = b 0 := congrFun hab 0
  have h1 : lane (a 1) = lane (b 1) := congrFun hab 1
  funext z
  match z with
  | ⟨0, _⟩ => exact h0
  | ⟨1, _⟩ => exact lane_inj.mp h1

/-- The scale's one row. -/
theorem scale_at (c : Dev nD) (k : Fin 1024) :
    V (F := Ideal) m c main_v3 (ix2 0 k) = m ((c : Thread nD τ).loc main_arg1) (ix1 k) := by
  rw [scale_eq]
  generalize m ((c : Thread nD τ).loc main_arg1) = g
  pointwise
end Cert.KernelIdeal.Prelude
end
-- ==== Proof.KernelBlocks.lean ====
module

public import proofs.«01_k».proof.Proof.Prelude

@[expose] public section
noncomputable section

/-!
Which part of each array a grid step reads. Step `t` is for row block `t / 112`, expert `t % 112 / 14` and tile
`t % 14` of the 3584 hidden units.
-/

namespace Cert.KernelIdeal.KernelBlocks

open Cert.KernelIdeal Cert.KernelIdeal.Gen Idealize.ShloMosaic Idealize.ShloMosaic.TcCoe Cert.Routing

/-- The row of the whole array that a step's row `r` is. -/
def rowAt (n : ℕ) (hn : n < 1792) (r : Fin 1024) : Fin 16384 := ⟨1024 * (n / 112) + r.val, by omega⟩

/-- The expert of a step. -/
def expertAt (n : ℕ) : Fin 8 := ⟨n % 112 / 14, by omega⟩

/-- The hidden unit that a step's unit `k` is. -/
def unitAt (n : ℕ) (k : Fin 256) : Fin 3584 := ⟨n % 14 * 256 + k.val, by omega⟩

/-- There are 1792 steps. -/
theorem lt_steps (t : Fin cfg0.N) : t.val < 1792 := lt_of_lt_of_eq t.isLt N_0

/-- The tokens' block of a step. -/
theorem index0 : ∀ t : Fin grid0.N, win0_0.index t 0 = t.val / 112 ∧ win0_0.index t 1 = 0 := by decide +kernel
/-- The norm's scale is one block. -/
theorem index1 : ∀ t : Fin grid0.N, win0_1.index t 0 = 0 ∧ win0_1.index t 1 = 0 := by decide +kernel
/-- The router is one block. -/
theorem index2 : ∀ t : Fin grid0.N, win0_2.index t 0 = 0 ∧ win0_2.index t 1 = 0 := by decide +kernel
/-- The gate weights' block of a step: its expert and its tile. -/
theorem index3 : ∀ t : Fin grid0.N, win0_3.index t 0 = t.val % 112 / 14 ∧ win0_3.index t 1 = 0 ∧ win0_3.index t 2 = t.val % 14 := by
  decide +kernel
/-- The up weights' block of a step. -/
theorem index4 : ∀ t : Fin grid0.N, win0_4.index t 0 = t.val % 112 / 14 ∧ win0_4.index t 1 = 0 ∧ win0_4.index t 2 = t.val % 14 := by
  decide +kernel
/-- The down weights' block of a step. -/
theorem index5 : ∀ t : Fin grid0.N, win0_5.index t 0 = t.val % 112 / 14 ∧ win0_5.index t 1 = t.val % 14 ∧ win0_5.index t 2 = 0 := by
  decide +kernel
/-- The expert a step is for. -/
theorem coord1 : ∀ t : Fin grid0.N, (grid0.coords t 1).val = t.val % 112 / 14 := by decide +kernel

variable (m : (ℓ : Loc nD τ sig) → Buf (Elt Ideal) ℓ) (c : Dev nD) (t : Fin cfg0.N)

/-- The step's rows of the tokens. -/
theorem tokens (r l : Fin 1024) : (iblk m c 0 t : Vec Ideal S1024x1024 .f32) (ix2 r l)
    = m ((c : Thread nD τ).loc main_arg0) (ix2 (rowAt t.val (lt_steps t) r) l) := by
  have hi := index0 t
  unfold iblk
  rw [View.read_apply]
  show V m c main_arg0 _ = _
  rw [V_main_arg0]
  congr 1
  funext a
  apply Fin.ext
  match a with
  | ⟨0, _⟩ =>
    show win0_0.index t 0 * 1024 + 1 * r.val = 1024 * (t.val / 112) + r.val
    rw [hi.1]; omega
  | ⟨1, _⟩ =>
    show win0_0.index t 1 * 1024 + 1 * l.val = l.val
    rw [hi.2]; omega

/-- The norm's scale. -/
theorem scale (l : Fin 1024) : (iblk m c 1 t : Vec Ideal S1x1024 .f32) (ix2 0 l)
    = m ((c : Thread nD τ).loc main_arg1) (ix1 l) := by
  have hi := index1 t
  refine Eq.trans ?_ (Prelude.scale_at m c l)
  unfold iblk
  rw [View.read_apply]
  show V m c main_v3 _ = _
  congr 1
  funext a
  apply Fin.ext
  match a with
  | ⟨0, _⟩ =>
    show win0_1.index t 0 * 1 + 1 * 0 = 0
    rw [hi.1]
  | ⟨1, _⟩ =>
    show win0_1.index t 1 * 1024 + 1 * l.val = l.val
    rw [hi.2]; omega

/-- The router's column of an expert. -/
theorem router (k : Fin 1024) (e : Fin 8) : (iblk m c 2 t : Vec Ideal S1024x128 .f32) (ix2 k (lane e))
    = m ((c : Thread nD τ).loc main_arg2) (ix2 k e) := by
  have hi := index2 t
  refine Eq.trans ?_ (Prelude.router_at m c k e)
  unfold iblk
  rw [View.read_apply]
  show V m c main_v2 _ = _
  congr 1
  funext a
  apply Fin.ext
  match a with
  | ⟨0, _⟩ =>
    show win0_2.index t 0 * 1024 + 1 * k.val = k.val
    rw [hi.1]; omega
  | ⟨1, _⟩ =>
    show win0_2.index t 1 * 128 + 1 * e.val = e.val
    rw [hi.2]; omega

/-- The step's columns of the expert's gate weights. -/
theorem gates (y : Fin 1024) (k : Fin 256) : (iblk m c 3 t : Vec Ideal S1x1024x256 .f32) (ix3 0 y k)
    = m ((c : Thread nD τ).loc main_arg3) (ix3 (expertAt t.val) y (unitAt t.val k)) := by
  have hi := index3 t
  unfold iblk
  rw [View.read_apply]
  show V m c main_arg3 _ = _
  rw [V_main_arg3]
  congr 1
  funext a
  apply Fin.ext
  match a with
  | ⟨0, _⟩ =>
    show win0_3.index t 0 * 1 + 1 * 0 = t.val % 112 / 14
    rw [hi.1]; omega
  | ⟨1, _⟩ =>
    show win0_3.index t 1 * 1024 + 1 * y.val = y.val
    rw [hi.2.1]; omega
  | ⟨2, _⟩ =>
    show win0_3.index t 2 * 256 + 1 * k.val = t.val % 14 * 256 + k.val
    rw [hi.2.2]; omega

/-- The step's columns of the expert's other weights. -/
theorem ups (y : Fin 1024) (k : Fin 256) : (iblk m c 4 t : Vec Ideal S1x1024x256 .f32) (ix3 0 y k)
    = m ((c : Thread nD τ).loc main_arg4) (ix3 (expertAt t.val) y (unitAt t.val k)) := by
  have hi := index4 t
  unfold iblk
  rw [View.read_apply]
  show V m c main_arg4 _ = _
  rw [V_main_arg4]
  congr 1
  funext a
  apply Fin.ext
  match a with
  | ⟨0, _⟩ =>
    show win0_4.index t 0 * 1 + 1 * 0 = t.val % 112 / 14
    rw [hi.1]; omega
  | ⟨1, _⟩ =>
    show win0_4.index t 1 * 1024 + 1 * y.val = y.val
    rw [hi.2.1]; omega
  | ⟨2, _⟩ =>
    show win0_4.index t 2 * 256 + 1 * k.val = t.val % 14 * 256 + k.val
    rw [hi.2.2]; omega

/-- The step's rows of the expert's output weights. -/
theorem downs (k : Fin 256) (l : Fin 1024) : (iblk m c 5 t : Vec Ideal S1x256x1024 .f32) (ix3 0 k l)
    = m ((c : Thread nD τ).loc main_arg5) (ix3 (expertAt t.val) (unitAt t.val k) l) := by
  have hi := index5 t
  unfold iblk
  rw [View.read_apply]
  show V m c main_arg5 _ = _
  rw [V_main_arg5]
  congr 1
  funext a
  apply Fin.ext
  match a with
  | ⟨0, _⟩ =>
    show win0_5.index t 0 * 1 + 1 * 0 = t.val % 112 / 14
    rw [hi.1]; omega
  | ⟨1, _⟩ =>
    show win0_5.index t 1 * 256 + 1 * k.val = t.val % 14 * 256 + k.val
    rw [hi.2.1]; omega
  | ⟨2, _⟩ =>
    show win0_5.index t 2 * 1024 + 1 * l.val = l.val
    rw [hi.2.2]; omega

end Cert.KernelIdeal.KernelBlocks
end
-- ==== Proof.KernelArray.lean ====
module

public import proofs.«01_k».proof.Proof.KernelRows
public import proofs.«01_k».proof.Proof.KernelBlocks
public import Idealize.ShloMosaic.Lib.Pointwise

@[expose] public section
noncomputable section

/-!
What the kernel leaves in its result: for each token its row plus, expert by expert and tile by tile, the hidden
units weighted by the gate and multiplied by the output weights.
-/

namespace Cert.KernelIdeal.KernelArray

open Cert.KernelIdeal Cert.KernelIdeal.Gen Cert.KernelIdeal.Blocks Cert.KernelIdeal.KernelRows Cert.KernelIdeal.KernelBlocks
open Idealize.ShloMosaic Idealize.ShloMosaic.TcCoe Cert.Routing Cert.Rows

variable (m : (ℓ : Loc nD τ sig) → Buf (Elt Ideal) ℓ) (c : Dev nD)

/-- A token's own number in column `l`. -/
abbrev token (R : Fin 16384) (l : Fin 1024) : EReal := m ((c : Thread nD τ).loc main_arg0) (ix2 R l)

/-- A token's normed row. -/
abbrev tokenNorm (R : Fin 16384) : Fin 1024 → EReal :=
  norm (fun k => m ((c : Thread nD τ).loc main_arg0) (ix2 R k)) (fun k => m ((c : Thread nD τ).loc main_arg1) (ix1 k))

/-- A token's eight scores. -/
abbrev tokenScore (R : Fin 16384) : Fin 8 → EReal :=
  score (fun k => m ((c : Thread nD τ).loc main_arg0) (ix2 R k)) (fun k => m ((c : Thread nD τ).loc main_arg1) (ix1 k))
    (fun k e => m ((c : Thread nD τ).loc main_arg2) (ix2 k e))

/-- A token's hidden unit `j` at expert `e`. -/
abbrev tokenUnit (R : Fin 16384) (e : Fin 8) (j : Fin 3584) : EReal :=
  hiddenUnit (tokenNorm m c R) (fun y => m ((c : Thread nD τ).loc main_arg3) (ix3 e y j))
    (fun y => m ((c : Thread nD τ).loc main_arg4) (ix3 e y j))

variable (P Q : Fin 16384 → Fin 8)

/-- What one unit adds to the token's column `l`. -/
abbrev term (R : Fin 16384) (l : Fin 1024) (e : Fin 8) (j : Fin 3584) : EReal :=
  tokenUnit m c R e j * gate (tokenScore m c R) (P R) (Q R) e * m ((c : Thread nD τ).loc main_arg5) (ix3 e j l)

/-- What the `s`-th step of a row block adds. -/
def part (R : Fin 16384) (l : Fin 1024) (s : ℕ) : EReal :=
  ∑ k : Fin 256, term m c P Q R l (expertAt s) (unitAt s k)

/-- What is kept after step `n`: the block's normed rows, its gates, and what its steps so far have added. -/
structure Kept (n : ℕ) (hn : n < 1792) (s0 : Vec Ideal S1024x1024 .bf16) (s1 : Vec Ideal S1024x128 .f32)
    (s2 : Vec Ideal S1024x1024 .f32) : Prop where
  rows : ∀ r l : Fin 1024, s0 (ix2 r l) = tokenNorm m c (rowAt n hn r) l
  gates : ∀ (r : Fin 1024) (e : Fin 8),
    s1 (ix2 r (lane e)) = gate (tokenScore m c (rowAt n hn r)) (P (rowAt n hn r)) (Q (rowAt n hn r)) e
  acc : ∀ r l : Fin 1024, s2 (ix2 r l) = ∑ s ∈ Finset.range (n % 112 + 1), part m c P Q (rowAt n hn r) l s

variable (hTop : ∀ R, Top2 (tokenScore m c R) (P R) (Q R)) (hq : ∀ R, tokenScore m c R (Q R) ≠ ⊥)

/-- One step's addition, in the arrays' own terms. -/
theorem step_at (t : Fin cfg0.N) (s0 : Vec Ideal S1024x1024 .bf16) (s1 : Vec Ideal S1024x128 .f32) (s2 : Vec Ideal S1024x1024 .f32)
    (h0 : ∀ r l : Fin 1024, s0 (ix2 r l) = tokenNorm m c (rowAt t.val (lt_steps t) r) l)
    (h1 : ∀ (r : Fin 1024) (e : Fin 8), s1 (ix2 r (lane e))
      = gate (tokenScore m c (rowAt t.val (lt_steps t) r)) (P (rowAt t.val (lt_steps t) r)) (Q (rowAt t.val (lt_steps t) r)) e)
    (r l : Fin 1024) :
    step (F := Ideal) (grid0.coords t) (iblk m c 3 t) (iblk m c 4 t) (iblk m c 5 t) s0 s1 s2 (ix2 r l)
      = s2 (ix2 r l) + part m c P Q (rowAt t.val (lt_steps t) r) l (t.val % 112) := by
  rw [addition (grid0.coords t) (expertAt t.val) (coord1 t)]
  refine congrArg (fun z => s2 (ix2 r l) + z) ?_
  unfold part
  refine Finset.sum_congr rfl fun k _ => ?_
  have he : expertAt (t.val % 112) = expertAt t.val := Fin.ext (by unfold expertAt; simp)
  have hu : unitAt (t.val % 112) k = unitAt t.val k := Fin.ext (by
    unfold unitAt
    show t.val % 112 % 14 * 256 + k.val = t.val % 14 * 256 + k.val
    omega)
  have ea : (fun y => s0 (ix2 r y)) = tokenNorm m c (rowAt t.val (lt_steps t) r) := funext fun y => h0 r y
  rw [he, hu, h1, ea]
  unfold term tokenUnit
  rw [← downs m c t k l]
  congr 3
  · exact funext fun y => gates m c t y k
  · exact funext fun y => ups m c t y k

/-- The scores of a row of the step's block are the token's. -/
theorem scores_at (t : Fin cfg0.N) (r : Fin 1024) :
    scores (iblk m c 0 t) (iblk m c 1 t) (iblk m c 2 t) r = tokenScore m c (rowAt t.val (lt_steps t) r) := by
  have h0 : (fun k => (iblk m c 0 t : Vec Ideal S1024x1024 .f32) (ix2 r k)) = _ := funext fun k => tokens m c t r k
  have h1 : (fun k => (iblk m c 1 t : Vec Ideal S1x1024 .f32) (ix2 0 k)) = _ := funext fun k => scale m c t k
  have h2 : (fun k e => (iblk m c 2 t : Vec Ideal S1024x128 .f32) (ix2 k (lane e))) = _ :=
    funext fun k => funext fun e => router m c t k e
  unfold scores
  rw [h0, h1, h2]

/-- The normed rows of the step's block are the tokens'. -/
theorem rows_at (t : Fin cfg0.N) (r l : Fin 1024) :
    k0_pay4 (F := Ideal) (iblk m c 0 t) (iblk m c 1 t) (ix2 r l) = tokenNorm m c (rowAt t.val (lt_steps t) r) l := by
  have h0 : (fun k => (iblk m c 0 t : Vec Ideal S1024x1024 .f32) (ix2 r k)) = _ := funext fun k => tokens m c t r k
  have h1 : (fun k => (iblk m c 1 t : Vec Ideal S1x1024 .f32) (ix2 0 k)) = _ := funext fun k => scale m c t k
  rw [KernelRows.rows, h0, h1]

include hTop hq

/-- The weight kept for expert `e` in a row of the step's block is the token's gate. -/
theorem weights_at (t : Fin cfg0.N) (r : Fin 1024) (e : Fin 8) :
    weights (F := Ideal) (iblk m c 0 t) (iblk m c 1 t) (iblk m c 2 t) (ix2 r (lane e))
      = gate (tokenScore m c (rowAt t.val (lt_steps t) r)) (P (rowAt t.val (lt_steps t) r)) (Q (rowAt t.val (lt_steps t) r)) e := by
  have hs := scores_at m c t r
  have h : Top2 (scores (iblk m c 0 t) (iblk m c 1 t) (iblk m c 2 t) r) (P (rowAt t.val (lt_steps t) r)) (Q (rowAt t.val (lt_steps t) r)) := by
    rw [hs]; exact hTop _
  rw [KernelRows.weight h (by rw [hs]; exact hq _) e, hs]

/-- After the first step of a row block. -/
theorem kept_first (t : Fin cfg0.N) (h0 : t.val % 112 = 0) : Kept m c P Q t.val (lt_steps t) (outsAt0 m c t.val t.isLt).2.1
    (outsAt0 m c t.val t.isLt).2.2.1 (outsAt0 m c t.val t.isLt).2.2.2 := by
  rw [outsAt0_A m c t h0 (by omega)]
  dsimp only
  rw [first_rows, first_weights, first_acc]
  refine ⟨rows_at m c t, weights_at m c P Q hTop hq t, fun r l => ?_⟩
  rw [step_at m c P Q t _ _ _ (rows_at m c t) (weights_at m c P Q hTop hq t), start, zero_add, h0]
  exact (Finset.sum_range_one _).symm

omit hTop hq in
/-- A later step of a row block keeps the rows and gates and adds its part. -/
theorem kept_later (t : Fin cfg0.N) (h0 : ¬ t.val % 112 = 0) (s0 : Vec Ideal S1024x1024 .bf16) (s1 : Vec Ideal S1024x128 .f32)
    (s2 : Vec Ideal S1024x1024 .f32) (h : Kept m c P Q (t.val - 1) (by have := lt_steps t; omega) s0 s1 s2) :
    Kept m c P Q t.val (lt_steps t) s0 s1 (step (F := Ideal) (grid0.coords t) (iblk m c 3 t) (iblk m c 4 t) (iblk m c 5 t) s0 s1 s2) := by
  have hr : ∀ r, rowAt (t.val - 1) (by have := lt_steps t; omega) r = rowAt t.val (lt_steps t) r := fun r => Fin.ext (by
    show 1024 * ((t.val - 1) / 112) + r.val = 1024 * (t.val / 112) + r.val
    omega)
  obtain ⟨a, b, d⟩ := h
  simp only [hr] at a b d
  refine ⟨a, b, fun r l => ?_⟩
  rw [step_at m c P Q t s0 s1 s2 a b, d, Finset.sum_range_succ _ (t.val % 112)]
  have e : (t.val - 1) % 112 + 1 = t.val % 112 := by omega
  rw [e]

/-- What is kept after each step. -/
theorem kept (n : ℕ) : ∀ hn : n < cfg0.N, Kept m c P Q n (lt_of_lt_of_eq hn N_0) (outsAt0 m c n hn).2.1 (outsAt0 m c n hn).2.2.1
    (outsAt0 m c n hn).2.2.2 := by
  induction n with
  | zero => exact fun hn => kept_first m c P Q hTop hq ⟨0, hn⟩ rfl
  | succ n ih =>
    intro hn
    by_cases h0 : (n + 1) % 112 = 0
    · exact kept_first m c P Q hTop hq ⟨n + 1, hn⟩ h0
    · have hk := kept_later m c P Q ⟨n + 1, hn⟩ h0 _ _ _ (ih (Nat.lt_of_succ_lt hn))
      by_cases h1 : (n + 1) % 112 = 111
      · have e := outsAt0_C m c ⟨n + 1, hn⟩ h0 h1
        dsimp only at e
        rw [e]
        dsimp only
        rw [last_acc]
        exact hk
      · have e := outsAt0_B m c ⟨n + 1, hn⟩ h0 h1
        dsimp only at e
        rw [e]
        dsimp only
        rw [mid_acc]
        exact hk

/-- The last step of a row block writes the rows with all that was added to them. -/
theorem written (t : Fin cfg0.N) (h1 : t.val % 112 = 111) (r l : Fin 1024) :
    (outsAt0 m c t.val t.isLt).1 (ix2 r l) = token m c (rowAt t.val (lt_steps t) r) l
      + ∑ s ∈ Finset.range 112, part m c P Q (rowAt t.val (lt_steps t) r) l s := by
  have h0 : ¬ t.val % 112 = 0 := by omega
  have hk := kept m c P Q hTop hq (t.val - 1) (by have := t.isLt; omega)
  have hl := kept_later m c P Q t h0 _ _ _ hk
  rw [outsAt0_C m c t h0 h1]
  dsimp only
  rw [last_out, result, hl.acc, h1]
  exact congrArg (fun z => z + _) (tokens m c t r l)

omit hTop hq in
/-- The steps' parts are the whole sum over experts and hidden units. -/
theorem parts_sum (R : Fin 16384) (l : Fin 1024) :
    ∑ s ∈ Finset.range 112, part m c P Q R l s = ∑ e : Fin 8, ∑ j : Fin 3584, term m c P Q R l e j := by
  rw [Finset.sum_range, Fin.sum_univ_tiles 8 14 rfl]
  refine Finset.sum_congr rfl fun e _ => ?_
  rw [Fin.sum_univ_tiles 14 256 rfl (fun j => term m c P Q R l e j)]
  refine Finset.sum_congr rfl fun f _ => ?_
  unfold part
  refine Finset.sum_congr rfl fun k _ => ?_
  have hf := f.isLt
  have he := e.isLt
  have h1 : expertAt (e.val * 14 + f.val) = e := Fin.ext (by
    show (e.val * 14 + f.val) % 112 / 14 = e.val
    omega)
  have h2 : unitAt (e.val * 14 + f.val) k = ⟨f.val * 256 + k.val, by omega⟩ := Fin.ext (by
    show (e.val * 14 + f.val) % 14 * 256 + k.val = f.val * 256 + k.val
    omega)
  show term m c P Q R l (expertAt (e.val * 14 + f.val)) (unitAt (e.val * 14 + f.val) k) = _
  rw [h1, h2]

/-- The kernel's result at token `R`, column `l`. -/
theorem array (R : Fin 16384) (l : Fin 1024) : Value.G6 (F := Ideal) m c (ix2 R l)
    = token m c R l + ∑ e : Fin 8, ∑ j : Fin 3584, term m c P Q R l e j := by
  have hR := R.isLt
  have hl := l.isLt
  have hrun : Value.run6Of (ix2 R l) = R.val / 1024 := by
    show 1 * (R.val / 1024 - 0) + 1 * (l.val / 1024 - 0) = R.val / 1024
    omega
  have hpt : Value.pt6Of (ix2 R l) = 112 * (R.val / 1024) + 111 := by
    show 112 * Value.run6Of (ix2 R l) + 111 = _
    rw [hrun]
  have hlt : Value.pt6Of (ix2 R l) < cfg0.N := by
    rw [hpt]
    show _ < grid0.N
    rw [N_0]
    omega
  have hloc : Value.loc6Of (ix2 R l) = ix2 ⟨R.val % 1024, by omega⟩ l := by
    funext a
    apply Fin.ext
    match a with
    | ⟨0, _⟩ => rfl
    | ⟨1, _⟩ => exact Nat.mod_eq_of_lt hl
  have hrow : rowAt (Value.pt6Of (ix2 R l)) (lt_of_lt_of_eq hlt N_0) ⟨R.val % 1024, by omega⟩ = R := Fin.ext (by
    show 1024 * (Value.pt6Of (ix2 R l) / 112) + R.val % 1024 = R.val
    rw [hpt]
    omega)
  unfold Value.G6
  rw [dif_pos hlt, ← Value.outsAt0_sweep m c _ hlt, hloc]
  rw [written m c P Q hTop hq ⟨Value.pt6Of (ix2 R l), hlt⟩ (by show Value.pt6Of (ix2 R l) % 112 = 111; rw [hpt]; omega), hrow,
    parts_sum]

end Cert.KernelIdeal.KernelArray
end
-- ==== Proof.ReferenceRouting.lean ====
module

public import proofs.«01_k».proof.Proof.Gen.ReferenceIdeal.Read
public import proofs.«01_k».proof.Proof.Rows

@[expose] public section
noncomputable section

/-!
The reference's routing, read at one token: its normed row, its eight scores, the two experts it picks, and what each
expert then counts for.
-/

namespace Cert.ReferenceIdeal.ReferenceRouting

open Cert.ReferenceIdeal Cert.ReferenceIdeal.Gen Cert.ReferenceIdeal.Read
open Idealize.ShloMosaic Cert.Routing Cert.Rows

variable (x0 : FVec Ideal S16384x1024 .f32) (x1 : FVec Ideal S1024 .f32) (x2 : FVec Ideal S1024x8 .f32)

/-- A token's normed row, from the tokens and the norm's scale. -/
abbrev rowNorm (R : Fin 16384) : Fin 1024 → EReal := norm (fun k => x0 (ix2 R k)) (fun k => x1 (ix1 k))

/-- A token's eight scores, from the tokens, the norm's scale and the router. -/
abbrev rowScore (R : Fin 16384) : Fin 8 → EReal :=
  score (fun k => x0 (ix2 R k)) (fun k => x1 (ix1 k)) (fun k e => x2 (ix2 k e))

/-- The place the stable sort by decreasing score puts first (`0`) and second (`1`). -/
def chosen (L : Fin 8 → EReal) (k : Fin 8) : Fin 8 := sortedFrom (fun a b => decide (L b < L a)) k

/-- The two places are the two experts. -/
theorem chosen_top2 (L : Fin 8 → EReal) : Top2 L (chosen L 0) (chosen L 1) := top2_sorted L _ fun _ _ => rfl

/-- The reference's normed rows. -/
theorem normed (R : Fin 16384) (d : Fin 1024) : val_main_v12 (F := Ideal) x0 x1 (ix2 R d) = rowNorm x0 x1 R d := by
  have e9 : idx_main_v1 (ix1 R) = fun k => ix2 R k := by
    funext k a; match a with | ⟨0, _⟩ => rfl | ⟨1, _⟩ => rfl
  have hz : Ideal.ofBits .f32 0#32 = 0 := by simp [Ideal.ofBits, Ideal.ieee]
  rw [val_main_v12_apply, val_main_v9_apply, val_main_v8_apply, val_main_v7_apply, val_main_v6_apply, val_main_v4_apply,
    val_main_v2_apply, val_main_v3_apply, val_main_v5_apply, val_main_v11_apply, val_main_v10_apply,
    show idx_main_v2 (idx_main_v8 (ix2 R d)) = ix1 R from eq_ix1 _, val_main_v1_apply, e9,
    show idx_main_v10 (idx_main_v11 (ix2 R d)) = ix1 d from eq_ix1 _]
  simp only [val_main_v0_apply, val_main_cst_apply, val_main_cst_0_apply, val_main_cst_1_apply]
  show x0 (ix2 R d) * Ideal.rsqrt (Ideal.div (Ideal.ofBits .f32 0#32 + ∑ k : Fin 1024, x0 (ix2 R k) * x0 (ix2 R k)) width + eps) * x1 (ix1 d) = _
  rw [hz, zero_add]
  rfl

/-- The reference's scores. -/
theorem scored (R : Fin 16384) (e : Fin 8) : val_main_v13 (F := Ideal) x0 x1 x2 (ix2 R e) = rowScore x0 x1 x2 R e := by
  rw [val_main_v13_apply]
  refine Finset.sum_congr rfl fun k _ => ?_
  rw [show lidx_main_v13 (ix2 R e) k = ix2 R k from eq_ix2 _, show ridx_main_v13 (ix2 R e) k = ix2 k e from eq_ix2 _, normed]

/-- One of the first two places of a row of eight. -/
abbrev early (k : Fin 2) : Fin 8 := ⟨k.val, by omega⟩

/-- Moving along a row of eight changes the column. -/
theorem along_row (R : Fin 16384) (k z : Fin 8) : Shape.Idx.along (s := S16384x8) (ix2 R k) 1 z = ix2 R z := by
  refine (eq_ix2 _).trans ?_
  congr 1

/-- The sort's order, as a truth value. -/
theorem greater_word (a b : EReal) : (FloatOps.cmpfTotal (F := Ideal) (φ := .f32) .gt a b == 1#1) = decide (b < a) := by
  rw [Ideal.cmpfTotal_def]
  by_cases h : b < a <;> simp [Ideal.cmp, CmpDirection.ordered, h]

/-- The place a row's sort puts at `k`. -/
theorem chosen_row (y : FVec Ideal S16384x8 .f32) (R : Fin 16384) (k : Fin 8) :
    sortedFrom (fun a b : Fin 8 => FloatOps.cmpfTotal (F := Ideal) (φ := .f32) .gt (y (Shape.Idx.along (s := S16384x8) (ix2 R k) 1 a))
      (y (Shape.Idx.along (s := S16384x8) (ix2 R k) 1 b)) == 1#1) k = chosen (fun e => y (ix2 R e)) k := by
  unfold chosen
  refine congrArg (fun b => sortedFrom b k) (funext fun a => funext fun b => ?_)
  rw [along_row, along_row]
  exact greater_word _ _

/-- The values the reference keeps of a row are the scores at the chosen places. -/
theorem topK_value (y : FVec Ideal S16384x8 .f32) (R : Fin 16384) (k : Fin 2) :
    (Host.topK S16384x2 1 (FloatOps.cmpfTotal .gt) y sliceFits_S16384x8_S16384x2).1 (ix2 R k)
      = y (ix2 R (chosen (fun e => y (ix2 R e)) (early k))) := by
  unfold Host.topK
  dsimp only
  refine (extractStridedSlice_apply _ _ _ _ (ix2 R (early k)) (fun a => ?_)).trans ?_
  · match a with | ⟨0, _⟩ => exact (Nat.zero_add _).symm | ⟨1, _⟩ => exact (Nat.zero_add _).symm
  exact (congrArg y (along_row R (early k) _)).trans (congrArg (fun z => y (ix2 R z)) (chosen_row y R (early k)))

/-- The indices the reference keeps of a row are the chosen places. -/
theorem topK_index (y : FVec Ideal S16384x8 .f32) (R : Fin 16384) (k : Fin 2) :
    (Host.topK S16384x2 1 (FloatOps.cmpfTotal .gt) y sliceFits_S16384x8_S16384x2).2 (ix2 R k)
      = BitVec.ofNat 32 (chosen (fun e => y (ix2 R e)) (early k)).val := by
  unfold Host.topK
  dsimp only
  refine (extractStridedSlice_apply _ _ _ _ (ix2 R (early k)) (fun a => ?_)).trans ?_
  · match a with | ⟨0, _⟩ => exact (Nat.zero_add _).symm | ⟨1, _⟩ => exact (Nat.zero_add _).symm
  exact (congrArg (fun i : S16384x8.Idx => BitVec.ofNat 32 (i 1).val) (along_row R (early k) _)).trans
    (congrArg (fun z : Fin 8 => BitVec.ofNat 32 z.val) (chosen_row y R (early k)))

/-- The kept scores. -/
theorem value (R : Fin 16384) (k : Fin 2) : val_main_values (F := Ideal) x0 x1 x2 (ix2 R k)
    = rowScore x0 x1 x2 R (chosen (rowScore x0 x1 x2 R) (early k)) := by
  unfold val_main_values
  rw [topK_value]
  simp only [scored]

/-- The kept places. -/
theorem index (R : Fin 16384) (k : Fin 2) : val_main_indices (F := Ideal) x0 x1 x2 (ix2 R k)
    = BitVec.ofNat 32 (chosen (rowScore x0 x1 x2 R) (early k)).val := by
  unfold val_main_indices
  rw [topK_index]
  simp only [scored]

/-- The greatest of two numbers. -/
theorem pair_max (f : Fin 2 → EReal) : (Finset.univ : Finset (Fin 2)).fold max ⊥ f = max (f 0) (f 1) := by
  rw [show (Finset.univ : Finset (Fin 2)) = insert 0 {1} from by decide, Finset.fold_insert (by decide), Finset.fold_singleton]
  simp

/-- The greater of the two kept scores is the first. -/
theorem greatest (R : Fin 16384) : val_main_v16 (F := Ideal) x0 x1 x2 (ix1 R)
    = rowScore x0 x1 x2 R (chosen (rowScore x0 x1 x2 R) 0) := by
  have hle := (chosen_top2 (rowScore x0 x1 x2 R)).first (chosen (rowScore x0 x1 x2 R) 1)
  have hl : ∀ k : Fin 2, Shape.Reduces.lift (s := S16384x2) (t := S16384) (a := 1) (by decide) (ix1 R) k = ix2 R k := by
    intro k; refine (eq_ix2 _).trans ?_; congr 1
  rw [val_main_v16_apply, val_main_v15_apply]
  unfold val_main_v14
  rw [Host.reduce_eq_fold_single FloatOps.maximumf _ _ reducesTo_S16384x2_S16384_d1 (by decide) h_S_ (ix1 R)]
  refine Eq.trans (b := max ⊥ ((Finset.univ : Finset (Fin 2)).fold max ⊥
    fun k => rowScore x0 x1 x2 R (chosen (rowScore x0 x1 x2 R) (early k)))) ?_ ?_
  · rw [← neg_inf_bits]
    refine congrArg (fun f => max (Ideal.ofBits .f32 4286578688#32)
      ((Finset.univ : Finset (Fin 2)).fold max (Ideal.ofBits .f32 4286578688#32) f)) (funext fun k => ?_)
    exact (congrArg _ (hl k)).trans (value x0 x1 x2 R k)
  · rw [pair_max]
    exact (max_eq_right bot_le).trans (max_eq_left hle)

/-- The softmax of the two kept scores, before its division. -/
theorem power (R : Fin 16384) (k : Fin 2) : val_main_v20 (F := Ideal) x0 x1 x2 (ix2 R k)
    = Ideal.exp (rowScore x0 x1 x2 R (chosen (rowScore x0 x1 x2 R) (early k)) - rowScore x0 x1 x2 R (chosen (rowScore x0 x1 x2 R) 0)) := by
  rw [val_main_v20_apply, val_main_v19_apply, val_main_v18_apply, val_main_v17_apply,
    show idx_main_v17 (idx_main_v18 (ix2 R k)) = ix1 R from eq_ix1 _, value, greatest]
  rfl

/-- One number of a one-hot row. -/
theorem one_hot (p e : Fin 8) :
    (FloatOps.uitofp (F := Ideal) .f32 (IntOp.cmpi .eq (BitVec.ofNat 32 p.val) (BitVec.ofNat 32 e.val)) : EReal)
      = if e = p then 1 else 0 := by
  by_cases h : e = p
  · subst h
    rw [if_pos rfl, show IntOp.cmpi .eq (BitVec.ofNat 32 e.val) (BitVec.ofNat 32 e.val) = 1#1 from by revert e; decide]
    show (((1#1 : BitVec 1).toNat : ℝ) : EReal) = 1
    simp
  · rw [if_neg h, show IntOp.cmpi .eq (BitVec.ofNat 32 p.val) (BitVec.ofNat 32 e.val) = 0#1 from by revert h; revert e p; decide]
    show (((0#1 : BitVec 1).toNat : ℝ) : EReal) = 0
    simp

/-- What an expert counts for in the reference is its gate, where the scores are finite. -/
theorem combined (R : Fin 16384) (hL : ∀ e, ∃ r : ℝ, rowScore x0 x1 x2 R e = r) (e : Fin 8) :
    val_main_v26 (F := Ideal) x0 x1 x2 (ix2 R e)
      = gate (rowScore x0 x1 x2 R) (chosen (rowScore x0 x1 x2 R) 0) (chosen (rowScore x0 x1 x2 R) 1) e := by
  have hne := (chosen_top2 (rowScore x0 x1 x2 R)).ne
  have hz : Ideal.ofBits .f32 0#32 = 0 := by simp [Ideal.ofBits, Ideal.ieee]
  have hself : Ideal.exp (rowScore x0 x1 x2 R (chosen (rowScore x0 x1 x2 R) 0) - rowScore x0 x1 x2 R (chosen (rowScore x0 x1 x2 R) 0)) = 1 := by
    obtain ⟨r, hr⟩ := hL (chosen (rowScore x0 x1 x2 R) 0)
    rw [hr, ← EReal.coe_sub, sub_self]
    show ((Real.exp 0 : ℝ) : EReal) = 1
    rw [Real.exp_zero, EReal.coe_one]
  have hsum : val_main_v21 (F := Ideal) x0 x1 x2 (ix1 R) = 1 + Ideal.exp (rowScore x0 x1 x2 R (chosen (rowScore x0 x1 x2 R) 1)
      - rowScore x0 x1 x2 R (chosen (rowScore x0 x1 x2 R) 0)) := by
    have e21 : idx_main_v21 (ix1 R) = fun k => ix2 R k := by
      funext k a; match a with | ⟨0, _⟩ => rfl | ⟨1, _⟩ => rfl
    rw [val_main_v21_apply, e21, val_main_cst_4_apply, Fin.sum_univ_two, power, power]
    show Ideal.ofBits .f32 0#32 + _ = _
    rw [hz, zero_add]
    exact congrArg (· + _) hself
  have hweight : ∀ k : Fin 2, val_main_v24 (F := Ideal) x0 x1 x2 (lidx_main_v26 (ix2 R e) k)
      = Ideal.div (Ideal.exp (rowScore x0 x1 x2 R (chosen (rowScore x0 x1 x2 R) (early k)) - rowScore x0 x1 x2 R (chosen (rowScore x0 x1 x2 R) 0)))
        (1 + Ideal.exp (rowScore x0 x1 x2 R (chosen (rowScore x0 x1 x2 R) 1) - rowScore x0 x1 x2 R (chosen (rowScore x0 x1 x2 R) 0))) := by
    intro k
    rw [show lidx_main_v26 (ix2 R e) k = ix2 R k from eq_ix2 _, val_main_v24_apply, val_main_v23_apply, val_main_v22_apply,
      show idx_main_v22 (idx_main_v23 (ix2 R k)) = ix1 R from eq_ix1 _, power, hsum]
    rfl
  have hhot : ∀ k : Fin 2, val_main_v25 (F := Ideal) x0 x1 x2 (ridx_main_v26 (ix2 R e) k)
      = if e = chosen (rowScore x0 x1 x2 R) (early k) then 1 else 0 := by
    intro k
    rw [val_main_v25_apply, val_main_call0_v4_apply, val_main_call0_v2_apply, val_main_call0_v0_apply, val_main_call0_v3_apply,
      val_main_call0_v1_apply,
      show idx_main_call0_v0 (idx_main_call0_v2 (ridx_main_v26 (ix2 R e) k)) = ix2 R k from eq_ix2 _, index]
    show _ = _
    exact one_hot (chosen (rowScore x0 x1 x2 R) (early k)) e
  rw [val_main_v26_apply, Fin.sum_univ_two, hweight, hweight, hhot, hhot]
  unfold gate
  by_cases h0 : e = chosen (rowScore x0 x1 x2 R) 0
  · rw [if_pos (show e = chosen (rowScore x0 x1 x2 R) (early 0) from h0), if_pos h0,
      if_neg (show ¬ e = chosen (rowScore x0 x1 x2 R) (early 1) from fun h => hne (h.symm.trans h0)), mul_one, mul_zero, add_zero]
    exact congrArg (fun z => Ideal.div z _) hself
  · rw [if_neg (show ¬ e = chosen (rowScore x0 x1 x2 R) (early 0) from h0), if_neg h0, mul_zero, zero_add]
    by_cases h1 : e = chosen (rowScore x0 x1 x2 R) 1
    · rw [if_pos (show e = chosen (rowScore x0 x1 x2 R) (early 1) from h1), if_pos h1, mul_one]
      rfl
    · rw [if_neg (show ¬ e = chosen (rowScore x0 x1 x2 R) (early 1) from h1), if_neg h1, mul_zero]

end Cert.ReferenceIdeal.ReferenceRouting
end
-- ==== Proof.ReferenceExperts.lean ====
module

public import proofs.«01_k».proof.Proof.ReferenceRouting

@[expose] public section
noncomputable section

/-!
The reference's experts, read at one token: each multiplies the hidden units of its own weights, and the result adds
the eight, weighted by their gates, to the token's row.
-/

namespace Cert.ReferenceIdeal.ReferenceExperts

open Cert.ReferenceIdeal Cert.ReferenceIdeal.Gen Cert.ReferenceIdeal.Read Cert.ReferenceIdeal.ReferenceRouting
open Idealize.ShloMosaic Cert.Routing Cert.Rows

variable (x0 : FVec Ideal S16384x1024 .f32) (x1 : FVec Ideal S1024 .f32) (x2 : FVec Ideal S1024x8 .f32)
  (x3 x4 : FVec Ideal S8x1024x3584 .f32) (x5 : FVec Ideal S8x3584x1024 .f32)

/-- The weights with expert `e` moved to the first place. -/
def moved (e : Fin 8) {n1 n2 : Nat} (x : (⟨3, ![8, n1, n2]⟩ : Shape).Idx → EReal) : (⟨3, ![8, n1, n2]⟩ : Shape).Idx → EReal :=
  fun i => x (ix3 (n0 := 8) ((show Fin 8 from i 0) + e) (i 1) (i 2))

/-- Cutting out expert `e` is cutting out the first once `e` is moved there. -/
theorem slice_moved (e : Fin 8) {n1 n2 : Nat} (x : (⟨3, ![8, n1, n2]⟩ : Shape).Idx → EReal)
    (h : (⟨3, ![8, n1, n2]⟩ : Shape).Slices ![e.val, 0, 0] ⟨3, ![1, n1, n2]⟩)
    (h0 : (⟨3, ![8, n1, n2]⟩ : Shape).Slices ![0, 0, 0] ⟨3, ![1, n1, n2]⟩) :
    extractStridedSlice ⟨3, ![1, n1, n2]⟩ ![e.val, 0, 0] x h = extractStridedSlice ⟨3, ![1, n1, n2]⟩ ![0, 0, 0] (moved e x) h0 := by
  funext i
  have hi : (i 0).val < 1 := (i 0).isLt
  have he := e.isLt
  refine congrArg x (funext fun a => Fin.ext ?_)
  match a with
  | ⟨0, _⟩ =>
    show e.val + (i 0).val = (0 + (i 0).val + e.val) % 8
    omega
  | ⟨1, _⟩ => rfl
  | ⟨2, _⟩ => rfl

/-- The products of one expert, from its three slices of weights. -/
def products (sg su : FVec Ideal S1x1024x3584 .f32) (sd : FVec Ideal S1x3584x1024 .f32) : FVec Ideal S16384x1024 .f32 :=
  let a := Host.dotGeneral dot_S16384x1024_S1024x3584_S16384x3584_1_0_0_1_n_n (φ₁ := .f32) (φ₂ := .f32) none (val_main_v12 (F := Ideal) x0 x1)
    (shapeCast S1024x3584 sg shapeCasts_S1x1024x3584_S1024x3584)
  let b := Host.dotGeneral dot_S16384x1024_S1024x3584_S16384x3584_1_0_0_1_n_n (φ₁ := .f32) (φ₂ := .f32) none (val_main_v12 (F := Ideal) x0 x1)
    (shapeCast S1024x3584 su shapeCasts_S1x1024x3584_S1024x3584)
  let one := broadcastInDim S16384x3584 ![] bcast_S_S16384x3584 (constant (F := Ideal) S_ .f32 0x3F800000#32)
  Host.dotGeneral dot_S16384x3584_S3584x1024_S16384x1024_1_0_0_1_n_n (φ₁ := .f32) (φ₂ := .f32) none
    (mulf (mulf a (Host.divf one (addf one (Host.exp (Host.negf a))))) b)
    (shapeCast S3584x1024 sd shapeCasts_S1x3584x1024_S3584x1024)

/-- A token's hidden unit `j` at expert `e`. -/
abbrev rowUnit (R : Fin 16384) (e : Fin 8) (j : Fin 3584) : EReal :=
  hiddenUnit (rowNorm x0 x1 R) (fun y => x3 (ix3 e y j)) (fun y => x4 (ix3 e y j))

/-- The first expert's gate and up weights, and its down weights, at an index. -/
theorem gateWeight (y : Fin 1024) (j : Fin 3584) : val_main_v30 (F := Ideal) x3 (ix2 y j) = x3 (ix3 0 y j) := by
  rw [val_main_v30_apply, val_main_v29_apply]
  refine congrArg x3 (funext fun a => Fin.ext ?_)
  have hy := y.isLt
  have hj := j.isLt
  match a with
  | ⟨0, _⟩ => rfl
  | ⟨1, _⟩ => show (y.val * 3584 + j.val) / 3584 % 1024 = y.val; omega
  | ⟨2, _⟩ => show (y.val * 3584 + j.val) % 3584 = j.val; omega

/-- The first expert's up weights. -/
theorem upWeight (y : Fin 1024) (j : Fin 3584) : val_main_v32 (F := Ideal) x4 (ix2 y j) = x4 (ix3 0 y j) := gateWeight x4 y j

/-- The first expert's down weights. -/
theorem downWeight (j : Fin 3584) (l : Fin 1024) : val_main_v34 (F := Ideal) x5 (ix2 j l) = x5 (ix3 0 j l) := by
  rw [val_main_v34_apply, val_main_v33_apply]
  refine congrArg x5 (funext fun a => Fin.ext ?_)
  have hj := j.isLt
  have hl := l.isLt
  match a with
  | ⟨0, _⟩ => rfl
  | ⟨1, _⟩ => show (j.val * 1024 + l.val) / 1024 % 3584 = j.val; omega
  | ⟨2, _⟩ => show (j.val * 1024 + l.val) % 1024 = l.val; omega

/-- The first expert's gate product of a token. -/
theorem gateProduct (R : Fin 16384) (j : Fin 3584) :
    val_main_v35 (F := Ideal) x0 x1 x3 (ix2 R j) = ∑ y, rowNorm x0 x1 R y * x3 (ix3 0 y j) := by
  rw [val_main_v35_apply]
  refine Finset.sum_congr rfl fun k _ => ?_
  rw [show lidx_main_v35 (ix2 R j) k = ix2 R k from eq_ix2 _, show ridx_main_v35 (ix2 R j) k = ix2 k j from eq_ix2 _,
    normed, gateWeight]

/-- The first expert's hidden unit of a token. -/
theorem unit (R : Fin 16384) (j : Fin 3584) : val_main_v38 (F := Ideal) x0 x1 x3 x4 (ix2 R j) = rowUnit x0 x1 x3 x4 R 0 j := by
  have h1 : Ideal.ofBits .f32 1065353216#32 = 1 := by simp [Ideal.ofBits, Ideal.ieee, -EReal.coe_mul]; norm_num
  have hup : val_main_v37 (F := Ideal) x0 x1 x4 (ix2 R j) = ∑ y, rowNorm x0 x1 R y * x4 (ix3 0 y j) := gateProduct x0 x1 x4 R j
  rw [val_main_v38_apply, val_main_v36_apply, val_main_call1_v5_apply, val_main_call1_v4_apply, val_main_call1_cst_0_apply,
    val_main_call1_v3_apply, val_main_call1_v2_apply, val_main_call1_cst_apply, val_main_call1_v1_apply, val_main_call1_v0_apply,
    gateProduct, hup]
  show _ * Ideal.div (Ideal.ofBits .f32 1065353216#32) (Ideal.ofBits .f32 1065353216#32 + _) * _ = _
  rw [h1]
  rfl

/-- The first expert's products at a token. -/
theorem first (R : Fin 16384) (l : Fin 1024) : val_main_v39 (F := Ideal) x0 x1 x3 x4 x5 (ix2 R l)
    = ∑ j, rowUnit x0 x1 x3 x4 R 0 j * x5 (ix3 0 j l) := by
  rw [val_main_v39_apply]
  refine Finset.sum_congr rfl fun k _ => ?_
  rw [show lidx_main_v39 (ix2 R l) k = ix2 R k from eq_ix2 _, show ridx_main_v39 (ix2 R l) k = ix2 k l from eq_ix2 _,
    unit, downWeight]

/-- Any expert's products at a token. -/
theorem products_at (e : Fin 8) (hg : S8x1024x3584.Slices ![e.val, 0, 0] S1x1024x3584)
    (hd : S8x3584x1024.Slices ![e.val, 0, 0] S1x3584x1024) (R : Fin 16384) (l : Fin 1024) :
    products x0 x1 (extractStridedSlice S1x1024x3584 ![e.val, 0, 0] x3 hg) (extractStridedSlice S1x1024x3584 ![e.val, 0, 0] x4 hg)
      (extractStridedSlice S1x3584x1024 ![e.val, 0, 0] x5 hd) (ix2 R l) = ∑ j, rowUnit x0 x1 x3 x4 R e j * x5 (ix3 e j l) := by
  have e3 := slice_moved e x3 hg slices_S8x1024x3584_S1x1024x3584_0_0_0
  have e4 := slice_moved e x4 hg slices_S8x1024x3584_S1x1024x3584_0_0_0
  have e5 := slice_moved e x5 hd slices_S8x3584x1024_S1x3584x1024_0_0_0
  refine (congrFun (congr (congr (congrArg (products x0 x1) e3) e4) e5) (ix2 R l)).trans ?_
  refine (first x0 x1 (moved e x3) (moved e x4) (moved e x5) R l).trans ?_
  have hz : (0 : Fin 8) + e = e := zero_add e
  unfold moved
  show ∑ j : Fin 3584, hiddenUnit (rowNorm x0 x1 R) (fun y => x3 (ix3 (0 + e) y j)) (fun y => x4 (ix3 (0 + e) y j)) * x5 (ix3 (0 + e) j l) = _
  rw [hz]

/-- What expert `e` adds at a token. -/
abbrev part (R : Fin 16384) (l : Fin 1024) (e : Fin 8) : EReal :=
  gate (rowScore x0 x1 x2 R) (chosen (rowScore x0 x1 x2 R) 0) (chosen (rowScore x0 x1 x2 R) 1) e
    * ∑ j, rowUnit x0 x1 x3 x4 R e j * x5 (ix3 e j l)

/-- Where the scores are finite, the reference's result is the token's row and the eight experts' parts. -/
theorem result (R : Fin 16384) (l : Fin 1024) (hL : ∀ e, ∃ r : ℝ, rowScore x0 x1 x2 R e = r) :
    val_main_v148 (F := Ideal) x0 x1 x2 x3 x4 x5 (ix2 R l) = x0 (ix2 R l) + ∑ e, part x0 x1 x2 x3 x4 x5 R l e := by
  have hz : Ideal.ofBits .f32 0#32 = 0 := by simp [Ideal.ofBits, Ideal.ieee]
  have hc := combined x0 x1 x2 R hL
  have h0 : val_main_v41 (F := Ideal) x0 x1 x2 x3 x4 x5 (ix2 R l) = part x0 x1 x2 x3 x4 x5 R l 0 := by
    rw [val_main_v41_apply, val_main_v40_apply, val_main_v28_apply, show idx_main_v28 (idx_main_v40 (ix2 R l)) = ix2 R 0 from eq_ix2 _, hc 0]
    exact congrArg (fun z : EReal => gate (rowScore x0 x1 x2 R) (chosen (rowScore x0 x1 x2 R) 0) (chosen (rowScore x0 x1 x2 R) 1) 0 * z) (products_at x0 x1 x3 x4 x5 0 slices_S8x1024x3584_S1x1024x3584_0_0_0 slices_S8x3584x1024_S1x3584x1024_0_0_0 R l)
  have h1 : val_main_v56 (F := Ideal) x0 x1 x2 x3 x4 x5 (ix2 R l) = part x0 x1 x2 x3 x4 x5 R l 1 := by
    rw [val_main_v56_apply, val_main_v55_apply, val_main_v43_apply, show idx_main_v43 (idx_main_v55 (ix2 R l)) = ix2 R 1 from eq_ix2 _, hc 1]
    exact congrArg (fun z : EReal => gate (rowScore x0 x1 x2 R) (chosen (rowScore x0 x1 x2 R) 0) (chosen (rowScore x0 x1 x2 R) 1) 1 * z) (products_at x0 x1 x3 x4 x5 1 slices_S8x1024x3584_S1x1024x3584_1_0_0 slices_S8x3584x1024_S1x3584x1024_1_0_0 R l)
  have h2 : val_main_v71 (F := Ideal) x0 x1 x2 x3 x4 x5 (ix2 R l) = part x0 x1 x2 x3 x4 x5 R l 2 := by
    rw [val_main_v71_apply, val_main_v70_apply, val_main_v58_apply, show idx_main_v58 (idx_main_v70 (ix2 R l)) = ix2 R 2 from eq_ix2 _, hc 2]
    exact congrArg (fun z : EReal => gate (rowScore x0 x1 x2 R) (chosen (rowScore x0 x1 x2 R) 0) (chosen (rowScore x0 x1 x2 R) 1) 2 * z) (products_at x0 x1 x3 x4 x5 2 slices_S8x1024x3584_S1x1024x3584_2_0_0 slices_S8x3584x1024_S1x3584x1024_2_0_0 R l)
  have h3 : val_main_v86 (F := Ideal) x0 x1 x2 x3 x4 x5 (ix2 R l) = part x0 x1 x2 x3 x4 x5 R l 3 := by
    rw [val_main_v86_apply, val_main_v85_apply, val_main_v73_apply, show idx_main_v73 (idx_main_v85 (ix2 R l)) = ix2 R 3 from eq_ix2 _, hc 3]
    exact congrArg (fun z : EReal => gate (rowScore x0 x1 x2 R) (chosen (rowScore x0 x1 x2 R) 0) (chosen (rowScore x0 x1 x2 R) 1) 3 * z) (products_at x0 x1 x3 x4 x5 3 slices_S8x1024x3584_S1x1024x3584_3_0_0 slices_S8x3584x1024_S1x3584x1024_3_0_0 R l)
  have h4 : val_main_v101 (F := Ideal) x0 x1 x2 x3 x4 x5 (ix2 R l) = part x0 x1 x2 x3 x4 x5 R l 4 := by
    rw [val_main_v101_apply, val_main_v100_apply, val_main_v88_apply, show idx_main_v88 (idx_main_v100 (ix2 R l)) = ix2 R 4 from eq_ix2 _, hc 4]
    exact congrArg (fun z : EReal => gate (rowScore x0 x1 x2 R) (chosen (rowScore x0 x1 x2 R) 0) (chosen (rowScore x0 x1 x2 R) 1) 4 * z) (products_at x0 x1 x3 x4 x5 4 slices_S8x1024x3584_S1x1024x3584_4_0_0 slices_S8x3584x1024_S1x3584x1024_4_0_0 R l)
  have h5 : val_main_v116 (F := Ideal) x0 x1 x2 x3 x4 x5 (ix2 R l) = part x0 x1 x2 x3 x4 x5 R l 5 := by
    rw [val_main_v116_apply, val_main_v115_apply, val_main_v103_apply, show idx_main_v103 (idx_main_v115 (ix2 R l)) = ix2 R 5 from eq_ix2 _, hc 5]
    exact congrArg (fun z : EReal => gate (rowScore x0 x1 x2 R) (chosen (rowScore x0 x1 x2 R) 0) (chosen (rowScore x0 x1 x2 R) 1) 5 * z) (products_at x0 x1 x3 x4 x5 5 slices_S8x1024x3584_S1x1024x3584_5_0_0 slices_S8x3584x1024_S1x3584x1024_5_0_0 R l)
  have h6 : val_main_v131 (F := Ideal) x0 x1 x2 x3 x4 x5 (ix2 R l) = part x0 x1 x2 x3 x4 x5 R l 6 := by
    rw [val_main_v131_apply, val_main_v130_apply, val_main_v118_apply, show idx_main_v118 (idx_main_v130 (ix2 R l)) = ix2 R 6 from eq_ix2 _, hc 6]
    exact congrArg (fun z : EReal => gate (rowScore x0 x1 x2 R) (chosen (rowScore x0 x1 x2 R) 0) (chosen (rowScore x0 x1 x2 R) 1) 6 * z) (products_at x0 x1 x3 x4 x5 6 slices_S8x1024x3584_S1x1024x3584_6_0_0 slices_S8x3584x1024_S1x3584x1024_6_0_0 R l)
  have h7 : val_main_v146 (F := Ideal) x0 x1 x2 x3 x4 x5 (ix2 R l) = part x0 x1 x2 x3 x4 x5 R l 7 := by
    rw [val_main_v146_apply, val_main_v145_apply, val_main_v133_apply, show idx_main_v133 (idx_main_v145 (ix2 R l)) = ix2 R 7 from eq_ix2 _, hc 7]
    exact congrArg (fun z : EReal => gate (rowScore x0 x1 x2 R) (chosen (rowScore x0 x1 x2 R) 0) (chosen (rowScore x0 x1 x2 R) 1) 7 * z) (products_at x0 x1 x3 x4 x5 7 slices_S8x1024x3584_S1x1024x3584_7_0_0 slices_S8x3584x1024_S1x3584x1024_7_0_0 R l)
  have start : val_main_v27 (F := Ideal) (ix2 R l) = 0 := by rw [val_main_v27_apply, val_main_cst_5_apply]; exact hz
  rw [val_main_v148_apply, val_main_v147_apply, val_main_v132_apply, val_main_v117_apply, val_main_v102_apply, val_main_v87_apply, val_main_v72_apply, val_main_v57_apply, val_main_v42_apply,
    start, h0, h1, h2, h3, h4, h5, h6, h7, Fin.sum_univ_eight]
  show x0 (ix2 R l) + (0 + _ + _ + _ + _ + _ + _ + _ + _) = _
  rw [zero_add]

end Cert.ReferenceIdeal.ReferenceExperts
end
-- ==== Proof.Finite.lean ====
module

public import proofs.«01_k».proof.Proof.Gen.Pre_router_finite
public import proofs.«01_k».proof.Proof.Rows
public import Idealize.ShloMosaic.Lib.ValueIdx
public import Idealize.ShloMosaic.Lib.Pipeline.Value

@[expose] public section
noncomputable section

/-!
What the precondition says: the norm's scale and the router's weights are finite numbers.
-/

namespace Cert.Finite

open Idealize.ShloMosaic Cert.Pre_router_finite Cert.Pre_router_finite.Gen

/-- A number whose size is below infinity is finite. -/
theorem real_of_word (a : EReal)
    (h : FloatOps.cmpf (F := Ideal) (φ := .f32) .olt (FloatOps.hostAbsf (F := Ideal) (φ := .f32) a) (Ideal.ofBits .f32 2139095040#32) = 1#1) :
    ∃ r : ℝ, a = r := by
  rw [Cert.Rows.inf_bits] at h
  induction a with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- Both words of a pair that is all ones are ones. -/
theorem both_ones (a b : BitVec 1) (h : a &&& b = 1#1) : a = 1#1 ∧ b = 1#1 := by revert h; revert a b; decide

variable (x0 : FVec Ideal S16384x1024 .f32) (x1 : FVec Ideal S1024 .f32) (x2 : FVec Ideal S1024x8 .f32)
  (x3 x4 : FVec Ideal S8x1024x3584 .f32) (x5 : FVec Ideal S8x3584x1024 .f32)
  (h : fn (F := Ideal) x0 x1 x2 x3 x4 x5 = fun _ => 1#1)
include h

/-- The router's weights are finite. -/
theorem router_real (k : Fin 1024) (e : Fin 8) : ∃ r : ℝ, x2 (ix2 k e) = r := by
  have hk := congrFun h (ix2 k e)
  exact real_of_word _ (both_ones _ _ hk).1

/-- The norm's scale is finite. -/
theorem scale_real (k : Fin 1024) : ∃ r : ℝ, x1 (ix1 k) = r := by
  have hk := (both_ones _ _ (congrFun h (ix2 k 0))).2
  rw [broadcastInDim_apply _ bcast_S1024x1_S1024x8_0_1 _ (ix2 k 0) (ix2 k 0) (fun a => match a with | ⟨0, _⟩ => by rfl | ⟨1, _⟩ => by rfl)] at hk
  refine real_of_word _ (Eq.trans (congrArg (fun z => FloatOps.cmpf (F := Ideal) (φ := .f32) .olt z (Ideal.ofBits .f32 2139095040#32)) ?_) hk)
  exact (broadcastInDim_apply _ bcast_S1024_S1024x1_0 (Host.absf x1) (ix2 k 0) (ix1 k) (fun a => match a with | ⟨0, _⟩ => by rfl)).symm

end Cert.Finite
end
-- ==== Proof.Equation.lean ====
module

public import proofs.«01_k».proof.Defs
public import proofs.«01_k».proof.Proof.KernelArray
public import proofs.«01_k».proof.Proof.ReferenceExperts
public import proofs.«01_k».proof.Proof.Finite

@[expose] public section
noncomputable section

/-!
The kernel's result and the reference's are one array.
-/

namespace Cert.Equation

open Idealize.ShloMosaic Idealize.ShloMosaic.TcCoe Cert.Routing Cert.Rows
open Cert.KernelIdeal.KernelArray Cert.ReferenceIdeal.ReferenceRouting Cert.ReferenceIdeal.ReferenceExperts

variable (m : (ℓ : Loc Cert.KernelIdeal.nD Cert.KernelIdeal.τ Cert.KernelIdeal.sig) → Buf (Elt Ideal) ℓ)
  (c : Dev Cert.KernelIdeal.nD)

/-- The reference's result, of the arguments a memory holds. -/
abbrev expected : FVec Ideal Cert.ReferenceIdeal.S16384x1024 .f32 :=
  Cert.ReferenceIdeal.Read.val_main_v148 (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5))

/-- A gate weighs each hidden unit as it weighs their sum. -/
theorem weigh (g : EReal) (hg : ∃ r : ℝ, 0 ≤ r ∧ g = r) (u w : Fin 3584 → EReal) :
    g * ∑ j, u j * w j = ∑ j, u j * g * w j := by
  obtain ⟨r, hr, rfl⟩ := hg
  rw [mul_sum_of_real _ _ r hr]
  exact Finset.sum_congr rfl fun j _ => by rw [← mul_assoc, mul_comm (r : EReal) (u j)]

/-- With a finite scale and finite router weights the kernel's result is the reference's. -/
theorem result (h : Cert.Pre_router_finite.fn (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5)) = fun _ => 1#1) :
    Cert.KernelIdeal.Value.G6 (F := Ideal) m c = expected m c := by
  have hL : ∀ R e, ∃ r : ℝ, tokenScore m c R e = r := fun R e =>
    score_real _ _ _ (Cert.Finite.scale_real _ _ _ _ _ _ h) (Cert.Finite.router_real _ _ _ _ _ _ h) e
  funext i
  rw [eq_ix2 i]
  have hk := array m c (fun R => chosen (tokenScore m c R) 0) (fun R => chosen (tokenScore m c R) 1)
    (fun R => chosen_top2 _) (fun R => by obtain ⟨r, hr⟩ := hL R (chosen (tokenScore m c R) 1); rw [hr]; exact EReal.coe_ne_bot r)
    (i 0) (i 1)
  refine hk.trans (Eq.trans ?_ (Cert.ReferenceIdeal.ReferenceExperts.result _ _ _ _ _ _ (i 0) (i 1) (hL (i 0))).symm)
  refine congrArg (token m c (i 0) (i 1) + ·) (Finset.sum_congr rfl fun e _ => ?_)
  exact (weigh _ (gate_real _ (hL (i 0)) _ _ e) _ _).symm

end Cert.Equation
end
-- ==== Proof.Shared.lean ====
module

public import proofs.«01_k».proof.Proof.Rows
public import Idealize.ShloMosaic.Lib.Pointwise

@[expose] public section
noncomputable section

/-!
What the projection calls have in common: a product of a row with a column, the logistic function, places in arrays
of two axes, and a value that is written at the first step of a run and kept until its last.
-/

namespace Cert.Shared

open Idealize.ShloMosaic

/-- The product of a row and a column. -/
def product {n : ℕ} (x w : Fin n → EReal) : EReal := ∑ k, x k * w k

/-- The logistic function. -/
def sigmoid (a : EReal) : EReal := Ideal.div 1 (1 + Ideal.exp (-a))

/-- The word of one. -/
theorem one_bits : Ideal.ofBits .f32 1065353216#32 = 1 := by
  simp [Ideal.ofBits, Ideal.ieee, -EReal.coe_mul]; norm_num

/-- The word of zero. -/
theorem zero_bits : Ideal.ofBits .f32 0#32 = 0 := by simp [Ideal.ofBits, Ideal.ieee]

/-- Two zero offsets are the constant zero offset. -/
theorem zeros2 : (![0, 0] : Fin 2 → Nat) = fun _ => 0 := funext fun a => by fin_cases a <;> rfl

/-- A place of an array with two axes is given by its two numbers. -/
theorem at2 {n0 n1 : ℕ} (i : (⟨2, ![n0, n1]⟩ : Shape).Idx) (a : Fin n0) (b : Fin n1) (h0 : (i 0).val = a.val) (h1 : (i 1).val = b.val) :
    i = ix2 a b := by
  funext z
  apply Fin.ext
  match z with
  | ⟨0, _⟩ => exact h0
  | ⟨1, _⟩ => exact h1

/-- A place of an array with one axis is given by its number. -/
theorem at1 {n0 : ℕ} (i : (⟨1, ![n0]⟩ : Shape).Idx) (a : Fin n0) (h0 : (i 0).val = a.val) : i = ix1 a := by
  funext z
  apply Fin.ext
  match z with
  | ⟨0, _⟩ => exact h0

/-- A value that every `k`-th step writes and the others keep is at each step what the run's first step wrote. -/
theorem carried {α : Type} {N k : ℕ} (f : (n : ℕ) → n < N → α) (w : (n : ℕ) → n < N → α)
    (hw : ∀ n (h : n < N), n % k = 0 → f n h = w n h)
    (hk : ∀ n (h : n < N), n % k ≠ 0 → f n h = f (n - 1) (lt_of_le_of_lt (Nat.sub_le n 1) h))
    (n : ℕ) (h : n < N) : f n h = w (n - n % k) (lt_of_le_of_lt (Nat.sub_le _ _) h) := by
  induction n with
  | zero => simpa using hw 0 h (Nat.zero_mod k)
  | succ n ih =>
    by_cases h0 : (n + 1) % k = 0
    · rw [hw _ h h0]; simp only [h0, Nat.sub_zero]
    · rw [hk _ h h0]
      refine (ih (Nat.lt_of_succ_lt h)).trans ?_
      have e : n - n % k = n + 1 - (n + 1) % k := by
        have hm : (n % k + 1) % k = (n + 1) % k := Nat.mod_add_mod n k 1
        rcases Nat.eq_zero_or_pos k with rfl | hp
        · simp
        · have hl := Nat.mod_lt n hp
          by_cases hs : n % k + 1 = k
          · rw [hs, Nat.mod_self] at hm; exact absurd hm.symm h0
          · rw [Nat.mod_eq_of_lt (by omega)] at hm; omega
      simp only [e]

end Cert.Shared
end
-- ==== Proof.Glu.lean ====
module

public import proofs.«01_k».proof.Proof.Shared
public import proofs.«01_k».proof.Proof.Gen.GluIdeal.Value
public import proofs.«01_k».proof.Proof.Gen.GluReferenceIdeal.Read
public import proofs.«01_k».proof.Proof.ReferenceRouting

@[expose] public section
noncomputable section

/-!
The gated linear unit of the convolution module: `a * sigmoid b`, where `a` and `b` are the products of a normed row
with the left and the right half of the weights.
-/

namespace Cert.GluIdeal.Array

open Cert.GluIdeal Cert.GluIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 3 t), k0_pay1 (iblk m c 0 t) (iblk m c 1 t)) := by
  rw [outsAt0_A m c t h0]
  refine Prod.ext ?_ ?_
  · dsimp only
    unfold out0_A_4
    refine (View.read_writes_eq_canon _ _ _ (fun y => cover0_A_4 (y := y) ..)).trans ?_
    unfold kernelRun0_A
    dsimp only
    sl_unfold_words
    simp only [View.canon_unit_zero (S := S512x512) zeros2, View.readCov_unit_zero (S := S512x1024) _ zeros2, View.readAt_eq_ld,
      (hs0_0 t).read_unread, (hs0_1 t).read_unread, (hs0_2 t).read_unread, (hs0_3 t).read_unread,
      View.ld_unit_zero (S := S512x1024) zeros2, View.ld_unit_zero (S := S1x1024) zeros2, View.ld_unit_zero (S := S1024x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, (hs0_1 t).read_unread,
      View.ld_unit_zero (S := S512x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 3 t),
      (outsAt0 m c (t.val - 1) (Nat.lt_of_le_of_lt (Nat.sub_le _ _) t.isLt)).2) := by
  rw [outsAt0_B m c t h0]
  refine Prod.ext ?_ rfl
  dsimp only
  unfold out0_B_4
  refine (View.read_writes_eq_canon _ _ _ (fun y => cover0_B_4 (y := y) ..)).trans ?_
  unfold kernelRun0_B
  dsimp only
  sl_unfold_words
  simp only [View.canon_unit_zero (S := S512x512) zeros2, View.readAt_eq_ld,
    (hs0_2 t).read_unread, (hs0_3 t).read_unread, (Memref.isWhole_whole (κ := .tc) _).read_unread,
    View.ld_unit_zero (S := S512x1024) zeros2, View.ld_unit_zero (S := S1024x512) zeros2]

/-- The normed rows of a block, place by place. -/
theorem normed (x : Vec Ideal S512x1024 .f32) (g : Vec Ideal S1x1024 .f32) (r : Fin 512) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S512x1024 .bf16) (a b : Vec Ideal S1024x512 .f32) (r l : Fin 512) :
    k0_pay2 (F := Ideal) s a b (ix2 r l) = product (fun k => s (ix2 r k)) (fun k => a (ix2 k l))
      * sigmoid (product (fun k => s (ix2 r k)) (fun k => b (ix2 k l))) := by
  pointwise [k0_pay2]
  simp only [zero_sub]
  rfl

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- A column of the left half of the weights. -/
def left (l : Fin 1024) : Fin 2048 := ⟨l.val, by omega⟩

/-- A column of the right half of the weights. -/
def right (l : Fin 1024) : Fin 2048 := ⟨1024 + l.val, by omega⟩

/-- Which block of each array a step reads. -/
theorem index : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = t.val % 2 + 2) := by
  decide +kernel

/-- The step's rows. -/
theorem tokens (t : Fin cfg0.N) (r : Fin 512) (l : Fin 1024) : (iblk m c 0 t : Vec Ideal S512x1024 .f32) (ix2 r l)
    = m ((c : Thread nD τ).loc main_arg0) (ix2 (rowAt t r) l) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the left half of the weights. -/
theorem lefts (t : Fin cfg0.N) (k : Fin 1024) (l : Fin 512) : (iblk m c 2 t : Vec Ideal S1024x512 .f32) (ix2 k l)
    = m ((c : Thread nD τ).loc main_arg2) (ix2 k (left (colAt t l))) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The step's columns of the right half of the weights. -/
theorem rights (t : Fin cfg0.N) (k : Fin 1024) (l : Fin 512) : (iblk m c 3 t : Vec Ideal S1024x512 .f32) (ix2 k l)
    = m ((c : Thread nD τ).loc main_arg2) (ix2 k (right (colAt t l))) := by
  have hi := (index t).2.2.2
  unfold iblk
  rw [View.read_apply]
  refine (congrFun (V_main_arg2 m c) _).trans (congrArg (m ((c : Thread nD τ).loc main_arg2)) (at2 _ _ _ ?_ ?_))
  · show win0_3.index t 0 * 1024 + 1 * k.val = k.val
    rw [hi.1]; omega
  · show win0_3.index t 1 * 512 + 1 * l.val = 1024 + (t.val % 2 * 512 + l.val)
    rw [hi.2]; omega

/-- The gated linear unit of row `R` and column `l`, from the rows, the norm's scale and the weights. -/
def value (x : Vec Ideal S16384x1024 .f32) (g : Vec Ideal S1024 .f32) (w : Vec Ideal S1024x2048 .f32) (R : Fin 16384) (l : Fin 1024) : EReal :=
  product (norm (fun k => x (ix2 R k)) (fun k => g (ix1 k))) (fun k => w (ix2 k (left l)))
    * sigmoid (product (norm (fun k => x (ix2 R k)) (fun k => g (ix1 k))) (fun k => w (ix2 k (right l))))

/-- What is kept after a step is what the first step of its row block wrote. -/
theorem kept (n : ℕ) (h : n < cfg0.N) : (outsAt0 m c n h).2 = k0_pay1 (iblk m c 0 ⟨n - n % 2, lt_of_le_of_lt (Nat.sub_le _ _) h⟩)
    (iblk m c 1 ⟨n - n % 2, lt_of_le_of_lt (Nat.sub_le _ _) h⟩) :=
  carried (k := 2) (fun n h => (outsAt0 m c n h).2) (fun n h => k0_pay1 (iblk m c 0 ⟨n, h⟩) (iblk m c 1 ⟨n, h⟩))
    (fun n h h0 => congrArg Prod.snd (first m c ⟨n, h⟩ h0)) (fun n h h0 => (congrArg Prod.snd (later m c ⟨n, h⟩ h0)).trans rfl) n h

/-- So it is the step's rows, normed. -/
theorem rows (t : Fin cfg0.N) (r : Fin 512) : (fun l => (outsAt0 m c t.val t.isLt).2 (ix2 r l))
    = norm (fun k => m ((c : Thread nD τ).loc main_arg0) (ix2 (rowAt t r) k)) (fun k => m ((c : Thread nD τ).loc main_arg1) (ix1 k)) := by
  funext l
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, normed]
  simp only [tokens, scale, e]

/-- Each step writes the product of what is kept after it. -/
theorem wrote (t : Fin cfg0.N) : (outsAt0 m c t.val t.isLt).1 = k0_pay2 (outsAt0 m c t.val t.isLt).2 (iblk m c 2 t) (iblk m c 3 t) := by
  by_cases h0 : t.val % 2 = 0
  · rw [first m c t h0]
  · rw [later m c t h0]

/-- The kernel's result at row `R`, column `l`. -/
theorem array (R : Fin 16384) (l : Fin 1024) : Value.G4 (F := Ideal) m c (ix2 R l)
    = value (m ((c : Thread nD τ).loc main_arg0)) (m ((c : Thread nD τ).loc main_arg1)) (m ((c : Thread nD τ).loc main_arg2)) R l := by
  have hR := R.isLt
  have hl := l.isLt
  have hpt : Value.pt4Of (ix2 R l) = 2 * (R.val / 512) + l.val / 512 := by
    show 2 * (R.val / 512 - 0) + 1 * (l.val / 512 - 0) = _
    omega
  have hlt : Value.pt4Of (ix2 R l) < cfg0.N := by
    rw [hpt]
    show _ < grid0.N
    rw [N_0]
    omega
  have hloc : Value.loc4Of (ix2 R l) = ix2 ⟨R.val % 512, by omega⟩ ⟨l.val % 512, by omega⟩ := at2 _ _ _ rfl rfl
  have hrow : rowAt ⟨Value.pt4Of (ix2 R l), hlt⟩ ⟨R.val % 512, by omega⟩ = R := Fin.ext (by
    show 512 * (Value.pt4Of (ix2 R l) / 2) + R.val % 512 = R.val
    rw [hpt]; omega)
  have hcol : colAt ⟨Value.pt4Of (ix2 R l), hlt⟩ ⟨l.val % 512, by omega⟩ = l := Fin.ext (by
    show Value.pt4Of (ix2 R l) % 2 * 512 + l.val % 512 = l.val
    rw [hpt]; omega)
  unfold Value.G4
  rw [dif_pos hlt, ← Value.outsAt0_sweep m c _ hlt, hloc, wrote m c ⟨_, hlt⟩, unit, rows m c ⟨_, hlt⟩, hrow]
  simp only [lefts, rights, hcol]
  rfl

end Cert.GluIdeal.Array

namespace Cert.GluReferenceIdeal.Array

open Cert.GluReferenceIdeal Cert.GluReferenceIdeal.Gen Cert.GluReferenceIdeal.Read Idealize.ShloMosaic Cert.Rows Cert.Shared
open Cert.GluIdeal.Array (value left right)

/-- The reference's result at row `R`, column `l`. -/
theorem array (x : FVec Ideal S16384x1024 .f32) (g : FVec Ideal S1024 .f32) (w : FVec Ideal S1024x2048 .f32) (R : Fin 16384) (l : Fin 1024) :
    val_main_v22 (F := Ideal) x g w (ix2 R l) = value x g w R l := by
  have hn : ∀ k, val_main_v12 (F := Ideal) x g (ix2 R k) = norm (fun k => x (ix2 R k)) (fun k => g (ix1 k)) k :=
    Cert.ReferenceIdeal.ReferenceRouting.normed x g R
  have hp : ∀ j, val_main_v13 (F := Ideal) x g w (ix2 R j) = product (norm (fun k => x (ix2 R k)) (fun k => g (ix1 k))) (fun k => w (ix2 k j)) := by
    intro j
    rw [val_main_v13_apply]
    refine Finset.sum_congr rfl fun k _ => ?_
    rw [show lidx_main_v13 (ix2 R j) k = ix2 R k from eq_ix2 _, show ridx_main_v13 (ix2 R j) k = ix2 k j from eq_ix2 _, hn]
  rw [val_main_v22_apply, val_main_v21_apply, val_main_v20_apply, val_main_v19_apply, val_main_v18_apply, val_main_v17_apply,
    val_main_v16_apply, val_main_v15_apply, val_main_v14_apply, val_main_cst_2_apply, val_main_cst_3_apply,
    show idx_main_v14 (ix2 R l) = ix2 R (left l) from at2 _ _ _ rfl rfl,
    show idx_main_v15 (ix2 R l) = ix2 R (right l) from at2 _ _ _ rfl rfl, hp, hp]
  show _ * Ideal.div (Ideal.ofBits .f32 1065353216#32) (Ideal.ofBits .f32 1065353216#32 + _) = _
  rw [one_bits]
  rfl

end Cert.GluReferenceIdeal.Array
end
-- ==== Proof.Hidden.lean ====
module

public import proofs.«01_k».proof.Proof.Shared
public import proofs.«01_k».proof.Proof.Gen.HiddenIdeal.Value
public import proofs.«01_k».proof.Proof.Gen.HiddenReferenceIdeal.Read
public import proofs.«01_k».proof.Proof.ReferenceRouting

@[expose] public section
noncomputable section

/-!
The hidden units of the dense feed-forward: `a * sigmoid a * b`, where `a` and `b` are the products of a normed row
with the gate's and the other weights.
-/

namespace Cert.HiddenIdeal.Array

open Cert.HiddenIdeal Cert.HiddenIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 11 = 0) : outsAt0 m c t.val t.isLt
    = (k0_pay2 (k0_pay1 (iblk m c 0 t) (iblk m c 1 t)) (iblk m c 2 t) (iblk m c 3 t), k0_pay1 (iblk m c 0 t) (iblk m c 1 t)) := by
  rw [outsAt0_A m c t h0]
  refine Prod.ext ?_ ?_
  · dsimp only
    unfold out0_A_4
    refine (View.read_writes_eq_canon _ _ _ (fun y => cover0_A_4 (y := y) ..)).trans ?_
    unfold kernelRun0_A
    dsimp only
    sl_unfold_words
    simp only [View.canon_unit_zero (S := S512x256) zeros2, View.readCov_unit_zero (S := S512x1024) _ zeros2, View.readAt_eq_ld,
      (hs0_0 t).read_unread, (hs0_1 t).read_unread, (hs0_2 t).read_unread, (hs0_3 t).read_unread,
      View.ld_unit_zero (S := S512x1024) zeros2, View.ld_unit_zero (S := S1x1024) zeros2, View.ld_unit_zero (S := S1024x256) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, (hs0_1 t).read_unread,
      View.ld_unit_zero (S := S512x1024) zeros2, View.ld_unit_zero (S := S1x1024) zeros2]

/-- What a later step writes, from what was kept, and that it keeps it. -/
theorem later (t : Fin cfg0.N) (h0 : ¬ t.val % 11 = 0) : outsAt0 m c t.val t.isLt
    = (k0_pay2 (outsAt0 m c (t.val - 1) (Nat.lt_of_le_of_lt (Nat.sub_le _ _) t.isLt)).2 (iblk m c 2 t) (iblk m c 3 t),
      (outsAt0 m c (t.val - 1) (Nat.lt_of_le_of_lt (Nat.sub_le _ _) t.isLt)).2) := by
  rw [outsAt0_B m c t h0]
  refine Prod.ext ?_ rfl
  dsimp only
  unfold out0_B_4
  refine (View.read_writes_eq_canon _ _ _ (fun y => cover0_B_4 (y := y) ..)).trans ?_
  unfold kernelRun0_B
  dsimp only
  sl_unfold_words
  simp only [View.canon_unit_zero (S := S512x256) zeros2, View.readAt_eq_ld,
    (hs0_2 t).read_unread, (hs0_3 t).read_unread, (Memref.isWhole_whole (κ := .tc) _).read_unread,
    View.ld_unit_zero (S := S512x1024) zeros2, View.ld_unit_zero (S := S1024x256) zeros2]

/-- The normed rows of a block, place by place. -/
theorem normed (x : Vec Ideal S512x1024 .f32) (g : Vec Ideal S1x1024 .f32) (r : Fin 512) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S512x1024 .bf16) (a b : Vec Ideal S1024x256 .f32) (r : Fin 512) (l : Fin 256) :
    k0_pay2 (F := Ideal) s a b (ix2 r l) = hiddenUnit (fun k => s (ix2 r k)) (fun k => a (ix2 k l)) (fun k => b (ix2 k l)) := by
  pointwise [k0_pay2]
  simp only [zero_sub]
  rfl

/-- There are 352 steps. -/
theorem lt_steps (t : Fin cfg0.N) : t.val < 352 := lt_of_lt_of_eq t.isLt N_0

/-- The row of the whole array that a step's row `r` is. -/
def rowAt (t : Fin cfg0.N) (r : Fin 512) : Fin 16384 := ⟨512 * (t.val / 11) + r.val, by have := lt_steps t; omega⟩

/-- The column of the whole array that a step's column `l` is. -/
def colAt (t : Fin cfg0.N) (l : Fin 256) : Fin 2816 := ⟨t.val % 11 * 256 + l.val, by omega⟩

/-- Which block of each array a step reads. -/
theorem index : ∀ t : Fin grid0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11) := by
  decide +kernel

/-- The step's rows. -/
theorem tokens (t : Fin cfg0.N) (r : Fin 512) (l : Fin 1024) : (iblk m c 0 t : Vec Ideal S512x1024 .f32) (ix2 r l)
    = m ((c : Thread nD τ).loc main_arg0) (ix2 (rowAt t r) l) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 11) + r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the gate's weights. -/
theorem gates (t : Fin cfg0.N) (k : Fin 1024) (l : Fin 256) : (iblk m c 2 t : Vec Ideal S1024x256 .f32) (ix2 k l)
    = m ((c : Thread nD τ).loc main_arg2) (ix2 k (colAt t l)) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 256 + 1 * l.val = t.val % 11 * 256 + l.val
    rw [hi.2]; omega

/-- The step's columns of the other weights. -/
theorem others (t : Fin cfg0.N) (k : Fin 1024) (l : Fin 256) : (iblk m c 3 t : Vec Ideal S1024x256 .f32) (ix2 k l)
    = m ((c : Thread nD τ).loc main_arg3) (ix2 k (colAt t l)) := by
  have hi := (index t).2.2.2
  unfold iblk
  rw [View.read_apply]
  refine (congrFun (V_main_arg3 m c) _).trans (congrArg (m ((c : Thread nD τ).loc main_arg3)) (at2 _ _ _ ?_ ?_))
  · show win0_3.index t 0 * 1024 + 1 * k.val = k.val
    rw [hi.1]; omega
  · show win0_3.index t 1 * 256 + 1 * l.val = t.val % 11 * 256 + l.val
    rw [hi.2]; omega

/-- The hidden unit of row `R` and column `l`, from the rows, the norm's scale and the weights. -/
def value (x : Vec Ideal S16384x1024 .f32) (g : Vec Ideal S1024 .f32) (a b : Vec Ideal S1024x2816 .f32) (R : Fin 16384) (l : Fin 2816) : EReal :=
  hiddenUnit (norm (fun k => x (ix2 R k)) (fun k => g (ix1 k))) (fun k => a (ix2 k l)) (fun k => b (ix2 k l))

/-- What is kept after a step is what the first step of its row block wrote. -/
theorem kept (n : ℕ) (h : n < cfg0.N) : (outsAt0 m c n h).2 = k0_pay1 (iblk m c 0 ⟨n - n % 11, lt_of_le_of_lt (Nat.sub_le _ _) h⟩)
    (iblk m c 1 ⟨n - n % 11, lt_of_le_of_lt (Nat.sub_le _ _) h⟩) :=
  carried (k := 11) (fun n h => (outsAt0 m c n h).2) (fun n h => k0_pay1 (iblk m c 0 ⟨n, h⟩) (iblk m c 1 ⟨n, h⟩))
    (fun n h h0 => congrArg Prod.snd (first m c ⟨n, h⟩ h0)) (fun n h h0 => (congrArg Prod.snd (later m c ⟨n, h⟩ h0)).trans rfl) n h

/-- So it is the step's rows, normed. -/
theorem rows (t : Fin cfg0.N) (r : Fin 512) : (fun l => (outsAt0 m c t.val t.isLt).2 (ix2 r l))
    = norm (fun k => m ((c : Thread nD τ).loc main_arg0) (ix2 (rowAt t r) k)) (fun k => m ((c : Thread nD τ).loc main_arg1) (ix1 k)) := by
  funext l
  have e : rowAt ⟨t.val - t.val % 11, lt_of_le_of_lt (Nat.sub_le _ _) t.isLt⟩ r = rowAt t r := Fin.ext (by
    show 512 * ((t.val - t.val % 11) / 11) + r.val = 512 * (t.val / 11) + r.val
    omega)
  rw [kept, normed]
  simp only [tokens, scale, e]

/-- Each step writes the product of what is kept after it. -/
theorem wrote (t : Fin cfg0.N) : (outsAt0 m c t.val t.isLt).1 = k0_pay2 (outsAt0 m c t.val t.isLt).2 (iblk m c 2 t) (iblk m c 3 t) := by
  by_cases h0 : t.val % 11 = 0
  · rw [first m c t h0]
  · rw [later m c t h0]

/-- The kernel's result at row `R`, column `l`. -/
theorem array (R : Fin 16384) (l : Fin 2816) : Value.G4 (F := Ideal) m c (ix2 R l)
    = value (m ((c : Thread nD τ).loc main_arg0)) (m ((c : Thread nD τ).loc main_arg1)) (m ((c : Thread nD τ).loc main_arg2))
      (m ((c : Thread nD τ).loc main_arg3)) R l := by
  have hR := R.isLt
  have hl := l.isLt
  have hpt : Value.pt4Of (ix2 R l) = 11 * (R.val / 512) + l.val / 256 := by
    show 11 * (R.val / 512 - 0) + 1 * (l.val / 256 - 0) = _
    omega
  have hlt : Value.pt4Of (ix2 R l) < cfg0.N := by
    rw [hpt]
    show _ < grid0.N
    rw [N_0]
    omega
  have hloc : Value.loc4Of (ix2 R l) = ix2 ⟨R.val % 512, by omega⟩ ⟨l.val % 256, by omega⟩ := at2 _ _ _ rfl rfl
  have hrow : rowAt ⟨Value.pt4Of (ix2 R l), hlt⟩ ⟨R.val % 512, by omega⟩ = R := Fin.ext (by
    show 512 * (Value.pt4Of (ix2 R l) / 11) + R.val % 512 = R.val
    rw [hpt]; omega)
  have hcol : colAt ⟨Value.pt4Of (ix2 R l), hlt⟩ ⟨l.val % 256, by omega⟩ = l := Fin.ext (by
    show Value.pt4Of (ix2 R l) % 11 * 256 + l.val % 256 = l.val
    rw [hpt]; omega)
  unfold Value.G4
  rw [dif_pos hlt, ← Value.outsAt0_sweep m c _ hlt, hloc, wrote m c ⟨_, hlt⟩, unit, rows m c ⟨_, hlt⟩, hrow]
  simp only [gates, others, hcol]
  rfl

end Cert.HiddenIdeal.Array

namespace Cert.HiddenReferenceIdeal.Array

open Cert.HiddenReferenceIdeal Cert.HiddenReferenceIdeal.Gen Cert.HiddenReferenceIdeal.Read Idealize.ShloMosaic Cert.Rows Cert.Shared
open Cert.HiddenIdeal.Array (value)

/-- The reference's result at row `R`, column `l`. -/
theorem array (x : FVec Ideal S16384x1024 .f32) (g : FVec Ideal S1024 .f32) (a b : FVec Ideal S1024x2816 .f32) (R : Fin 16384) (l : Fin 2816) :
    val_main_v17 (F := Ideal) x g a b (ix2 R l) = value x g a b R l := by
  have hn : ∀ k, val_main_v12 (F := Ideal) x g (ix2 R k) = norm (fun k => x (ix2 R k)) (fun k => g (ix1 k)) k :=
    Cert.ReferenceIdeal.ReferenceRouting.normed x g R
  have hg : val_main_v13 (F := Ideal) x g a (ix2 R l) = ∑ k, norm (fun k => x (ix2 R k)) (fun k => g (ix1 k)) k * a (ix2 k l) := by
    rw [val_main_v13_apply]
    refine Finset.sum_congr rfl fun k _ => ?_
    rw [show lidx_main_v13 (ix2 R l) k = ix2 R k from eq_ix2 _, show ridx_main_v13 (ix2 R l) k = ix2 k l from eq_ix2 _, hn]
  have hu : val_main_v15 (F := Ideal) x g b (ix2 R l) = ∑ k, norm (fun k => x (ix2 R k)) (fun k => g (ix1 k)) k * b (ix2 k l) := by
    rw [val_main_v15_apply]
    refine Finset.sum_congr rfl fun k _ => ?_
    rw [show lidx_main_v15 (ix2 R l) k = ix2 R k from eq_ix2 _, show ridx_main_v15 (ix2 R l) k = ix2 k l from eq_ix2 _, hn]
  rw [val_main_v17_apply, val_main_v16_apply, val_main_v14_apply, val_main_call0_v5_apply, val_main_call0_v4_apply, val_main_call0_v3_apply,
    val_main_call0_v2_apply, val_main_call0_v1_apply, val_main_call0_v0_apply, val_main_call0_cst_apply, val_main_call0_cst_0_apply, hg, hu]
  show _ * Ideal.div (Ideal.ofBits .f32 1065353216#32) (Ideal.ofBits .f32 1065353216#32 + _) * _ = _
  rw [one_bits]
  rfl

end Cert.HiddenReferenceIdeal.Array
end
-- ==== Proof.Down.lean ====
module

public import proofs.«01_k».proof.Proof.Shared
public import proofs.«01_k».proof.Proof.Gen.DownIdeal.Value
public import proofs.«01_k».proof.Proof.Gen.DownReferenceIdeal.Read
public import proofs.«01_k».proof.Proof.ReferenceRouting

@[expose] public section
noncomputable section

/-!
The dense feed-forward's last product: the residual row plus the product of the hidden units with the weights.
-/

namespace Cert.DownIdeal.Array

open Cert.DownIdeal Cert.DownIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t)) (iblk m c 1 t) (iblk m c 2 t), k0_pay1 (iblk m c 0 t)) := by
  rw [outsAt0_A m c t h0]
  refine Prod.ext ?_ ?_
  · dsimp only
    unfold out0_A_3
    refine (View.read_writes_eq_canon _ _ _ (fun y => cover0_A_3 (y := y) ..)).trans ?_
    unfold kernelRun0_A
    dsimp only
    sl_unfold_words
    simp only [View.canon_unit_zero (S := S512x512) zeros2, View.readCov_unit_zero (S := S512x2816) _ zeros2, View.readAt_eq_ld,
      (hs0_0 t).read_unread, (hs0_1 t).read_unread, (hs0_2 t).read_unread,
      View.ld_unit_zero (S := S512x2816) zeros2, View.ld_unit_zero (S := S2816x512) zeros2, View.ld_unit_zero (S := S512x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x2816) zeros2, View.readAt_eq_ld, (hs0_0 t).read_unread, View.ld_unit_zero (S := S512x2816) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 1 t) (iblk m c 2 t),
      (outsAt0 m c (t.val - 1) (Nat.lt_of_le_of_lt (Nat.sub_le _ _) t.isLt)).2) := by
  rw [outsAt0_B m c t h0]
  refine Prod.ext ?_ rfl
  dsimp only
  unfold out0_B_3
  refine (View.read_writes_eq_canon _ _ _ (fun y => cover0_B_3 (y := y) ..)).trans ?_
  unfold kernelRun0_B
  dsimp only
  sl_unfold_words
  simp only [View.canon_unit_zero (S := S512x512) zeros2, View.readAt_eq_ld,
    (hs0_1 t).read_unread, (hs0_2 t).read_unread, (Memref.isWhole_whole (κ := .tc) _).read_unread,
    View.ld_unit_zero (S := S512x2816) zeros2, View.ld_unit_zero (S := S2816x512) zeros2, View.ld_unit_zero (S := S512x512) zeros2]

/-- What is kept of a block is the block. -/
theorem unchanged (x : Vec Ideal S512x2816 .bf16) (r : Fin 512) (k : Fin 2816) : k0_pay1 (F := Ideal) x (ix2 r k) = x (ix2 r k) := by
  pointwise [k0_pay1]

/-- The block a step writes, place by place. -/
theorem unit (s : Vec Ideal S512x2816 .bf16) (w : Vec Ideal S2816x512 .f32) (x : Vec Ideal S512x512 .f32) (r l : Fin 512) :
    k0_pay2 (F := Ideal) s w x (ix2 r l) = product (fun k => s (ix2 r k)) (fun k => w (ix2 k l)) + x (ix2 r l) := by
  pointwise [k0_pay2]
  rfl

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by
  decide +kernel

/-- The hidden units of the step's rows. -/
theorem units (t : Fin cfg0.N) (r : Fin 512) (k : Fin 2816) : (iblk m c 0 t : Vec Ideal S512x2816 .bf16) (ix2 r k)
    = m ((c : Thread nD τ).loc main_arg0) (ix2 (rowAt t r) k) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 2816 + 1 * k.val = k.val
    rw [hi.2]; omega

/-- The step's columns of the weights. -/
theorem weights (t : Fin cfg0.N) (k : Fin 2816) (l : Fin 512) : (iblk m c 1 t : Vec Ideal S2816x512 .f32) (ix2 k l)
    = m ((c : Thread nD τ).loc main_arg1) (ix2 k (colAt t l)) := by
  have hi := (index t).2.1
  unfold iblk
  rw [View.read_apply]
  refine (congrFun (V_main_arg1 m c) _).trans (congrArg (m ((c : Thread nD τ).loc main_arg1)) (at2 _ _ _ ?_ ?_))
  · show win0_1.index t 0 * 2816 + 1 * k.val = k.val
    rw [hi.1]; omega
  · show win0_1.index t 1 * 512 + 1 * l.val = t.val % 2 * 512 + l.val
    rw [hi.2]; omega

/-- The part of the step's residual rows in its columns. -/
theorem residuals (t : Fin cfg0.N) (r l : Fin 512) : (iblk m c 2 t : Vec Ideal S512x512 .f32) (ix2 r l)
    = m ((c : Thread nD τ).loc main_arg2) (ix2 (rowAt t r) (colAt t l)) := by
  have hi := (index t).2.2
  unfold iblk
  rw [View.read_apply]
  refine (congrFun (V_main_arg2 m c) _).trans (congrArg (m ((c : Thread nD τ).loc main_arg2)) (at2 _ _ _ ?_ ?_))
  · show win0_2.index t 0 * 512 + 1 * r.val = 512 * (t.val / 2) + r.val
    rw [hi.1]; omega
  · show win0_2.index t 1 * 512 + 1 * l.val = t.val % 2 * 512 + l.val
    rw [hi.2]; omega

/-- The result of row `R` and column `l`, from the hidden units, the weights and the residual rows. -/
def value (h : Vec Ideal S16384x2816 .bf16) (w : Vec Ideal S2816x1024 .f32) (x : Vec Ideal S16384x1024 .f32) (R : Fin 16384) (l : Fin 1024) : EReal :=
  product (fun k => h (ix2 R k)) (fun k => w (ix2 k l)) + x (ix2 R l)

/-- What is kept after a step is what the first step of its row block wrote. -/
theorem kept (n : ℕ) (h : n < cfg0.N) : (outsAt0 m c n h).2 = k0_pay1 (iblk m c 0 ⟨n - n % 2, lt_of_le_of_lt (Nat.sub_le _ _) h⟩) :=
  carried (k := 2) (fun n h => (outsAt0 m c n h).2) (fun n h => k0_pay1 (iblk m c 0 ⟨n, h⟩))
    (fun n h h0 => congrArg Prod.snd (first m c ⟨n, h⟩ h0)) (fun n h h0 => (congrArg Prod.snd (later m c ⟨n, h⟩ h0)).trans rfl) n h

/-- So it is the hidden units of the step's rows. -/
theorem rows (t : Fin cfg0.N) (r : Fin 512) (k : Fin 2816) : (outsAt0 m c t.val t.isLt).2 (ix2 r k)
    = m ((c : Thread nD τ).loc main_arg0) (ix2 (rowAt t r) k) := by
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, unchanged, units, e]

/-- Each step writes the product of what is kept after it. -/
theorem wrote (t : Fin cfg0.N) : (outsAt0 m c t.val t.isLt).1 = k0_pay2 (outsAt0 m c t.val t.isLt).2 (iblk m c 1 t) (iblk m c 2 t) := by
  by_cases h0 : t.val % 2 = 0
  · rw [first m c t h0]
  · rw [later m c t h0]

/-- The kernel's result at row `R`, column `l`. -/
theorem array (R : Fin 16384) (l : Fin 1024) : Value.G3 (F := Ideal) m c (ix2 R l)
    = value (m ((c : Thread nD τ).loc main_arg0)) (m ((c : Thread nD τ).loc main_arg1)) (m ((c : Thread nD τ).loc main_arg2)) R l := by
  have hR := R.isLt
  have hl := l.isLt
  have hpt : Value.pt3Of (ix2 R l) = 2 * (R.val / 512) + l.val / 512 := by
    show 2 * (R.val / 512 - 0) + 1 * (l.val / 512 - 0) = _
    omega
  have hlt : Value.pt3Of (ix2 R l) < cfg0.N := by
    rw [hpt]
    show _ < grid0.N
    rw [N_0]
    omega
  have hloc : Value.loc3Of (ix2 R l) = ix2 ⟨R.val % 512, by omega⟩ ⟨l.val % 512, by omega⟩ := at2 _ _ _ rfl rfl
  have hrow : rowAt ⟨Value.pt3Of (ix2 R l), hlt⟩ ⟨R.val % 512, by omega⟩ = R := Fin.ext (by
    show 512 * (Value.pt3Of (ix2 R l) / 2) + R.val % 512 = R.val
    rw [hpt]; omega)
  have hcol : colAt ⟨Value.pt3Of (ix2 R l), hlt⟩ ⟨l.val % 512, by omega⟩ = l := Fin.ext (by
    show Value.pt3Of (ix2 R l) % 2 * 512 + l.val % 512 = l.val
    rw [hpt]; omega)
  unfold Value.G3
  rw [dif_pos hlt, ← Value.outsAt0_sweep m c _ hlt, hloc, wrote m c ⟨_, hlt⟩, unit]
  simp only [rows m c ⟨_, hlt⟩, weights, residuals, hrow, hcol]
  rfl

end Cert.DownIdeal.Array

namespace Cert.DownReferenceIdeal.Array

open Cert.DownReferenceIdeal Cert.DownReferenceIdeal.Gen Cert.DownReferenceIdeal.Read Idealize.ShloMosaic Cert.Rows Cert.Shared
open Cert.DownIdeal.Array (value)

/-- The reference's result at row `R`, column `l`. -/
theorem array (h : FVec Ideal S16384x2816 .bf16) (w : FVec Ideal S2816x1024 .f32) (x : FVec Ideal S16384x1024 .f32) (R : Fin 16384) (l : Fin 1024) :
    val_main_v2 (F := Ideal) h w x (ix2 R l) = value h w x R l := by
  rw [val_main_v2_apply, val_main_v1_apply]
  unfold value product
  refine (add_comm _ _).trans (congrArg (fun s => s + x (ix2 R l)) (Finset.sum_congr rfl fun k _ => ?_))
  rw [show lidx_main_v1 (ix2 R l) k = ix2 R k from eq_ix2 _, show ridx_main_v1 (ix2 R l) k = ix2 k l from eq_ix2 _, val_main_v0_apply]
  rfl

end Cert.DownReferenceIdeal.Array
end
-- ==== Proof.Embed.lean ====
module

public import proofs.«01_k».proof.Proof.Shared
public import proofs.«01_k».proof.Proof.Gen.EmbedIdeal.Value
public import proofs.«01_k».proof.Proof.Gen.EmbedReferenceIdeal.Read
public import proofs.«01_k».proof.Proof.ReferenceRouting

@[expose] public section
noncomputable section

/-!
The gated embedding: `x + sigmoid a * b`, where `a` is the product of the normed row with the gate's weights and `b`
that of the token's embedding with the projection's.
-/

namespace Cert.EmbedIdeal.Array

open Cert.EmbedIdeal Cert.EmbedIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 4 t) (iblk m c 3 t) (iblk m c 5 t), k0_pay1 (iblk m c 0 t) (iblk m c 1 t)) := by
  rw [outsAt0_A m c t h0]
  refine Prod.ext ?_ ?_
  · dsimp only
    unfold out0_A_6
    refine (View.read_writes_eq_canon _ _ _ (fun y => cover0_A_6 (y := y) ..)).trans ?_
    unfold kernelRun0_A
    dsimp only
    sl_unfold_words
    simp only [View.canon_unit_zero (S := S512x512) zeros2, View.readCov_unit_zero (S := S512x1024) _ zeros2, View.readAt_eq_ld,
      (hs0_0 t).read_unread, (hs0_1 t).read_unread, (hs0_2 t).read_unread, (hs0_3 t).read_unread, (hs0_4 t).read_unread, (hs0_5 t).read_unread,
      View.ld_unit_zero (S := S512x1024) zeros2, View.ld_unit_zero (S := S1x1024) zeros2, View.ld_unit_zero (S := S1024x512) zeros2,
      View.ld_unit_zero (S := S512x256) zeros2, View.ld_unit_zero (S := S256x512) zeros2, View.ld_unit_zero (S := S512x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, (hs0_1 t).read_unread,
      View.ld_unit_zero (S := S512x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 4 t) (iblk m c 3 t) (iblk m c 5 t),
      (outsAt0 m c (t.val - 1) (Nat.lt_of_le_of_lt (Nat.sub_le _ _) t.isLt)).2) := by
  rw [outsAt0_B m c t h0]
  refine Prod.ext ?_ rfl
  dsimp only
  unfold out0_B_6
  refine (View.read_writes_eq_canon _ _ _ (fun y => cover0_B_6 (y := y) ..)).trans ?_
  unfold kernelRun0_B
  dsimp only
  sl_unfold_words
  simp only [View.canon_unit_zero (S := S512x512) zeros2, View.readAt_eq_ld,
    (hs0_2 t).read_unread, (hs0_3 t).read_unread, (hs0_4 t).read_unread, (hs0_5 t).read_unread, (Memref.isWhole_whole (κ := .tc) _).read_unread,
    View.ld_unit_zero (S := S512x1024) zeros2, View.ld_unit_zero (S := S1024x512) zeros2,
      View.ld_unit_zero (S := S512x256) zeros2, View.ld_unit_zero (S := S256x512) zeros2, View.ld_unit_zero (S := S512x512) zeros2]

/-- The normed rows of a block, place by place. -/
theorem normed (x : Vec Ideal S512x1024 .f32) (g : Vec Ideal S1x1024 .f32) (r : Fin 512) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S512x1024 .bf16) (a : Vec Ideal S1024x512 .f32) (p : Vec Ideal S512x256 .f32)
    (b : Vec Ideal S256x512 .f32) (x : Vec Ideal S512x512 .f32) (r l : Fin 512) :
    k0_pay2 (F := Ideal) s a p b x (ix2 r l) = sigmoid (product (fun k => s (ix2 r k)) (fun k => a (ix2 k l)))
      * product (fun k => p (ix2 r k)) (fun k => b (ix2 k l)) + x (ix2 r l) := by
  pointwise [k0_pay2]
  simp only [zero_sub]
  rfl

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = t.val % 2)
    ∧ (win0_4.index t 0 = t.val / 2 ∧ win0_4.index t 1 = 0) ∧ (win0_5.index t 0 = t.val / 2 ∧ win0_5.index t 1 = t.val % 2) := by
  decide +kernel

/-- The step's rows. -/
theorem tokens (t : Fin cfg0.N) (r : Fin 512) (l : Fin 1024) : (iblk m c 0 t : Vec Ideal S512x1024 .f32) (ix2 r l)
    = m ((c : Thread nD τ).loc main_arg0) (ix2 (rowAt t r) l) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the gate's weights. -/
theorem gates (t : Fin cfg0.N) (k : Fin 1024) (l : Fin 512) : (iblk m c 2 t : Vec Ideal S1024x512 .f32) (ix2 k l)
    = m ((c : Thread nD τ).loc main_arg2) (ix2 k (colAt t l)) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The step's columns of the projection's weights. -/
theorem projections (t : Fin cfg0.N) (k : Fin 256) (l : Fin 512) : (iblk m c 3 t : Vec Ideal S256x512 .f32) (ix2 k l)
    = m ((c : Thread nD τ).loc main_arg3) (ix2 k (colAt t l)) := by
  have hi := (index t).2.2.2.1
  unfold iblk
  rw [View.read_apply]
  refine (congrFun (V_main_arg3 m c) _).trans (congrArg (m ((c : Thread nD τ).loc main_arg3)) (at2 _ _ _ ?_ ?_))
  · show win0_3.index t 0 * 256 + 1 * k.val = k.val
    rw [hi.1]; omega
  · show win0_3.index t 1 * 512 + 1 * l.val = t.val % 2 * 512 + l.val
    rw [hi.2]; omega

/-- The embeddings of the step's rows. -/
theorem embeddings (t : Fin cfg0.N) (r : Fin 512) (k : Fin 256) : (iblk m c 4 t : Vec Ideal S512x256 .f32) (ix2 r k)
    = m ((c : Thread nD τ).loc main_arg4) (ix2 (rowAt t r) k) := by
  have hi := (index t).2.2.2.2.1
  unfold iblk
  rw [View.read_apply]
  refine (congrFun (V_main_arg4 m c) _).trans (congrArg (m ((c : Thread nD τ).loc main_arg4)) (at2 _ _ _ ?_ ?_))
  · show win0_4.index t 0 * 512 + 1 * r.val = 512 * (t.val / 2) + r.val
    rw [hi.1]; omega
  · show win0_4.index t 1 * 256 + 1 * k.val = k.val
    rw [hi.2]; omega

/-- The part of the step's rows in its columns. -/
theorem residuals (t : Fin cfg0.N) (r l : Fin 512) : (iblk m c 5 t : Vec Ideal S512x512 .f32) (ix2 r l)
    = m ((c : Thread nD τ).loc main_arg0) (ix2 (rowAt t r) (colAt t l)) := by
  have hi := (index t).2.2.2.2.2
  unfold iblk
  rw [View.read_apply]
  refine (congrFun (V_main_arg0 m c) _).trans (congrArg (m ((c : Thread nD τ).loc main_arg0)) (at2 _ _ _ ?_ ?_))
  · show win0_5.index t 0 * 512 + 1 * r.val = 512 * (t.val / 2) + r.val
    rw [hi.1]; omega
  · show win0_5.index t 1 * 512 + 1 * l.val = t.val % 2 * 512 + l.val
    rw [hi.2]; omega

/-- The result of row `R` and column `l`, from the rows, the norm's scale, the weights and the embeddings. -/
def value (x : Vec Ideal S16384x1024 .f32) (g : Vec Ideal S1024 .f32) (a : Vec Ideal S1024x1024 .f32)
    (b : Vec Ideal S256x1024 .f32) (p : Vec Ideal S16384x256 .f32) (R : Fin 16384) (l : Fin 1024) : EReal :=
  sigmoid (product (norm (fun k => x (ix2 R k)) (fun k => g (ix1 k))) (fun k => a (ix2 k l)))
    * product (fun k => p (ix2 R k)) (fun k => b (ix2 k l)) + x (ix2 R l)

/-- What is kept after a step is what the first step of its row block wrote. -/
theorem kept (n : ℕ) (h : n < cfg0.N) : (outsAt0 m c n h).2 = k0_pay1 (iblk m c 0 ⟨n - n % 2, lt_of_le_of_lt (Nat.sub_le _ _) h⟩)
    (iblk m c 1 ⟨n - n % 2, lt_of_le_of_lt (Nat.sub_le _ _) h⟩) :=
  carried (k := 2) (fun n h => (outsAt0 m c n h).2) (fun n h => k0_pay1 (iblk m c 0 ⟨n, h⟩) (iblk m c 1 ⟨n, h⟩))
    (fun n h h0 => congrArg Prod.snd (first m c ⟨n, h⟩ h0)) (fun n h h0 => (congrArg Prod.snd (later m c ⟨n, h⟩ h0)).trans rfl) n h

/-- So it is the step's rows, normed. -/
theorem rows (t : Fin cfg0.N) (r : Fin 512) : (fun l => (outsAt0 m c t.val t.isLt).2 (ix2 r l))
    = norm (fun k => m ((c : Thread nD τ).loc main_arg0) (ix2 (rowAt t r) k)) (fun k => m ((c : Thread nD τ).loc main_arg1) (ix1 k)) := by
  funext l
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, normed]
  simp only [tokens, scale, e]

/-- Each step writes the product of what is kept after it. -/
theorem wrote (t : Fin cfg0.N) : (outsAt0 m c t.val t.isLt).1 = k0_pay2 (outsAt0 m c t.val t.isLt).2 (iblk m c 2 t) (iblk m c 4 t) (iblk m c 3 t) (iblk m c 5 t) := by
  by_cases h0 : t.val % 2 = 0
  · rw [first m c t h0]
  · rw [later m c t h0]

/-- The kernel's result at row `R`, column `l`. -/
theorem array (R : Fin 16384) (l : Fin 1024) : Value.G6 (F := Ideal) m c (ix2 R l)
    = value (m ((c : Thread nD τ).loc main_arg0)) (m ((c : Thread nD τ).loc main_arg1)) (m ((c : Thread nD τ).loc main_arg2))
      (m ((c : Thread nD τ).loc main_arg3)) (m ((c : Thread nD τ).loc main_arg4)) R l := by
  have hR := R.isLt
  have hl := l.isLt
  have hpt : Value.pt6Of (ix2 R l) = 2 * (R.val / 512) + l.val / 512 := by
    show 2 * (R.val / 512 - 0) + 1 * (l.val / 512 - 0) = _
    omega
  have hlt : Value.pt6Of (ix2 R l) < cfg0.N := by
    rw [hpt]
    show _ < grid0.N
    rw [N_0]
    omega
  have hloc : Value.loc6Of (ix2 R l) = ix2 ⟨R.val % 512, by omega⟩ ⟨l.val % 512, by omega⟩ := at2 _ _ _ rfl rfl
  have hrow : rowAt ⟨Value.pt6Of (ix2 R l), hlt⟩ ⟨R.val % 512, by omega⟩ = R := Fin.ext (by
    show 512 * (Value.pt6Of (ix2 R l) / 2) + R.val % 512 = R.val
    rw [hpt]; omega)
  have hcol : colAt ⟨Value.pt6Of (ix2 R l), hlt⟩ ⟨l.val % 512, by omega⟩ = l := Fin.ext (by
    show Value.pt6Of (ix2 R l) % 2 * 512 + l.val % 512 = l.val
    rw [hpt]; omega)
  unfold Value.G6
  rw [dif_pos hlt, ← Value.outsAt0_sweep m c _ hlt, hloc, wrote m c ⟨_, hlt⟩, unit, rows m c ⟨_, hlt⟩, hrow]
  simp only [gates, projections, embeddings, residuals, hrow, hcol]
  rfl

end Cert.EmbedIdeal.Array

namespace Cert.EmbedReferenceIdeal.Array

open Cert.EmbedReferenceIdeal Cert.EmbedReferenceIdeal.Gen Cert.EmbedReferenceIdeal.Read Idealize.ShloMosaic Cert.Rows Cert.Shared
open Cert.EmbedIdeal.Array (value)

/-- The reference's result at row `R`, column `l`. -/
theorem array (x : FVec Ideal S16384x1024 .f32) (g : FVec Ideal S1024 .f32) (a : FVec Ideal S1024x1024 .f32) (b : FVec Ideal S256x1024 .f32)
    (p : FVec Ideal S16384x256 .f32) (R : Fin 16384) (l : Fin 1024) : val_main_v22 (F := Ideal) x g a b p (ix2 R l) = value x g a b p R l := by
  have hn : ∀ k, val_main_v12 (F := Ideal) x g (ix2 R k) = norm (fun k => x (ix2 R k)) (fun k => g (ix1 k)) k :=
    Cert.ReferenceIdeal.ReferenceRouting.normed x g R
  have hg : val_main_v13 (F := Ideal) x g a (ix2 R l) = product (norm (fun k => x (ix2 R k)) (fun k => g (ix1 k))) (fun k => a (ix2 k l)) := by
    rw [val_main_v13_apply]
    refine Finset.sum_congr rfl fun k _ => ?_
    rw [show lidx_main_v13 (ix2 R l) k = ix2 R k from eq_ix2 _, show ridx_main_v13 (ix2 R l) k = ix2 k l from eq_ix2 _, hn]
  have hp : val_main_v20 (F := Ideal) b p (ix2 R l) = product (fun k => p (ix2 R k)) (fun k => b (ix2 k l)) := by
    rw [val_main_v20_apply]
    refine Finset.sum_congr rfl fun k _ => ?_
    rw [show lidx_main_v20 (ix2 R l) k = ix2 R k from eq_ix2 _, show ridx_main_v20 (ix2 R l) k = ix2 k l from eq_ix2 _]
  rw [val_main_v22_apply, val_main_v21_apply, val_main_v19_apply, val_main_v18_apply, val_main_v17_apply, val_main_v16_apply,
    val_main_v15_apply, val_main_v14_apply, val_main_cst_2_apply, val_main_cst_3_apply, hg, hp]
  show _ + Ideal.div (Ideal.ofBits .f32 1065353216#32) (Ideal.ofBits .f32 1065353216#32 + _) * _ = _
  rw [one_bits, add_comm]
  rfl

end Cert.EmbedReferenceIdeal.Array
end
-- ==== Proof.Values.lean ====
module

public import proofs.«01_k».proof.Proof.Shared
public import proofs.«01_k».proof.Proof.Gen.ValuesIdeal.Value
public import proofs.«01_k».proof.Proof.Gen.ValuesReferenceIdeal.Read
public import proofs.«01_k».proof.Proof.ReferenceRouting

@[expose] public section
noncomputable section

/-!
The values of the attention: the product of a normed row with the weights.
-/

namespace Cert.ValuesIdeal.Array

open Cert.ValuesIdeal Cert.ValuesIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  refine Prod.ext ?_ ?_
  · dsimp only
    unfold out0_A_3
    refine (View.read_writes_eq_canon _ _ _ (fun y => cover0_A_3 (y := y) ..)).trans ?_
    unfold kernelRun0_A
    dsimp only
    sl_unfold_words
    simp only [View.canon_unit_zero (S := S512x512) zeros2, View.readCov_unit_zero (S := S512x1024) _ zeros2, View.readAt_eq_ld,
      (hs0_0 t).read_unread, (hs0_1 t).read_unread, (hs0_2 t).read_unread,
      View.ld_unit_zero (S := S512x1024) zeros2, View.ld_unit_zero (S := S1x1024) zeros2, View.ld_unit_zero (S := S1024x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, (hs0_1 t).read_unread,
      View.ld_unit_zero (S := S512x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  refine Prod.ext ?_ rfl
  dsimp only
  unfold out0_B_3
  refine (View.read_writes_eq_canon _ _ _ (fun y => cover0_B_3 (y := y) ..)).trans ?_
  unfold kernelRun0_B
  dsimp only
  sl_unfold_words
  simp only [View.canon_unit_zero (S := S512x512) zeros2, View.readAt_eq_ld,
    (hs0_2 t).read_unread, (Memref.isWhole_whole (κ := .tc) _).read_unread,
    View.ld_unit_zero (S := S512x1024) zeros2, View.ld_unit_zero (S := S1024x512) zeros2]

/-- The normed rows of a block, place by place. -/
theorem normed (x : Vec Ideal S512x1024 .f32) (g : Vec Ideal S1x1024 .f32) (r : Fin 512) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S512x1024 .bf16) (a : Vec Ideal S1024x512 .f32) (r l : Fin 512) :
    k0_pay2 (F := Ideal) s a (ix2 r l) = product (fun k => s (ix2 r k)) (fun k => a (ix2 k l)) := by
  pointwise [k0_pay2]
  rfl

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) := by
  decide +kernel

/-- The step's rows. -/
theorem tokens (t : Fin cfg0.N) (r : Fin 512) (l : Fin 1024) : (iblk m c 0 t : Vec Ideal S512x1024 .f32) (ix2 r l)
    = m ((c : Thread nD τ).loc main_arg0) (ix2 (rowAt t r) l) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the weights. -/
theorem weights (t : Fin cfg0.N) (k : Fin 1024) (l : Fin 512) : (iblk m c 2 t : Vec Ideal S1024x512 .f32) (ix2 k l)
    = m ((c : Thread nD τ).loc main_arg2) (ix2 k (colAt t l)) := by
  have hi := (index t).2.2
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The value of row `R` and column `l`, from the rows, the norm's scale and the weights. -/
def value (x : Vec Ideal S16384x1024 .f32) (g : Vec Ideal S1024 .f32) (w : Vec Ideal S1024x1024 .f32) (R : Fin 16384) (l : Fin 1024) : EReal :=
  product (norm (fun k => x (ix2 R k)) (fun k => g (ix1 k))) (fun k => w (ix2 k l))

/-- What is kept after a step is what the first step of its row block wrote. -/
theorem kept (n : ℕ) (h : n < cfg0.N) : (outsAt0 m c n h).2 = k0_pay1 (iblk m c 0 ⟨n - n % 2, lt_of_le_of_lt (Nat.sub_le _ _) h⟩)
    (iblk m c 1 ⟨n - n % 2, lt_of_le_of_lt (Nat.sub_le _ _) h⟩) :=
  carried (k := 2) (fun n h => (outsAt0 m c n h).2) (fun n h => k0_pay1 (iblk m c 0 ⟨n, h⟩) (iblk m c 1 ⟨n, h⟩))
    (fun n h h0 => congrArg Prod.snd (first m c ⟨n, h⟩ h0)) (fun n h h0 => (congrArg Prod.snd (later m c ⟨n, h⟩ h0)).trans rfl) n h

/-- So it is the step's rows, normed. -/
theorem rows (t : Fin cfg0.N) (r : Fin 512) : (fun l => (outsAt0 m c t.val t.isLt).2 (ix2 r l))
    = norm (fun k => m ((c : Thread nD τ).loc main_arg0) (ix2 (rowAt t r) k)) (fun k => m ((c : Thread nD τ).loc main_arg1) (ix1 k)) := by
  funext l
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, normed]
  simp only [tokens, scale, e]

/-- Each step writes the product of what is kept after it. -/
theorem wrote (t : Fin cfg0.N) : (outsAt0 m c t.val t.isLt).1 = k0_pay2 (outsAt0 m c t.val t.isLt).2 (iblk m c 2 t) := by
  by_cases h0 : t.val % 2 = 0
  · rw [first m c t h0]
  · rw [later m c t h0]

/-- The kernel's result at row `R`, column `l`. -/
theorem array (R : Fin 16384) (l : Fin 1024) : Value.G3 (F := Ideal) m c (ix2 R l)
    = value (m ((c : Thread nD τ).loc main_arg0)) (m ((c : Thread nD τ).loc main_arg1)) (m ((c : Thread nD τ).loc main_arg2)) R l := by
  have hR := R.isLt
  have hl := l.isLt
  have hpt : Value.pt3Of (ix2 R l) = 2 * (R.val / 512) + l.val / 512 := by
    show 2 * (R.val / 512 - 0) + 1 * (l.val / 512 - 0) = _
    omega
  have hlt : Value.pt3Of (ix2 R l) < cfg0.N := by
    rw [hpt]
    show _ < grid0.N
    rw [N_0]
    omega
  have hloc : Value.loc3Of (ix2 R l) = ix2 ⟨R.val % 512, by omega⟩ ⟨l.val % 512, by omega⟩ := at2 _ _ _ rfl rfl
  have hrow : rowAt ⟨Value.pt3Of (ix2 R l), hlt⟩ ⟨R.val % 512, by omega⟩ = R := Fin.ext (by
    show 512 * (Value.pt3Of (ix2 R l) / 2) + R.val % 512 = R.val
    rw [hpt]; omega)
  have hcol : colAt ⟨Value.pt3Of (ix2 R l), hlt⟩ ⟨l.val % 512, by omega⟩ = l := Fin.ext (by
    show Value.pt3Of (ix2 R l) % 2 * 512 + l.val % 512 = l.val
    rw [hpt]; omega)
  unfold Value.G3
  rw [dif_pos hlt, ← Value.outsAt0_sweep m c _ hlt, hloc, wrote m c ⟨_, hlt⟩, unit, rows m c ⟨_, hlt⟩, hrow]
  simp only [weights, hcol]
  rfl

end Cert.ValuesIdeal.Array

namespace Cert.ValuesReferenceIdeal.Array

open Cert.ValuesReferenceIdeal Cert.ValuesReferenceIdeal.Gen Cert.ValuesReferenceIdeal.Read Idealize.ShloMosaic Cert.Rows Cert.Shared
open Cert.ValuesIdeal.Array (value)

/-- The reference's result at row `R`, column `l`. -/
theorem array (x : FVec Ideal S16384x1024 .f32) (g : FVec Ideal S1024 .f32) (w : FVec Ideal S1024x1024 .f32) (R : Fin 16384) (l : Fin 1024) :
    val_main_v13 (F := Ideal) x g w (ix2 R l) = value x g w R l := by
  rw [val_main_v13_apply]
  unfold value product
  refine Finset.sum_congr rfl fun k _ => ?_
  rw [show lidx_main_v13 (ix2 R l) k = ix2 R k from eq_ix2 _, show ridx_main_v13 (ix2 R l) k = ix2 k l from eq_ix2 _]
  exact congrArg (fun y => y * w (ix2 k l)) (Cert.ReferenceIdeal.ReferenceRouting.normed x g R k)

end Cert.ValuesReferenceIdeal.Array
end
-- ==== Proof.KeysHost.lean ====
module

public import proofs.«01_k».proof.Proof.Shared
public import proofs.«01_k».proof.Proof.Gen.KeysIdeal.Value
public import Idealize.ShloMosaic.Lib.StableHlo.ReadAt

@[expose] public section
noncomputable section

/-!
What the host prepares for the keys' call: the norm's scale as one row, the heads' scale eight times in a row, and the
matrix that is one where two columns belong to the same head of 64.
-/

namespace Cert.KeysIdeal.Host

open Cert.KeysIdeal Cert.KeysIdeal.Gen Idealize.ShloMosaic Idealize.ShloMosaic.TcCoe Cert.Shared

variable (m : (ℓ : Loc nD τ sig) → Buf (Elt Ideal) ℓ) (c : Dev nD)

/-- The norm's scale. -/
theorem scale (l : Fin 1024) : V (F := Ideal) m c main_v0 (ix2 0 l) = m ((c : Thread nD τ).loc main_arg1) (ix1 l) := by
  unfold V
  simp only [List.flatten_cons, List.flatten_nil, List.append_nil]
  after_reads_at

/-- The heads' scale. -/
theorem headScale (l : Fin 512) : V (F := Ideal) m c main_v4 (ix2 0 l) = m ((c : Thread nD τ).loc main_arg3) (ix1 ⟨l.val % 64, by omega⟩) := by
  unfold V
  simp only [List.flatten_cons, List.flatten_nil, List.append_nil]
  after_reads_at

/-- The sign of a word, as a word. -/
def signOf (x : BitVec 32) : BitVec 32 := if x = 0 then 0 else if x.msb = true then -1 else 1

/-- The quotient of a column by 64, rounded down, as the host finds it. -/
def headWord (x : BitVec 32) : BitVec 32 :=
  Scalar.select (IntOp.andi (IntOp.cmpi .ne (signOf x) (signOf 64#32)) (IntOp.cmpi .ne (IntOp.remsi .host x 64#32) 0#32))
    (IntOp.subi (IntOp.divsi .host x 64#32) 1#32) (IntOp.divsi .host x 64#32)

/-- It is the column's head. -/
theorem headWord_eq : ∀ j : Fin 512, headWord (BitVec.ofNat 32 j.val) = BitVec.ofNat 32 (j.val / 64) := by
  decide +kernel

/-- Heads are equal where their words are. -/
theorem compare : ∀ a b : Fin 8, IntOp.cmpi .eq (BitVec.ofNat 32 a.val) (BitVec.ofNat 32 b.val) = if a.val = b.val then 1#1 else 0#1 := by
  decide +kernel

/-- What the host makes of two columns' heads: one where they are equal. -/
theorem ofHeads (j l : Fin 512) : FloatOps.uitofp (F := Ideal) FTy.bf16 (IntOp.cmpi .eq (headWord (BitVec.ofNat 32 j.val)) (headWord (BitVec.ofNat 32 l.val)))
    = if j.val / 64 = l.val / 64 then (1 : EReal) else 0 := by
  rw [headWord_eq, headWord_eq]
  refine (congrArg (FloatOps.uitofp (F := Ideal) FTy.bf16) (compare ⟨j.val / 64, by omega⟩ ⟨l.val / 64, by omega⟩)).trans ?_
  dsimp only
  split
  · show (((1#1 : BitVec 1).toNat : ℝ) : EReal) = 1
    simp
  · show (((0#1 : BitVec 1).toNat : ℝ) : EReal) = 0
    simp

/-- Which columns belong to the same head. -/
theorem same (j l : Fin 512) : V (F := Ideal) m c main_v12 (ix2 j l) = if j.val / 64 = l.val / 64 then (1 : EReal) else 0 := by
  refine Eq.trans ?_ (ofHeads j l)
  unfold V
  simp only [List.flatten_cons, List.flatten_nil, List.append_nil]
  after_reads_at
  rfl

end Cert.KeysIdeal.Host
end
-- ==== Proof.Keys.lean ====
module

public import proofs.«01_k».proof.Proof.KeysHost
public import proofs.«01_k».proof.Proof.Finite
public import proofs.«01_k».proof.Proof.Gen.Pre_keys_finite
public import proofs.«01_k».proof.Proof.Gen.KeysReferenceIdeal.Read
public import proofs.«01_k».proof.Proof.ReferenceRouting

@[expose] public section
noncomputable section

/-!
The keys of the attention: the product of a normed row with the weights, each head of 64 columns normed again. The
kernel adds up a head's squares by a product with the heads' matrix, after it has split each square into its rounded
part and the rest. With finite products the rest is zero, so what remains is the sum of the head's squares.
-/

namespace Cert.KeysIdeal.Array

open Cert.KeysIdeal Cert.KeysIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 4 t) (iblk m c 3 t), k0_pay1 (iblk m c 0 t) (iblk m c 1 t)) := by
  rw [outsAt0_A m c t h0]
  refine Prod.ext ?_ ?_
  · dsimp only
    unfold out0_A_5
    refine (View.read_writes_eq_canon _ _ _ (fun y => cover0_A_5 (y := y) ..)).trans ?_
    unfold kernelRun0_A
    dsimp only
    sl_unfold_words
    simp only [View.canon_unit_zero (S := S512x512) zeros2, View.readCov_unit_zero (S := S512x1024) _ zeros2, View.readAt_eq_ld,
      (hs0_0 t).read_unread, (hs0_1 t).read_unread, (hs0_2 t).read_unread, (hs0_3 t).read_unread, (hs0_4 t).read_unread,
      View.ld_unit_zero (S := S512x1024) zeros2, View.ld_unit_zero (S := S1x1024) zeros2, View.ld_unit_zero (S := S1024x512) zeros2,
      View.ld_unit_zero (S := S512x512) zeros2, View.ld_unit_zero (S := S1x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, (hs0_1 t).read_unread,
      View.ld_unit_zero (S := S512x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 4 t) (iblk m c 3 t),
      (outsAt0 m c (t.val - 1) (Nat.lt_of_le_of_lt (Nat.sub_le _ _) t.isLt)).2) := by
  rw [outsAt0_B m c t h0]
  refine Prod.ext ?_ rfl
  dsimp only
  unfold out0_B_5
  refine (View.read_writes_eq_canon _ _ _ (fun y => cover0_B_5 (y := y) ..)).trans ?_
  unfold kernelRun0_B
  dsimp only
  sl_unfold_words
  simp only [View.canon_unit_zero (S := S512x512) zeros2, View.readAt_eq_ld,
    (hs0_2 t).read_unread, (hs0_3 t).read_unread, (hs0_4 t).read_unread, (Memref.isWhole_whole (κ := .tc) _).read_unread,
    View.ld_unit_zero (S := S512x1024) zeros2, View.ld_unit_zero (S := S1024x512) zeros2,
      View.ld_unit_zero (S := S512x512) zeros2, View.ld_unit_zero (S := S1x512) zeros2]

/-- The normed rows of a block, place by place. -/
theorem normed (x : Vec Ideal S512x1024 .f32) (g : Vec Ideal S1x1024 .f32) (r : Fin 512) (l : Fin 1024) :
    k0_pay1 (F := Ideal) x g (ix2 r l) = norm (fun k => x (ix2 r k)) (fun k => g (ix2 0 k)) l := by
  pointwise [k0_pay1]
  rfl

/-- What a step writes in column `l` of a row whose products are `y`: `b` is the heads' matrix and `g` the heads' scale. -/
def split (y : Fin 512 → EReal) (b : Fin 512 → Fin 512 → EReal) (g : Fin 512 → EReal) (l : Fin 512) : EReal :=
  y l * Ideal.rsqrt ((product (fun j => y j * y j) (fun j => b j l) + product (fun j => y j * y j - y j * y j) (fun j => b j l))
    * Ideal.ofBits .f32 0x3C800000#32 + eps) * g l

/-- The block a step writes, place by place. -/
theorem unit (s : Vec Ideal S512x1024 .bf16) (a : Vec Ideal S1024x512 .f32) (b : Vec Ideal S512x512 .bf16)
    (g : Vec Ideal S1x512 .f32) (r l : Fin 512) :
    k0_pay2 (F := Ideal) s a b g (ix2 r l)
      = split (fun j => product (fun k => s (ix2 r k)) (fun k => a (ix2 k j))) (fun j l => b (ix2 j l)) (fun l => g (ix2 0 l)) l := by
  pointwise [k0_pay2]
  rfl

/-- The word of 64. -/
theorem head_bits : Ideal.ofBits .f32 0x42800000#32 = ((64 : ℝ) : EReal) := by
  simp [Ideal.ofBits, Ideal.ieee, -EReal.coe_mul]; norm_num

/-- The word of a 64th. -/
theorem part_bits : Ideal.ofBits .f32 0x3C800000#32 = ((1 / 64 : ℝ) : EReal) := by
  simp [Ideal.ofBits, Ideal.ieee, -EReal.coe_mul]; norm_num

/-- One column `v` of a head whose products are `h`, normed by the head's mean square and scaled by `g`. -/
def headNorm (h : Fin 64 → EReal) (v g : EReal) : EReal :=
  v * Ideal.rsqrt (Ideal.div (∑ k, h k * h k) (Ideal.ofBits .f32 0x42800000#32) + eps) * g

/-- The `k`-th column of the head that column `l` of a tile belongs to. -/
def inHead (l : Fin 512) (k : Fin 64) : Fin 512 := ⟨l.val / 64 * 64 + k.val, by omega⟩

/-- A product with the heads' matrix adds up the columns of one head. -/
theorem head_sum (f : Fin 512 → EReal) (l : Fin 512) :
    product f (fun j => if j.val / 64 = l.val / 64 then (1 : EReal) else 0) = ∑ k, f (inHead l k) := by
  unfold product
  simp only [mul_ite, mul_one, mul_zero]
  rw [← Finset.sum_filter]
  refine Finset.sum_nbij' (fun j => (⟨j.val % 64, Nat.mod_lt _ (by norm_num)⟩ : Fin 64)) (fun k => inHead l k) ?_ ?_ ?_ ?_ ?_
  · intro j _; exact Finset.mem_univ _
  · intro k _
    refine Finset.mem_filter.mpr ⟨Finset.mem_univ _, ?_⟩
    show (l.val / 64 * 64 + k.val) / 64 = l.val / 64
    omega
  · intro j hj
    have h := (Finset.mem_filter.mp hj).2
    refine Fin.ext ?_
    show l.val / 64 * 64 + j.val % 64 = j.val
    omega
  · intro k _
    refine Fin.ext ?_
    show (l.val / 64 * 64 + k.val) % 64 = k.val
    omega
  · intro j hj
    have h := (Finset.mem_filter.mp hj).2
    refine congrArg f (Fin.ext ?_)
    show j.val = l.val / 64 * 64 + j.val % 64
    omega

/-- With finite products a step writes the normed head. -/
theorem split_eq (y : Fin 512 → EReal) (hy : ∀ j, ∃ r : ℝ, y j = r) (g : Fin 512 → EReal) (l : Fin 512) :
    split y (fun j l => if j.val / 64 = l.val / 64 then (1 : EReal) else 0) g l = headNorm (fun k => y (inHead l k)) (y l) (g l) := by
  have hz : ∀ j, y j * y j - y j * y j = 0 := fun j => by
    obtain ⟨r, hr⟩ := hy j
    rw [hr, ← EReal.coe_mul, ← EReal.coe_sub, sub_self, EReal.coe_zero]
  unfold split headNorm
  rw [head_sum, head_sum]
  simp only [hz, Finset.sum_const_zero, add_zero]
  rw [head_bits, part_bits, Ideal.div_coe (by norm_num)]

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = 0)
    ∧ (win0_4.index t 0 = 0 ∧ win0_4.index t 1 = 0) := by
  decide +kernel

/-- The step's rows. -/
theorem tokens (t : Fin cfg0.N) (r : Fin 512) (l : Fin 1024) : (iblk m c 0 t : Vec Ideal S512x1024 .f32) (ix2 r l)
    = m ((c : Thread nD τ).loc main_arg0) (ix2 (rowAt t r) l) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  refine Eq.trans ?_ (Host.scale m c l)
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the weights. -/
theorem weights (t : Fin cfg0.N) (k : Fin 1024) (l : Fin 512) : (iblk m c 2 t : Vec Ideal S1024x512 .f32) (ix2 k l)
    = m ((c : Thread nD τ).loc main_arg2) (ix2 k (colAt t l)) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The heads' scale, the same at every step. -/
theorem headScale (t : Fin cfg0.N) (l : Fin 512) : (iblk m c 3 t : Vec Ideal S1x512 .f32) (ix2 0 l)
    = m ((c : Thread nD τ).loc main_arg3) (ix1 ⟨l.val % 64, by omega⟩) := by
  have hi := (index t).2.2.2.1
  refine Eq.trans ?_ (Host.headScale m c l)
  unfold iblk
  rw [View.read_apply]
  refine congrArg (V m c main_v4) (at2 _ _ _ ?_ ?_)
  · show win0_3.index t 0 * 1 + 1 * 0 = 0
    rw [hi.1]
  · show win0_3.index t 1 * 512 + 1 * l.val = l.val
    rw [hi.2]; omega

/-- The heads' matrix, the same at every step. -/
theorem same (t : Fin cfg0.N) (j l : Fin 512) : (iblk m c 4 t : Vec Ideal S512x512 .bf16) (ix2 j l)
    = if j.val / 64 = l.val / 64 then (1 : EReal) else 0 := by
  have hi := (index t).2.2.2.2
  refine Eq.trans ?_ (Host.same m c j l)
  unfold iblk
  rw [View.read_apply]
  refine congrArg (V m c main_v12) (at2 _ _ _ ?_ ?_)
  · show win0_4.index t 0 * 512 + 1 * j.val = j.val
    rw [hi.1]; omega
  · show win0_4.index t 1 * 512 + 1 * l.val = l.val
    rw [hi.2]; omega

/-- The product of row `R` with column `l` of the weights. -/
def column (x : Vec Ideal S16384x1024 .f32) (g : Vec Ideal S1024 .f32) (w : Vec Ideal S1024x1024 .f32) (R : Fin 16384) (l : Fin 1024) : EReal :=
  product (norm (fun k => x (ix2 R k)) (fun k => g (ix1 k))) (fun k => w (ix2 k l))

/-- The key of row `R` and column `l`, from the rows, the norm's scale, the weights and the heads' scale. -/
def value (x : Vec Ideal S16384x1024 .f32) (g : Vec Ideal S1024 .f32) (w : Vec Ideal S1024x1024 .f32) (gh : Vec Ideal S64 .f32)
    (R : Fin 16384) (l : Fin 1024) : EReal :=
  headNorm (fun k => column x g w R ⟨l.val / 64 * 64 + k.val, by omega⟩) (column x g w R l) (gh (ix1 ⟨l.val % 64, by omega⟩))

/-- A scale with finite entries. -/
def FiniteScale (g : Vec Ideal S1024 .f32) : Prop := ∀ k, ∃ r : ℝ, g (ix1 k) = r

/-- Weights with finite entries. -/
def FiniteWeights (w : Vec Ideal S1024x1024 .f32) : Prop := ∀ k l, ∃ r : ℝ, w (ix2 k l) = r

/-- With a finite scale and finite weights every product is finite. -/
theorem column_real (x : Vec Ideal S16384x1024 .f32) (g : Vec Ideal S1024 .f32) (w : Vec Ideal S1024x1024 .f32)
    (hg : FiniteScale g) (hw : FiniteWeights w) (R : Fin 16384) (l : Fin 1024) :
    ∃ r : ℝ, column x g w R l = r := by
  unfold column product
  refine sum_real _ _ fun k _ => ?_
  obtain ⟨a, ha⟩ := norm_real (fun k => x (ix2 R k)) (fun k => g (ix1 k)) hg k
  obtain ⟨b, hb⟩ := hw k l
  exact ⟨a * b, by show _ * w (ix2 k l) = _; rw [ha, hb, EReal.coe_mul]⟩

/-- What is kept after a step is what the first step of its row block wrote. -/
theorem kept (n : ℕ) (h : n < cfg0.N) : (outsAt0 m c n h).2 = k0_pay1 (iblk m c 0 ⟨n - n % 2, lt_of_le_of_lt (Nat.sub_le _ _) h⟩)
    (iblk m c 1 ⟨n - n % 2, lt_of_le_of_lt (Nat.sub_le _ _) h⟩) :=
  carried (k := 2) (fun n h => (outsAt0 m c n h).2) (fun n h => k0_pay1 (iblk m c 0 ⟨n, h⟩) (iblk m c 1 ⟨n, h⟩))
    (fun n h h0 => congrArg Prod.snd (first m c ⟨n, h⟩ h0)) (fun n h h0 => (congrArg Prod.snd (later m c ⟨n, h⟩ h0)).trans rfl) n h

/-- So it is the step's rows, normed. -/
theorem rows (t : Fin cfg0.N) (r : Fin 512) : (fun l => (outsAt0 m c t.val t.isLt).2 (ix2 r l))
    = norm (fun k => m ((c : Thread nD τ).loc main_arg0) (ix2 (rowAt t r) k)) (fun k => m ((c : Thread nD τ).loc main_arg1) (ix1 k)) := by
  funext l
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, normed]
  simp only [tokens, scale, e]

/-- Each step writes the product of what is kept after it. -/
theorem wrote (t : Fin cfg0.N) : (outsAt0 m c t.val t.isLt).1 = k0_pay2 (outsAt0 m c t.val t.isLt).2 (iblk m c 2 t) (iblk m c 4 t) (iblk m c 3 t) := by
  by_cases h0 : t.val % 2 = 0
  · rw [first m c t h0]
  · rw [later m c t h0]

/-- The kernel's result at row `R`, column `l`, with a finite scale and finite weights. -/
theorem array (hg : FiniteScale (m ((c : Thread nD τ).loc main_arg1))) (hw : FiniteWeights (m ((c : Thread nD τ).loc main_arg2)))
    (R : Fin 16384) (l : Fin 1024) : Value.G5 (F := Ideal) m c (ix2 R l)
    = value (m ((c : Thread nD τ).loc main_arg0)) (m ((c : Thread nD τ).loc main_arg1)) (m ((c : Thread nD τ).loc main_arg2))
      (m ((c : Thread nD τ).loc main_arg3)) R l := by
  have hR := R.isLt
  have hl := l.isLt
  have hpt : Value.pt5Of (ix2 R l) = 2 * (R.val / 512) + l.val / 512 := by
    show 2 * (R.val / 512 - 0) + 1 * (l.val / 512 - 0) = _
    omega
  have hlt : Value.pt5Of (ix2 R l) < cfg0.N := by
    rw [hpt]
    show _ < grid0.N
    rw [N_0]
    omega
  have hloc : Value.loc5Of (ix2 R l) = ix2 ⟨R.val % 512, by omega⟩ ⟨l.val % 512, by omega⟩ := at2 _ _ _ rfl rfl
  have hrow : rowAt ⟨Value.pt5Of (ix2 R l), hlt⟩ ⟨R.val % 512, by omega⟩ = R := Fin.ext (by
    show 512 * (Value.pt5Of (ix2 R l) / 2) + R.val % 512 = R.val
    rw [hpt]; omega)
  have hcol : colAt ⟨Value.pt5Of (ix2 R l), hlt⟩ ⟨l.val % 512, by omega⟩ = l := Fin.ext (by
    show Value.pt5Of (ix2 R l) % 2 * 512 + l.val % 512 = l.val
    rw [hpt]; omega)
  unfold Value.G5
  rw [dif_pos hlt, ← Value.outsAt0_sweep m c _ hlt, hloc, wrote m c ⟨_, hlt⟩, unit, rows m c ⟨_, hlt⟩, hrow]
  simp only [weights, headScale, same]
  refine (split_eq (fun j => column (m ((c : Thread nD τ).loc main_arg0)) (m ((c : Thread nD τ).loc main_arg1)) (m ((c : Thread nD τ).loc main_arg2)) R
    (colAt ⟨Value.pt5Of (ix2 R l), hlt⟩ j)) (fun j => column_real _ _ _ hg hw R _) _ _).trans ?_
  have hk : ∀ k : Fin 64, colAt ⟨Value.pt5Of (ix2 R l), hlt⟩ (inHead ⟨l.val % 512, by omega⟩ k) = ⟨l.val / 64 * 64 + k.val, by omega⟩ := fun k => Fin.ext (by
    show Value.pt5Of (ix2 R l) % 2 * 512 + (l.val % 512 / 64 * 64 + k.val) = l.val / 64 * 64 + k.val
    rw [hpt]; omega)
  have hm : (⟨l.val % 512 % 64, by omega⟩ : Fin 64) = ⟨l.val % 64, by omega⟩ := Fin.ext (by show l.val % 512 % 64 = l.val % 64; omega)
  simp only [hk, hcol, hm]
  rfl

end Cert.KeysIdeal.Array

namespace Cert.KeysReferenceIdeal.Array

open Cert.KeysReferenceIdeal Cert.KeysReferenceIdeal.Gen Cert.KeysReferenceIdeal.Read Idealize.ShloMosaic Cert.Rows Cert.Shared
open Cert.KeysIdeal.Array (value column headNorm)

variable (x : FVec Ideal S16384x1024 .f32) (g : FVec Ideal S1024 .f32) (w : FVec Ideal S1024x1024 .f32) (gh : FVec Ideal S64 .f32) (R : Fin 16384)

/-- The reference's product at row `R`, column `l`. -/
theorem products (l : Fin 1024) : val_main_v13 (F := Ideal) x g w (ix2 R l) = column x g w R l := by
  rw [val_main_v13_apply]
  unfold column product
  refine Finset.sum_congr rfl fun k _ => ?_
  rw [show lidx_main_v13 (ix2 R l) k = ix2 R k from eq_ix2 _, show ridx_main_v13 (ix2 R l) k = ix2 k l from eq_ix2 _]
  exact congrArg (fun y => y * w (ix2 k l)) (Cert.ReferenceIdeal.ReferenceRouting.normed x g R k)

/-- The same by heads. -/
theorem heads (i : S16384x16x64.Idx) (l : Fin 1024) (h0 : (i 0).val = R.val) (h1 : (i 1).val * 64 + (i 2).val = l.val) :
    val_main_v14 (F := Ideal) x g w i = column x g w R l := by
  have hl := l.isLt
  rw [val_main_v14_apply, ← products]
  refine congrArg _ (at2 _ _ _ ?_ ?_)
  · show (((i 0).val * 16 + (i 1).val) * 64 + (i 2).val) / 1024 = R.val
    omega
  · show (((i 0).val * 16 + (i 1).val) * 64 + (i 2).val) % 1024 = l.val
    omega

/-- The reference's result at row `R`, column `l`. -/
theorem array (l : Fin 1024) : val_main_v28 (F := Ideal) x g w gh (ix2 R l) = value x g w gh R l := by
  have hR := R.isLt
  have hl := l.isLt
  have h0 : (R.val * 1024 + l.val) / 1024 = R.val := by omega
  have h1 : (R.val * 1024 + l.val) / 64 % 16 = l.val / 64 := by omega
  have h2 : (R.val * 1024 + l.val) % 64 = l.val % 64 := by omega
  rw [val_main_v28_apply, val_main_v27_apply, val_main_v24_apply, val_main_v23_apply, val_main_v22_apply, val_main_v21_apply, val_main_v19_apply,
    val_main_v17_apply, val_main_v16_apply, val_main_v18_apply, val_main_v20_apply, val_main_v26_apply, val_main_v25_apply]
  simp only [val_main_v15_apply, val_main_cst_2_apply, val_main_cst_3_apply, val_main_cst_4_apply]
  rw [heads x g w R (idx_main_v28 (ix2 R l)) l h0 (by
    show (R.val * 1024 + l.val) / 64 % 16 * 64 + (R.val * 1024 + l.val) % 64 = l.val
    omega)]
  have hs : ∀ k : Fin 64, val_main_v14 (F := Ideal) x g w (idx_main_v16 (idx_main_v17 (idx_main_v23 (idx_main_v28 (ix2 R l)))) k)
      = column x g w R ⟨l.val / 64 * 64 + k.val, by omega⟩ := fun k => heads x g w R _ _ h0 (by
    show (R.val * 1024 + l.val) / 64 % 16 * 64 + k.val = l.val / 64 * 64 + k.val
    rw [h1])
  simp only [hs]
  rw [show idx_main_v25 (idx_main_v26 (idx_main_v28 (ix2 R l))) = ix1 ⟨l.val % 64, by omega⟩ from at1 _ _ h2]
  show _ * Ideal.rsqrt (Ideal.div (Ideal.ofBits .f32 0#32 + _) _ + _) * _ = _
  rw [zero_bits, zero_add]
  rfl

end Cert.KeysReferenceIdeal.Array

namespace Cert.KeysFinite

open Idealize.ShloMosaic Cert.Pre_keys_finite Cert.Pre_keys_finite.Gen Cert.Finite

variable (x0 : FVec Ideal S16384x1024 .f32) (x1 : FVec Ideal S1024 .f32) (x2 : FVec Ideal S1024x1024 .f32) (x3 : FVec Ideal S64 .f32)
  (h : fn (F := Ideal) x0 x1 x2 x3 = fun _ => 1#1)
include h

/-- The weights are finite. -/
theorem weights_real (k l : Fin 1024) : ∃ r : ℝ, x2 (ix2 k l) = r :=
  real_of_word _ (both_ones _ _ (congrFun h (ix2 k l))).1

/-- The norm's scale is finite. -/
theorem scale_real (k : Fin 1024) : ∃ r : ℝ, x1 (ix1 k) = r := by
  have hk := (both_ones _ _ (congrFun h (ix2 k 0))).2
  rw [broadcastInDim_apply _ bcast_S1024x1_S1024x1024_0_1 _ (ix2 k 0) (ix2 k 0) (fun a => match a with | ⟨0, _⟩ => by rfl | ⟨1, _⟩ => by rfl)] at hk
  refine real_of_word _ (Eq.trans (congrArg (fun z => FloatOps.cmpf (F := Ideal) (φ := .f32) .olt z (Ideal.ofBits .f32 2139095040#32)) ?_) hk)
  exact (broadcastInDim_apply _ bcast_S1024_S1024x1_0 (Host.absf x1) (ix2 k 0) (ix1 k) (fun a => match a with | ⟨0, _⟩ => by rfl)).symm

end Cert.KeysFinite
end
-- ==== Proof.Queries.lean ====
module

public import proofs.«01_k».proof.Proof.Keys
public import proofs.«01_k».proof.Proof.Gen.QueriesIdeal.Value
public import proofs.«01_k».proof.Proof.Gen.QueriesReferenceIdeal.Read

@[expose] public section
noncomputable section

/-!
The queries of the attention. What one step computes, and what the host prepares, is what it is for the keys; only the
result is rounded to bf16 on its way out.
-/

namespace Cert.QueriesIdeal.Host

open Cert.QueriesIdeal Cert.QueriesIdeal.Gen Idealize.ShloMosaic Idealize.ShloMosaic.TcCoe Cert.Shared
open Cert.KeysIdeal.Host (headWord headWord_eq ofHeads)

variable (m : (ℓ : Loc nD τ sig) → Buf (Elt Ideal) ℓ) (c : Dev nD)

/-- The norm's scale. -/
theorem scale (l : Fin 1024) : V (F := Ideal) m c main_v0 (ix2 0 l) = m ((c : Thread nD τ).loc main_arg1) (ix1 l) := by
  unfold V
  simp only [List.flatten_cons, List.flatten_nil, List.append_nil]
  after_reads_at

/-- The heads' scale. -/
theorem headScale (l : Fin 512) : V (F := Ideal) m c main_v4 (ix2 0 l) = m ((c : Thread nD τ).loc main_arg3) (ix1 ⟨l.val % 64, by omega⟩) := by
  unfold V
  simp only [List.flatten_cons, List.flatten_nil, List.append_nil]
  after_reads_at

/-- Which columns belong to the same head. -/
theorem same (j l : Fin 512) : V (F := Ideal) m c main_v12 (ix2 j l) = if j.val / 64 = l.val / 64 then (1 : EReal) else 0 := by
  refine Eq.trans ?_ (ofHeads j l)
  unfold V
  simp only [List.flatten_cons, List.flatten_nil, List.append_nil]
  after_reads_at
  rfl

end Cert.QueriesIdeal.Host

namespace Cert.QueriesIdeal.Array

open Cert.QueriesIdeal Cert.QueriesIdeal.Gen Idealize.ShloMosaic Idealize.ShloMosaic.TcCoe Cert.Rows Cert.Shared
open Cert.KeysIdeal.Array (value column column_real split split_eq inHead FiniteScale FiniteWeights)

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 4 t) (iblk m c 3 t), k0_pay1 (iblk m c 0 t) (iblk m c 1 t)) := by
  rw [outsAt0_A m c t h0]
  refine Prod.ext ?_ ?_
  · dsimp only
    unfold out0_A_5
    refine (View.read_writes_eq_canon _ _ _ (fun y => cover0_A_5 (y := y) ..)).trans ?_
    unfold kernelRun0_A
    dsimp only
    sl_unfold_words
    simp only [View.canon_unit_zero (S := S512x512) zeros2, View.readCov_unit_zero (S := S512x1024) _ zeros2, View.readAt_eq_ld,
      (hs0_0 t).read_unread, (hs0_1 t).read_unread, (hs0_2 t).read_unread, (hs0_3 t).read_unread, (hs0_4 t).read_unread,
      View.ld_unit_zero (S := S512x1024) zeros2, View.ld_unit_zero (S := S1x1024) zeros2, View.ld_unit_zero (S := S1024x512) zeros2,
      View.ld_unit_zero (S := S512x512) zeros2, View.ld_unit_zero (S := S1x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, (hs0_1 t).read_unread,
      View.ld_unit_zero (S := S512x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 4 t) (iblk m c 3 t),
      (outsAt0 m c (t.val - 1) (Nat.lt_of_le_of_lt (Nat.sub_le _ _) t.isLt)).2) := by
  rw [outsAt0_B m c t h0]
  refine Prod.ext ?_ rfl
  dsimp only
  unfold out0_B_5
  refine (View.read_writes_eq_canon _ _ _ (fun y => cover0_B_5 (y := y) ..)).trans ?_
  unfold kernelRun0_B
  dsimp only
  sl_unfold_words
  simp only [View.canon_unit_zero (S := S512x512) zeros2, View.readAt_eq_ld,
    (hs0_2 t).read_unread, (hs0_3 t).read_unread, (hs0_4 t).read_unread, (Memref.isWhole_whole (κ := .tc) _).read_unread,
    View.ld_unit_zero (S := S512x1024) zeros2, View.ld_unit_zero (S := S1024x512) zeros2,
      View.ld_unit_zero (S := S512x512) zeros2, View.ld_unit_zero (S := S1x512) zeros2]

/-- The normed rows of a block, place by place. -/
theorem normed (x : Vec Ideal S512x1024 .f32) (g : Vec Ideal S1x1024 .f32) (r : Fin 512) (l : Fin 1024) :
    k0_pay1 (F := Ideal) x g (ix2 r l) = norm (fun k => x (ix2 r k)) (fun k => g (ix2 0 k)) l :=
  Cert.KeysIdeal.Array.normed x g r l

/-- The block a step writes, place by place. -/
theorem unit (s : Vec Ideal S512x1024 .bf16) (a : Vec Ideal S1024x512 .f32) (b : Vec Ideal S512x512 .bf16)
    (g : Vec Ideal S1x512 .f32) (r l : Fin 512) :
    k0_pay2 (F := Ideal) s a b g (ix2 r l)
      = split (fun j => product (fun k => s (ix2 r k)) (fun k => a (ix2 k j))) (fun j l => b (ix2 j l)) (fun l => g (ix2 0 l)) l :=
  Cert.KeysIdeal.Array.unit s a b g r l

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = 0)
    ∧ (win0_4.index t 0 = 0 ∧ win0_4.index t 1 = 0) := by
  decide +kernel

/-- The step's rows. -/
theorem tokens (t : Fin cfg0.N) (r : Fin 512) (l : Fin 1024) : (iblk m c 0 t : Vec Ideal S512x1024 .f32) (ix2 r l)
    = m ((c : Thread nD τ).loc main_arg0) (ix2 (rowAt t r) l) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  refine Eq.trans ?_ (Host.scale m c l)
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the weights. -/
theorem weights (t : Fin cfg0.N) (k : Fin 1024) (l : Fin 512) : (iblk m c 2 t : Vec Ideal S1024x512 .f32) (ix2 k l)
    = m ((c : Thread nD τ).loc main_arg2) (ix2 k (colAt t l)) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The heads' scale, the same at every step. -/
theorem headScale (t : Fin cfg0.N) (l : Fin 512) : (iblk m c 3 t : Vec Ideal S1x512 .f32) (ix2 0 l)
    = m ((c : Thread nD τ).loc main_arg3) (ix1 ⟨l.val % 64, by omega⟩) := by
  have hi := (index t).2.2.2.1
  refine Eq.trans ?_ (Host.headScale m c l)
  unfold iblk
  rw [View.read_apply]
  refine congrArg (V m c main_v4) (at2 _ _ _ ?_ ?_)
  · show win0_3.index t 0 * 1 + 1 * 0 = 0
    rw [hi.1]
  · show win0_3.index t 1 * 512 + 1 * l.val = l.val
    rw [hi.2]; omega

/-- The heads' matrix, the same at every step. -/
theorem same (t : Fin cfg0.N) (j l : Fin 512) : (iblk m c 4 t : Vec Ideal S512x512 .bf16) (ix2 j l)
    = if j.val / 64 = l.val / 64 then (1 : EReal) else 0 := by
  have hi := (index t).2.2.2.2
  refine Eq.trans ?_ (Host.same m c j l)
  unfold iblk
  rw [View.read_apply]
  refine congrArg (V m c main_v12) (at2 _ _ _ ?_ ?_)
  · show win0_4.index t 0 * 512 + 1 * j.val = j.val
    rw [hi.1]; omega
  · show win0_4.index t 1 * 512 + 1 * l.val = l.val
    rw [hi.2]; omega

/-- What is kept after a step is what the first step of its row block wrote. -/
theorem kept (n : ℕ) (h : n < cfg0.N) : (outsAt0 m c n h).2 = k0_pay1 (iblk m c 0 ⟨n - n % 2, lt_of_le_of_lt (Nat.sub_le _ _) h⟩)
    (iblk m c 1 ⟨n - n % 2, lt_of_le_of_lt (Nat.sub_le _ _) h⟩) :=
  carried (k := 2) (fun n h => (outsAt0 m c n h).2) (fun n h => k0_pay1 (iblk m c 0 ⟨n, h⟩) (iblk m c 1 ⟨n, h⟩))
    (fun n h h0 => congrArg Prod.snd (first m c ⟨n, h⟩ h0)) (fun n h h0 => (congrArg Prod.snd (later m c ⟨n, h⟩ h0)).trans rfl) n h

/-- So it is the step's rows, normed. -/
theorem rows (t : Fin cfg0.N) (r : Fin 512) : (fun l => (outsAt0 m c t.val t.isLt).2 (ix2 r l))
    = norm (fun k => m ((c : Thread nD τ).loc main_arg0) (ix2 (rowAt t r) k)) (fun k => m ((c : Thread nD τ).loc main_arg1) (ix1 k)) := by
  funext l
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, normed]
  simp only [tokens, scale, e]

/-- Each step writes the product of what is kept after it. -/
theorem wrote (t : Fin cfg0.N) : (outsAt0 m c t.val t.isLt).1 = k0_pay2 (outsAt0 m c t.val t.isLt).2 (iblk m c 2 t) (iblk m c 4 t) (iblk m c 3 t) := by
  by_cases h0 : t.val % 2 = 0
  · rw [first m c t h0]
  · rw [later m c t h0]

/-- The kernel's result at row `R`, column `l`, with a finite scale and finite weights. -/
theorem array (hg : FiniteScale (m ((c : Thread nD τ).loc main_arg1))) (hw : FiniteWeights (m ((c : Thread nD τ).loc main_arg2)))
    (R : Fin 16384) (l : Fin 1024) : Value.G5 (F := Ideal) m c (ix2 R l)
    = value (m ((c : Thread nD τ).loc main_arg0)) (m ((c : Thread nD τ).loc main_arg1)) (m ((c : Thread nD τ).loc main_arg2))
      (m ((c : Thread nD τ).loc main_arg3)) R l := by
  have hR := R.isLt
  have hl := l.isLt
  have hpt : Value.pt5Of (ix2 R l) = 2 * (R.val / 512) + l.val / 512 := by
    show 2 * (R.val / 512 - 0) + 1 * (l.val / 512 - 0) = _
    omega
  have hlt : Value.pt5Of (ix2 R l) < cfg0.N := by
    rw [hpt]
    show _ < grid0.N
    rw [N_0]
    omega
  have hloc : Value.loc5Of (ix2 R l) = ix2 ⟨R.val % 512, by omega⟩ ⟨l.val % 512, by omega⟩ := at2 _ _ _ rfl rfl
  have hrow : rowAt ⟨Value.pt5Of (ix2 R l), hlt⟩ ⟨R.val % 512, by omega⟩ = R := Fin.ext (by
    show 512 * (Value.pt5Of (ix2 R l) / 2) + R.val % 512 = R.val
    rw [hpt]; omega)
  have hcol : colAt ⟨Value.pt5Of (ix2 R l), hlt⟩ ⟨l.val % 512, by omega⟩ = l := Fin.ext (by
    show Value.pt5Of (ix2 R l) % 2 * 512 + l.val % 512 = l.val
    rw [hpt]; omega)
  unfold Value.G5
  rw [dif_pos hlt, ← Value.outsAt0_sweep m c _ hlt, hloc, wrote m c ⟨_, hlt⟩, unit, rows m c ⟨_, hlt⟩, hrow]
  simp only [weights, headScale, same]
  refine (split_eq (fun j => column (m ((c : Thread nD τ).loc main_arg0)) (m ((c : Thread nD τ).loc main_arg1)) (m ((c : Thread nD τ).loc main_arg2)) R
    (colAt ⟨Value.pt5Of (ix2 R l), hlt⟩ j)) (fun j => column_real _ _ _ hg hw R _) _ _).trans ?_
  have hk : ∀ k : Fin 64, colAt ⟨Value.pt5Of (ix2 R l), hlt⟩ (inHead ⟨l.val % 512, by omega⟩ k) = ⟨l.val / 64 * 64 + k.val, by omega⟩ := fun k => Fin.ext (by
    show Value.pt5Of (ix2 R l) % 2 * 512 + (l.val % 512 / 64 * 64 + k.val) = l.val / 64 * 64 + k.val
    rw [hpt]; omega)
  have hm : (⟨l.val % 512 % 64, by omega⟩ : Fin 64) = ⟨l.val % 64, by omega⟩ := Fin.ext (by show l.val % 512 % 64 = l.val % 64; omega)
  simp only [hk, hcol, hm]
  rfl

end Cert.QueriesIdeal.Array

namespace Cert.QueriesReferenceIdeal.Array

open Cert.QueriesReferenceIdeal Cert.QueriesReferenceIdeal.Gen Cert.QueriesReferenceIdeal.Read Idealize.ShloMosaic
open Cert.KeysIdeal.Array (value)

/-- The reference's result at row `R`, column `l`. -/
theorem array (x : FVec Ideal S16384x1024 .f32) (g : FVec Ideal S1024 .f32) (w : FVec Ideal S1024x1024 .f32) (gh : FVec Ideal S64 .f32)
    (R : Fin 16384) (l : Fin 1024) : val_main_v29 (F := Ideal) x g w gh (ix2 R l) = value x g w gh R l :=
  Cert.KeysReferenceIdeal.Array.array x g w gh R l

end Cert.QueriesReferenceIdeal.Array
end
-- ==== Proof.Back.lean ====
module

public import proofs.«01_k».proof.Proof.Shared
public import proofs.«01_k».proof.Proof.Gen.BackIdeal.Value
public import proofs.«01_k».proof.Proof.Gen.BackReferenceIdeal.Read

@[expose] public section
noncomputable section

/-!
The product that leads back to the residual stream after the convolution, and again after the attention: the residual
row plus the product of the row with the weights.
-/

namespace Cert.BackIdeal.Array

open Cert.BackIdeal Cert.BackIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t)) (iblk m c 1 t) (iblk m c 2 t), k0_pay1 (iblk m c 0 t)) := by
  rw [outsAt0_A m c t h0]
  refine Prod.ext ?_ ?_
  · dsimp only
    unfold out0_A_3
    refine (View.read_writes_eq_canon _ _ _ (fun y => cover0_A_3 (y := y) ..)).trans ?_
    unfold kernelRun0_A
    dsimp only
    sl_unfold_words
    simp only [View.canon_unit_zero (S := S512x512) zeros2, View.readCov_unit_zero (S := S512x1024) _ zeros2, View.readAt_eq_ld,
      (hs0_0 t).read_unread, (hs0_1 t).read_unread, (hs0_2 t).read_unread,
      View.ld_unit_zero (S := S512x1024) zeros2, View.ld_unit_zero (S := S1024x512) zeros2, View.ld_unit_zero (S := S512x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S512x1024) zeros2, View.readAt_eq_ld, (hs0_0 t).read_unread, View.ld_unit_zero (S := S512x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 1 t) (iblk m c 2 t),
      (outsAt0 m c (t.val - 1) (Nat.lt_of_le_of_lt (Nat.sub_le _ _) t.isLt)).2) := by
  rw [outsAt0_B m c t h0]
  refine Prod.ext ?_ rfl
  dsimp only
  unfold out0_B_3
  refine (View.read_writes_eq_canon _ _ _ (fun y => cover0_B_3 (y := y) ..)).trans ?_
  unfold kernelRun0_B
  dsimp only
  sl_unfold_words
  simp only [View.canon_unit_zero (S := S512x512) zeros2, View.readAt_eq_ld,
    (hs0_1 t).read_unread, (hs0_2 t).read_unread, (Memref.isWhole_whole (κ := .tc) _).read_unread,
    View.ld_unit_zero (S := S512x1024) zeros2, View.ld_unit_zero (S := S1024x512) zeros2, View.ld_unit_zero (S := S512x512) zeros2]

/-- What is kept of a block is the block. -/
theorem unchanged (x : Vec Ideal S512x1024 .bf16) (r : Fin 512) (k : Fin 1024) : k0_pay1 (F := Ideal) x (ix2 r k) = x (ix2 r k) := by
  pointwise [k0_pay1]

/-- The block a step writes, place by place. -/
theorem unit (s : Vec Ideal S512x1024 .bf16) (w : Vec Ideal S1024x512 .f32) (x : Vec Ideal S512x512 .f32) (r l : Fin 512) :
    k0_pay2 (F := Ideal) s w x (ix2 r l) = product (fun k => s (ix2 r k)) (fun k => w (ix2 k l)) + x (ix2 r l) := by
  pointwise [k0_pay2]
  rfl

/-- There are 64 steps. -/
theorem lt_steps (t : Fin cfg0.N) : t.val < 64 := lt_of_lt_of_eq t.isLt N_0

/-- The row of the whole array that a step's row `r` is. -/
def rowAt (t : Fin cfg0.N) (r : Fin 512) : Fin 16384 := ⟨512 * (t.val / 2) + r.val, by have := lt_steps t; omega⟩

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by
  decide +kernel

/-- The step's rows. -/
theorem incoming (t : Fin cfg0.N) (r : Fin 512) (k : Fin 1024) : (iblk m c 0 t : Vec Ideal S512x1024 .bf16) (ix2 r k)
    = m ((c : Thread nD τ).loc main_arg0) (ix2 (rowAt t r) k) := by
  have hi := (index t).1
  unfold iblk
  rw [View.read_apply]
  refine (congrFun (V_main_arg0 m c) _).trans (congrArg (m ((c : Thread nD τ).loc main_arg0)) (at2 _ _ _ ?_ ?_))
  · show win0_0.index t 0 * 512 + 1 * r.val = 512 * (t.val / 2) + r.val
    rw [hi.1]; omega
  · show win0_0.index t 1 * 1024 + 1 * k.val = k.val
    rw [hi.2]; omega

/-- The step's columns of the weights. -/
theorem weights (t : Fin cfg0.N) (k : Fin 1024) (l : Fin 512) : (iblk m c 1 t : Vec Ideal S1024x512 .f32) (ix2 k l)
    = m ((c : Thread nD τ).loc main_arg1) (ix2 k (colAt t l)) := by
  have hi := (index t).2.1
  unfold iblk
  rw [View.read_apply]
  refine (congrFun (V_main_arg1 m c) _).trans (congrArg (m ((c : Thread nD τ).loc main_arg1)) (at2 _ _ _ ?_ ?_))
  · show win0_1.index t 0 * 1024 + 1 * k.val = k.val
    rw [hi.1]; omega
  · show win0_1.index t 1 * 512 + 1 * l.val = t.val % 2 * 512 + l.val
    rw [hi.2]; omega

/-- The part of the step's residual rows in its columns. -/
theorem residuals (t : Fin cfg0.N) (r l : Fin 512) : (iblk m c 2 t : Vec Ideal S512x512 .f32) (ix2 r l)
    = m ((c : Thread nD τ).loc main_arg2) (ix2 (rowAt t r) (colAt t l)) := by
  have hi := (index t).2.2
  unfold iblk
  rw [View.read_apply]
  refine (congrFun (V_main_arg2 m c) _).trans (congrArg (m ((c : Thread nD τ).loc main_arg2)) (at2 _ _ _ ?_ ?_))
  · show win0_2.index t 0 * 512 + 1 * r.val = 512 * (t.val / 2) + r.val
    rw [hi.1]; omega
  · show win0_2.index t 1 * 512 + 1 * l.val = t.val % 2 * 512 + l.val
    rw [hi.2]; omega

/-- The result of row `R` and column `l`, from the rows, the weights and the residual rows. -/
def value (h : Vec Ideal S16384x1024 .bf16) (w : Vec Ideal S1024x1024 .f32) (x : Vec Ideal S16384x1024 .f32) (R : Fin 16384) (l : Fin 1024) : EReal :=
  product (fun k => h (ix2 R k)) (fun k => w (ix2 k l)) + x (ix2 R l)

/-- What is kept after a step is what the first step of its row block wrote. -/
theorem kept (n : ℕ) (h : n < cfg0.N) : (outsAt0 m c n h).2 = k0_pay1 (iblk m c 0 ⟨n - n % 2, lt_of_le_of_lt (Nat.sub_le _ _) h⟩) :=
  carried (k := 2) (fun n h => (outsAt0 m c n h).2) (fun n h => k0_pay1 (iblk m c 0 ⟨n, h⟩))
    (fun n h h0 => congrArg Prod.snd (first m c ⟨n, h⟩ h0)) (fun n h h0 => (congrArg Prod.snd (later m c ⟨n, h⟩ h0)).trans rfl) n h

/-- So it is the step's rows. -/
theorem rows (t : Fin cfg0.N) (r : Fin 512) (k : Fin 1024) : (outsAt0 m c t.val t.isLt).2 (ix2 r k)
    = m ((c : Thread nD τ).loc main_arg0) (ix2 (rowAt t r) k) := by
  have e : rowAt ⟨t.val - t.val % 2, lt_of_le_of_lt (Nat.sub_le _ _) t.isLt⟩ r = rowAt t r := Fin.ext (by
    show 512 * ((t.val - t.val % 2) / 2) + r.val = 512 * (t.val / 2) + r.val
    omega)
  rw [kept, unchanged, incoming, e]

/-- Each step writes the product of what is kept after it. -/
theorem wrote (t : Fin cfg0.N) : (outsAt0 m c t.val t.isLt).1 = k0_pay2 (outsAt0 m c t.val t.isLt).2 (iblk m c 1 t) (iblk m c 2 t) := by
  by_cases h0 : t.val % 2 = 0
  · rw [first m c t h0]
  · rw [later m c t h0]

/-- The kernel's result at row `R`, column `l`. -/
theorem array (R : Fin 16384) (l : Fin 1024) : Value.G3 (F := Ideal) m c (ix2 R l)
    = value (m ((c : Thread nD τ).loc main_arg0)) (m ((c : Thread nD τ).loc main_arg1)) (m ((c : Thread nD τ).loc main_arg2)) R l := by
  have hR := R.isLt
  have hl := l.isLt
  have hpt : Value.pt3Of (ix2 R l) = 2 * (R.val / 512) + l.val / 512 := by
    show 2 * (R.val / 512 - 0) + 1 * (l.val / 512 - 0) = _
    omega
  have hlt : Value.pt3Of (ix2 R l) < cfg0.N := by
    rw [hpt]
    show _ < grid0.N
    rw [N_0]
    omega
  have hloc : Value.loc3Of (ix2 R l) = ix2 ⟨R.val % 512, by omega⟩ ⟨l.val % 512, by omega⟩ := at2 _ _ _ rfl rfl
  have hrow : rowAt ⟨Value.pt3Of (ix2 R l), hlt⟩ ⟨R.val % 512, by omega⟩ = R := Fin.ext (by
    show 512 * (Value.pt3Of (ix2 R l) / 2) + R.val % 512 = R.val
    rw [hpt]; omega)
  have hcol : colAt ⟨Value.pt3Of (ix2 R l), hlt⟩ ⟨l.val % 512, by omega⟩ = l := Fin.ext (by
    show Value.pt3Of (ix2 R l) % 2 * 512 + l.val % 512 = l.val
    rw [hpt]; omega)
  unfold Value.G3
  rw [dif_pos hlt, ← Value.outsAt0_sweep m c _ hlt, hloc, wrote m c ⟨_, hlt⟩, unit]
  simp only [rows m c ⟨_, hlt⟩, weights, residuals, hrow, hcol]
  rfl

end Cert.BackIdeal.Array

namespace Cert.BackReferenceIdeal.Array

open Cert.BackReferenceIdeal Cert.BackReferenceIdeal.Gen Cert.BackReferenceIdeal.Read Idealize.ShloMosaic Cert.Rows Cert.Shared
open Cert.BackIdeal.Array (value)

/-- The reference's result at row `R`, column `l`. -/
theorem array (h : FVec Ideal S16384x1024 .bf16) (w : FVec Ideal S1024x1024 .f32) (x : FVec Ideal S16384x1024 .f32) (R : Fin 16384) (l : Fin 1024) :
    val_main_v2 (F := Ideal) h w x (ix2 R l) = value h w x R l := by
  rw [val_main_v2_apply, val_main_v1_apply]
  unfold value product
  refine (add_comm _ _).trans (congrArg (fun s => s + x (ix2 R l)) (Finset.sum_congr rfl fun k _ => ?_))
  rw [show lidx_main_v1 (ix2 R l) k = ix2 R k from eq_ix2 _, show ridx_main_v1 (ix2 R l) k = ix2 k l from eq_ix2 _, val_main_v0_apply]
  rfl

end Cert.BackReferenceIdeal.Array
end
-- ==== Proof.Stick.lean ====
module

public import proofs.«01_k».proof.Proof.Shared

@[expose] public section
noncomputable section

/-!
The stick-breaking weights of one query, as functions of its scores: a key's weight is the product of its own
sigmoid and of one minus the sigmoid of every later key that the query sees, computed by sums of logarithms.
-/

namespace Cert.Stick

open Idealize.ShloMosaic

/-- The logarithm of `1 + e^z`. -/
def soft (z : ℝ) : ℝ := max z 0 + Real.log (1 + Real.exp (-|z|))

/-- The logarithm of one minus the sigmoid of key `n`'s score, and 0 for a key that query `t` does not see. -/
def lost (z : ℕ → ℝ) (t n : ℕ) : ℝ := if n < t then -soft (z n) else 0

/-- What keys `a` and later take away, up to key `b`. -/
def taken (z : ℕ → ℝ) (t a b : ℕ) : ℝ := ∑ j ∈ Finset.Ico a b, lost z t j

/-- The weight of key `n` for query `t`. -/
def weight (z : ℕ → ℝ) (t n : ℕ) : EReal :=
  if n < t then ((Real.exp (z n - soft (z n) + taken z t (n + 1) 4096) : ℝ) : EReal) else 0

/-- The greater of two real numbers, as an extended real. -/
theorem coe_max (a b : ℝ) : max (a : EReal) (b : EReal) = ((max a b : ℝ) : EReal) :=
  (EReal.coe_strictMono.monotone.map_max).symm

/-- The size of a real number, as the programs compute it. -/
theorem size_eq (z : ℝ) : max (z : EReal) (-(z : EReal)) = ((|z| : ℝ) : EReal) := by
  rw [← EReal.coe_neg, coe_max]; rfl

/-- `log (1 + e^z)` as the programs compute it. -/
theorem soft_eq (z : ℝ) : max (z : EReal) 0 + Ideal.log1p (Ideal.exp (-max (z : EReal) (-(z : EReal)))) = (soft z : EReal) := by
  rw [size_eq, ← EReal.coe_neg, ← EReal.coe_zero, coe_max]
  show _ + Ideal.log (1 + ((Real.exp (-|z|) : ℝ) : EReal)) = _
  rw [← EReal.coe_one, ← EReal.coe_add]
  have h : Ideal.log (((1 : ℝ) + Real.exp (-|z|) : ℝ) : EReal) = ((Real.log (1 + Real.exp (-|z|)) : ℝ) : EReal) := by
    show (if (1 : ℝ) + Real.exp (-|z|) ≤ 0 then (⊥ : EReal) else _) = _
    rw [if_neg (not_le.mpr (by positivity))]
  rw [h, ← EReal.coe_add]
  rfl

/-- Of a score with its sign changed. -/
theorem soft_neg (z : ℝ) : soft (-z) = soft z - z := by
  unfold soft
  rw [abs_neg]
  have h : max (-z) 0 = max z 0 - z := by
    rcases le_total z 0 with h | h
    · rw [max_eq_left (by linarith), max_eq_right h]; ring
    · rw [max_eq_right (by linarith), max_eq_left h]; ring
  rw [h]; ring

/-- A sum over `n` places from `a` on is a sum over a range of numbers. -/
theorem places {M : Type} [AddCommMonoid M] (f : ℕ → M) (a n : ℕ) : ∑ p : Fin n, f (a + p.val) = ∑ s ∈ Finset.Ico a (a + n), f s := by
  rw [Fin.sum_univ_eq_sum_range (fun p => f (a + p)) n, Finset.sum_Ico_eq_sum_range, Nat.add_sub_cancel_left]

/-- The sum of the places after `l` of 128 places from `a` on, as a product with a column of zeros and ones. -/
theorem after_place (f : ℕ → ℝ) (a : ℕ) (l : Fin 128) :
    ∑ j : Fin 128, (f (a + j.val) : EReal) * (if l.val < j.val then 1 else 0) = ((∑ s ∈ Finset.Ico (a + l.val + 1) (a + 128), f s : ℝ) : EReal) := by
  have h : ∀ j : Fin 128, (f (a + j.val) : EReal) * (if l.val < j.val then 1 else 0) = (((if l.val < j.val then f (a + j.val) else 0 : ℝ)) : EReal) := by
    intro j
    split
    · rw [mul_one]
    · rw [mul_zero, EReal.coe_zero]
  rw [Finset.sum_congr rfl fun j _ => h j, ← Cert.Rows.coe_sum, Fin.sum_univ_eq_sum_range (fun j => if l.val < j then f (a + j) else 0) 128, ← Finset.sum_filter]
  have hs : (Finset.range 128).filter (fun j => l.val < j) = Finset.Ico (l.val + 1) 128 := by
    ext j
    simp only [Finset.mem_filter, Finset.mem_range, Finset.mem_Ico]
    omega
  rw [hs, show a + l.val + 1 = l.val + 1 + a by omega, show a + 128 = 128 + a by omega, ← Finset.sum_Ico_add' f (l.val + 1) 128 a]
  exact congrArg _ (Finset.sum_congr rfl fun j _ => by rw [add_comm])

/-- The sum of all 128 places from `a` on, as a product with ones. -/
theorem all_places (f : ℕ → ℝ) (a : ℕ) : ∑ j : Fin 128, (f (a + j.val) : EReal) * 1 = ((∑ s ∈ Finset.Ico a (a + 128), f s : ℝ) : EReal) := by
  simp only [mul_one]
  rw [← Cert.Rows.coe_sum, places]

/-- What is taken away by the keys from `a` on is what those up to `b` and those from `b` on take away. -/
theorem taken_add (z : ℕ → ℝ) (t a b c : ℕ) (h : a ≤ b) (h' : b ≤ c) : taken z t a b + taken z t b c = taken z t a c :=
  Finset.sum_Ico_consecutive _ h h'

/-- Keys that the query does not see take nothing away. -/
theorem taken_unseen (z : ℕ → ℝ) (t a b : ℕ) (h : t ≤ a) : taken z t a b = 0 :=
  Finset.sum_eq_zero fun j hj => if_neg (by have := (Finset.mem_Ico.mp hj).1; omega)

/-- The weight of key `n` as a block of 128 keys from `a` on gives it: the logarithm of its sigmoid, what later keys
of the block take away, what keys after the block take away. -/
theorem weight_eq (z : ℕ → ℝ) (t a n : ℕ) (h0 : a ≤ n) (h1 : n < a + 128) (h2 : a + 128 ≤ 4096) (h : n < t) :
    Ideal.exp (((z n - soft (z n) : ℝ) : EReal) + (taken z t (n + 1) (a + 128) : EReal) + (taken z t (a + 128) 4096 : EReal)) = weight z t n := by
  rw [← EReal.coe_add, ← EReal.coe_add, add_assoc, taken_add z t _ _ _ (by omega) h2]
  unfold weight
  rw [if_pos h]
  rfl

/-- The score of a query with key `n`: an eighth of their product, and the head's bias. -/
def line (q : Fin 64 → ℝ) (k : ℕ → Fin 64 → ℝ) (β : ℝ) (n : ℕ) : ℝ := (∑ d, q d * (1 / 8) * k n d) + β

/-- The attention of query `t`: the sum over all keys of weight times value. -/
def attend (q : Fin 64 → ℝ) (k : ℕ → Fin 64 → ℝ) (β : ℝ) (V : ℕ → Fin 64 → EReal) (t : ℕ) (d : Fin 64) : EReal :=
  ∑ s ∈ Finset.Ico 0 4096, weight (line q k β) t s * V s d

end Cert.Stick
end
-- ==== Proof.AttnBlock.lean ====
module

public import proofs.«01_k».proof.Proof.Stick
public import proofs.«01_k».proof.Proof.Shared
public import proofs.«01_k».proof.Proof.Gen.AttnIdeal.Value
public import Idealize.ShloMosaic.Lib.WordCmp

@[expose] public section
noncomputable section

/-!
A block of 512 queries against a block of 512 keys, in four chunks of 128 keys, the last chunk first: what each chunk
adds to the running sum of what later keys take away, and the weights it gives.
-/

namespace Cert.AttnIdeal.Block

open Cert.AttnIdeal Cert.AttnIdeal.Gen Idealize.ShloMosaic Idealize.ShloMosaic.TcCoe Cert.Rows Cert.Shared Cert.Stick

/-- A chunk's 128 logarithms times the constant matrix: the sums over the later places of the chunk, then its whole sum. -/
def sums (lc : FVec Ideal S512x128 .f32) (u : FVec Ideal S128x256 .bf16) : FVec Ideal S512x256 .f32 :=
  matmul dot_S512x128_S128x256_S512x256_1_0_0_1_n_n none (truncf .bf16 lc bitsLt_bf16_f32) u (constant S512x256 .f32 0x00000000#32)

/-- A chunk's weights, from the logarithms of its sigmoids, its sums and what later chunks take away. -/
def weights (y : FVec Ideal S512x128 .f32) (st : FVec Ideal S512x256 .f32) (off : FVec Ideal S512x128 .f32) : FVec Ideal S512x128 .f32 :=
  exp (addf (addf y (extractStridedSlice S512x128 ![0, 0] st slices_S512x256_o0_0_S512x128)) off)

/-- What later chunks and this one take away. -/
def next (st : FVec Ideal S512x256 .f32) (off : FVec Ideal S512x128 .f32) : FVec Ideal S512x128 .f32 :=
  addf off (extractStridedSlice S512x128 ![0, 128] st slices_S512x256_o0_128_S512x128)

/-- The constant matrix: in its left half a one in row `j`, column `l` where `j` is after `l`, in its right half ones. -/
def IsTri (u : FVec Ideal S128x256 .bf16) : Prop :=
  ∀ j l : Fin 128, u (ix2 j ⟨l.val, by omega⟩) = (if l.val < j.val then 1 else 0) ∧ u (ix2 j ⟨128 + l.val, by omega⟩) = 1

/-- Row `r` holds, in every lane, what the keys from `a` on take away from query `t r`. -/
def Off (z : Fin 512 → ℕ → ℝ) (t : Fin 512 → ℕ) (a : ℕ) (off : FVec Ideal S512x128 .f32) : Prop :=
  ∀ r l, off (ix2 r l) = (taken (z r) (t r) a 4096 : EReal)

/-- 128 columns of a block of logarithms. -/
theorem columns (x : FVec Ideal S512x512 .f32) (o : ℕ) (h : S512x512.Slices ![0, o] S512x128) (r : Fin 512) (j : Fin 128) (hj : o + j.val < 512) :
    extractStridedSlice S512x128 ![0, o] x h (ix2 r j) = x (ix2 r ⟨o + j.val, hj⟩) := by
  refine extractStridedSlice_apply _ x h _ _ fun a => ?_
  match a with
  | ⟨0, _⟩ => exact (Nat.zero_add _).symm
  | ⟨1, _⟩ => rfl

/-- The running sum after a chunk. -/
theorem next_off (z : Fin 512 → ℕ → ℝ) (t : Fin 512 → ℕ) (a : ℕ) (ha : a + 128 ≤ 4096) (u : FVec Ideal S128x256 .bf16) (hu : IsTri u)
    (lc : FVec Ideal S512x128 .f32) (hl : ∀ r j, lc (ix2 r j) = (lost (z r) (t r) (a + j.val) : EReal))
    (off : FVec Ideal S512x128 .f32) (ho : Off z t (a + 128) off) : Off z t a (next (sums lc u) off) := by
  intro r l
  have h : next (sums lc u) off (ix2 r l) = off (ix2 r l) + ∑ j : Fin 128, lc (ix2 r j) * u (ix2 j ⟨128 + l.val, by omega⟩) := by
    pointwise [next, sums]
  rw [h, ho r l]
  simp only [hl, fun j => (hu j l).2]
  rw [all_places, ← EReal.coe_add, add_comm]
  exact congrArg _ (taken_add _ _ _ _ _ (by omega) ha)

/-- The weights of a chunk. -/
theorem weights_eq (z : Fin 512 → ℕ → ℝ) (t : Fin 512 → ℕ) (a : ℕ) (ha : a + 128 ≤ 4096) (u : FVec Ideal S128x256 .bf16) (hu : IsTri u)
    (lc : FVec Ideal S512x128 .f32) (hl : ∀ r j, lc (ix2 r j) = (lost (z r) (t r) (a + j.val) : EReal))
    (y : FVec Ideal S512x128 .f32) (hy : ∀ r j, y (ix2 r j) = ((z r (a + j.val) - soft (z r (a + j.val)) : ℝ) : EReal))
    (off : FVec Ideal S512x128 .f32) (ho : Off z t (a + 128) off) (r : Fin 512) (l : Fin 128) (h : a + l.val < t r) :
    weights y (sums lc u) off (ix2 r l) = weight (z r) (t r) (a + l.val) := by
  have e : weights y (sums lc u) off (ix2 r l)
      = Ideal.exp (y (ix2 r l) + (∑ j : Fin 128, lc (ix2 r j) * u (ix2 j ⟨l.val, by omega⟩)) + off (ix2 r l)) := by
    pointwise [weights, sums]
  rw [e, hy r l, ho r l]
  simp only [hl, fun j => (hu j l).1]
  rw [after_place]
  exact weight_eq (z r) (t r) a (a + l.val) (by omega) (by omega) ha h

/-- Where a column number, moved on by `n`, is below the row number. -/
theorem keep_at (n : ℕ) (hn : n ≤ 384) (r : Fin 512) (l : Fin 128) :
    cmpi .slt (addi (iota .tc S512x128 32 [1] iota_S512x128_d1_w32) (broadcast S512x128 (BitVec.ofNat 32 n))) (iota .tc S512x128 32 [0] iota_S512x128_d0_w32) (ix2 r l)
      = if l.val + n < r.val then 1#1 else 0#1 := by
  have e : cmpi .slt (addi (iota .tc S512x128 32 [1] iota_S512x128_d1_w32) (broadcast S512x128 (BitVec.ofNat 32 n))) (iota .tc S512x128 32 [0] iota_S512x128_d0_w32) (ix2 r l)
      = IntOp.cmpi .slt (BitVec.ofNat 32 (l.val + n)) (BitVec.ofNat 32 r.val) := by
    pointwise []
    rw [BitVec.ofNat_add]
    rfl
  rw [e, WordCmp.cmpi_slt_ofNat (by omega) (by omega)]
  by_cases h : l.val + n < r.val
  · rw [if_pos h, decide_eq_true h]; rfl
  · rw [if_neg h, decide_eq_false h]; rfl

/-- The four chunks' weights times the block's values, added to the sum over later keys. -/
theorem outs (W : Fin 512 → ℕ → EReal) (b : ℕ) (V : ℕ → Fin 64 → EReal) (w0 w1 w2 w3 : FVec Ideal S512x128 .bf16)
    (h0 : ∀ r l, w0 (ix2 r l) = W r (b + l.val)) (h1 : ∀ r l, w1 (ix2 r l) = W r (b + 128 + l.val))
    (h2 : ∀ r l, w2 (ix2 r l) = W r (b + 256 + l.val)) (h3 : ∀ r l, w3 (ix2 r l) = W r (b + 384 + l.val))
    (hc : Shape.Concatenates [S512x128, S512x128, S512x128, S512x128] S512x512 1)
    (v : FVec Ideal S512x64 .bf16) (hv : ∀ p d, v (ix2 p d) = V (b + p.val) d)
    (o : FVec Ideal S512x64 .f32) (ho : ∀ r d, o (ix2 r d) = ∑ s ∈ Finset.Ico (b + 512) 4096, W r s * V s d) (hb : b + 512 ≤ 4096) (r : Fin 512) (d : Fin 64) :
    addf o (matmul dot_S512x512_S512x64_S512x64_1_0_0_1_n_n none
        (concatenate S512x512 1 [⟨S512x128, w0⟩, ⟨S512x128, w1⟩, ⟨S512x128, w2⟩, ⟨S512x128, w3⟩] hc) v (constant S512x64 .f32 0x00000000#32)) (ix2 r d)
      = ∑ s ∈ Finset.Ico b 4096, W r s * V s d := by
  have hw : ∀ p : Fin 512, concatenate S512x512 1 [⟨S512x128, w0⟩, ⟨S512x128, w1⟩, ⟨S512x128, w2⟩, ⟨S512x128, w3⟩] hc (ix2 r p) = W r (b + p.val) := by
    intro p
    have hp := p.isLt
    have piece : ∀ (k : ℕ) (hk : k < 4) (w : FVec Ideal S512x128 .bf16) (l : Fin 128),
        [(⟨S512x128, w0⟩ : (s : Shape) × (s.Idx → Ideal .bf16)), ⟨S512x128, w1⟩, ⟨S512x128, w2⟩, ⟨S512x128, w3⟩][k] = ⟨S512x128, w⟩ → 128 * k + l.val = p.val →
        concatenate S512x512 1 [⟨S512x128, w0⟩, ⟨S512x128, w1⟩, ⟨S512x128, w2⟩, ⟨S512x128, w3⟩] hc (ix2 r p) = w (ix2 r l) := by
      intro k hk w l hw hl
      refine concatenate_apply_piece (1 : Fin S512x512.rank) [⟨S512x128, w0⟩, ⟨S512x128, w1⟩, ⟨S512x128, w2⟩, ⟨S512x128, w3⟩] hc (ix2 r p) k hk S512x128 w hw rfl (128 * k) ?_ (ix2 r l) ?_ hl
      · interval_cases k <;> rfl
      · intro a ha
        match a with
        | ⟨0, _⟩ => rfl
        | ⟨1, _⟩ => exact absurd rfl ha
    rcases (by omega : p.val < 128 ∨ 128 ≤ p.val ∧ p.val < 256 ∨ 256 ≤ p.val ∧ p.val < 384 ∨ 384 ≤ p.val) with h | h | h | h
    · rw [piece 0 (by omega) w0 ⟨p.val, h⟩ rfl (by dsimp only; omega), h0]
    · rw [piece 1 (by omega) w1 ⟨p.val - 128, by omega⟩ rfl (by dsimp only; omega), h1]
      exact congrArg (W r) (by dsimp only; omega)
    · rw [piece 2 (by omega) w2 ⟨p.val - 256, by omega⟩ rfl (by dsimp only; omega), h2]
      exact congrArg (W r) (by dsimp only; omega)
    · rw [piece 3 (by omega) w3 ⟨p.val - 384, by omega⟩ rfl (by dsimp only; omega), h3]
      exact congrArg (W r) (by dsimp only; omega)
  have e : addf o (matmul dot_S512x512_S512x64_S512x64_1_0_0_1_n_n none
        (concatenate S512x512 1 [⟨S512x128, w0⟩, ⟨S512x128, w1⟩, ⟨S512x128, w2⟩, ⟨S512x128, w3⟩] hc) v (constant S512x64 .f32 0x00000000#32)) (ix2 r d)
      = o (ix2 r d) + ∑ p : Fin 512, concatenate S512x512 1 [⟨S512x128, w0⟩, ⟨S512x128, w1⟩, ⟨S512x128, w2⟩, ⟨S512x128, w3⟩] hc (ix2 r p) * v (ix2 p d) := by
    generalize concatenate S512x512 1 [⟨S512x128, w0⟩, ⟨S512x128, w1⟩, ⟨S512x128, w2⟩, ⟨S512x128, w3⟩] hc = w
    pointwise []
  rw [e, ho r d]
  simp only [hw, hv]
  rw [places (fun s => W r s * V s d) b 512, add_comm, Finset.sum_Ico_consecutive _ (by omega) hb]

/-- The mask of `keep_at`, as a condition on row and column. -/
def Keeps (n : ℕ) (c : IVec S512x128 1) : Prop := ∀ (r : Fin 512) (l : Fin 128), c (ix2 r l) = if l.val + n < r.val then 1#1 else 0#1

/-- The logarithms that a chunk of the diagonal block keeps. -/
theorem kept_logs (z : Fin 512 → ℕ → ℝ) (t : Fin 512 → ℕ) (b n : ℕ) (ht : ∀ r, t r = b + r.val) (hn : n ≤ 384) (c : IVec S512x128 1) (hc : Keeps n c)
    (x : FVec Ideal S512x512 .f32) (hx : ∀ r p, x (ix2 r p) = ((-soft (z r (b + p.val)) : ℝ) : EReal)) (hs : S512x512.Slices ![0, n] S512x128)
    (r : Fin 512) (j : Fin 128) :
    select c (extractStridedSlice S512x128 ![0, n] x hs) (broadcast S512x128 (Scalar.ofBits .f32 0x00000000#32)) (ix2 r j)
      = (lost (z r) (t r) (b + n + j.val) : EReal) := by
  show Scalar.select (c (ix2 r j)) (extractStridedSlice S512x128 ![0, n] x hs (ix2 r j)) (Ideal.ofBits .f32 0x00000000#32) = _
  rw [hc r j, columns x n hs r j (by omega), hx, zero_bits]
  unfold lost
  rw [ht r]
  by_cases h : j.val + n < r.val
  · rw [if_pos h, if_pos (by omega), show b + n + j.val = b + (n + j.val) from by omega]; rfl
  · rw [if_neg h, if_neg (by omega), EReal.coe_zero]; rfl

/-- The weights that a chunk of the diagonal block keeps. -/
theorem kept_weights (z : Fin 512 → ℕ → ℝ) (t : Fin 512 → ℕ) (b n : ℕ) (ht : ∀ r, t r = b + r.val) (c : IVec S512x128 1) (hc : Keeps n c)
    (w : FVec Ideal S512x128 .f32) (hw : ∀ r l, b + n + l.val < t r → w (ix2 r l) = weight (z r) (t r) (b + n + l.val)) (r : Fin 512) (l : Fin 128) :
    select c w (broadcast S512x128 (Scalar.ofBits .f32 0x00000000#32)) (ix2 r l) = weight (z r) (t r) (b + n + l.val) := by
  show Scalar.select (c (ix2 r l)) (w (ix2 r l)) (Ideal.ofBits .f32 0x00000000#32) = _
  rw [hc r l, zero_bits]
  have h' := ht r
  by_cases h : l.val + n < r.val
  · rw [if_pos h]; exact hw r l (by omega)
  · rw [if_neg h]
    unfold weight
    rw [if_neg (by omega)]; rfl

/-- The logarithms of a block from its scores. -/
theorem logs (z : Fin 512 → ℕ → ℝ) (b : ℕ) (v1 : Elt Ideal .f32) (v5 : FVec Ideal S512x64 .bf16) (k : Vec Ideal S1x1x512x64 .bf16)
    (hz : ∀ r p, k0_pay20 v1 v5 k (ix2 r p) = (z r (b + p.val) : EReal)) (r p : Fin 512) :
    k0_pay22 v1 v5 k (ix2 r p) = ((-soft (z r (b + p.val)) : ℝ) : EReal)
    ∧ k0_pay23 v1 v5 k (ix2 r p) = ((z r (b + p.val) - soft (z r (b + p.val)) : ℝ) : EReal) := by
  have h : k0_pay21 v1 v5 k (ix2 r p) = (soft (z r (b + p.val)) : EReal) := by
    show max (k0_pay20 v1 v5 k (ix2 r p)) (Ideal.ofBits .f32 0x00000000#32)
      + Ideal.log1p (Ideal.exp (Ideal.ofBits .f32 0x00000000#32 - max (k0_pay20 v1 v5 k (ix2 r p)) (-k0_pay20 v1 v5 k (ix2 r p)))) = _
    rw [hz, zero_bits, zero_sub, soft_eq]
  constructor
  · show Ideal.ofBits .f32 0x00000000#32 - k0_pay21 v1 v5 k (ix2 r p) = _
    rw [h, zero_bits, zero_sub, EReal.coe_neg]
  · show k0_pay20 v1 v5 k (ix2 r p) - k0_pay21 v1 v5 k (ix2 r p) = _
    rw [h, hz, EReal.coe_sub]

/-- A block of keys that every query of the block sees. -/
theorem seen_block (z : Fin 512 → ℕ → ℝ) (t : Fin 512 → ℕ) (b : ℕ) (hb : b + 512 ≤ 4096) (ht : ∀ r, b + 512 ≤ t r)
    (v1 : Elt Ideal .f32) (v5 : FVec Ideal S512x64 .bf16) (u : FVec Ideal S128x256 .bf16) (hu : IsTri u) (k : Vec Ideal S1x1x512x64 .bf16)
    (hz : ∀ r p, k0_pay20 v1 v5 k (ix2 r p) = (z r (b + p.val) : EReal))
    (v : FVec Ideal S512x64 .bf16) (V : ℕ → Fin 64 → EReal) (hv : ∀ p d, v (ix2 p d) = V (b + p.val) d)
    (off : FVec Ideal S512x128 .f32) (ho : Off z t (b + 512) off)
    (o : FVec Ideal S512x64 .f32) (hs : ∀ r d, o (ix2 r d) = ∑ s ∈ Finset.Ico (b + 512) 4096, weight (z r) (t r) s * V s d) :
    Off z t b (k0_pay10 u (k0_pay22 v1 v5 k) (k0_pay26 v1 v5 u off k) (k0_pay29 v1 v5 u k))
    ∧ ∀ r d, k0_pay11 u o v (k0_pay22 v1 v5 k) (k0_pay23 v1 v5 k) (k0_pay25 v1 v5 u off k) (k0_pay26 v1 v5 u off k)
        (k0_pay28 v1 v5 u off k) (k0_pay29 v1 v5 u k) (ix2 r d) = ∑ s ∈ Finset.Ico b 4096, weight (z r) (t r) s * V s d := by
  have hl := logs z b v1 v5 k hz
  have lc : ∀ n (hn : n ≤ 384) (h : S512x512.Slices ![0, n] S512x128) (r : Fin 512) (j : Fin 128),
      extractStridedSlice S512x128 ![0, n] (k0_pay22 v1 v5 k) h (ix2 r j) = (lost (z r) (t r) (b + n + j.val) : EReal) := by
    intro n hn h r j
    have h' := ht r
    rw [columns _ n h r j (by omega), (hl _ _).1]
    unfold lost
    rw [if_pos (by omega), show b + n + j.val = b + (n + j.val) from by omega]
  have ly : ∀ n (hn : n ≤ 384) (h : S512x512.Slices ![0, n] S512x128) (r : Fin 512) (j : Fin 128),
      extractStridedSlice S512x128 ![0, n] (k0_pay23 v1 v5 k) h (ix2 r j) = ((z r (b + n + j.val) - soft (z r (b + n + j.val)) : ℝ) : EReal) := by
    intro n hn h r j
    rw [columns _ n h r j (by omega), (hl _ _).2, show b + n + j.val = b + (n + j.val) from by omega]
  have all : ∀ n (hn : n ≤ 384) (r : Fin 512) (l : Fin 128), b + n + l.val < t r := fun n hn r l => by have := ht r; omega
  have o3 : Off z t (b + 384) (k0_pay26 v1 v5 u off k) :=
    next_off z t (b + 384) (by omega) u hu _ (lc 384 (by omega) slices_S512x512_o0_384_S512x128) off ho
  have o2 : Off z t (b + 256) (k0_pay6 (k0_pay26 v1 v5 u off k) (k0_pay29 v1 v5 u k)) :=
    next_off z t (b + 256) (by omega) u hu _ (lc 256 (by omega) slices_S512x512_o0_256_S512x128) _ o3
  have o1 : Off z t (b + 128) (k0_pay8 u (k0_pay22 v1 v5 k) (k0_pay26 v1 v5 u off k) (k0_pay29 v1 v5 u k)) :=
    next_off z t (b + 128) (by omega) u hu _ (lc 128 (by omega) slices_S512x512_o0_128_S512x128) _ o2
  refine ⟨next_off z t b (by omega) u hu _ (lc 0 (by omega) slices_S512x512_o0_0_S512x128) _ o1, ?_⟩
  refine outs (fun r n => weight (z r) (t r) n) b V _ _ _ _ (fun r l => ?_) (fun r l => ?_) (fun r l => ?_) (fun r l => ?_)
    concatenates_S512x128_S512x128_S512x128_S512x128_S512x512_d1 v hv o hs hb
  · exact weights_eq z t b (by omega) u hu _ (lc 0 (by omega) slices_S512x512_o0_0_S512x128) _ (ly 0 (by omega) slices_S512x512_o0_0_S512x128) _ o1 r l (all 0 (by omega) r l)
  · exact weights_eq z t (b + 128) (by omega) u hu _ (lc 128 (by omega) slices_S512x512_o0_128_S512x128) _ (ly 128 (by omega) slices_S512x512_o0_128_S512x128) _ o2 r l (all 128 (by omega) r l)
  · exact weights_eq z t (b + 256) (by omega) u hu _ (lc 256 (by omega) slices_S512x512_o0_256_S512x128) _ (ly 256 (by omega) slices_S512x512_o0_256_S512x128) _ o3 r l (all 256 (by omega) r l)
  · exact weights_eq z t (b + 384) (by omega) u hu _ (lc 384 (by omega) slices_S512x512_o0_384_S512x128) _ (ly 384 (by omega) slices_S512x512_o0_384_S512x128) _ ho r l (all 384 (by omega) r l)

/-- Row numbers of a chunk. -/
abbrev rows : IVec S512x128 32 := iota .tc S512x128 32 [0] iota_S512x128_d0_w32

/-- Column numbers of a chunk. -/
abbrev cols : IVec S512x128 32 := iota .tc S512x128 32 [1] iota_S512x128_d1_w32

/-- The block of keys at the queries' own places: a query sees the keys before it. It is the first block, so nothing is
carried into it. -/
theorem own_block (z : Fin 512 → ℕ → ℝ) (t : Fin 512 → ℕ) (b : ℕ) (hb : b + 512 ≤ 4096) (ht : ∀ r, t r = b + r.val)
    (v1 : Elt Ideal .f32) (q : Vec Ideal S1x1x512x64 .bf16) (u : FVec Ideal S128x256 .bf16) (hu : IsTri u) (k : Vec Ideal S1x1x512x64 .bf16)
    (hz : ∀ r p, k0_pay20 v1 (k0_pay41 q) k (ix2 r p) = (z r (b + p.val) : EReal))
    (v : FVec Ideal S512x64 .bf16) (V : ℕ → Fin 64 → EReal) (hv : ∀ p d, v (ix2 p d) = V (b + p.val) d) :
    Off z t b (k0_pay4 u rows cols (k0_pay48 v1 q k) (k0_pay59 u rows cols k0_pay43 (k0_pay48 v1 q k) (k0_pay50 v1 q k) k0_pay51) (k0_pay61 u rows cols (k0_pay48 v1 q k)))
    ∧ ∀ r d, k0_pay5 u rows cols k0_pay44 v (k0_pay48 v1 q k) (k0_pay49 v1 q k)
        (k0_pay54 u rows cols k0_pay43 (k0_pay49 v1 q k) (k0_pay50 v1 q k) k0_pay51)
        (k0_pay58 u rows cols k0_pay43 (k0_pay48 v1 q k) (k0_pay49 v1 q k) (k0_pay50 v1 q k) k0_pay51)
        (k0_pay59 u rows cols k0_pay43 (k0_pay48 v1 q k) (k0_pay50 v1 q k) k0_pay51) (k0_pay61 u rows cols (k0_pay48 v1 q k))
        (k0_pay62 u rows cols k0_pay43 (k0_pay48 v1 q k) (k0_pay49 v1 q k) (k0_pay50 v1 q k) k0_pay51) (ix2 r d)
        = ∑ s ∈ Finset.Ico b 4096, weight (z r) (t r) s * V s d := by
  have hl := logs z b v1 (k0_pay41 q) k hz
  have lc := fun n hn c hc h => kept_logs z t b n ht hn c hc (k0_pay48 v1 q k) (fun r p => (hl r p).1) h
  have ly : ∀ n (hn : n ≤ 384) (h : S512x512.Slices ![0, n] S512x128) (r : Fin 512) (j : Fin 128),
      extractStridedSlice S512x128 ![0, n] (k0_pay49 v1 q k) h (ix2 r j) = ((z r (b + n + j.val) - soft (z r (b + n + j.val)) : ℝ) : EReal) := by
    intro n hn h r j
    rw [columns _ n h r j (by omega), show b + n + j.val = b + (n + j.val) from by omega]
    exact (hl _ _).2
  have c3 : Keeps 384 (k0_pay52 rows cols k0_pay51) := keep_at 384 (by omega)
  have c2 : Keeps 256 (k0_pay56 rows cols) := keep_at 256 (by omega)
  have c1 : Keeps 128 (k0_pay60 rows cols) := keep_at 128 (by omega)
  have c0 : Keeps 0 (k0_pay2 rows cols) := keep_at 0 (by omega)
  have l3 := lc 384 (by omega) _ c3 slices_S512x512_o0_384_S512x128
  have l2 := lc 256 (by omega) _ c2 slices_S512x512_o0_256_S512x128
  have l1 := lc 128 (by omega) _ c1 slices_S512x512_o0_128_S512x128
  have l0 := lc 0 (by omega) _ c0 slices_S512x512_o0_0_S512x128
  have o4 : Off z t (b + 512) k0_pay43 := by
    intro r l
    have h := ht r
    rw [taken_unseen _ _ _ _ (by omega), EReal.coe_zero]
    exact zero_bits
  have o3 : Off z t (b + 384) (k0_pay55 u rows cols k0_pay43 (k0_pay50 v1 q k) k0_pay51) := next_off z t (b + 384) (by omega) u hu _ l3 _ o4
  have o2 : Off z t (b + 256) (k0_pay59 u rows cols k0_pay43 (k0_pay48 v1 q k) (k0_pay50 v1 q k) k0_pay51) :=
    next_off z t (b + 256) (by omega) u hu _ l2 _ o3
  have o1 : Off z t (b + 128) (k0_pay1 (k0_pay59 u rows cols k0_pay43 (k0_pay48 v1 q k) (k0_pay50 v1 q k) k0_pay51) (k0_pay61 u rows cols (k0_pay48 v1 q k))) :=
    next_off z t (b + 128) (by omega) u hu _ l1 _ o2
  refine ⟨next_off z t b (by omega) u hu _ l0 _ o1, ?_⟩
  refine outs (fun r n => weight (z r) (t r) n) b V _ _ _ _ (fun r l => ?_) (fun r l => ?_) (fun r l => ?_) (fun r l => ?_)
    concatenates_S512x128_S512x128_S512x128_S512x128_S512x512_d1 v hv k0_pay44 (fun r d => ?_) hb
  · exact kept_weights z t b 0 ht _ c0 _ (weights_eq z t b (by omega) u hu _ l0 _ (ly 0 (by omega) slices_S512x512_o0_0_S512x128) _ o1) r l
  · exact kept_weights z t b 128 ht _ c1 _ (weights_eq z t (b + 128) (by omega) u hu _ l1 _ (ly 128 (by omega) slices_S512x512_o0_128_S512x128) _ o2) r l
  · exact kept_weights z t b 256 ht _ c2 _ (weights_eq z t (b + 256) (by omega) u hu _ l2 _ (ly 256 (by omega) slices_S512x512_o0_256_S512x128) _ o3) r l
  · exact kept_weights z t b 384 ht _ c3 _ (weights_eq z t (b + 384) (by omega) u hu _ l3 _ (ly 384 (by omega) slices_S512x512_o0_384_S512x128) _ o4) r l
  · have h := ht r
    refine Eq.trans zero_bits (Finset.sum_eq_zero fun s hs => ?_).symm
    have h' := (Finset.mem_Ico.mp hs).1
    unfold weight
    rw [if_neg (by omega), zero_mul]

/-- A block's scores: the products of queries and keys, and the head's bias. -/
theorem scores (v1 : Elt Ideal .f32) (q k : Vec Ideal S1x1x512x64 .bf16) (r p : Fin 512) :
    k0_pay20 (F := Ideal) v1 (k0_pay41 q) k (ix2 r p)
      = ∑ d : Fin 64, q (ix4 0 0 r d) * Ideal.ofBits .bf16 0x3E00#16 * k (ix4 0 0 p d) + v1 := by
  pointwise [k0_pay20, k0_pay41]

/-- The values of a block, as a matrix. -/
theorem values (v : Vec Ideal S1x1x512x64 .bf16) (p : Fin 512) (d : Fin 64) : k0_pay19 v (ix2 p d) = v (ix4 0 0 p d) := by
  pointwise [k0_pay19]

end Cert.AttnIdeal.Block

end
-- ==== Proof.AttnPoint.lean ====
module

public import proofs.«01_k».proof.Proof.AttnBlock
public import Idealize.ShloMosaic.Lib.Pipeline.ValueKit.Tiles

@[expose] public section
noncomputable section

/-!
One step of the attention: 512 queries of one head against all keys before them, block after block from the queries'
own place down to the first key.
-/

namespace Cert.AttnIdeal.Block

open Cert.AttnIdeal Cert.AttnIdeal.Gen Idealize.ShloMosaic Idealize.ShloMosaic.TcCoe Cert.Rows Cert.Shared Cert.Stick

variable (c : Dev nD) (i : grid0.Coords) (arg3 : Memref sig .tc .smem S16 .f32) (harg3 : arg3.IsWhole)
  (arg4 : Memref sig .tc .vmem S1x1x512x64 .bf16) (harg4 : arg4.IsWhole) (arg5 : Memref sig .tc .vmem S1x1x4096x64 .bf16) (harg5 : arg5.IsWhole)
  (arg6 : Memref sig .tc .vmem S1x1x4096x64 .bf16) (harg6 : arg6.IsWhole) (arg7 : Memref sig .tc .vmem S128x256 .bf16) (harg7 : arg7.IsWhole)
  (arg8 : Memref sig .tc .vmem S1x1x512x64 .bf16) (harg8 : arg8.IsWhole)

/-- The block of keys or values at `o`. -/
def part (x : Vec Ideal S1x1x4096x64 .bf16) (o : Fin 4 → ℕ) (h : ∀ a, o a + S1x1x512x64.size a ≤ S1x1x4096x64.size a) : Vec Ideal S1x1x512x64 .bf16 :=
  View.ld x (Rect.unit (s := S1x1x4096x64) o S1x1x512x64.size h)

/-- One trip of the loop over earlier blocks. -/
theorem trip (bd : Option Variants.none.V) (arg2 : BitVec 32) (v1 : Elt Ideal .f32) (q : FVec Ideal S512x64 .bf16) (u : FVec Ideal S128x256 .bf16)
    (x2 x3 : Vec Ideal S1x1x4096x64 .bf16) (k : Fin (k0_t1_loop i).trips) (off : FVec Ideal S512x128 .f32) (o : FVec Ideal S512x64 .f32) :
    tripR_k0_t1 (F := Ideal) Variants.none c bd i arg3 harg3 arg4 harg4 arg5 harg5 arg6 harg6 arg7 harg7 arg8 harg8 arg2 v1 q u (harg5.unread x2) (harg6.unread x3) k (off, o)
      = (k0_pay10 u (k0_pay22 v1 q (part x2 (k0_off3 i k) (k0_off3_inb i k))) (k0_pay26 v1 q u off (part x2 (k0_off3 i k) (k0_off3_inb i k)))
          (k0_pay29 v1 q u (part x2 (k0_off3 i k) (k0_off3_inb i k))),
        k0_pay11 u o (k0_pay19 (part x3 (k0_off3 i k) (k0_off3_inb i k))) (k0_pay22 v1 q (part x2 (k0_off3 i k) (k0_off3_inb i k)))
          (k0_pay23 v1 q (part x2 (k0_off3 i k) (k0_off3_inb i k))) (k0_pay25 v1 q u off (part x2 (k0_off3 i k) (k0_off3_inb i k)))
          (k0_pay26 v1 q u off (part x2 (k0_off3 i k) (k0_off3_inb i k))) (k0_pay28 v1 q u off (part x2 (k0_off3 i k) (k0_off3_inb i k)))
          (k0_pay29 v1 q u (part x2 (k0_off3 i k) (k0_off3_inb i k)))) := by
  unfold tripR_k0_t1 trip_k0_t1
  dsimp only
  sl_unfold_words
  simp only [View.readAt_eq_ld, harg5.read_unread, harg6.read_unread]
  rfl

/-- What the loop starts from: the block at the queries' own place. -/
def start (v1 : Elt Ideal .f32) (q : Vec Ideal S1x1x512x64 .bf16) (u : FVec Ideal S128x256 .bf16) (k v : Vec Ideal S1x1x512x64 .bf16) :
    FVec Ideal S512x128 .f32 × FVec Ideal S512x64 .f32 :=
  (k0_pay4 u rows cols (k0_pay48 v1 q k) (k0_pay59 u rows cols k0_pay43 (k0_pay48 v1 q k) (k0_pay50 v1 q k) k0_pay51) (k0_pay61 u rows cols (k0_pay48 v1 q k)),
    k0_pay5 u rows cols k0_pay44 (k0_pay45 v) (k0_pay48 v1 q k) (k0_pay49 v1 q k)
      (k0_pay54 u rows cols k0_pay43 (k0_pay49 v1 q k) (k0_pay50 v1 q k) k0_pay51)
      (k0_pay58 u rows cols k0_pay43 (k0_pay48 v1 q k) (k0_pay49 v1 q k) (k0_pay50 v1 q k) k0_pay51)
      (k0_pay59 u rows cols k0_pay43 (k0_pay48 v1 q k) (k0_pay50 v1 q k) k0_pay51) (k0_pay61 u rows cols (k0_pay48 v1 q k))
      (k0_pay62 u rows cols k0_pay43 (k0_pay48 v1 q k) (k0_pay49 v1 q k) (k0_pay50 v1 q k) k0_pay51))

/-- The head's bias, as a step loads it. -/
def bias (x0 : Vec Ideal S16 .f32) : Elt Ideal .f32 :=
  View.ld (e' := .f32) x0 (Rect.unit (s := S16) (k0_off1 i) S1.size (k0_off1_inb i)) (Shape.Idx.first (show 0 < S1.numel by decide))

/-- It is the entry of the step's head. -/
theorem bias_eq (x0 : Vec Ideal S16 .f32) : bias i x0 = x0 (ix1 (i 1 : Fin 16)) := by
  have h : ∀ n : Fin 16, (Scalar.indexCast (BitVec.ofNat 32 n.val)).toNat = n.val := by decide
  refine View.ld_unit_apply_of x0 _ _ _ _ _ fun a => ?_
  match a with
  | ⟨0, _⟩ => exact (h (i 1)).symm

/-- The loop over earlier blocks has a trip for each of them. -/
theorem trips1 : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by decide
  exact h (i 2)

/-- The second loop has no trips. -/
theorem trips2 : (k0_t2_loop i).trips = 0 := by
  have h : ∀ n : Fin 8, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide
  exact h (i 2)

/-- Where the queries' own block of keys begins. -/
theorem own_place : k0_off2 i = ![0, 0, 512 * (i 2).val, 0] := by
  have h : ∀ n : Fin 8, (Scalar.indexCast (Scalar.muli (BitVec.ofNat 32 n.val) 512#32)).toNat = 512 * n.val := by decide
  unfold k0_off2
  dsimp only
  rw [h (i 2)]

/-- Where the block of trip `k` begins. -/
theorem place (k : Fin (k0_t1_loop i).trips) : k0_off3 i k = ![0, 0, 512 * ((i 2).val - 1 - k.val), 0] := by
  have h : ∀ n k : Fin 8, k.val < n.val → (Scalar.indexCast (Scalar.muli (Scalar.subi (Scalar.subi (BitVec.ofNat 32 n.val) 1#32) (Scf.iv 0#32 1#32 k.val)) 512#32)).toNat
      = 512 * (n.val - 1 - k.val) := by decide
  have hk : k.val < (i 2).val := lt_of_lt_of_eq k.isLt (trips1 i)
  have hn : (i 2).val < 8 := (i 2).isLt
  unfold k0_off3
  dsimp only
  rw [h (i 2) ⟨k.val, by omega⟩ hk]

/-- What a step leaves. -/
theorem point (x0 : Vec Ideal S16 .f32) (x1 : Vec Ideal S1x1x512x64 .bf16) (x2 : Vec Ideal S1x1x4096x64 .bf16) (x3 : Vec Ideal S1x1x4096x64 .bf16) (x4 : Vec Ideal S128x256 .bf16) :
    out0_A_5 (F := Ideal) c i arg3 harg3 arg4 harg4 arg5 harg5 arg6 harg6 arg7 harg7 arg8 harg8 x0 x1 x2 x3 x4
      = k0_pay18 (F := Ideal) (st_k0_t1 (F := Ideal) Variants.none c none i arg3 harg3 arg4 harg4 arg5 harg5 arg6 harg6 arg7 harg7 arg8 harg8
          (BitVec.ofNat 32 (i 2).val) (bias i x0) (k0_pay41 x1) (k0_pay42 x4) (harg5.unread x2) (harg6.unread x3)
          (start (bias i x0) x1 (k0_pay42 x4) (part x2 (k0_off2 i) (k0_off2_inb i)) (part x3 (k0_off2 i) (k0_off2_inb i))) (i 2).val).2 := by
  unfold out0_A_5
  refine (View.read_writes_eq_canon _ _ _ (fun y => cover0_A_5 (y := y) ..)).trans ?_
  unfold kernelRun0_A
  dsimp only
  sl_unfold_words
  simp only [View.readAt_eq_ld, harg3.read_unread, harg4.read_unread, harg5.read_unread, harg6.read_unread, harg7.read_unread]
  have z4 : (![0, 0, 0, 0] : Fin 4 → ℕ) = fun _ => 0 := by decide
  rw [View.canon_unit_zero (S := S1x1x512x64) z4]
  rw [View.ld_unit_zero (S := S1x1x512x64) z4, View.ld_unit_zero (S := S128x256) zeros2]
  refine Eq.trans (b := k0_pay18 (F := Ideal) (st_k0_t2 (F := Ideal) Variants.none c none i arg3 harg3 arg4 harg4 arg5 harg5 arg6 harg6 arg7 harg7 arg8 harg8
      (BitVec.ofNat 32 (i 2).val) (bias i x0) (k0_pay41 x1) (k0_pay42 x4) (Scalar.addi 0#32 (Scalar.muli (Scalar.divsi (Scalar.subi (BitVec.ofNat 32 (i 2).val) 0#32) 1#32) 1#32))
      (harg5.unread x2) (harg6.unread x3)
      (st_k0_t1 (F := Ideal) Variants.none c none i arg3 harg3 arg4 harg4 arg5 harg5 arg6 harg6 arg7 harg7 arg8 harg8
          (BitVec.ofNat 32 (i 2).val) (bias i x0) (k0_pay41 x1) (k0_pay42 x4) (harg5.unread x2) (harg6.unread x3)
          (start (bias i x0) x1 (k0_pay42 x4) (part x2 (k0_off2 i) (k0_off2_inb i)) (part x3 (k0_off2 i) (k0_off2_inb i))) (k0_t1_loop i).trips) (k0_t2_loop i).trips).2) rfl ?_
  rw [trips2, trips1, st_k0_t2_zero]
  rfl

/-- A block of keys or values, place by place. -/
theorem part_at (x : Vec Ideal S1x1x4096x64 .bf16) (o : Fin 4 → ℕ) (h : ∀ a, o a + S1x1x512x64.size a ≤ S1x1x4096x64.size a) (a : ℕ) (e : o = ![0, 0, a, 0])
    (p : Fin 512) (d : Fin 64) (ha : a + p.val < 4096) : part x o h (ix4 0 0 p d) = x (ix4 0 0 ⟨a + p.val, ha⟩ d) := by
  subst e
  refine View.ld_unit_apply_of x _ _ _ _ _ fun b => ?_
  match b with
  | ⟨0, _⟩ => rfl
  | ⟨1, _⟩ => rfl
  | ⟨2, _⟩ => rfl
  | ⟨3, _⟩ => exact (Nat.zero_add _).symm

/-- The word of an eighth. -/
theorem eighth_bits : Ideal.ofBits .bf16 0x3E00#16 = ((1 / 8 : ℝ) : EReal) := by
  simp [Ideal.ofBits, Ideal.ieee, -EReal.coe_mul]; norm_num

/-- The scores of the step's queries. -/
def score (q : Fin 512 → Fin 64 → ℝ) (k : ℕ → Fin 64 → ℝ) (β : ℝ) (r : Fin 512) (n : ℕ) : ℝ := line (q r) k β n

/-- The scores of a block of keys that begins at `a`. -/
theorem scores_at (q : Fin 512 → Fin 64 → ℝ) (k : ℕ → Fin 64 → ℝ) (β : ℝ) (v1 : Elt Ideal .f32) (hb : v1 = (β : EReal))
    (x1 : Vec Ideal S1x1x512x64 .bf16) (h1 : ∀ r d, x1 (ix4 0 0 r d) = (q r d : EReal))
    (x2 : Vec Ideal S1x1x4096x64 .bf16) (h2 : ∀ (n : Fin 4096) d, x2 (ix4 0 0 n d) = (k n.val d : EReal))
    (o : Fin 4 → ℕ) (h : ∀ a, o a + S1x1x512x64.size a ≤ S1x1x4096x64.size a) (a : ℕ) (e : o = ![0, 0, a, 0]) (ha : a + 512 ≤ 4096) (r p : Fin 512) :
    k0_pay20 v1 (k0_pay41 x1) (part x2 o h) (ix2 r p) = (score q k β r (a + p.val) : EReal) := by
  rw [scores, hb]
  unfold score line
  rw [EReal.coe_add, coe_sum]
  refine congrArg₂ _ (Finset.sum_congr rfl fun d _ => ?_) rfl
  rw [h1, part_at x2 o h a e p d (by omega), h2, eighth_bits, EReal.coe_mul, EReal.coe_mul]

/-- What the loop has carried down to before trip `k`. -/
theorem down (q : Fin 512 → Fin 64 → ℝ) (k : ℕ → Fin 64 → ℝ) (β : ℝ) (V : ℕ → Fin 64 → EReal) (t : Fin 512 → ℕ) (ht : ∀ r, t r = 512 * (i 2).val + r.val)
    (x0 : Vec Ideal S16 .f32) (h0 : bias i x0 = (β : EReal))
    (x1 : Vec Ideal S1x1x512x64 .bf16) (h1 : ∀ r d, x1 (ix4 0 0 r d) = (q r d : EReal))
    (x2 : Vec Ideal S1x1x4096x64 .bf16) (h2 : ∀ (n : Fin 4096) d, x2 (ix4 0 0 n d) = (k n.val d : EReal))
    (x3 : Vec Ideal S1x1x4096x64 .bf16) (h3 : ∀ (n : Fin 4096) d, x3 (ix4 0 0 n d) = V n.val d)
    (u : FVec Ideal S128x256 .bf16) (hu : IsTri u) (j : ℕ) (hj : j ≤ (i 2).val) :
    Off (score q k β) t (512 * ((i 2).val - j)) (st_k0_t1 (F := Ideal) Variants.none c none i arg3 harg3 arg4 harg4 arg5 harg5 arg6 harg6 arg7 harg7 arg8 harg8
          (BitVec.ofNat 32 (i 2).val) (bias i x0) (k0_pay41 x1) u (harg5.unread x2) (harg6.unread x3)
          (start (bias i x0) x1 u (part x2 (k0_off2 i) (k0_off2_inb i)) (part x3 (k0_off2 i) (k0_off2_inb i))) j).1
    ∧ ∀ r d, (st_k0_t1 (F := Ideal) Variants.none c none i arg3 harg3 arg4 harg4 arg5 harg5 arg6 harg6 arg7 harg7 arg8 harg8
          (BitVec.ofNat 32 (i 2).val) (bias i x0) (k0_pay41 x1) u (harg5.unread x2) (harg6.unread x3)
          (start (bias i x0) x1 u (part x2 (k0_off2 i) (k0_off2_inb i)) (part x3 (k0_off2 i) (k0_off2_inb i))) j).2 (ix2 r d)
        = ∑ s ∈ Finset.Ico (512 * ((i 2).val - j)) 4096, weight (score q k β r) (t r) s * V s d := by
  have hi : (i 2).val < 8 := (i 2).isLt
  have hv : ∀ (o : Fin 4 → ℕ) (h : ∀ a, o a + S1x1x512x64.size a ≤ S1x1x4096x64.size a) (a : ℕ) (_ : o = ![0, 0, a, 0]) (_ : a + 512 ≤ 4096) (p : Fin 512) (d : Fin 64),
      k0_pay19 (part x3 o h) (ix2 p d) = V (a + p.val) d := by
    intro o h a e ha p d
    rw [values, part_at x3 o h a e p d (by omega), h3]
  induction j with
  | zero =>
    rw [st_k0_t1_zero]
    exact own_block (score q k β) t (512 * (i 2).val) (by omega) ht (bias i x0) x1 u hu _
      (scores_at q k β _ h0 x1 h1 x2 h2 _ (k0_off2_inb i) _ (own_place i) (by omega)) _ V
      (hv _ (k0_off2_inb i) _ (own_place i) (by omega))
  | succ j ih =>
    obtain ⟨ho, hs⟩ := ih (by omega)
    have hlt : j < (k0_t1_loop i).trips := by rw [trips1]; omega
    rw [st_k0_t1_succ (k := ⟨j, hlt⟩), ← Prod.mk.eta (p := st_k0_t1 (F := Ideal) _ _ _ _ _ _ _ _ _ _ _ _ _ _ _ _ _ _ _ _ _ _ _ _), trip]
    have e := place i ⟨j, hlt⟩
    rw [show (i 2).val - 1 - j = (i 2).val - (j + 1) from by omega] at e
    rw [show 512 * ((i 2).val - j) = 512 * ((i 2).val - (j + 1)) + 512 from by omega] at ho hs
    exact seen_block (score q k β) t _ (by omega) (fun r => by rw [ht r]; omega) _ _ u hu _
      (scores_at q k β _ h0 x1 h1 x2 h2 _ _ _ e (by omega)) _ V (hv _ _ _ e (by omega)) _ ho _ hs

/-- What a step writes: the sum over all keys of weight times value. -/
theorem step (q : Fin 512 → Fin 64 → ℝ) (k : ℕ → Fin 64 → ℝ) (β : ℝ) (V : ℕ → Fin 64 → EReal) (t : Fin 512 → ℕ) (ht : ∀ r, t r = 512 * (i 2).val + r.val)
    (x0 : Vec Ideal S16 .f32) (h0 : x0 (ix1 (i 1 : Fin 16)) = (β : EReal))
    (x1 : Vec Ideal S1x1x512x64 .bf16) (h1 : ∀ r d, x1 (ix4 0 0 r d) = (q r d : EReal))
    (x2 : Vec Ideal S1x1x4096x64 .bf16) (h2 : ∀ (n : Fin 4096) d, x2 (ix4 0 0 n d) = (k n.val d : EReal))
    (x3 : Vec Ideal S1x1x4096x64 .bf16) (h3 : ∀ (n : Fin 4096) d, x3 (ix4 0 0 n d) = V n.val d)
    (x4 : Vec Ideal S128x256 .bf16) (hu : IsTri x4) (r : Fin 512) (d : Fin 64) :
    out0_A_5 (F := Ideal) c i arg3 harg3 arg4 harg4 arg5 harg5 arg6 harg6 arg7 harg7 arg8 harg8 x0 x1 x2 x3 x4 (ix4 0 0 r d)
      = attend (q r) k β V (t r) d := by
  have e4 : k0_pay42 x4 = x4 := shapeCast_self _ _
  have h := (down c i arg3 harg3 arg4 harg4 arg5 harg5 arg6 harg6 arg7 harg7 arg8 harg8 q k β V t ht x0 ((bias_eq i x0).trans h0) x1 h1 x2 h2 x3 h3 x4 hu
    (i 2).val le_rfl).2 r d
  rw [Nat.sub_self, Nat.mul_zero] at h
  refine Eq.trans ?_ h
  rw [point, e4]
  generalize st_k0_t1 (F := Ideal) _ _ _ _ _ _ _ _ _ _ _ _ _ _ _ _ _ _ _ _ _ _ _ _ = s
  pointwise [k0_pay18]

end Cert.AttnIdeal.Block

end
-- ==== Proof.Attn.lean ====
module

public import proofs.«01_k».proof.Proof.AttnPoint
public import Idealize.ShloMosaic.Lib.StableHlo.ReadAt
public import Idealize.ShloMosaic.Lib.Pipeline.ValueKit.Geometry

@[expose] public section
noncomputable section

/-!
The attention's whole result: what each step reads of the arrays, and the array that the steps' blocks make up.
-/

namespace Cert.AttnIdeal.Array

open Cert.AttnIdeal Cert.AttnIdeal.Gen Idealize.ShloMosaic Idealize.ShloMosaic.TcCoe Cert.Rows Cert.Shared Cert.Stick Cert.AttnIdeal.Block

variable (m : (ℓ : Loc nD τ sig) → Buf (Elt Ideal) ℓ) (c : Dev nD)

/-- The word of one. -/
theorem one_word : Ideal.ofBits .bf16 0x3F80#16 = 1 := by
  simp [Ideal.ofBits, Ideal.ieee, -EReal.coe_mul]; norm_num

/-- What the host makes of a row and a column: one where the row is greater. -/
theorem greater (j l : Fin 128) : FloatOps.uitofp (F := Ideal) FTy.bf16 (IntOp.cmpi .sgt (BitVec.ofNat 32 j.val) (BitVec.ofNat 32 l.val))
    = if l.val < j.val then (1 : EReal) else 0 := by
  rw [show IntOp.cmpi .sgt (BitVec.ofNat 32 j.val) (BitVec.ofNat 32 l.val) = if l.val < j.val then 1#1 else 0#1 from by
    revert j l; decide +kernel]
  split
  · show (((1#1 : BitVec 1).toNat : ℝ) : EReal) = 1
    simp
  · show (((0#1 : BitVec 1).toNat : ℝ) : EReal) = 0
    simp

/-- The left half of the constant matrix. -/
theorem left (j l : Fin 128) : V (F := Ideal) m c main_v8 (ix2 j ⟨l.val, by omega⟩) = if l.val < j.val then (1 : EReal) else 0 := by
  refine Eq.trans ?_ (greater j l)
  unfold V
  after_reads_at

/-- The right half of the constant matrix. -/
theorem right (j l : Fin 128) : V (F := Ideal) m c main_v8 (ix2 j ⟨128 + l.val, by omega⟩) = (1 : EReal) := by
  refine Eq.trans ?_ one_word
  unfold V
  after_reads_at

/-- Which step it is: its sequence, its head and its block of queries. -/
theorem coords : ∀ t : Fin grid0.N, (grid0.coords t 0).val = t.val / 128 ∧ (grid0.coords t 1).val = t.val / 8 % 16 ∧ (grid0.coords t 2).val = t.val % 8 := by
  decide +kernel

/-- A place of an array with four axes is given by its four numbers. -/
theorem at4 {n0 n1 n2 n3 : ℕ} (i : (⟨4, ![n0, n1, n2, n3]⟩ : Shape).Idx) (a : Fin n0) (b : Fin n1) (d : Fin n2) (e : Fin n3)
    (h0 : (i 0).val = a.val) (h1 : (i 1).val = b.val) (h2 : (i 2).val = d.val) (h3 : (i 3).val = e.val) : i = ix4 a b d e := by
  funext z
  apply Fin.ext
  match z with
  | ⟨0, _⟩ => exact h0
  | ⟨1, _⟩ => exact h1
  | ⟨2, _⟩ => exact h2
  | ⟨3, _⟩ => exact h3

/-- Which block of each array a step reads or writes. -/
theorem index (t : Fin grid0.N) : win0_0.index t = ![0]
    ∧ win0_1.index t = ![(grid0.coords t 0).val, (grid0.coords t 1).val, (grid0.coords t 2).val, 0]
    ∧ win0_2.index t = ![(grid0.coords t 0).val, (grid0.coords t 1).val, 0, 0]
    ∧ win0_3.index t = ![(grid0.coords t 0).val, (grid0.coords t 1).val, 0, 0] ∧ win0_4.index t = ![0, 0]
    ∧ win0_5.index t = ![(grid0.coords t 0).val, (grid0.coords t 1).val, (grid0.coords t 2).val, 0] := by
  revert t
  decide +kernel

/-- A number of the keys' or values' array by its place among all keys, zero past the last. -/
def keyAt (x : (⟨4, ![4, 16, 4096, 64]⟩ : Shape).Idx → EReal) (b : Fin 4) (h : Fin 16) (n : ℕ) (d : Fin 64) : EReal :=
  if hn : n < 4096 then x (ix4 b h ⟨n, hn⟩ d) else 0

/-- The attention of every query, with the queries, keys and biases taken as real numbers. -/
def value (q k v : (⟨4, ![4, 16, 4096, 64]⟩ : Shape).Idx → EReal) (bias : (⟨1, ![16]⟩ : Shape).Idx → EReal) (b : Fin 4) (h : Fin 16) (t : Fin 4096) (d : Fin 64) : EReal :=
  attend (fun e => (q (ix4 b h t e)).toReal) (fun n e => (keyAt k b h n e).toReal) (bias (ix1 h)).toReal (fun n e => keyAt v b h n e) t.val d

/-- A row of a step's block of queries lies among all queries. -/
theorem row_lt (t : Fin grid0.N) (r : Fin 512) : 512 * (grid0.coords t 2).val + r.val < 4096 := by
  rw [(coords t).2.2]
  omega

/-- A number of the array at a place that is a number of a key. -/
theorem keyAt_fin (x : (⟨4, ![4, 16, 4096, 64]⟩ : Shape).Idx → EReal) (b : Fin 4) (h : Fin 16) (n : Fin 4096) (d : Fin 64) : keyAt x b h n.val d = x (ix4 b h n d) := by
  unfold keyAt
  rw [dif_pos n.isLt]

/-- The queries that a step reads. -/
theorem block1 (t : Fin grid0.N) (r : Fin 512) (d : Fin 64) : (iblk m c 1 t : Vec Ideal S1x1x512x64 .bf16) (ix4 0 0 r d)
    = m ((c : Thread nD τ).loc main_arg0) (ix4 (grid0.coords t 0 : Fin 4) (grid0.coords t 1 : Fin 16) ⟨512 * (grid0.coords t 2).val + r.val, row_lt t r⟩ d) := by
  have hi := (index t).2.1
  unfold iblk
  rw [View.read_apply]
  refine (congrFun (V_main_arg0 m c) _).trans (congrArg (m ((c : Thread nD τ).loc main_arg0)) (at4 _ _ _ _ _ ?_ ?_ ?_ ?_))
  · show win0_1.index t 0 * 1 + 1 * 0 = (grid0.coords t 0).val
    rw [hi]; simp
  · show win0_1.index t 1 * 1 + 1 * 0 = (grid0.coords t 1).val
    rw [hi]; simp
  · show win0_1.index t 2 * 512 + 1 * r.val = 512 * (grid0.coords t 2).val + r.val
    rw [hi]; simp; omega
  · show win0_1.index t 3 * 64 + 1 * d.val = d.val
    rw [hi]; simp

/-- The keys that a step reads. -/
theorem block2 (t : Fin grid0.N) (n : Fin 4096) (d : Fin 64) : (iblk m c 2 t : Vec Ideal S1x1x4096x64 .bf16) (ix4 0 0 n d)
    = m ((c : Thread nD τ).loc main_arg1) (ix4 (grid0.coords t 0 : Fin 4) (grid0.coords t 1 : Fin 16) n d) := by
  have hi := (index t).2.2.1
  unfold iblk
  rw [View.read_apply]
  refine (congrFun (V_main_arg1 m c) _).trans (congrArg (m ((c : Thread nD τ).loc main_arg1)) (at4 _ _ _ _ _ ?_ ?_ ?_ ?_))
  · show win0_2.index t 0 * 1 + 1 * 0 = (grid0.coords t 0).val
    rw [hi]; simp
  · show win0_2.index t 1 * 1 + 1 * 0 = (grid0.coords t 1).val
    rw [hi]; simp
  · show win0_2.index t 2 * 4096 + 1 * n.val = n.val
    rw [hi]; simp
  · show win0_2.index t 3 * 64 + 1 * d.val = d.val
    rw [hi]; simp

/-- The values that a step reads. -/
theorem block3 (t : Fin grid0.N) (n : Fin 4096) (d : Fin 64) : (iblk m c 3 t : Vec Ideal S1x1x4096x64 .bf16) (ix4 0 0 n d)
    = m ((c : Thread nD τ).loc main_arg2) (ix4 (grid0.coords t 0 : Fin 4) (grid0.coords t 1 : Fin 16) n d) := by
  have hi := (index t).2.2.2.1
  unfold iblk
  rw [View.read_apply]
  refine (congrFun (V_main_arg2 m c) _).trans (congrArg (m ((c : Thread nD τ).loc main_arg2)) (at4 _ _ _ _ _ ?_ ?_ ?_ ?_))
  · show win0_3.index t 0 * 1 + 1 * 0 = (grid0.coords t 0).val
    rw [hi]; simp
  · show win0_3.index t 1 * 1 + 1 * 0 = (grid0.coords t 1).val
    rw [hi]; simp
  · show win0_3.index t 2 * 4096 + 1 * n.val = n.val
    rw [hi]; simp
  · show win0_3.index t 3 * 64 + 1 * d.val = d.val
    rw [hi]; simp

/-- The biases that a step reads. -/
theorem block0 (t : Fin grid0.N) (h : Fin 16) : (iblk m c 0 t : Vec Ideal S16 .f32) (ix1 h) = m ((c : Thread nD τ).loc main_arg3) (ix1 h) := by
  have hi := (index t).1
  unfold iblk
  rw [View.read_apply]
  refine (congrFun (V_main_arg3 m c) _).trans (congrArg (m ((c : Thread nD τ).loc main_arg3)) (at1 _ _ ?_))
  show win0_0.index t 0 * 16 + 1 * h.val = h.val
  rw [hi]; simp

/-- A number of the constant matrix that a step reads. -/
theorem block4 (t : Fin grid0.N) (a : Fin 128) (b : Fin 256) : (iblk m c 4 t : Vec Ideal S128x256 .bf16) (ix2 a b) = V (F := Ideal) m c main_v8 (ix2 a b) := by
  have hi := (index t).2.2.2.2.1
  unfold iblk
  rw [View.read_apply]
  refine congrArg (V (F := Ideal) m c main_v8) (at2 _ _ _ ?_ ?_)
  · show win0_4.index t 0 * 128 + 1 * a.val = a.val
    rw [hi]; simp
  · show win0_4.index t 1 * 256 + 1 * b.val = b.val
    rw [hi]; simp

/-- The constant matrix that a step reads is what its sums need. -/
theorem block_tri (t : Fin grid0.N) : IsTri (iblk m c 4 t) := fun j l =>
  ⟨(block4 m c t _ _).trans (left m c j l), (block4 m c t _ _).trans (right m c j l)⟩

/-- That the queries, the keys and the biases are finite. -/
def Real (q k : (⟨4, ![4, 16, 4096, 64]⟩ : Shape).Idx → EReal) (bias : (⟨1, ![16]⟩ : Shape).Idx → EReal) : Prop :=
  (∀ y, q y = ((q y).toReal : EReal)) ∧ (∀ y, k y = ((k y).toReal : EReal)) ∧ ∀ y, bias y = ((bias y).toReal : EReal)

/-- What a step leaves in its block of the result. -/
theorem after (hR : Real (m ((c : Thread nD τ).loc main_arg0)) (m ((c : Thread nD τ).loc main_arg1)) (m ((c : Thread nD τ).loc main_arg3)))
    (t : Fin grid0.N) (r : Fin 512) (d : Fin 64) : (outsAt0 m c t : Vec Ideal S1x1x512x64 .bf16) (ix4 0 0 r d)
    = value (m ((c : Thread nD τ).loc main_arg0)) (m ((c : Thread nD τ).loc main_arg1)) (m ((c : Thread nD τ).loc main_arg2)) (m ((c : Thread nD τ).loc main_arg3))
      (grid0.coords t 0) (grid0.coords t 1) ⟨512 * (grid0.coords t 2).val + r.val, row_lt t r⟩ d := by
  obtain ⟨hq, hk, hb⟩ := hR
  unfold outsAt0
  refine step c (grid0.coords t) _ _ _ _ _ _ _ _ _ _ _ _
    (fun s e => (m ((c : Thread nD τ).loc main_arg0) (ix4 (grid0.coords t 0 : Fin 4) (grid0.coords t 1 : Fin 16) ⟨512 * (grid0.coords t 2).val + s.val, row_lt t s⟩ e)).toReal)
    (fun n e => (keyAt (m ((c : Thread nD τ).loc main_arg1)) (grid0.coords t 0) (grid0.coords t 1) n e).toReal)
    (m ((c : Thread nD τ).loc main_arg3) (ix1 (grid0.coords t 1 : Fin 16))).toReal
    (fun n e => keyAt (m ((c : Thread nD τ).loc main_arg2)) (grid0.coords t 0) (grid0.coords t 1) n e)
    (fun s => 512 * (grid0.coords t 2).val + s.val) (fun _ => rfl) _ ?_ _ (fun s e => ?_) _ (fun n e => ?_) _ (fun n e => ?_) _ (block_tri m c t) r d
  · exact (block0 m c t _).trans (hb _)
  · exact (block1 m c t s e).trans (hq _)
  · exact (block2 m c t n e).trans ((hk _).trans (congrArg (fun z : EReal => ((z.toReal : ℝ) : EReal)) (keyAt_fin _ _ _ n e).symm))
  · exact (block3 m c t n e).trans (keyAt_fin _ _ _ n e).symm

/-- Where a step's block lies in the result. -/
theorem emb (t : Fin cfg0.N) (r : Fin 512) (d : Fin 64) : ((cfg0.win 5).blk t).view.emb (ix4 (0 : Fin 1) (0 : Fin 1) r d)
    = (ix4 (grid0.coords t 0 : Fin 4) (grid0.coords t 1 : Fin 16) ⟨512 * (grid0.coords t 2).val + r.val, row_lt t r⟩ d : S4x16x4096x64.Idx) := by
  have hi := (index t).2.2.2.2.2
  refine at4 _ _ _ _ _ ?_ ?_ ?_ ?_
  · show win0_5.index t 0 * 1 + 1 * 0 = (grid0.coords t 0).val
    rw [hi]; simp
  · show win0_5.index t 1 * 1 + 1 * 0 = (grid0.coords t 1).val
    rw [hi]; simp
  · show win0_5.index t 2 * 512 + 1 * r.val = 512 * (grid0.coords t 2).val + r.val
    rw [hi]; simp; omega
  · show win0_5.index t 3 * 64 + 1 * d.val = d.val
    rw [hi]; simp

/-- A place of a step's block is given by its row and its column. -/
theorem in_block (y : (⟨4, ![1, 1, 512, 64]⟩ : Shape).Idx) : y = ix4 0 0 (y 2) (y 3) := by
  refine at4 y 0 0 (y 2) (y 3) ?_ ?_ rfl rfl
  · exact Nat.lt_one_iff.mp (show (y 0).val < 1 from (y 0).isLt)
  · exact Nat.lt_one_iff.mp (show (y 1).val < 1 from (y 1).isLt)

/-- The array that the attention leaves. -/
theorem array (hR : Real (m ((c : Thread nD τ).loc main_arg0)) (m ((c : Thread nD τ).loc main_arg1)) (m ((c : Thread nD τ).loc main_arg3))) :
    (dats m 0 c).arrAt 5 cfg0.N = fun y : S4x16x4096x64.Idx =>
      value (m ((c : Thread nD τ).loc main_arg0)) (m ((c : Thread nD τ).loc main_arg1)) (m ((c : Thread nD τ).loc main_arg2)) (m ((c : Thread nD τ).loc main_arg3))
        (y 0) (y 1) (y 2) (y 3) := by
  generalize hG : value (m ((c : Thread nD τ).loc main_arg0)) (m ((c : Thread nD τ).loc main_arg1)) (m ((c : Thread nD τ).loc main_arg2)) (m ((c : Thread nD τ).loc main_arg3)) = G
  have ha := after m c hR
  rw [hG] at ha
  refine (dats m 0 c).arrAt_eq_of_covers 5 _ (by decide +kernel) (fun t hf y => ?_)
  blk_simp
  rw [after0_5]
  have key (z : (⟨4, ![1, 1, 512, 64]⟩ : Shape).Idx) (e : z = ix4 0 0 (z 2) (z 3)) : (outsAt0 m c t : Vec Ideal S1x1x512x64 .bf16) z
      = (fun w : S4x16x4096x64.Idx => G (w 0) (w 1) (w 2) (w 3)) (((cfg0.win 5).blk t).view.emb z) := by
    rw [e]
    exact (ha t _ _).trans (congrArg (fun w : S4x16x4096x64.Idx => G (w 0) (w 1) (w 2) (w 3)) (emb t (z 2) (z 3)).symm)
  exact key y (in_block y)

end Cert.AttnIdeal.Array

end
-- ==== Proof.AttnReference.lean ====
module

public import proofs.«01_k».proof.Proof.Attn
public import proofs.«01_k».proof.Proof.Finite
public import proofs.«01_k».proof.Proof.Gen.Pre_attn_finite
public import proofs.«01_k».proof.Proof.Gen.AttnReferenceIdeal.Read

@[expose] public section
noncomputable section

/-!
What the attention's reference computes: the scores, the sums of the logarithms over all later keys, the weights, and
their products with the values. All of it is the same `value` that the kernel's steps leave.
-/

namespace Cert.AttnReferenceIdeal.Array

open Cert.AttnReferenceIdeal Cert.AttnReferenceIdeal.Gen Cert.AttnReferenceIdeal.Read Idealize.ShloMosaic Cert.Rows Cert.Shared Cert.Stick
open Cert.AttnIdeal.Array (at4 keyAt keyAt_fin value Real)

/-- A fold that adds up is the start and the sum. -/
theorem fold_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window's places are the numbers below 4096. -/
def along : (⟨4, ![1, 1, 1, 4096]⟩ : Shape).Idx ≃ Fin 4096 where
  toFun w := w 3
  invFun n := ix4 (n0 := 1) (n1 := 1) (n2 := 1) (n3 := 4096) 0 0 0 n
  left_inv w := (at4 w 0 0 0 (w 3) (Nat.lt_one_iff.mp (show (w 0).val < 1 from (w 0).isLt)) (Nat.lt_one_iff.mp (show (w 1).val < 1 from (w 1).isLt))
    (Nat.lt_one_iff.mp (show (w 2).val < 1 from (w 2).isLt)) rfl).symm
  right_inv n := rfl

/-- What a place of the window adds: the number there, and zero past the end of the row. -/
theorem in_window (x : S4x16x4096x4096.Idx → EReal) (b : Fin 4) (g : Fin 16) (t s : Fin 4096) (v : (⟨4, ![1, 1, 1, 4096]⟩ : Shape).Idx)
    {decided : Decidable (∀ a : Fin 4, (![0, 0, 0, 0] : Fin 4 → ℕ) a ≤ ((ix4 b g t s : S4x16x4096x4096.Idx) a).val * (![1, 1, 1, 1] : Fin 4 → ℕ) a + (v a).val
        ∧ ((ix4 b g t s : S4x16x4096x4096.Idx) a).val * (![1, 1, 1, 1] : Fin 4 → ℕ) a + (v a).val - (![0, 0, 0, 0] : Fin 4 → ℕ) a < S4x16x4096x4096.size a)} :
    (if hin : ∀ a : Fin 4, (![0, 0, 0, 0] : Fin 4 → ℕ) a ≤ ((ix4 b g t s : S4x16x4096x4096.Idx) a).val * (![1, 1, 1, 1] : Fin 4 → ℕ) a + (v a).val
        ∧ ((ix4 b g t s : S4x16x4096x4096.Idx) a).val * (![1, 1, 1, 1] : Fin 4 → ℕ) a + (v a).val - (![0, 0, 0, 0] : Fin 4 → ℕ) a < S4x16x4096x4096.size a then
        x (fun a => ⟨((ix4 b g t s : S4x16x4096x4096.Idx) a).val * (![1, 1, 1, 1] : Fin 4 → ℕ) a + (v a).val - (![0, 0, 0, 0] : Fin 4 → ℕ) a, (hin a).2⟩) else 0)
      = if hn : s.val + (along v).val < 4096 then x (ix4 b g t ⟨s.val + (along v).val, hn⟩) else 0 := by
  have v0 : (v 0).val = 0 := Nat.lt_one_iff.mp (show (v 0).val < 1 from (v 0).isLt)
  have v1 : (v 1).val = 0 := Nat.lt_one_iff.mp (show (v 1).val < 1 from (v 1).isLt)
  have v2 : (v 2).val = 0 := Nat.lt_one_iff.mp (show (v 2).val < 1 from (v 2).isLt)
  by_cases hn : s.val + (along v).val < 4096
  · rw [dif_pos hn, dif_pos (fun a => match a with
      | ⟨0, _⟩ => ⟨Nat.zero_le _, show b.val * 1 + (v 0).val - 0 < 4 by omega⟩
      | ⟨1, _⟩ => ⟨Nat.zero_le _, show g.val * 1 + (v 1).val - 0 < 16 by omega⟩
      | ⟨2, _⟩ => ⟨Nat.zero_le _, show t.val * 1 + (v 2).val - 0 < 4096 by omega⟩
      | ⟨3, _⟩ => ⟨Nat.zero_le _, show s.val * 1 + (v 3).val - 0 < 4096 by rw [Nat.mul_one, Nat.sub_zero]; exact hn⟩)]
    refine congrArg x (at4 _ _ _ _ _ ?_ ?_ ?_ ?_)
    · show b.val * 1 + (v 0).val - 0 = b.val
      omega
    · show g.val * 1 + (v 1).val - 0 = g.val
      omega
    · show t.val * 1 + (v 2).val - 0 = t.val
      omega
    · show s.val * 1 + (v 3).val - 0 = s.val + (v 3).val
      omega
  · rw [dif_neg hn, dif_neg (fun h => hn ?_)]
    have h3 : s.val * 1 + (v 3).val - 0 < 4096 := (h 3).2
    rw [Nat.mul_one, Nat.sub_zero] at h3
    exact h3

/-- The sum over a window that begins at a place and reaches past the end of its row, where it meets zeros. -/
theorem window (h : S4x16x4096x4096.ReduceWindows ![1, 1, 1, 4096] ![1, 1, 1, 1] ![0, 0, 0, 0] ![0, 0, 0, 4095] S4x16x4096x4096)
    (x : S4x16x4096x4096.Idx → EReal) (b : Fin 4) (g : Fin 16) (t s : Fin 4096) :
    Ideal.hostReduceWindowAdd ![1, 1, 1, 4096] ![1, 1, 1, 1] ![0, 0, 0, 0] ![0, 0, 0, 4095] h x 0 (ix4 b g t s)
      = ∑ n : Fin 4096, if hn : s.val + n.val < 4096 then x (ix4 b g t ⟨s.val + n.val, hn⟩) else 0 := by
  unfold Ideal.hostReduceWindowAdd Host.reduceWindow
  dsimp only
  rw [fold_add, zero_add, ← Fin.sum_univ_def]
  rw [← Equiv.sum_comp (Shape.rowMajor (⟨4, ![1, 1, 1, 4096]⟩ : Shape)), ← Equiv.sum_comp along]
  refine Finset.sum_congr rfl fun w _ => ?_
  refine (in_window x b g t s ((Shape.rowMajor (⟨4, ![1, 1, 1, 4096]⟩ : Shape)).symm (Shape.rowMajor (⟨4, ![1, 1, 1, 4096]⟩ : Shape) w))).trans ?_
  rw [Equiv.symm_apply_apply]

/-- The word of an eighth. -/
theorem eighth_word : Ideal.ofBits .f32 0x3E000000#32 = ((1 / 8 : ℝ) : EReal) := by
  simp [Ideal.ofBits, Ideal.ieee, -EReal.coe_mul]; norm_num

/-- `log (1 + e^y)` as the reference computes it. -/
theorem softplus (y z : EReal) (r : ℝ) (hy : y = (r : EReal)) (hz : z = 0) :
    Scalar.select (FloatOps.cmpf (F := Ideal) (φ := .f32) .une (y - z) (y - z)) (y + z)
      (max y z + Ideal.log1p (Ideal.exp (-max (y - z) (-(y - z))))) = (soft r : EReal) := by
  have h : FloatOps.cmpf (F := Ideal) (φ := .f32) .une (y - z) (y - z) = 0#1 := by
    simp [FloatOps.cmpf, Ideal.cmp]
  rw [h, hy, hz, sub_zero, soft_eq]
  rfl

variable (x0 x1 x2 : (⟨4, ![4, 16, 4096, 64]⟩ : Shape).Idx → EReal) (x3 : (⟨1, ![16]⟩ : Shape).Idx → EReal) (hR : Real x0 x1 x3)
  (b : Fin 4) (g : Fin 16) (t : Fin 4096)

/-- The scores of a query, as real numbers. -/
def scoreAt (n : ℕ) : ℝ := line (fun e => (x0 (ix4 b g t e)).toReal) (fun n e => (keyAt x1 b g n e).toReal) (x3 (ix1 g)).toReal n

include hR in
/-- The reference's scores. -/
theorem scores (s : Fin 4096) : val_main_v6 (F := Ideal) x0 x1 x3 (ix4 b g t s) = (scoreAt x0 x1 x3 b g t s.val : EReal) := by
  obtain ⟨hq, hk, hb⟩ := hR
  rw [val_main_v6_apply, val_main_v3_apply, val_main_v1_apply, val_main_v2_apply, val_main_cst_apply, val_main_v5_apply, val_main_v4_apply]
  have h1 : ∀ k : Fin 64, x0 (lidx_main_v1 (ix4 b g t s) k) * x1 (ridx_main_v1 (ix4 b g t s) k)
      = (((x0 (ix4 b g t k)).toReal * (keyAt x1 b g s.val k).toReal : ℝ) : EReal) := fun k => by
    rw [show lidx_main_v1 (ix4 b g t s) k = ix4 b g t k from at4 _ _ _ _ _ rfl rfl rfl rfl,
      show ridx_main_v1 (ix4 b g t s) k = ix4 b g s k from at4 _ _ _ _ _ rfl rfl rfl rfl, keyAt_fin, EReal.coe_mul, ← hq, ← hk]
  have h2 : idx_main_v4 (idx_main_v5 (ix4 b g t s)) = ix1 g := at1 _ _ rfl
  rw [Finset.sum_congr rfl fun k _ => h1 k, ← coe_sum, h2, hb (ix1 g)]
  show _ * Ideal.ofBits .f32 0x3E000000#32 + _ = _
  rw [eighth_word, ← EReal.coe_mul, ← EReal.coe_add]
  refine congrArg _ ?_
  unfold scoreAt line
  rw [Finset.sum_mul]
  refine congrArg (fun z => z + (x3 (ix1 g)).toReal) (Finset.sum_congr rfl fun k _ => ?_)
  ring

/-- Which keys a query sees, as the reference computes it. -/
theorem seen (s : Fin 4096) (i : S4096x4096.Idx) (h0 : (i 0).val = t.val) (h1 : (i 1).val = s.val) :
    val_main_v11 (F := Ideal) i = BitVec.ofBool (decide (s.val < t.val)) := by
  rw [val_main_v11_apply, val_main_v9_apply, val_main_v10_apply, val_main_v7_apply, val_main_v8_apply, val_main_v0_apply, val_main_v0_apply]
  rw [← WordCmp.cmpi_slt_ofNat (w := 32) (by omega) (by omega), ← h0, ← h1]

include hR in
/-- What each key takes away. -/
theorem losses (s : Fin 4096) : val_main_v14 (F := Ideal) x0 x1 x3 (ix4 b g t s) = (lost (scoreAt x0 x1 x3 b g t) t.val s.val : EReal) := by
  have hz := scores x0 x1 x3 hR b g t s
  rw [val_main_v14_apply, val_main_call1_v1_apply, seen t s _ rfl rfl, val_main_call1_v2_apply, val_main_v13_apply]
  have hl : val_main_call0_v1 (F := Ideal) x0 x1 x3 (ix4 b g t s) = (soft (scoreAt x0 x1 x3 b g t s.val) : EReal) := by
    refine softplus _ _ _ ?_ zero_bits
    show - -val_main_v6 (F := Ideal) x0 x1 x3 (ix4 b g t s) = _
    rw [neg_neg, hz]
  rw [hl]
  unfold lost
  by_cases h : s.val < t.val
  · rw [if_pos h, decide_eq_true h, EReal.coe_neg]; rfl
  · rw [if_neg h, decide_eq_false h]
    exact zero_bits

include hR in
/-- What all keys from a key on take away. -/
theorem sums (s : Fin 4096) : val_main_v15 (F := Ideal) x0 x1 x3 (ix4 b g t s) = (taken (scoreAt x0 x1 x3 b g t) t.val s.val 4096 : EReal) := by
  have e : val_main_v15 (F := Ideal) x0 x1 x3 (ix4 b g t s) = Ideal.hostReduceWindowAdd ![1, 1, 1, 4096] ![1, 1, 1, 1] ![0, 0, 0, 0] ![0, 0, 0, 4095]
      reduceWindows_S4x16x4096x4096_S4x16x4096x4096_w1s1p0_0_w1s1p0_0_w1s1p0_0_w4096s1p0_4095 (val_main_v14 (F := Ideal) x0 x1 x3)
      (Ideal.ofBits .f32 0x00000000#32) (ix4 b g t s) := by
    unfold val_main_v15 Host.reduceWindowAdd
    rw [val_main_call2_v0_apply]
    rfl
  have hl : ∀ n : Fin 4096, (if hn : s.val + n.val < 4096 then val_main_v14 (F := Ideal) x0 x1 x3 (ix4 b g t ⟨s.val + n.val, hn⟩) else 0)
      = ((lost (scoreAt x0 x1 x3 b g t) t.val (s.val + n.val) : ℝ) : EReal) := fun n => by
    split
    · exact losses x0 x1 x3 hR b g t _
    · unfold lost
      rw [if_neg (by omega), EReal.coe_zero]
  rw [e, zero_bits, window, Finset.sum_congr rfl fun n _ => hl n, ← coe_sum, places]
  refine congrArg _ ?_
  have h := taken_add (scoreAt x0 x1 x3 b g t) t.val s.val 4096 (s.val + 4096) (by omega) (by omega)
  rw [taken_unseen _ _ 4096 _ (by omega), add_zero] at h
  exact h.symm

include hR in
/-- The weights. -/
theorem weights (s : Fin 4096) : val_main_v20 (F := Ideal) x0 x1 x3 (ix4 b g t s) = weight (scoreAt x0 x1 x3 b g t) t.val s.val := by
  have hz := scores x0 x1 x3 hR b g t s
  rw [val_main_v20_apply, val_main_call4_v1_apply, seen t s _ rfl rfl, val_main_call4_v2_apply, val_main_v19_apply, val_main_v18_apply, val_main_v17_apply,
    val_main_v16_apply, sums x0 x1 x3 hR, losses x0 x1 x3 hR]
  have hl : val_main_call3_v1 (F := Ideal) x0 x1 x3 (ix4 b g t s) = (soft (-scoreAt x0 x1 x3 b g t s.val) : EReal) := by
    refine softplus _ _ _ ?_ zero_bits
    show -val_main_v6 (F := Ideal) x0 x1 x3 (ix4 b g t s) = _
    rw [hz, EReal.coe_neg]
  rw [hl, soft_neg]
  unfold weight
  by_cases h : s.val < t.val
  · rw [if_pos h, decide_eq_true h]
    show Ideal.exp (-((soft (scoreAt x0 x1 x3 b g t s.val) - scoreAt x0 x1 x3 b g t s.val : ℝ) : EReal) + ((taken (scoreAt x0 x1 x3 b g t) t.val s.val 4096 : ℝ) - (lost (scoreAt x0 x1 x3 b g t) t.val s.val : ℝ) : EReal)) = _
    rw [← EReal.coe_neg, ← EReal.coe_sub, ← EReal.coe_add]
    show ((Real.exp _ : ℝ) : EReal) = _
    refine congrArg (fun y : ℝ => ((Real.exp y : ℝ) : EReal)) ?_
    have e : taken (scoreAt x0 x1 x3 b g t) t.val s.val 4096 = lost (scoreAt x0 x1 x3 b g t) t.val s.val + taken (scoreAt x0 x1 x3 b g t) t.val (s.val + 1) 4096 :=
      Finset.sum_eq_sum_Ico_succ_bot s.isLt _
    rw [e]
    ring
  · rw [if_neg h, decide_eq_false h]
    exact zero_bits

include hR in
/-- The reference's result. -/
theorem array (d : Fin 64) : val_main_v23 (F := Ideal) x0 x1 x2 x3 (ix4 b g t d) = value x0 x1 x2 x3 b g t d := by
  rw [val_main_v23_apply]
  show val_main_v22 (F := Ideal) x0 x1 x2 x3 (ix4 b g t d) = _
  rw [val_main_v22_apply]
  have h : ∀ s : Fin 4096, val_main_v20 (F := Ideal) x0 x1 x3 (lidx_main_v22 (ix4 b g t d) s) * val_main_v21 (F := Ideal) x2 (ridx_main_v22 (ix4 b g t d) s)
      = weight (scoreAt x0 x1 x3 b g t) t.val (0 + s.val) * keyAt x2 b g (0 + s.val) d := fun s => by
    rw [show lidx_main_v22 (ix4 b g t d) s = ix4 b g t s from at4 _ _ _ _ _ rfl rfl rfl rfl,
      show ridx_main_v22 (ix4 b g t d) s = ix4 b g s d from at4 _ _ _ _ _ rfl rfl rfl rfl, weights x0 x1 x3 hR, zero_add, keyAt_fin]
    rfl
  rw [Finset.sum_congr rfl fun s _ => h s, places (fun s => weight (scoreAt x0 x1 x3 b g t) t.val s * keyAt x2 b g s d) 0 4096]
  rfl

end Cert.AttnReferenceIdeal.Array

namespace Cert.AttnFinite

open Idealize.ShloMosaic Cert.Pre_attn_finite Cert.Pre_attn_finite.Gen Cert.Finite Cert.Shared

/-- A real number is itself. -/
theorem back (a : EReal) (h : ∃ r : ℝ, a = r) : a = ((a.toReal : ℝ) : EReal) := by
  obtain ⟨r, rfl⟩ := h
  rfl

variable (x0 x1 x2 : FVec Ideal S4x16x4096x64 .bf16) (x3 : FVec Ideal S16 .f32) (h : fn (F := Ideal) x0 x1 x2 x3 = fun _ => 1#1)
include h

/-- The queries, keys and biases are finite. -/
theorem finite : Cert.AttnIdeal.Array.Real x0 x1 x3 := by
  refine ⟨fun y => back _ ?_, fun y => back _ ?_, fun y => back _ ?_⟩
  · exact real_of_word _ (both_ones _ _ (both_ones _ _ (congrFun h y)).1).1
  · exact real_of_word _ (both_ones _ _ (both_ones _ _ (congrFun h y)).1).2
  · have hk := (both_ones _ _ (congrFun h (ix4 0 (y 0) 0 0))).2
    rw [broadcastInDim_apply _ bcast_S1x16x1x1_S4x16x4096x64_0_1_2_3 _ (ix4 0 (y 0) 0 0) (ix4 0 (y 0) 0 0)
      (fun a => match a with | ⟨0, _⟩ => by rfl | ⟨1, _⟩ => by rfl | ⟨2, _⟩ => by rfl | ⟨3, _⟩ => by rfl)] at hk
    refine real_of_word _ (Eq.trans (congrArg (fun z => FloatOps.cmpf (F := Ideal) (φ := .f32) .olt z (Ideal.ofBits .f32 2139095040#32)) ?_) hk)
    exact ((broadcastInDim_apply _ bcast_S16_S1x16x1x1_1 (Host.absf x3) (ix4 0 (y 0) 0 0) (ix1 (y 0)) (fun a => match a with | ⟨0, _⟩ => by rfl)).trans
      (congrArg (Host.absf x3) (at1 y (y 0) rfl).symm)).symm

end Cert.AttnFinite
end
-- ==== Proof.SampleValues.lean ====
module

public import proofs.«01_k».proof.Proof.Shared
public import proofs.«01_k».proof.Proof.Gen.SampleValuesIdeal.Value
public import proofs.«01_k».proof.Proof.Gen.SampleValuesReferenceIdeal.Read

@[expose] public section
noncomputable section

/-!
The same values for the 128 sample tokens, which are one block of rows: two steps, one for each half of the columns.
-/

namespace Cert.Shared

open Idealize.ShloMosaic Cert.Rows

/-- The product of row `R` of `x`, normed with scale `g`, with column `l` of the weights `w`, for any number of rows and columns. -/
def projected {n k : ℕ} (x : Vec Ideal ⟨2, ![n, 1024]⟩ .f32) (g : Vec Ideal ⟨1, ![1024]⟩ .f32) (w : Vec Ideal ⟨2, ![1024, k]⟩ .f32)
    (R : Fin n) (l : Fin k) : EReal :=
  product (norm (fun j => x (ix2 R j)) (fun j => g (ix1 j))) (fun j => w (ix2 j l))

end Cert.Shared

namespace Cert.SampleValuesIdeal.Array

open Cert.SampleValuesIdeal Cert.SampleValuesIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  refine Prod.ext ?_ ?_
  · dsimp only
    unfold out0_A_3
    refine (View.read_writes_eq_canon _ _ _ (fun y => cover0_A_3 (y := y) ..)).trans ?_
    unfold kernelRun0_A
    dsimp only
    sl_unfold_words
    simp only [View.canon_unit_zero (S := S128x512) zeros2, View.readCov_unit_zero (S := S128x1024) _ zeros2, View.readAt_eq_ld,
      (hs0_0 t).read_unread, (hs0_1 t).read_unread, (hs0_2 t).read_unread,
      View.ld_unit_zero (S := S128x1024) zeros2, View.ld_unit_zero (S := S1x1024) zeros2, View.ld_unit_zero (S := S1024x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S128x1024) zeros2, View.readAt_eq_ld, (hs0_0 t).read_unread, (hs0_1 t).read_unread,
      View.ld_unit_zero (S := S128x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  refine Prod.ext ?_ rfl
  dsimp only
  unfold out0_B_3
  refine (View.read_writes_eq_canon _ _ _ (fun y => cover0_B_3 (y := y) ..)).trans ?_
  unfold kernelRun0_B
  dsimp only
  sl_unfold_words
  simp only [View.canon_unit_zero (S := S128x512) zeros2, View.readAt_eq_ld,
    (hs0_2 t).read_unread, (Memref.isWhole_whole (κ := .tc) _).read_unread,
    View.ld_unit_zero (S := S128x1024) zeros2, View.ld_unit_zero (S := S1024x512) zeros2]

/-- The normed rows of a block, place by place. -/
theorem normed (x : Vec Ideal S128x1024 .f32) (g : Vec Ideal S1x1024 .f32) (r : Fin 128) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S128x1024 .bf16) (a : Vec Ideal S1024x512 .f32) (r : Fin 128) (l : Fin 512) :
    k0_pay2 (F := Ideal) s a (ix2 r l) = product (fun k => s (ix2 r k)) (fun k => a (ix2 k l)) := by
  pointwise [k0_pay2]
  rfl

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = 0 ∧ win0_0.index t 1 = 0) ∧ (win0_1.index t 0 = 0 ∧ win0_1.index t 1 = 0)
    ∧ (win0_2.index t 0 = 0 ∧ win0_2.index t 1 = t.val % 2) := by
  decide +kernel

/-- The step's rows. -/
theorem tokens (t : Fin cfg0.N) (r : Fin 128) (l : Fin 1024) : (iblk m c 0 t : Vec Ideal S128x1024 .f32) (ix2 r l)
    = m ((c : Thread nD τ).loc main_arg0) (ix2 r l) := by
  have hi := (index t).1
  unfold iblk
  rw [View.read_apply]
  refine (congrFun (V_main_arg0 m c) _).trans (congrArg (m ((c : Thread nD τ).loc main_arg0)) (at2 _ _ _ ?_ ?_))
  · show win0_0.index t 0 * 128 + 1 * r.val = r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the weights. -/
theorem weights (t : Fin cfg0.N) (k : Fin 1024) (l : Fin 512) : (iblk m c 2 t : Vec Ideal S1024x512 .f32) (ix2 k l)
    = m ((c : Thread nD τ).loc main_arg2) (ix2 k (colAt t l)) := by
  have hi := (index t).2.2
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- What is kept after either step is what the first step wrote. -/
theorem kept (t : Fin cfg0.N) : ∃ t' : Fin cfg0.N, (outsAt0 m c t.val t.isLt).2 = k0_pay1 (iblk m c 0 t') (iblk m c 1 t') := by
  by_cases h0 : t.val % 2 = 0
  · exact ⟨t, congrArg Prod.snd (first m c t h0)⟩
  · refine ⟨⟨t.val - 1, Nat.lt_of_le_of_lt (Nat.sub_le _ _) t.isLt⟩, (congrArg Prod.snd (later m c t h0)).trans
      (congrArg Prod.snd (first m c ⟨t.val - 1, _⟩ ?_))⟩
    show (t.val - 1) % 2 = 0
    omega

/-- So it is the rows, normed. -/
theorem rows (t : Fin cfg0.N) (r : Fin 128) : (fun l => (outsAt0 m c t.val t.isLt).2 (ix2 r l))
    = norm (fun k => m ((c : Thread nD τ).loc main_arg0) (ix2 r k)) (fun k => m ((c : Thread nD τ).loc main_arg1) (ix1 k)) := by
  funext l
  obtain ⟨t', e⟩ := kept m c t
  rw [e, normed]
  simp only [tokens, scale]

/-- Each step writes the product of what is kept after it. -/
theorem wrote (t : Fin cfg0.N) : (outsAt0 m c t.val t.isLt).1 = k0_pay2 (outsAt0 m c t.val t.isLt).2 (iblk m c 2 t) := by
  by_cases h0 : t.val % 2 = 0
  · rw [first m c t h0]
  · rw [later m c t h0]

/-- The kernel's result at row `R`, column `l`. -/
theorem array (R : Fin 128) (l : Fin 1024) : Value.G3 (F := Ideal) m c (ix2 R l)
    = projected (m ((c : Thread nD τ).loc main_arg0)) (m ((c : Thread nD τ).loc main_arg1)) (m ((c : Thread nD τ).loc main_arg2)) R l := by
  have hR := R.isLt
  have hl := l.isLt
  have hpt : Value.pt3Of (ix2 R l) = l.val / 512 := by
    show 2 * (R.val / 128 - 0) + 1 * (l.val / 512 - 0) = _
    omega
  have hlt : Value.pt3Of (ix2 R l) < cfg0.N := by
    rw [hpt]
    show _ < grid0.N
    rw [N_0]
    omega
  have hloc : Value.loc3Of (ix2 R l) = ix2 R ⟨l.val % 512, by omega⟩ := at2 _ _ _ (Nat.mod_eq_of_lt hR) rfl
  have hcol : colAt ⟨Value.pt3Of (ix2 R l), hlt⟩ ⟨l.val % 512, by omega⟩ = l := Fin.ext (by
    show Value.pt3Of (ix2 R l) % 2 * 512 + l.val % 512 = l.val
    rw [hpt]; omega)
  unfold Value.G3
  rw [dif_pos hlt, ← Value.outsAt0_sweep m c _ hlt, hloc, wrote m c ⟨_, hlt⟩, unit, rows m c ⟨_, hlt⟩]
  simp only [weights, hcol]
  rfl

end Cert.SampleValuesIdeal.Array

namespace Cert.SampleValuesReferenceIdeal.Array

open Cert.SampleValuesReferenceIdeal Cert.SampleValuesReferenceIdeal.Gen Cert.SampleValuesReferenceIdeal.Read Idealize.ShloMosaic Cert.Rows Cert.Shared

variable (x : FVec Ideal S128x1024 .f32) (g : FVec Ideal S1024 .f32) (R : Fin 128)

/-- The reference's normed rows. -/
theorem normed (d : Fin 1024) : val_main_v12 (F := Ideal) x g (ix2 R d) = norm (fun k => x (ix2 R k)) (fun k => g (ix1 k)) d := by
  rw [val_main_v12_apply, val_main_v9_apply, val_main_v8_apply, val_main_v7_apply, val_main_v6_apply, val_main_v4_apply,
    val_main_v2_apply, val_main_v3_apply, val_main_v5_apply, val_main_v11_apply, val_main_v10_apply,
    show idx_main_v2 (idx_main_v8 (ix2 R d)) = ix1 R from eq_ix1 _, val_main_v1_apply,
    show idx_main_v1 (ix1 R) = fun k => ix2 R k from funext fun k => eq_ix2 _,
    show idx_main_v10 (idx_main_v11 (ix2 R d)) = ix1 d from eq_ix1 _]
  simp only [val_main_v0_apply, val_main_cst_apply, val_main_cst_0_apply, val_main_cst_1_apply]
  show _ * Ideal.rsqrt (Ideal.div (Ideal.ofBits .f32 0#32 + _) _ + _) * _ = _
  rw [zero_bits, zero_add]
  rfl

/-- The reference's result at row `R`, column `l`. -/
theorem array (w : FVec Ideal S1024x1024 .f32) (l : Fin 1024) : val_main_v13 (F := Ideal) x g w (ix2 R l) = projected x g w R l := by
  rw [val_main_v13_apply]
  unfold projected product
  refine Finset.sum_congr rfl fun k _ => ?_
  rw [show lidx_main_v13 (ix2 R l) k = ix2 R k from eq_ix2 _, show ridx_main_v13 (ix2 R l) k = ix2 k l from eq_ix2 _]
  exact congrArg (fun y => y * w (ix2 k l)) (normed x g R k)

end Cert.SampleValuesReferenceIdeal.Array
end
-- ==== Proof.SampleGlu.lean ====
module

public import proofs.«01_k».proof.Proof.SampleValues
public import proofs.«01_k».proof.Proof.Glu
public import proofs.«01_k».proof.Proof.Gen.SampleGluIdeal.Value
public import proofs.«01_k».proof.Proof.Gen.SampleGluReferenceIdeal.Read

@[expose] public section
noncomputable section

/-!
The gated linear unit of the convolution module for the 128 sample tokens, which are one block of rows.
-/

namespace Cert.SampleGluIdeal.Array

open Cert.SampleGluIdeal Cert.SampleGluIdeal.Gen Idealize.ShloMosaic Idealize.ShloMosaic.TcCoe Cert.Rows Cert.Shared
open Cert.GluIdeal.Array (left right)

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 3 t), k0_pay1 (iblk m c 0 t) (iblk m c 1 t)) := by
  rw [outsAt0_A m c t h0]
  refine Prod.ext ?_ ?_
  · dsimp only
    unfold out0_A_4
    refine (View.read_writes_eq_canon _ _ _ (fun y => cover0_A_4 (y := y) ..)).trans ?_
    unfold kernelRun0_A
    dsimp only
    sl_unfold_words
    simp only [View.canon_unit_zero (S := S128x512) zeros2, View.readCov_unit_zero (S := S128x1024) _ zeros2, View.readAt_eq_ld,
      (hs0_0 t).read_unread, (hs0_1 t).read_unread, (hs0_2 t).read_unread, (hs0_3 t).read_unread,
      View.ld_unit_zero (S := S128x1024) zeros2, View.ld_unit_zero (S := S1x1024) zeros2, View.ld_unit_zero (S := S1024x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S128x1024) zeros2, View.readAt_eq_ld, (hs0_0 t).read_unread, (hs0_1 t).read_unread,
      View.ld_unit_zero (S := S128x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 3 t),
      (outsAt0 m c (t.val - 1) (Nat.lt_of_le_of_lt (Nat.sub_le _ _) t.isLt)).2) := by
  rw [outsAt0_B m c t h0]
  refine Prod.ext ?_ rfl
  dsimp only
  unfold out0_B_4
  refine (View.read_writes_eq_canon _ _ _ (fun y => cover0_B_4 (y := y) ..)).trans ?_
  unfold kernelRun0_B
  dsimp only
  sl_unfold_words
  simp only [View.canon_unit_zero (S := S128x512) zeros2, View.readAt_eq_ld,
    (hs0_2 t).read_unread, (hs0_3 t).read_unread, (Memref.isWhole_whole (κ := .tc) _).read_unread,
    View.ld_unit_zero (S := S128x1024) zeros2, View.ld_unit_zero (S := S1024x512) zeros2]

/-- The normed rows of a block, place by place. -/
theorem normed (x : Vec Ideal S128x1024 .f32) (g : Vec Ideal S1x1024 .f32) (r : Fin 128) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S128x1024 .bf16) (a b : Vec Ideal S1024x512 .f32) (r : Fin 128) (l : Fin 512) :
    k0_pay2 (F := Ideal) s a b (ix2 r l) = product (fun k => s (ix2 r k)) (fun k => a (ix2 k l))
      * sigmoid (product (fun k => s (ix2 r k)) (fun k => b (ix2 k l))) := by
  pointwise [k0_pay2]
  simp only [zero_sub]
  rfl

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = 0 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = t.val % 2 + 2) := by
  decide +kernel

/-- The step's rows. -/
theorem tokens (t : Fin cfg0.N) (r : Fin 128) (l : Fin 1024) : (iblk m c 0 t : Vec Ideal S128x1024 .f32) (ix2 r l)
    = m ((c : Thread nD τ).loc main_arg0) (ix2 r l) := by
  have hi := (index t).1
  unfold iblk
  rw [View.read_apply]
  refine (congrFun (V_main_arg0 m c) _).trans (congrArg (m ((c : Thread nD τ).loc main_arg0)) (at2 _ _ _ ?_ ?_))
  · show win0_0.index t 0 * 128 + 1 * r.val = r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the left half of the weights. -/
theorem lefts (t : Fin cfg0.N) (k : Fin 1024) (l : Fin 512) : (iblk m c 2 t : Vec Ideal S1024x512 .f32) (ix2 k l)
    = m ((c : Thread nD τ).loc main_arg2) (ix2 k (left (colAt t l))) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The step's columns of the right half of the weights. -/
theorem rights (t : Fin cfg0.N) (k : Fin 1024) (l : Fin 512) : (iblk m c 3 t : Vec Ideal S1024x512 .f32) (ix2 k l)
    = m ((c : Thread nD τ).loc main_arg2) (ix2 k (right (colAt t l))) := by
  have hi := (index t).2.2.2
  unfold iblk
  rw [View.read_apply]
  refine (congrFun (V_main_arg2 m c) _).trans (congrArg (m ((c : Thread nD τ).loc main_arg2)) (at2 _ _ _ ?_ ?_))
  · show win0_3.index t 0 * 1024 + 1 * k.val = k.val
    rw [hi.1]; omega
  · show win0_3.index t 1 * 512 + 1 * l.val = 1024 + (t.val % 2 * 512 + l.val)
    rw [hi.2]; omega

/-- The gated linear unit of row `R` and column `l`, from the rows, the norm's scale and the weights. -/
def value (x : Vec Ideal S128x1024 .f32) (g : Vec Ideal S1024 .f32) (w : Vec Ideal S1024x2048 .f32) (R : Fin 128) (l : Fin 1024) : EReal :=
  projected x g w R (left l)
    * sigmoid (projected x g w R (right l))

/-- What is kept after either step is what the first step wrote. -/
theorem kept (t : Fin cfg0.N) : ∃ t' : Fin cfg0.N, (outsAt0 m c t.val t.isLt).2 = k0_pay1 (iblk m c 0 t') (iblk m c 1 t') := by
  by_cases h0 : t.val % 2 = 0
  · exact ⟨t, congrArg Prod.snd (first m c t h0)⟩
  · refine ⟨⟨t.val - 1, Nat.lt_of_le_of_lt (Nat.sub_le _ _) t.isLt⟩, (congrArg Prod.snd (later m c t h0)).trans
      (congrArg Prod.snd (first m c ⟨t.val - 1, _⟩ ?_))⟩
    show (t.val - 1) % 2 = 0
    omega

/-- So it is the rows, normed. -/
theorem rows (t : Fin cfg0.N) (r : Fin 128) : (fun l => (outsAt0 m c t.val t.isLt).2 (ix2 r l))
    = norm (fun k => m ((c : Thread nD τ).loc main_arg0) (ix2 r k)) (fun k => m ((c : Thread nD τ).loc main_arg1) (ix1 k)) := by
  funext l
  obtain ⟨t', e⟩ := kept m c t
  rw [e, normed]
  simp only [tokens, scale]

/-- Each step writes the product of what is kept after it. -/
theorem wrote (t : Fin cfg0.N) : (outsAt0 m c t.val t.isLt).1 = k0_pay2 (outsAt0 m c t.val t.isLt).2 (iblk m c 2 t) (iblk m c 3 t) := by
  by_cases h0 : t.val % 2 = 0
  · rw [first m c t h0]
  · rw [later m c t h0]

/-- The kernel's result at row `R`, column `l`. -/
theorem array (R : Fin 128) (l : Fin 1024) : Value.G4 (F := Ideal) m c (ix2 R l)
    = value (m ((c : Thread nD τ).loc main_arg0)) (m ((c : Thread nD τ).loc main_arg1)) (m ((c : Thread nD τ).loc main_arg2)) R l := by
  have hR := R.isLt
  have hl := l.isLt
  have hpt : Value.pt4Of (ix2 R l) = l.val / 512 := by
    show 2 * (R.val / 128 - 0) + 1 * (l.val / 512 - 0) = _
    omega
  have hlt : Value.pt4Of (ix2 R l) < cfg0.N := by
    rw [hpt]
    show _ < grid0.N
    rw [N_0]
    omega
  have hloc : Value.loc4Of (ix2 R l) = ix2 R ⟨l.val % 512, by omega⟩ := at2 _ _ _ (Nat.mod_eq_of_lt hR) rfl
  have hcol : colAt ⟨Value.pt4Of (ix2 R l), hlt⟩ ⟨l.val % 512, by omega⟩ = l := Fin.ext (by
    show Value.pt4Of (ix2 R l) % 2 * 512 + l.val % 512 = l.val
    rw [hpt]; omega)
  unfold Value.G4
  rw [dif_pos hlt, ← Value.outsAt0_sweep m c _ hlt, hloc, wrote m c ⟨_, hlt⟩, unit, rows m c ⟨_, hlt⟩]
  simp only [lefts, rights, hcol]
  rfl

end Cert.SampleGluIdeal.Array

namespace Cert.SampleGluReferenceIdeal.Array

open Cert.SampleGluReferenceIdeal Cert.SampleGluReferenceIdeal.Gen Cert.SampleGluReferenceIdeal.Read Idealize.ShloMosaic Cert.Rows Cert.Shared
open Cert.GluIdeal.Array (left right)
open Cert.SampleGluIdeal.Array (value)

/-- The reference's result at row `R`, column `l`. -/
theorem array (x : FVec Ideal S128x1024 .f32) (g : FVec Ideal S1024 .f32) (w : FVec Ideal S1024x2048 .f32) (R : Fin 128) (l : Fin 1024) :
    val_main_v22 (F := Ideal) x g w (ix2 R l) = value x g w R l := by
  have hn : ∀ k, val_main_v12 (F := Ideal) x g (ix2 R k) = norm (fun k => x (ix2 R k)) (fun k => g (ix1 k)) k :=
    Cert.SampleValuesReferenceIdeal.Array.normed x g R
  have hp : ∀ j, val_main_v13 (F := Ideal) x g w (ix2 R j) = projected x g w R j := by
    intro j
    rw [val_main_v13_apply]
    unfold projected product
    refine Finset.sum_congr rfl fun k _ => ?_
    rw [show lidx_main_v13 (ix2 R j) k = ix2 R k from eq_ix2 _, show ridx_main_v13 (ix2 R j) k = ix2 k j from eq_ix2 _, hn]
  rw [val_main_v22_apply, val_main_v21_apply, val_main_v20_apply, val_main_v19_apply, val_main_v18_apply, val_main_v17_apply,
    val_main_v16_apply, val_main_v15_apply, val_main_v14_apply, val_main_cst_2_apply, val_main_cst_3_apply,
    show idx_main_v14 (ix2 R l) = ix2 R (left l) from at2 _ _ _ rfl rfl,
    show idx_main_v15 (ix2 R l) = ix2 R (right l) from at2 _ _ _ rfl rfl, hp, hp]
  show _ * Ideal.div (Ideal.ofBits .f32 1065353216#32) (Ideal.ofBits .f32 1065353216#32 + _) = _
  rw [one_bits]
  rfl

end Cert.SampleGluReferenceIdeal.Array
end
-- ==== Proof.SampleEmbed.lean ====
module

public import proofs.«01_k».proof.Proof.SampleValues
public import proofs.«01_k».proof.Proof.Gen.SampleEmbedIdeal.Value
public import proofs.«01_k».proof.Proof.Gen.SampleEmbedReferenceIdeal.Read

@[expose] public section
noncomputable section

/-!
The gated embedding for the 128 sample tokens, which are one block of rows.
-/

namespace Cert.SampleEmbedIdeal.Array

open Cert.SampleEmbedIdeal Cert.SampleEmbedIdeal.Gen Idealize.ShloMosaic Idealize.ShloMosaic.TcCoe Cert.Rows Cert.Shared

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 4 t) (iblk m c 3 t) (iblk m c 5 t), k0_pay1 (iblk m c 0 t) (iblk m c 1 t)) := by
  rw [outsAt0_A m c t h0]
  refine Prod.ext ?_ ?_
  · dsimp only
    unfold out0_A_6
    refine (View.read_writes_eq_canon _ _ _ (fun y => cover0_A_6 (y := y) ..)).trans ?_
    unfold kernelRun0_A
    dsimp only
    sl_unfold_words
    simp only [View.canon_unit_zero (S := S128x512) zeros2, View.readCov_unit_zero (S := S128x1024) _ zeros2, View.readAt_eq_ld,
      (hs0_0 t).read_unread, (hs0_1 t).read_unread, (hs0_2 t).read_unread, (hs0_3 t).read_unread, (hs0_4 t).read_unread, (hs0_5 t).read_unread,
      View.ld_unit_zero (S := S128x1024) zeros2, View.ld_unit_zero (S := S1x1024) zeros2, View.ld_unit_zero (S := S1024x512) zeros2,
      View.ld_unit_zero (S := S128x256) zeros2, View.ld_unit_zero (S := S256x512) zeros2, View.ld_unit_zero (S := S128x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S128x1024) zeros2, View.readAt_eq_ld, (hs0_0 t).read_unread, (hs0_1 t).read_unread,
      View.ld_unit_zero (S := S128x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 4 t) (iblk m c 3 t) (iblk m c 5 t),
      (outsAt0 m c (t.val - 1) (Nat.lt_of_le_of_lt (Nat.sub_le _ _) t.isLt)).2) := by
  rw [outsAt0_B m c t h0]
  refine Prod.ext ?_ rfl
  dsimp only
  unfold out0_B_6
  refine (View.read_writes_eq_canon _ _ _ (fun y => cover0_B_6 (y := y) ..)).trans ?_
  unfold kernelRun0_B
  dsimp only
  sl_unfold_words
  simp only [View.canon_unit_zero (S := S128x512) zeros2, View.readAt_eq_ld,
    (hs0_2 t).read_unread, (hs0_3 t).read_unread, (hs0_4 t).read_unread, (hs0_5 t).read_unread, (Memref.isWhole_whole (κ := .tc) _).read_unread,
    View.ld_unit_zero (S := S128x1024) zeros2, View.ld_unit_zero (S := S1024x512) zeros2,
      View.ld_unit_zero (S := S128x256) zeros2, View.ld_unit_zero (S := S256x512) zeros2, View.ld_unit_zero (S := S128x512) zeros2]

/-- The normed rows of a block, place by place. -/
theorem normed (x : Vec Ideal S128x1024 .f32) (g : Vec Ideal S1x1024 .f32) (r : Fin 128) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S128x1024 .bf16) (a : Vec Ideal S1024x512 .f32) (p : Vec Ideal S128x256 .f32)
    (b : Vec Ideal S256x512 .f32) (x : Vec Ideal S128x512 .f32) (r : Fin 128) (l : Fin 512) :
    k0_pay2 (F := Ideal) s a p b x (ix2 r l) = sigmoid (product (fun k => s (ix2 r k)) (fun k => a (ix2 k l)))
      * product (fun k => p (ix2 r k)) (fun k => b (ix2 k l)) + x (ix2 r l) := by
  pointwise [k0_pay2]
  simp only [zero_sub]
  rfl

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = 0 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = t.val % 2)
    ∧ (win0_4.index t 0 = 0 ∧ win0_4.index t 1 = 0) ∧ (win0_5.index t 0 = 0 ∧ win0_5.index t 1 = t.val % 2) := by
  decide +kernel

/-- The step's rows. -/
theorem tokens (t : Fin cfg0.N) (r : Fin 128) (l : Fin 1024) : (iblk m c 0 t : Vec Ideal S128x1024 .f32) (ix2 r l)
    = m ((c : Thread nD τ).loc main_arg0) (ix2 r l) := by
  have hi := (index t).1
  unfold iblk
  rw [View.read_apply]
  refine (congrFun (V_main_arg0 m c) _).trans (congrArg (m ((c : Thread nD τ).loc main_arg0)) (at2 _ _ _ ?_ ?_))
  · show win0_0.index t 0 * 128 + 1 * r.val = r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  have hv : V (F := Ideal) m c main_v0 = shapeCast S1x1024 (m ((c : Thread nD τ).loc main_arg1)) shapeCasts_S1024_S1x1024 := by
    show StableHlo.after hostOps0 _ _ = _
    simp only [hostOps0, StableHlo.after_cons, StableHlo.after_nil]
    rfl
  have hs : V (F := Ideal) m c main_v0 (ix2 0 l) = m ((c : Thread nD τ).loc main_arg1) (ix1 l) := by
    rw [hv]
    generalize m ((c : Thread nD τ).loc main_arg1) = g
    pointwise
  refine Eq.trans ?_ hs
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the gate's weights. -/
theorem gates (t : Fin cfg0.N) (k : Fin 1024) (l : Fin 512) : (iblk m c 2 t : Vec Ideal S1024x512 .f32) (ix2 k l)
    = m ((c : Thread nD τ).loc main_arg2) (ix2 k (colAt t l)) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The step's columns of the projection's weights. -/
theorem projections (t : Fin cfg0.N) (k : Fin 256) (l : Fin 512) : (iblk m c 3 t : Vec Ideal S256x512 .f32) (ix2 k l)
    = m ((c : Thread nD τ).loc main_arg3) (ix2 k (colAt t l)) := by
  have hi := (index t).2.2.2.1
  unfold iblk
  rw [View.read_apply]
  refine (congrFun (V_main_arg3 m c) _).trans (congrArg (m ((c : Thread nD τ).loc main_arg3)) (at2 _ _ _ ?_ ?_))
  · show win0_3.index t 0 * 256 + 1 * k.val = k.val
    rw [hi.1]; omega
  · show win0_3.index t 1 * 512 + 1 * l.val = t.val % 2 * 512 + l.val
    rw [hi.2]; omega

/-- The embeddings of the step's rows. -/
theorem embeddings (t : Fin cfg0.N) (r : Fin 128) (k : Fin 256) : (iblk m c 4 t : Vec Ideal S128x256 .f32) (ix2 r k)
    = m ((c : Thread nD τ).loc main_arg4) (ix2 r k) := by
  have hi := (index t).2.2.2.2.1
  unfold iblk
  rw [View.read_apply]
  refine (congrFun (V_main_arg4 m c) _).trans (congrArg (m ((c : Thread nD τ).loc main_arg4)) (at2 _ _ _ ?_ ?_))
  · show win0_4.index t 0 * 128 + 1 * r.val = r.val
    rw [hi.1]; omega
  · show win0_4.index t 1 * 256 + 1 * k.val = k.val
    rw [hi.2]; omega

/-- The part of the step's rows in its columns. -/
theorem residuals (t : Fin cfg0.N) (r : Fin 128) (l : Fin 512) : (iblk m c 5 t : Vec Ideal S128x512 .f32) (ix2 r l)
    = m ((c : Thread nD τ).loc main_arg0) (ix2 r (colAt t l)) := by
  have hi := (index t).2.2.2.2.2
  unfold iblk
  rw [View.read_apply]
  refine (congrFun (V_main_arg0 m c) _).trans (congrArg (m ((c : Thread nD τ).loc main_arg0)) (at2 _ _ _ ?_ ?_))
  · show win0_5.index t 0 * 128 + 1 * r.val = r.val
    rw [hi.1]; omega
  · show win0_5.index t 1 * 512 + 1 * l.val = t.val % 2 * 512 + l.val
    rw [hi.2]; omega

/-- The result of row `R` and column `l`, from the rows, the norm's scale, the weights and the embeddings. -/
def value (x : Vec Ideal S128x1024 .f32) (g : Vec Ideal S1024 .f32) (a : Vec Ideal S1024x1024 .f32)
    (b : Vec Ideal S256x1024 .f32) (p : Vec Ideal S128x256 .f32) (R : Fin 128) (l : Fin 1024) : EReal :=
  sigmoid (projected x g a R l)
    * product (fun k => p (ix2 R k)) (fun k => b (ix2 k l)) + x (ix2 R l)

/-- What is kept after either step is what the first step wrote. -/
theorem kept (t : Fin cfg0.N) : ∃ t' : Fin cfg0.N, (outsAt0 m c t.val t.isLt).2 = k0_pay1 (iblk m c 0 t') (iblk m c 1 t') := by
  by_cases h0 : t.val % 2 = 0
  · exact ⟨t, congrArg Prod.snd (first m c t h0)⟩
  · refine ⟨⟨t.val - 1, Nat.lt_of_le_of_lt (Nat.sub_le _ _) t.isLt⟩, (congrArg Prod.snd (later m c t h0)).trans
      (congrArg Prod.snd (first m c ⟨t.val - 1, _⟩ ?_))⟩
    show (t.val - 1) % 2 = 0
    omega

/-- So it is the rows, normed. -/
theorem rows (t : Fin cfg0.N) (r : Fin 128) : (fun l => (outsAt0 m c t.val t.isLt).2 (ix2 r l))
    = norm (fun k => m ((c : Thread nD τ).loc main_arg0) (ix2 r k)) (fun k => m ((c : Thread nD τ).loc main_arg1) (ix1 k)) := by
  funext l
  obtain ⟨t', e⟩ := kept m c t
  rw [e, normed]
  simp only [tokens, scale]

/-- Each step writes the product of what is kept after it. -/
theorem wrote (t : Fin cfg0.N) : (outsAt0 m c t.val t.isLt).1 = k0_pay2 (outsAt0 m c t.val t.isLt).2 (iblk m c 2 t) (iblk m c 4 t) (iblk m c 3 t) (iblk m c 5 t) := by
  by_cases h0 : t.val % 2 = 0
  · rw [first m c t h0]
  · rw [later m c t h0]

/-- The kernel's result at row `R`, column `l`. -/
theorem array (R : Fin 128) (l : Fin 1024) : Value.G6 (F := Ideal) m c (ix2 R l)
    = value (m ((c : Thread nD τ).loc main_arg0)) (m ((c : Thread nD τ).loc main_arg1)) (m ((c : Thread nD τ).loc main_arg2))
      (m ((c : Thread nD τ).loc main_arg3)) (m ((c : Thread nD τ).loc main_arg4)) R l := by
  have hR := R.isLt
  have hl := l.isLt
  have hpt : Value.pt6Of (ix2 R l) = l.val / 512 := by
    show 2 * (R.val / 128 - 0) + 1 * (l.val / 512 - 0) = _
    omega
  have hlt : Value.pt6Of (ix2 R l) < cfg0.N := by
    rw [hpt]
    show _ < grid0.N
    rw [N_0]
    omega
  have hloc : Value.loc6Of (ix2 R l) = ix2 R ⟨l.val % 512, by omega⟩ := at2 _ _ _ (Nat.mod_eq_of_lt hR) rfl
  have hcol : colAt ⟨Value.pt6Of (ix2 R l), hlt⟩ ⟨l.val % 512, by omega⟩ = l := Fin.ext (by
    show Value.pt6Of (ix2 R l) % 2 * 512 + l.val % 512 = l.val
    rw [hpt]; omega)
  unfold Value.G6
  rw [dif_pos hlt, ← Value.outsAt0_sweep m c _ hlt, hloc, wrote m c ⟨_, hlt⟩, unit, rows m c ⟨_, hlt⟩]
  simp only [gates, projections, embeddings, residuals, hcol]
  rfl

end Cert.SampleEmbedIdeal.Array

namespace Cert.SampleEmbedReferenceIdeal.Array

open Cert.SampleEmbedReferenceIdeal Cert.SampleEmbedReferenceIdeal.Gen Cert.SampleEmbedReferenceIdeal.Read Idealize.ShloMosaic Cert.Rows Cert.Shared
open Cert.SampleEmbedIdeal.Array (value)

/-- The reference's result at row `R`, column `l`. -/
theorem array (x : FVec Ideal S128x1024 .f32) (g : FVec Ideal S1024 .f32) (a : FVec Ideal S1024x1024 .f32) (b : FVec Ideal S256x1024 .f32)
    (p : FVec Ideal S128x256 .f32) (R : Fin 128) (l : Fin 1024) : val_main_v22 (F := Ideal) x g a b p (ix2 R l) = value x g a b p R l := by
  have hn : ∀ k, val_main_v12 (F := Ideal) x g (ix2 R k) = norm (fun k => x (ix2 R k)) (fun k => g (ix1 k)) k :=
    Cert.SampleValuesReferenceIdeal.Array.normed x g R
  have hg : val_main_v13 (F := Ideal) x g a (ix2 R l) = projected x g a R l := by
    rw [val_main_v13_apply]
    unfold projected product
    refine Finset.sum_congr rfl fun k _ => ?_
    rw [show lidx_main_v13 (ix2 R l) k = ix2 R k from eq_ix2 _, show ridx_main_v13 (ix2 R l) k = ix2 k l from eq_ix2 _, hn]
  have hp : val_main_v20 (F := Ideal) b p (ix2 R l) = product (fun k => p (ix2 R k)) (fun k => b (ix2 k l)) := by
    rw [val_main_v20_apply]
    refine Finset.sum_congr rfl fun k _ => ?_
    rw [show lidx_main_v20 (ix2 R l) k = ix2 R k from eq_ix2 _, show ridx_main_v20 (ix2 R l) k = ix2 k l from eq_ix2 _]
  rw [val_main_v22_apply, val_main_v21_apply, val_main_v19_apply, val_main_v18_apply, val_main_v17_apply, val_main_v16_apply,
    val_main_v15_apply, val_main_v14_apply, val_main_cst_2_apply, val_main_cst_3_apply, hg, hp]
  show _ + Ideal.div (Ideal.ofBits .f32 1065353216#32) (Ideal.ofBits .f32 1065353216#32 + _) * _ = _
  rw [one_bits, add_comm]
  rfl

end Cert.SampleEmbedReferenceIdeal.Array
end
-- ==== Proof.SampleKeys.lean ====
module

public import proofs.«01_k».proof.Proof.SampleValues
public import proofs.«01_k».proof.Proof.Keys
public import proofs.«01_k».proof.Proof.Gen.SampleKeysIdeal.Value
public import proofs.«01_k».proof.Proof.Gen.Pre_sample_keys_finite
public import proofs.«01_k».proof.Proof.Gen.SampleKeysReferenceIdeal.Read

@[expose] public section
noncomputable section

/-!
The keys for the 128 sample tokens, which are one block of rows.
-/

namespace Cert.SampleKeysIdeal.Host

open Cert.SampleKeysIdeal Cert.SampleKeysIdeal.Gen Idealize.ShloMosaic Idealize.ShloMosaic.TcCoe Cert.Shared

variable (m : (ℓ : Loc nD τ sig) → Buf (Elt Ideal) ℓ) (c : Dev nD)

/-- The norm's scale. -/
theorem scale (l : Fin 1024) : V (F := Ideal) m c main_v0 (ix2 0 l) = m ((c : Thread nD τ).loc main_arg1) (ix1 l) := by
  unfold V
  simp only [List.flatten_cons, List.flatten_nil, List.append_nil]
  after_reads_at

/-- The heads' scale. -/
theorem headScale (l : Fin 512) : V (F := Ideal) m c main_v4 (ix2 0 l) = m ((c : Thread nD τ).loc main_arg3) (ix1 ⟨l.val % 64, by omega⟩) := by
  unfold V
  simp only [List.flatten_cons, List.flatten_nil, List.append_nil]
  after_reads_at

/-- Which columns belong to the same head. -/
theorem same (j l : Fin 512) : V (F := Ideal) m c main_v12 (ix2 j l) = if j.val / 64 = l.val / 64 then (1 : EReal) else 0 := by
  refine Eq.trans ?_ (Cert.KeysIdeal.Host.ofHeads j l)
  unfold V
  simp only [List.flatten_cons, List.flatten_nil, List.append_nil]
  after_reads_at
  rfl

end Cert.SampleKeysIdeal.Host

namespace Cert.SampleKeysIdeal.Array

open Cert.SampleKeysIdeal Cert.SampleKeysIdeal.Gen Idealize.ShloMosaic Idealize.ShloMosaic.TcCoe Cert.Rows Cert.Shared
open Cert.KeysIdeal.Array (split split_eq headNorm inHead FiniteScale FiniteWeights)

variable (m : (ℓ : Loc nD τ sig) → Buf (Elt Ideal) ℓ) (c : Dev nD)

/-- What the first step of a row block writes, and what it keeps for the next. -/
theorem first (t : Fin cfg0.N) (h0 : t.val % 2 = 0) : outsAt0 m c t.val t.isLt
    = (k0_pay2 (k0_pay1 (iblk m c 0 t) (iblk m c 1 t)) (iblk m c 2 t) (iblk m c 4 t) (iblk m c 3 t), k0_pay1 (iblk m c 0 t) (iblk m c 1 t)) := by
  rw [outsAt0_A m c t h0]
  refine Prod.ext ?_ ?_
  · dsimp only
    unfold out0_A_5
    refine (View.read_writes_eq_canon _ _ _ (fun y => cover0_A_5 (y := y) ..)).trans ?_
    unfold kernelRun0_A
    dsimp only
    sl_unfold_words
    simp only [View.canon_unit_zero (S := S128x512) zeros2, View.readCov_unit_zero (S := S128x1024) _ zeros2, View.readAt_eq_ld,
      (hs0_0 t).read_unread, (hs0_1 t).read_unread, (hs0_2 t).read_unread, (hs0_3 t).read_unread, (hs0_4 t).read_unread,
      View.ld_unit_zero (S := S128x1024) zeros2, View.ld_unit_zero (S := S1x1024) zeros2, View.ld_unit_zero (S := S1024x512) zeros2,
      View.ld_unit_zero (S := S512x512) zeros2, View.ld_unit_zero (S := S1x512) zeros2]
  · dsimp only
    unfold sout0_A_0
    refine (View.read_writes_eq_canon _ _ _ (fun y => scover0_A_0 (y := y) ..)).trans ?_
    unfold kernelRun0_A
    dsimp only
    sl_unfold_words
    simp only [View.canon_unit_zero (S := S128x1024) zeros2, View.readAt_eq_ld, (hs0_0 t).read_unread, (hs0_1 t).read_unread,
      View.ld_unit_zero (S := S128x1024) zeros2, View.ld_unit_zero (S := S1x1024) zeros2]

/-- What a later step writes, from what was kept, and that it keeps it. -/
theorem later (t : Fin cfg0.N) (h0 : ¬ t.val % 2 = 0) : outsAt0 m c t.val t.isLt
    = (k0_pay2 (outsAt0 m c (t.val - 1) (Nat.lt_of_le_of_lt (Nat.sub_le _ _) t.isLt)).2 (iblk m c 2 t) (iblk m c 4 t) (iblk m c 3 t),
      (outsAt0 m c (t.val - 1) (Nat.lt_of_le_of_lt (Nat.sub_le _ _) t.isLt)).2) := by
  rw [outsAt0_B m c t h0]
  refine Prod.ext ?_ rfl
  dsimp only
  unfold out0_B_5
  refine (View.read_writes_eq_canon _ _ _ (fun y => cover0_B_5 (y := y) ..)).trans ?_
  unfold kernelRun0_B
  dsimp only
  sl_unfold_words
  simp only [View.canon_unit_zero (S := S128x512) zeros2, View.readAt_eq_ld,
    (hs0_2 t).read_unread, (hs0_3 t).read_unread, (hs0_4 t).read_unread, (Memref.isWhole_whole (κ := .tc) _).read_unread,
    View.ld_unit_zero (S := S128x1024) zeros2, View.ld_unit_zero (S := S1024x512) zeros2,
      View.ld_unit_zero (S := S512x512) zeros2, View.ld_unit_zero (S := S1x512) zeros2]

/-- The normed rows of a block, place by place. -/
theorem normed (x : Vec Ideal S128x1024 .f32) (g : Vec Ideal S1x1024 .f32) (r : Fin 128) (l : Fin 1024) :
    k0_pay1 (F := Ideal) x g (ix2 r l) = norm (fun k => x (ix2 r k)) (fun k => g (ix2 0 k)) l := by
  pointwise [k0_pay1]
  rfl

/-- The block a step writes, place by place. -/
theorem unit (s : Vec Ideal S128x1024 .bf16) (a : Vec Ideal S1024x512 .f32) (b : Vec Ideal S512x512 .bf16)
    (g : Vec Ideal S1x512 .f32) (r : Fin 128) (l : Fin 512) :
    k0_pay2 (F := Ideal) s a b g (ix2 r l)
      = split (fun j => product (fun k => s (ix2 r k)) (fun k => a (ix2 k j))) (fun j l => b (ix2 j l)) (fun l => g (ix2 0 l)) l := by
  pointwise [k0_pay2]
  rfl

/-- The column of the whole array that a step's column `l` is. -/
def colAt (t : Fin cfg0.N) (l : Fin 512) : Fin 1024 := ⟨t.val % 2 * 512 + l.val, by omega⟩

/-- Which block of each array a step reads. -/
theorem index : ∀ t : Fin grid0.N, (win0_0.index t 0 = 0 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = 0)
    ∧ (win0_4.index t 0 = 0 ∧ win0_4.index t 1 = 0) := by
  decide +kernel

/-- The step's rows. -/
theorem tokens (t : Fin cfg0.N) (r : Fin 128) (l : Fin 1024) : (iblk m c 0 t : Vec Ideal S128x1024 .f32) (ix2 r l)
    = m ((c : Thread nD τ).loc main_arg0) (ix2 r l) := by
  have hi := (index t).1
  unfold iblk
  rw [View.read_apply]
  refine (congrFun (V_main_arg0 m c) _).trans (congrArg (m ((c : Thread nD τ).loc main_arg0)) (at2 _ _ _ ?_ ?_))
  · show win0_0.index t 0 * 128 + 1 * r.val = r.val
    rw [hi.1]; omega
  · show win0_0.index t 1 * 1024 + 1 * l.val = l.val
    rw [hi.2]; omega

/-- The norm's scale. -/
theorem scale (t : Fin cfg0.N) (l : Fin 1024) : (iblk m c 1 t : Vec Ideal S1x1024 .f32) (ix2 0 l)
    = m ((c : Thread nD τ).loc main_arg1) (ix1 l) := by
  have hi := (index t).2.1
  refine Eq.trans ?_ (Host.scale m c l)
  unfold iblk
  rw [View.read_apply]
  refine congrArg (V m c main_v0) (at2 _ _ _ ?_ ?_)
  · show win0_1.index t 0 * 1 + 1 * 0 = 0
    rw [hi.1]
  · show win0_1.index t 1 * 1024 + 1 * l.val = l.val
    rw [hi.2]; omega

/-- The step's columns of the weights. -/
theorem weights (t : Fin cfg0.N) (k : Fin 1024) (l : Fin 512) : (iblk m c 2 t : Vec Ideal S1024x512 .f32) (ix2 k l)
    = m ((c : Thread nD τ).loc main_arg2) (ix2 k (colAt t l)) := by
  have hi := (index t).2.2.1
  unfold iblk
  rw [View.read_apply]
  refine (congrFun (V_main_arg2 m c) _).trans (congrArg (m ((c : Thread nD τ).loc main_arg2)) (at2 _ _ _ ?_ ?_))
  · show win0_2.index t 0 * 1024 + 1 * k.val = k.val
    rw [hi.1]; omega
  · show win0_2.index t 1 * 512 + 1 * l.val = t.val % 2 * 512 + l.val
    rw [hi.2]; omega

/-- The heads' scale, the same at every step. -/
theorem headScale (t : Fin cfg0.N) (l : Fin 512) : (iblk m c 3 t : Vec Ideal S1x512 .f32) (ix2 0 l)
    = m ((c : Thread nD τ).loc main_arg3) (ix1 ⟨l.val % 64, by omega⟩) := by
  have hi := (index t).2.2.2.1
  refine Eq.trans ?_ (Host.headScale m c l)
  unfold iblk
  rw [View.read_apply]
  refine congrArg (V m c main_v4) (at2 _ _ _ ?_ ?_)
  · show win0_3.index t 0 * 1 + 1 * 0 = 0
    rw [hi.1]
  · show win0_3.index t 1 * 512 + 1 * l.val = l.val
    rw [hi.2]; omega

/-- The heads' matrix, the same at every step. -/
theorem same (t : Fin cfg0.N) (j l : Fin 512) : (iblk m c 4 t : Vec Ideal S512x512 .bf16) (ix2 j l)
    = if j.val / 64 = l.val / 64 then (1 : EReal) else 0 := by
  have hi := (index t).2.2.2.2
  refine Eq.trans ?_ (Host.same m c j l)
  unfold iblk
  rw [View.read_apply]
  refine congrArg (V m c main_v12) (at2 _ _ _ ?_ ?_)
  · show win0_4.index t 0 * 512 + 1 * j.val = j.val
    rw [hi.1]; omega
  · show win0_4.index t 1 * 512 + 1 * l.val = l.val
    rw [hi.2]; omega

/-- The key of row `R` and column `l`, from the rows, the norm's scale, the weights and the heads' scale. -/
def value (x : Vec Ideal S128x1024 .f32) (g : Vec Ideal S1024 .f32) (w : Vec Ideal S1024x1024 .f32) (gh : Vec Ideal S64 .f32)
    (R : Fin 128) (l : Fin 1024) : EReal :=
  headNorm (fun k => projected x g w R ⟨l.val / 64 * 64 + k.val, by omega⟩) (projected x g w R l) (gh (ix1 ⟨l.val % 64, by omega⟩))

/-- With a finite scale and finite weights every product is finite. -/
theorem projected_real (x : Vec Ideal S128x1024 .f32) (g : Vec Ideal S1024 .f32) (w : Vec Ideal S1024x1024 .f32)
    (hg : FiniteScale g) (hw : FiniteWeights w) (R : Fin 128) (l : Fin 1024) :
    ∃ r : ℝ, projected x g w R l = r := by
  unfold projected product
  refine sum_real _ _ fun k _ => ?_
  obtain ⟨a, ha⟩ := norm_real (fun k => x (ix2 R k)) (fun k => g (ix1 k)) hg k
  obtain ⟨b, hb⟩ := hw k l
  exact ⟨a * b, by show _ * w (ix2 k l) = _; rw [ha, hb, EReal.coe_mul]⟩

/-- What is kept after either step is what the first step wrote. -/
theorem kept (t : Fin cfg0.N) : ∃ t' : Fin cfg0.N, (outsAt0 m c t.val t.isLt).2 = k0_pay1 (iblk m c 0 t') (iblk m c 1 t') := by
  by_cases h0 : t.val % 2 = 0
  · exact ⟨t, congrArg Prod.snd (first m c t h0)⟩
  · refine ⟨⟨t.val - 1, Nat.lt_of_le_of_lt (Nat.sub_le _ _) t.isLt⟩, (congrArg Prod.snd (later m c t h0)).trans
      (congrArg Prod.snd (first m c ⟨t.val - 1, _⟩ ?_))⟩
    show (t.val - 1) % 2 = 0
    omega

/-- So it is the rows, normed. -/
theorem rows (t : Fin cfg0.N) (r : Fin 128) : (fun l => (outsAt0 m c t.val t.isLt).2 (ix2 r l))
    = norm (fun k => m ((c : Thread nD τ).loc main_arg0) (ix2 r k)) (fun k => m ((c : Thread nD τ).loc main_arg1) (ix1 k)) := by
  funext l
  obtain ⟨t', e⟩ := kept m c t
  rw [e, normed]
  simp only [tokens, scale]

/-- Each step writes the product of what is kept after it. -/
theorem wrote (t : Fin cfg0.N) : (outsAt0 m c t.val t.isLt).1 = k0_pay2 (outsAt0 m c t.val t.isLt).2 (iblk m c 2 t) (iblk m c 4 t) (iblk m c 3 t) := by
  by_cases h0 : t.val % 2 = 0
  · rw [first m c t h0]
  · rw [later m c t h0]

/-- The kernel's result at row `R`, column `l`, with a finite scale and finite weights. -/
theorem array (hg : FiniteScale (m ((c : Thread nD τ).loc main_arg1))) (hw : FiniteWeights (m ((c : Thread nD τ).loc main_arg2)))
    (R : Fin 128) (l : Fin 1024) : Value.G5 (F := Ideal) m c (ix2 R l)
    = value (m ((c : Thread nD τ).loc main_arg0)) (m ((c : Thread nD τ).loc main_arg1)) (m ((c : Thread nD τ).loc main_arg2))
      (m ((c : Thread nD τ).loc main_arg3)) R l := by
  have hR := R.isLt
  have hl := l.isLt
  have hpt : Value.pt5Of (ix2 R l) = l.val / 512 := by
    show 2 * (R.val / 128 - 0) + 1 * (l.val / 512 - 0) = _
    omega
  have hlt : Value.pt5Of (ix2 R l) < cfg0.N := by
    rw [hpt]
    show _ < grid0.N
    rw [N_0]
    omega
  have hloc : Value.loc5Of (ix2 R l) = ix2 R ⟨l.val % 512, by omega⟩ := at2 _ _ _ (Nat.mod_eq_of_lt hR) rfl
  have hcol : colAt ⟨Value.pt5Of (ix2 R l), hlt⟩ ⟨l.val % 512, by omega⟩ = l := Fin.ext (by
    show Value.pt5Of (ix2 R l) % 2 * 512 + l.val % 512 = l.val
    rw [hpt]; omega)
  unfold Value.G5
  rw [dif_pos hlt, ← Value.outsAt0_sweep m c _ hlt, hloc, wrote m c ⟨_, hlt⟩, unit, rows m c ⟨_, hlt⟩]
  simp only [weights, headScale, same]
  refine (split_eq (fun j => projected (m ((c : Thread nD τ).loc main_arg0)) (m ((c : Thread nD τ).loc main_arg1)) (m ((c : Thread nD τ).loc main_arg2)) R
    (colAt ⟨Value.pt5Of (ix2 R l), hlt⟩ j)) (fun j => projected_real _ _ _ hg hw R _) _ _).trans ?_
  have hk : ∀ k : Fin 64, colAt ⟨Value.pt5Of (ix2 R l), hlt⟩ (inHead ⟨l.val % 512, by omega⟩ k) = ⟨l.val / 64 * 64 + k.val, by omega⟩ := fun k => Fin.ext (by
    show Value.pt5Of (ix2 R l) % 2 * 512 + (l.val % 512 / 64 * 64 + k.val) = l.val / 64 * 64 + k.val
    rw [hpt]; omega)
  have hm : (⟨l.val % 512 % 64, by omega⟩ : Fin 64) = ⟨l.val % 64, by omega⟩ := Fin.ext (by show l.val % 512 % 64 = l.val % 64; omega)
  simp only [hk, hcol, hm]
  rfl

end Cert.SampleKeysIdeal.Array

namespace Cert.SampleKeysReferenceIdeal.Array

open Cert.SampleKeysReferenceIdeal Cert.SampleKeysReferenceIdeal.Gen Cert.SampleKeysReferenceIdeal.Read Idealize.ShloMosaic Cert.Rows Cert.Shared
open Cert.SampleKeysIdeal.Array (value)

variable (x : FVec Ideal S128x1024 .f32) (g : FVec Ideal S1024 .f32) (w : FVec Ideal S1024x1024 .f32) (gh : FVec Ideal S64 .f32) (R : Fin 128)

/-- The reference's product at row `R`, column `l`. -/
theorem products (l : Fin 1024) : val_main_v13 (F := Ideal) x g w (ix2 R l) = projected x g w R l := by
  rw [val_main_v13_apply]
  unfold projected product
  refine Finset.sum_congr rfl fun k _ => ?_
  rw [show lidx_main_v13 (ix2 R l) k = ix2 R k from eq_ix2 _, show ridx_main_v13 (ix2 R l) k = ix2 k l from eq_ix2 _]
  exact congrArg (fun y => y * w (ix2 k l)) (Cert.SampleValuesReferenceIdeal.Array.normed x g R k)

/-- The same by heads. -/
theorem heads (i : S128x16x64.Idx) (l : Fin 1024) (h0 : (i 0).val = R.val) (h1 : (i 1).val * 64 + (i 2).val = l.val) :
    val_main_v14 (F := Ideal) x g w i = projected x g w R l := by
  have hl := l.isLt
  rw [val_main_v14_apply, ← products]
  refine congrArg _ (at2 _ _ _ ?_ ?_)
  · show (((i 0).val * 16 + (i 1).val) * 64 + (i 2).val) / 1024 = R.val
    omega
  · show (((i 0).val * 16 + (i 1).val) * 64 + (i 2).val) % 1024 = l.val
    omega

/-- The reference's result at row `R`, column `l`. -/
theorem array (l : Fin 1024) : val_main_v28 (F := Ideal) x g w gh (ix2 R l) = value x g w gh R l := by
  have hR := R.isLt
  have hl := l.isLt
  have h0 : (R.val * 1024 + l.val) / 1024 = R.val := by omega
  have h1 : (R.val * 1024 + l.val) / 64 % 16 = l.val / 64 := by omega
  have h2 : (R.val * 1024 + l.val) % 64 = l.val % 64 := by omega
  rw [val_main_v28_apply, val_main_v27_apply, val_main_v24_apply, val_main_v23_apply, val_main_v22_apply, val_main_v21_apply, val_main_v19_apply,
    val_main_v17_apply, val_main_v16_apply, val_main_v18_apply, val_main_v20_apply, val_main_v26_apply, val_main_v25_apply]
  simp only [val_main_v15_apply, val_main_cst_2_apply, val_main_cst_3_apply, val_main_cst_4_apply]
  rw [heads x g w R (idx_main_v28 (ix2 R l)) l h0 (by
    show (R.val * 1024 + l.val) / 64 % 16 * 64 + (R.val * 1024 + l.val) % 64 = l.val
    omega)]
  have hs : ∀ k : Fin 64, val_main_v14 (F := Ideal) x g w (idx_main_v16 (idx_main_v17 (idx_main_v23 (idx_main_v28 (ix2 R l)))) k)
      = projected x g w R ⟨l.val / 64 * 64 + k.val, by omega⟩ := fun k => heads x g w R _ _ h0 (by
    show (R.val * 1024 + l.val) / 64 % 16 * 64 + k.val = l.val / 64 * 64 + k.val
    rw [h1])
  simp only [hs]
  rw [show idx_main_v25 (idx_main_v26 (idx_main_v28 (ix2 R l))) = ix1 ⟨l.val % 64, by omega⟩ from at1 _ _ h2]
  show _ * Ideal.rsqrt (Ideal.div (Ideal.ofBits .f32 0#32 + _) _ + _) * _ = _
  rw [zero_bits, zero_add]
  rfl

end Cert.SampleKeysReferenceIdeal.Array

namespace Cert.SampleKeysFinite

open Idealize.ShloMosaic Cert.Pre_sample_keys_finite Cert.Pre_sample_keys_finite.Gen Cert.Finite

variable (x0 : FVec Ideal S128x1024 .f32) (x1 : FVec Ideal S1024 .f32) (x2 : FVec Ideal S1024x1024 .f32) (x3 : FVec Ideal S64 .f32)
  (h : fn (F := Ideal) x0 x1 x2 x3 = fun _ => 1#1)
include h

/-- The weights are finite. -/
theorem weights_real (k l : Fin 1024) : ∃ r : ℝ, x2 (ix2 k l) = r :=
  real_of_word _ (both_ones _ _ (congrFun h (ix2 k l))).1

/-- The norm's scale is finite. -/
theorem scale_real (k : Fin 1024) : ∃ r : ℝ, x1 (ix1 k) = r := by
  have hk := (both_ones _ _ (congrFun h (ix2 k 0))).2
  rw [broadcastInDim_apply _ bcast_S1024x1_S1024x1024_0_1 _ (ix2 k 0) (ix2 k 0) (fun a => match a with | ⟨0, _⟩ => by rfl | ⟨1, _⟩ => by rfl)] at hk
  refine real_of_word _ (Eq.trans (congrArg (fun z => FloatOps.cmpf (F := Ideal) (φ := .f32) .olt z (Ideal.ofBits .f32 2139095040#32)) ?_) hk)
  exact (broadcastInDim_apply _ bcast_S1024_S1024x1_0 (Host.absf x1) (ix2 k 0) (ix1 k) (fun a => match a with | ⟨0, _⟩ => by rfl)).symm

end Cert.SampleKeysFinite
end
-- ==== Proof.ConvBlock.lean ====
module

public import proofs.«01_k».proof.Proof.Shared
public import proofs.«01_k».proof.Proof.Gen.ConvIdeal.Value
public import Idealize.ShloMosaic.Lib.Pipeline.ValueKit.Tiles

@[expose] public section
noncomputable section

/-!
One step of the depthwise convolution: 256 rows, in eight pieces of 32.
-/

namespace Cert.ConvIdeal.Block

open Cert.ConvIdeal Cert.ConvIdeal.Gen Idealize.ShloMosaic Idealize.ShloMosaic.TcCoe Cert.Rows Cert.Shared

variable (c : Dev nD) (i : grid0.Coords) (arg2 : Memref sig .tc .vmem S1x256x1024 .f32) (harg2 : arg2.IsWhole) (arg3 : Memref sig .tc .vmem S1x32x1024 .f32) (harg3 : arg3.IsWhole) (arg4 : Memref sig .tc .vmem S1x32x1024 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S288x1024 .f32) (harg10 : arg10.IsWhole)

/-- Three zero offsets are the constant zero offset. -/
theorem zeros3 : (![0, 0, 0] : Fin 3 → Nat) = fun _ => 0 := funext fun a => by fin_cases a <;> rfl

/-- The rows that a step holds: 32 from before its own, then its own 256. -/
def held (a : Vec Ideal S32x1024 .f32) (b : Vec Ideal S256x1024 .f32) : Vec Ideal S288x1024 .f32 := fun i =>
  if h : (i 0).val < 32 then a (ix2 ⟨(i 0).val, h⟩ (i 1)) else b (ix2 ⟨(i 0).val - 32, by have h' : (i 0).val < 288 := (i 0).isLt; omega⟩ (i 1))

/-- The 32 rows from row `s` on. -/
def rows (E : Vec Ideal S288x1024 .f32) (s : ℕ) : Vec Ideal S32x1024 .f32 := fun i =>
  if h : s + (i 0).val < 288 then E (ix2 ⟨s + (i 0).val, h⟩ (i 1)) else 0

/-- The weights of tap `w`. -/
def tap (W : Vec Ideal S31x1024 .f32) (w : ℕ) : Vec Ideal S1x1024 .f32 := fun i => if h : w < 31 then W (ix2 ⟨w, h⟩ (i 1)) else 0

/-- A load of 32 rows. -/
theorem load_rows (E : Vec Ideal S288x1024 .f32) (s : ℕ) (h : ∀ a, (![s, 0] : Fin 2 → ℕ) a + S32x1024.size a ≤ S288x1024.size a) :
    View.ld E (Rect.unit (s := S288x1024) ![s, 0] S32x1024.size h) = rows E s := by
  funext i
  have h0 : s + 32 ≤ 288 := h 0
  have hi : (i 0).val < 32 := (i 0).isLt
  unfold rows
  rw [dif_pos (show s + (i 0).val < 288 by omega)]
  refine View.ld_unit_apply_of E _ _ _ _ _ fun a => ?_
  match a with
  | ⟨0, _⟩ => rfl
  | ⟨1, _⟩ => exact (Nat.zero_add _).symm

/-- The same load, place by place. -/
theorem loaded (E : Vec Ideal S288x1024 .f32) (s : ℕ) (h : ∀ a, (![s, 0] : Fin 2 → ℕ) a + S32x1024.size a ≤ S288x1024.size a) :
    (fun j => E ((Rect.unit (s := S288x1024) ![s, 0] S32x1024.size h).idx j)) = rows E s := load_rows E s h

/-- A load of one tap's weights. -/
theorem load_tap (W : Vec Ideal S31x1024 .f32) (w : ℕ) (h : ∀ a, (![w, 0] : Fin 2 → ℕ) a + (![1, 1024] : Fin 2 → ℕ) a ≤ S31x1024.size a) :
    View.ld W (Rect.unit (s := S31x1024) ![w, 0] ![1, 1024] h) = tap W w := by
  funext i
  have h0 : w + 1 ≤ 31 := h 0
  have hi : (i 0).val < 1 := (i 0).isLt
  unfold tap
  rw [dif_pos (show w < 31 by omega)]
  refine View.ld_unit_apply_of W _ _ _ _ _ fun a => ?_
  match a with
  | ⟨0, _⟩ => show w = w + (i 0).val; omega
  | ⟨1, _⟩ => exact (Nat.zero_add _).symm

/-- The two stores into the held rows. -/
theorem stored (a : Vec Ideal S32x1024 .f32) (b : Vec Ideal S256x1024 .f32) (ha : ∀ x, (![0, 0] : Fin 2 → ℕ) x + (![32, 1024] : Fin 2 → ℕ) x ≤ S288x1024.size x)
    (hb : ∀ x, (![32, 0] : Fin 2 → ℕ) x + (![256, 1024] : Fin 2 → ℕ) x ≤ S288x1024.size x) :
    View.canon (Val := Elt Ideal) (s := S288x1024) (e := .f32) [⟨Rect.unit (s := S288x1024) ![32, 0] ![256, 1024] hb, b⟩, ⟨Rect.unit (s := S288x1024) ![0, 0] ![32, 1024] ha, a⟩] = held a b := by
  funext y
  have hy : (y 0).val < 288 := (y 0).isLt
  unfold held
  by_cases h : (y 0).val < 32
  · have hm : y = (Rect.unit (s := S288x1024) ![0, 0] ![32, 1024] ha).emb (ix2 ⟨(y 0).val, h⟩ (y 1) : S32x1024.Idx) := by
      funext z
      refine Fin.ext (Eq.trans ?_ (Rect.idx_unit_val (s := S288x1024) ![0, 0] ![32, 1024] ha (ix2 ⟨(y 0).val, h⟩ (y 1) : S32x1024.Idx) z).symm)
      match z with
      | ⟨0, _⟩ => exact (Nat.zero_add _).symm
      | ⟨1, _⟩ => exact (Nat.zero_add _).symm
    rw [dif_pos h, View.canon_cons_of_not_mem]
    · conv_lhs => rw [hm]
      exact View.canon_cons_emb _ _ _ _
    · intro hb'
      obtain ⟨x, hx⟩ := (Rect.unit (s := S288x1024) ![32, 0] ![256, 1024] hb).exists_idx_of_mem hb'
      have h0 := (Rect.idx_unit_val (s := S288x1024) ![32, 0] ![256, 1024] hb x 0).symm.trans (congrArg (fun i : S288x1024.Idx => (i 0).val) hx)
      have h1 : 32 + (x 0).val = (y 0).val := h0
      omega
  · have hm : y = (Rect.unit (s := S288x1024) ![32, 0] ![256, 1024] hb).emb (ix2 ⟨(y 0).val - 32, by omega⟩ (y 1) : S256x1024.Idx) := by
      funext z
      refine Fin.ext (Eq.trans ?_ (Rect.idx_unit_val (s := S288x1024) ![32, 0] ![256, 1024] hb (ix2 ⟨(y 0).val - 32, by omega⟩ (y 1) : S256x1024.Idx) z).symm)
      match z with
      | ⟨0, _⟩ => show (y 0).val = 32 + ((y 0).val - 32); omega
      | ⟨1, _⟩ => exact (Nat.zero_add _).symm
    rw [dif_neg h]
    conv_lhs => rw [hm]
    exact View.canon_cons_emb _ _ _ _

/-- The weighted sum over the first `n` taps. -/
def taps (e : ℕ → Vec Ideal S32x1024 .f32) (k : ℕ → Vec Ideal S1x1024 .f32) : ℕ → FVec Ideal S32x1024 .f32
  | 0 => broadcast S32x1024 (Scalar.ofBits .f32 0x00000000#32)
  | n + 1 => addf (taps e k n) (mulf (e n) (broadcastTo S32x1024 (k n) broadcasts_S1x1024_S32x1024))

/-- The layer norm and the swish of 32 rows. -/
def finish (a : FVec Ideal S32x1024 .f32) (b g n : Vec Ideal S1x1024 .f32) : FVec Ideal S1x32x1024 .bf16 :=
  k0_pay19 (addf a (broadcastTo S32x1024 (shapeCast S1x1024 b shapeCasts_S1x1024_S1x1024) broadcasts_S1x1024_S32x1024)) (k0_pay17 g) (k0_pay18 n)

/-- What a step writes: its rows in eight pieces of 32, each from the held rows that end with its own. -/
def written (E : Vec Ideal S288x1024 .f32) (W : Vec Ideal S31x1024 .f32) (b g n : Vec Ideal S1x1024 .f32) : Vec Ideal S1x256x1024 .bf16 := fun y =>
  finish (taps (fun w => rows E (32 * ((y 1).val / 32) + 2 + w)) (tap W) 31) b g n (ix3 0 ⟨(y 1).val % 32, Nat.mod_lt _ (by norm_num)⟩ (y 2))

/-- One of the eight pieces lies where its rows do. -/
theorem piece (E : Vec Ideal S288x1024 .f32) (W : Vec Ideal S31x1024 .f32) (b g n : Vec Ideal S1x1024 .f32) (q : ℕ)
    (h : ∀ a, (![0, 32 * q, 0] : Fin 3 → ℕ) a + S1x32x1024.size a ≤ S1x256x1024.size a) (x : S1x32x1024.Idx) :
    finish (taps (fun w => rows E (32 * q + 2 + w)) (tap W) 31) b g n x
      = written E W b g n ((Rect.unit (s := S1x256x1024) ![0, 32 * q, 0] S1x32x1024.size h).emb x) := by
  have h1 : (((Rect.unit (s := S1x256x1024) ![0, 32 * q, 0] S1x32x1024.size h).emb x) 1).val = 32 * q + (x 1).val :=
    Rect.idx_unit_val (s := S1x256x1024) ![0, 32 * q, 0] S1x32x1024.size h x 1
  have h2 : (((Rect.unit (s := S1x256x1024) ![0, 32 * q, 0] S1x32x1024.size h).emb x) 2).val = 0 + (x 2).val :=
    Rect.idx_unit_val (s := S1x256x1024) ![0, 32 * q, 0] S1x32x1024.size h x 2
  have hx : (x 1).val < 32 := (x 1).isLt
  unfold written
  rw [show (((Rect.unit (s := S1x256x1024) ![0, 32 * q, 0] S1x32x1024.size h).emb x) 1).val / 32 = q from by rw [h1]; omega]
  refine congrArg _ (funext fun a => Fin.ext ?_)
  match a with
  | ⟨0, _⟩ => have h0 : (x 0).val < 1 := (x 0).isLt; show (x 0).val = 0; omega
  | ⟨1, _⟩ => show (x 1).val = (((Rect.unit (s := S1x256x1024) ![0, 32 * q, 0] S1x32x1024.size h).emb x) 1).val % 32; rw [h1]; omega
  | ⟨2, _⟩ => exact ((h2.trans (Nat.zero_add _))).symm

/-- A sequence's first step holds the state's rows before its own. -/
theorem stepA (hc0 : cond0_0 i) (hc1 : ¬cond0_1 i)
    (x0 : Vec Ideal S1x256x1024 .f32) (x1 : Vec Ideal S1x32x1024 .f32) (x2 : Vec Ideal S1x32x1024 .f32) (x3 : Vec Ideal S31x1024 .f32) (x4 : Vec Ideal S1x1024 .f32) (x5 : Vec Ideal S1x1024 .f32) (x6 : Vec Ideal S1x1024 .f32) :
    out0_A_7 c i arg2 harg2 arg3 harg3 arg4 harg4 arg5 harg5 arg6 harg6 arg7 harg7 arg8 harg8 arg9 harg9 arg10 harg10 hc0 hc1 x0 x1 x2 x3 x4 x5 x6
      = written (held (k0_pay2 x2) (k0_pay4 x0)) x3 x4 x5 x6 := by
  unfold out0_A_7
  rw [View.read_writes_junk_eq_canon]
  funext y
  refine View.canon_apply_of_pieces _ _ ?_ y (cover0_A_7 (y := y) ..)
  unfold kernelRun0_A
  dsimp only
  sl_unfold_words
  simp only [View.readCov_eq_canon', View.readAt_eq_ld, harg2.read_unread, harg3.read_unread, harg4.read_unread, harg5.read_unread, harg6.read_unread, harg7.read_unread, harg8.read_unread,
    View.ld_unit_zero (S := S1x1024) zeros2, View.ld_unit_zero (S := S1x256x1024) zeros3, View.ld_unit_zero (S := S1x32x1024) zeros3, stored, loaded, load_tap]
  intro p hp x
  simp only [List.mem_cons, List.not_mem_nil, or_false] at hp
  rcases hp with rfl | rfl | rfl | rfl | rfl | rfl | rfl | rfl
  refine (congrFun ?_ x).trans (piece _ x3 x4 x5 x6 7 inb_S1x256x1024_S1x32x1024_0_224_0 x); rotate_left
  refine (congrFun ?_ x).trans (piece _ x3 x4 x5 x6 6 inb_S1x256x1024_S1x32x1024_0_192_0 x); rotate_left
  refine (congrFun ?_ x).trans (piece _ x3 x4 x5 x6 5 inb_S1x256x1024_S1x32x1024_0_160_0 x); rotate_left
  refine (congrFun ?_ x).trans (piece _ x3 x4 x5 x6 4 inb_S1x256x1024_S1x32x1024_0_128_0 x); rotate_left
  refine (congrFun ?_ x).trans (piece _ x3 x4 x5 x6 3 inb_S1x256x1024_S1x32x1024_0_96_0 x); rotate_left
  refine (congrFun ?_ x).trans (piece _ x3 x4 x5 x6 2 inb_S1x256x1024_S1x32x1024_0_64_0 x); rotate_left
  refine (congrFun ?_ x).trans (piece _ x3 x4 x5 x6 1 inb_S1x256x1024_S1x32x1024_0_32_0 x); rotate_left
  refine (congrFun ?_ x).trans (piece _ x3 x4 x5 x6 0 inb_S1x256x1024_S1x32x1024_0_0_0 x); rotate_left
  all_goals simp only [finish, taps, Nat.reduceMul, Nat.reduceAdd,
    k0_pay1, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67]

/-- A later step holds the 32 rows before its own. -/
theorem stepB (hc0 : ¬cond0_0 i) (hc1 : cond0_1 i)
    (x0 : Vec Ideal S1x256x1024 .f32) (x1 : Vec Ideal S1x32x1024 .f32) (x2 : Vec Ideal S1x32x1024 .f32) (x3 : Vec Ideal S31x1024 .f32) (x4 : Vec Ideal S1x1024 .f32) (x5 : Vec Ideal S1x1024 .f32) (x6 : Vec Ideal S1x1024 .f32) :
    out0_B_7 c i arg2 harg2 arg3 harg3 arg4 harg4 arg5 harg5 arg6 harg6 arg7 harg7 arg8 harg8 arg9 harg9 arg10 harg10 hc0 hc1 x0 x1 x2 x3 x4 x5 x6
      = written (held (k0_pay3 x1) (k0_pay4 x0)) x3 x4 x5 x6 := by
  unfold out0_B_7
  rw [View.read_writes_junk_eq_canon]
  funext y
  refine View.canon_apply_of_pieces _ _ ?_ y (cover0_B_7 (y := y) ..)
  unfold kernelRun0_B
  dsimp only
  sl_unfold_words
  simp only [View.readCov_eq_canon', View.readAt_eq_ld, harg2.read_unread, harg3.read_unread, harg4.read_unread, harg5.read_unread, harg6.read_unread, harg7.read_unread, harg8.read_unread,
    View.ld_unit_zero (S := S1x1024) zeros2, View.ld_unit_zero (S := S1x256x1024) zeros3, View.ld_unit_zero (S := S1x32x1024) zeros3, stored, loaded, load_tap]
  intro p hp x
  simp only [List.mem_cons, List.not_mem_nil, or_false] at hp
  rcases hp with rfl | rfl | rfl | rfl | rfl | rfl | rfl | rfl
  refine (congrFun ?_ x).trans (piece _ x3 x4 x5 x6 7 inb_S1x256x1024_S1x32x1024_0_224_0 x); rotate_left
  refine (congrFun ?_ x).trans (piece _ x3 x4 x5 x6 6 inb_S1x256x1024_S1x32x1024_0_192_0 x); rotate_left
  refine (congrFun ?_ x).trans (piece _ x3 x4 x5 x6 5 inb_S1x256x1024_S1x32x1024_0_160_0 x); rotate_left
  refine (congrFun ?_ x).trans (piece _ x3 x4 x5 x6 4 inb_S1x256x1024_S1x32x1024_0_128_0 x); rotate_left
  refine (congrFun ?_ x).trans (piece _ x3 x4 x5 x6 3 inb_S1x256x1024_S1x32x1024_0_96_0 x); rotate_left
  refine (congrFun ?_ x).trans (piece _ x3 x4 x5 x6 2 inb_S1x256x1024_S1x32x1024_0_64_0 x); rotate_left
  refine (congrFun ?_ x).trans (piece _ x3 x4 x5 x6 1 inb_S1x256x1024_S1x32x1024_0_32_0 x); rotate_left
  refine (congrFun ?_ x).trans (piece _ x3 x4 x5 x6 0 inb_S1x256x1024_S1x32x1024_0_0_0 x); rotate_left
  all_goals simp only [finish, taps, Nat.reduceMul, Nat.reduceAdd,
    k0_pay1, k0_pay5, k0_pay6, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67]

end Cert.ConvIdeal.Block
end
-- ==== Proof.ConvRows.lean ====
module

public import proofs.«01_k».proof.Proof.Shared

@[expose] public section
noncomputable section

/-!
The depthwise convolution as plain functions: at each place of a sequence and each of the 1024 columns, the weighted sum
of the 31 rows that end there, with the state's 30 rows before the sequence's own; then a layer norm of the row and
`a * sigmoid a`. The kernel and the reference are both read as these functions.
-/

namespace Cert.ConvRows

open Idealize.ShloMosaic Cert.Rows Cert.Shared

/-- The mean of a row. -/
def mean (a : Fin 1024 → EReal) : EReal := Ideal.div (∑ k, a k) width

/-- The layer norm of a row `a` with scale `g` and shift `n`, at place `d`. -/
def layerNorm (a g n : Fin 1024 → EReal) (d : Fin 1024) : EReal :=
  (a d - mean a) * Ideal.rsqrt (mean (fun k => (a k - mean a) * (a k - mean a)) + eps) * g d + n d

/-- The layer norm of a row through `a * sigmoid a`. -/
def activated (a g n : Fin 1024 → EReal) (d : Fin 1024) : EReal := layerNorm a g n d * sigmoid (layerNorm a g n d)

/-- Row `s` of a sequence with the state's 30 rows before it. -/
def line {B T : ℕ} (x : (⟨3, ![B, T, 1024]⟩ : Shape).Idx → EReal) (st : (⟨3, ![B, 30, 1024]⟩ : Shape).Idx → EReal) (b : Fin B) (s : ℕ) (d : Fin 1024) : EReal :=
  if h : s < 30 then st (ix3 b ⟨s, h⟩ d) else if h' : s - 30 < T then x (ix3 b ⟨s - 30, h'⟩ d) else 0

/-- The weight of tap `w` for column `d`. -/
def weight (W : (⟨2, ![31, 1024]⟩ : Shape).Idx → EReal) (w : ℕ) (d : Fin 1024) : EReal := if h : w < 31 then W (ix2 ⟨w, h⟩ d) else 0

/-- The convolution of place `t` and column `d`. -/
def mixed {B T : ℕ} (x : (⟨3, ![B, T, 1024]⟩ : Shape).Idx → EReal) (st : (⟨3, ![B, 30, 1024]⟩ : Shape).Idx → EReal) (W : (⟨2, ![31, 1024]⟩ : Shape).Idx → EReal)
    (bias : (⟨1, ![1024]⟩ : Shape).Idx → EReal) (b : Fin B) (t : ℕ) (d : Fin 1024) : EReal :=
  (∑ w ∈ Finset.range 31, line x st b (t + w) d * weight W w d) + bias (ix1 d)

/-- The call's whole result. -/
def value {B T : ℕ} (x : (⟨3, ![B, T, 1024]⟩ : Shape).Idx → EReal) (st : (⟨3, ![B, 30, 1024]⟩ : Shape).Idx → EReal) (W : (⟨2, ![31, 1024]⟩ : Shape).Idx → EReal)
    (bias g n : (⟨1, ![1024]⟩ : Shape).Idx → EReal) (b : Fin B) (t : Fin T) (d : Fin 1024) : EReal :=
  activated (mixed x st W bias b t.val) (fun k => g (ix1 k)) (fun k => n (ix1 k)) d

/-- A place of an array with three axes is given by its three numbers. -/
theorem at3 {n0 n1 n2 : ℕ} (i : (⟨3, ![n0, n1, n2]⟩ : Shape).Idx) (a : Fin n0) (b : Fin n1) (d : Fin n2)
    (h0 : (i 0).val = a.val) (h1 : (i 1).val = b.val) (h2 : (i 2).val = d.val) : i = ix3 a b d := by
  funext z
  apply Fin.ext
  match z with
  | ⟨0, _⟩ => exact h0
  | ⟨1, _⟩ => exact h1
  | ⟨2, _⟩ => exact h2

end Cert.ConvRows
end
-- ==== Proof.Conv.lean ====
module

public import proofs.«01_k».proof.Proof.ConvBlock
public import proofs.«01_k».proof.Proof.ConvRows
public import Idealize.ShloMosaic.Lib.StableHlo.ReadAt
public import Idealize.ShloMosaic.Lib.Pipeline.ValueKit.Geometry

@[expose] public section
noncomputable section

/-!
The depthwise convolution's whole result: what a step writes, place by place, what each step reads of the arrays, and
the array that the steps' blocks make up.
-/

namespace Cert.ConvIdeal.Array

open Cert.ConvIdeal Cert.ConvIdeal.Gen Idealize.ShloMosaic Idealize.ShloMosaic.TcCoe Cert.Rows Cert.Shared Cert.ConvRows Cert.ConvIdeal.Block

/-- The weighted sum over the taps, place by place. -/
theorem taps_apply (e : ℕ → Vec Ideal S32x1024 .f32) (k : ℕ → Vec Ideal S1x1024 .f32) (n : ℕ) (r : Fin 32) (d : Fin 1024) :
    taps e k n (ix2 r d) = ∑ w ∈ Finset.range n, (e w (ix2 r d) : EReal) * k w (ix2 0 d) := by
  induction n with
  | zero =>
    rw [Finset.sum_range_zero]
    exact zero_bits
  | succ n ih =>
    rw [Finset.sum_range_succ, ← ih]
    have hk : broadcastTo S32x1024 (k n) broadcasts_S1x1024_S32x1024 (ix2 r d) = k n (ix2 0 d) := by
      generalize k n = y
      pointwise
    show (taps e k n (ix2 r d) : EReal) + (e n (ix2 r d) : EReal) * (broadcastTo S32x1024 (k n) broadcasts_S1x1024_S32x1024 (ix2 r d) : EReal) = _
    rw [hk]

/-- The layer norm and the swish, place by place. -/
theorem finish_apply (a : FVec Ideal S32x1024 .f32) (b g n : Vec Ideal S1x1024 .f32) (r : Fin 32) (d : Fin 1024) :
    finish a b g n (ix3 0 r d) = activated (fun k => (a (ix2 r k) : EReal) + b (ix2 0 k)) (fun k => g (ix2 0 k)) (fun k => n (ix2 0 k)) d := by
  pointwise [finish, k0_pay17, k0_pay18, k0_pay19]
  simp only [zero_sub]
  rfl

/-- What a step writes, when its held rows are the sequence's from 32 before its own on. -/
theorem step (E : Vec Ideal S288x1024 .f32) (W : Vec Ideal S31x1024 .f32) (b g n : Vec Ideal S1x1024 .f32)
    (x : Vec Ideal S4x4096x1024 .f32) (st : Vec Ideal S4x30x1024 .f32) (bias lg ln : Vec Ideal S1024 .f32) (s : Fin 4) (i : ℕ)
    (hE : ∀ (j : Fin 288) (k : Fin 1024), 2 ≤ j.val → E (ix2 j k) = line x st s (i + j.val - 2) k)
    (hb : ∀ k, b (ix2 0 k) = bias (ix1 k)) (hg : ∀ k, g (ix2 0 k) = lg (ix1 k)) (hn : ∀ k, n (ix2 0 k) = ln (ix1 k))
    (r : Fin 256) (hr : i + r.val < 4096) (d : Fin 1024) : written E W b g n (ix3 0 r d) = value x st W bias lg ln s ⟨i + r.val, hr⟩ d := by
  have hm : ∀ k, (taps (fun w => rows E (32 * (r.val / 32) + 2 + w)) (tap W) 31 (ix2 ⟨r.val % 32, Nat.mod_lt _ (by norm_num)⟩ k) : EReal) + b (ix2 0 k)
      = mixed x st W bias s (i + r.val) k := fun k => by
    rw [taps_apply, hb]
    unfold mixed
    refine congrArg (· + _) (Finset.sum_congr rfl fun w hw => ?_)
    have hw' : w < 31 := Finset.mem_range.mp hw
    refine congrArg₂ (· * ·) ?_ rfl
    unfold rows
    have hj : 32 * (r.val / 32) + 2 + w + r.val % 32 < 288 := by omega
    refine (dif_pos hj).trans ?_
    refine (hE ⟨_, hj⟩ k (by show 2 ≤ 32 * (r.val / 32) + 2 + w + r.val % 32; omega)).trans ?_
    refine congrArg (fun z => line x st s z k) ?_
    show i + (32 * (r.val / 32) + 2 + w + r.val % 32) - 2 = i + r.val + w
    omega
  refine (finish_apply _ b g n ⟨r.val % 32, _⟩ d).trans ?_
  exact congrFun (congr (congr (congrArg activated (funext hm)) (funext hg)) (funext hn)) d

variable (m : (ℓ : Loc nD τ sig) → Buf (Elt Ideal) ℓ) (c : Dev nD)

/-- There are 64 steps. -/
theorem lt_steps (t : Fin cfg0.N) : t.val < 64 := lt_of_lt_of_eq t.isLt N_0

/-- A step's sequence. -/
def seqOf (t : Fin cfg0.N) : Fin 4 := ⟨t.val / 16, by have := lt_steps t; omega⟩

/-- A row of a step's block lies in its sequence. -/
theorem row_lt (t : Fin cfg0.N) (r : Fin 256) : 256 * (t.val % 16) + r.val < 4096 := by omega

/-- Which block of each array a step reads or writes. -/
theorem index : ∀ t : Fin grid0.N, win0_0.index t = ![t.val / 16, t.val % 16, 0] ∧ win0_1.index t = ![t.val / 16, 8 * (t.val % 16) - 1, 0]
    ∧ win0_2.index t = ![t.val / 16, 0, 0] ∧ win0_3.index t = ![0, 0] ∧ win0_4.index t = ![0, 0] ∧ win0_5.index t = ![0, 0] ∧ win0_6.index t = ![0, 0]
    ∧ win0_7.index t = ![t.val / 16, t.val % 16, 0] := by
  decide +kernel

/-- The step's own rows. -/
theorem block0 (t : Fin cfg0.N) (r : Fin 256) (d : Fin 1024) : (iblk m c 0 t : Vec Ideal S1x256x1024 .f32) (ix3 0 r d)
    = m ((c : Thread nD τ).loc main_arg0) (ix3 (seqOf t) ⟨256 * (t.val % 16) + r.val, row_lt t r⟩ d) := by
  have hi := (index t).1
  unfold iblk
  rw [View.read_apply]
  refine (congrFun (V_main_arg0 m c) _).trans (congrArg (m ((c : Thread nD τ).loc main_arg0)) (at3 _ _ _ _ ?_ ?_ ?_))
  · show win0_0.index t 0 * 1 + 1 * 0 = t.val / 16
    rw [hi]; simp
  · show win0_0.index t 1 * 256 + 1 * r.val = 256 * (t.val % 16) + r.val
    rw [hi]; simp; omega
  · show win0_0.index t 2 * 1024 + 1 * d.val = d.val
    rw [hi]; simp

/-- The rows before the step's own. -/
theorem block1 (t : Fin cfg0.N) (h : 1 ≤ t.val % 16) (r : Fin 32) (d : Fin 1024) : (iblk m c 1 t : Vec Ideal S1x32x1024 .f32) (ix3 0 r d)
    = m ((c : Thread nD τ).loc main_arg0) (ix3 (seqOf t) ⟨256 * (t.val % 16) + r.val - 32, by omega⟩ d) := by
  have hi := (index t).2.1
  unfold iblk
  rw [View.read_apply]
  refine (congrFun (V_main_arg0 m c) _).trans (congrArg (m ((c : Thread nD τ).loc main_arg0)) (at3 _ _ _ _ ?_ ?_ ?_))
  · show win0_1.index t 0 * 1 + 1 * 0 = t.val / 16
    rw [hi]; simp
  · show win0_1.index t 1 * 32 + 1 * r.val = 256 * (t.val % 16) + r.val - 32
    rw [hi]; simp; omega
  · show win0_1.index t 2 * 1024 + 1 * d.val = d.val
    rw [hi]; simp

/-- The state, after the host's two rows of zeros. -/
theorem state (s : Fin 4) (j : Fin 30) (d : Fin 1024) : V (F := Ideal) m c main_v1 (ix3 s ⟨j.val + 2, by omega⟩ d) = m ((c : Thread nD τ).loc main_arg1) (ix3 s j d) := by
  unfold V
  after_reads_at
  rw [dif_neg (by omega)]
  exact congrArg (m ((c : Thread nD τ).loc main_arg1)) (at3 _ _ _ _ rfl rfl rfl)

/-- The state's rows that a step reads. -/
theorem block2 (t : Fin cfg0.N) (j : Fin 30) (d : Fin 1024) : (iblk m c 2 t : Vec Ideal S1x32x1024 .f32) (ix3 0 ⟨j.val + 2, by omega⟩ d)
    = m ((c : Thread nD τ).loc main_arg1) (ix3 (seqOf t) j d) := by
  have hi := (index t).2.2.1
  refine Eq.trans ?_ (state m c (seqOf t) j d)
  unfold iblk
  rw [View.read_apply]
  refine congrArg (V (F := Ideal) m c main_v1) (at3 _ _ _ _ ?_ ?_ ?_)
  · show win0_2.index t 0 * 1 + 1 * 0 = t.val / 16
    rw [hi]; simp
  · show win0_2.index t 1 * 32 + 1 * (j.val + 2) = j.val + 2
    rw [hi]; simp
  · show win0_2.index t 2 * 1024 + 1 * d.val = d.val
    rw [hi]; simp

/-- The taps' weights. -/
theorem block3 (t : Fin cfg0.N) : (iblk m c 3 t : Vec Ideal S31x1024 .f32) = m ((c : Thread nD τ).loc main_arg2) := by
  have hi := (index t).2.2.2.1
  funext y
  unfold iblk
  rw [View.read_apply]
  refine (congrFun (V_main_arg2 m c) _).trans (congrArg (m ((c : Thread nD τ).loc main_arg2)) ((at2 _ (y 0) (y 1) ?_ ?_).trans (eq_ix2 y).symm))
  · show win0_3.index t 0 * 31 + 1 * (y 0).val = (y 0).val
    rw [hi]; simp
  · show win0_3.index t 1 * 1024 + 1 * (y 1).val = (y 1).val
    rw [hi]; simp

/-- The bias. -/
theorem block4 (t : Fin cfg0.N) (l : Fin 1024) : (iblk m c 4 t : Vec Ideal S1x1024 .f32) (ix2 0 l) = m ((c : Thread nD τ).loc main_arg3) (ix1 l) := by
  have hi := (index t).2.2.2.2.1
  have hs : V (F := Ideal) m c main_v2 (ix2 0 l) = m ((c : Thread nD τ).loc main_arg3) (ix1 l) := by
    unfold V
    after_reads_at
  refine Eq.trans ?_ hs
  unfold iblk
  rw [View.read_apply]
  refine congrArg (V (F := Ideal) m c main_v2) (at2 _ _ _ ?_ ?_)
  · show win0_4.index t 0 * 1 + 1 * 0 = 0
    rw [hi]; simp
  · show win0_4.index t 1 * 1024 + 1 * l.val = l.val
    rw [hi]; simp

/-- The norm's scale. -/
theorem block5 (t : Fin cfg0.N) (l : Fin 1024) : (iblk m c 5 t : Vec Ideal S1x1024 .f32) (ix2 0 l) = m ((c : Thread nD τ).loc main_arg4) (ix1 l) := by
  have hi := (index t).2.2.2.2.2.1
  have hs : V (F := Ideal) m c main_v3 (ix2 0 l) = m ((c : Thread nD τ).loc main_arg4) (ix1 l) := by
    unfold V
    after_reads_at
  refine Eq.trans ?_ hs
  unfold iblk
  rw [View.read_apply]
  refine congrArg (V (F := Ideal) m c main_v3) (at2 _ _ _ ?_ ?_)
  · show win0_5.index t 0 * 1 + 1 * 0 = 0
    rw [hi]; simp
  · show win0_5.index t 1 * 1024 + 1 * l.val = l.val
    rw [hi]; simp

/-- The norm's shift. -/
theorem block6 (t : Fin cfg0.N) (l : Fin 1024) : (iblk m c 6 t : Vec Ideal S1x1024 .f32) (ix2 0 l) = m ((c : Thread nD τ).loc main_arg5) (ix1 l) := by
  have hi := (index t).2.2.2.2.2.2.1
  have hs : V (F := Ideal) m c main_v4 (ix2 0 l) = m ((c : Thread nD τ).loc main_arg5) (ix1 l) := by
    unfold V
    after_reads_at
  refine Eq.trans ?_ hs
  unfold iblk
  rw [View.read_apply]
  refine congrArg (V (F := Ideal) m c main_v4) (at2 _ _ _ ?_ ?_)
  · show win0_6.index t 0 * 1 + 1 * 0 = 0
    rw [hi]; simp
  · show win0_6.index t 1 * 1024 + 1 * l.val = l.val
    rw [hi]; simp

/-- The rows that a step stores, without their first axis. -/
theorem own (x : Vec Ideal S1x256x1024 .f32) (r : Fin 256) (d : Fin 1024) : k0_pay4 (F := Ideal) x (ix2 r d) = x (ix3 0 r d) := by
  pointwise [k0_pay4]

/-- The state's rows, without their first axis. -/
theorem fromState (x : Vec Ideal S1x32x1024 .f32) (r : Fin 32) (d : Fin 1024) : k0_pay2 (F := Ideal) x (ix2 r d) = x (ix3 0 r d) := by
  pointwise [k0_pay2]

/-- The rows before the step's own, without their first axis. -/
theorem fromBefore (x : Vec Ideal S1x32x1024 .f32) (r : Fin 32) (d : Fin 1024) : k0_pay3 (F := Ideal) x (ix2 r d) = x (ix3 0 r d) := by
  pointwise [k0_pay3]

/-- What a step leaves in its block of the result. -/
theorem after (t : Fin cfg0.N) (r : Fin 256) (d : Fin 1024) : (outsAt0 m c t.val t.isLt : Vec Ideal S1x256x1024 .bf16) (ix3 0 r d)
    = value (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (seqOf t) ⟨256 * (t.val % 16) + r.val, row_lt t r⟩ d := by
  have ht : t.val % 16 < 16 := Nat.mod_lt _ (by norm_num)
  by_cases h0 : t.val % 16 = 0
  · rw [outsAt0_A m c t h0 (by omega), stepA, block3]
    refine step _ _ _ _ _ _ _ _ _ _ (seqOf t) _ (fun j k hj => ?_) (block4 m c t) (block5 m c t) (block6 m c t) r _ d
    unfold held line
    by_cases h : j.val < 32
    · refine (dif_pos h).trans ?_
      rw [dif_pos (by omega)]
      refine (fromState _ _ _).trans ?_
      refine Eq.trans ?_ ((block2 m c t ⟨256 * (t.val % 16) + j.val - 2, by omega⟩ k))
      refine congrArg (iblk m c 2 t : Vec Ideal S1x32x1024 .f32) (at3 _ _ _ _ rfl ?_ rfl)
      show j.val = 256 * (t.val % 16) + j.val - 2 + 2
      omega
    · refine (dif_neg h).trans ?_
      rw [dif_neg (by omega), dif_pos (by omega)]
      refine ((own _ _ _).trans (block0 m c t _ k)).trans (congrArg (m ((c : Thread nD τ).loc main_arg0)) (at3 _ _ _ _ rfl ?_ rfl))
      show 256 * (t.val % 16) + (j.val - 32) = 256 * (t.val % 16) + j.val - 2 - 30
      omega
  · rw [outsAt0_B m c t h0 (by omega), stepB, block3]
    refine step _ _ _ _ _ _ _ _ _ _ (seqOf t) _ (fun j k hj => ?_) (block4 m c t) (block5 m c t) (block6 m c t) r _ d
    unfold held line
    by_cases h : j.val < 32
    · refine (dif_pos h).trans ?_
      rw [dif_neg (by omega), dif_pos (by omega)]
      refine ((fromBefore _ _ _).trans (block1 m c t (by omega) _ k)).trans (congrArg (m ((c : Thread nD τ).loc main_arg0)) (at3 _ _ _ _ rfl ?_ rfl))
      show 256 * (t.val % 16) + j.val - 32 = 256 * (t.val % 16) + j.val - 2 - 30
      omega
    · refine (dif_neg h).trans ?_
      rw [dif_neg (by omega), dif_pos (by omega)]
      refine ((own _ _ _).trans (block0 m c t _ k)).trans (congrArg (m ((c : Thread nD τ).loc main_arg0)) (at3 _ _ _ _ rfl ?_ rfl))
      show 256 * (t.val % 16) + (j.val - 32) = 256 * (t.val % 16) + j.val - 2 - 30
      omega

/-- Where a step's block lies in the result. -/
theorem emb (t : Fin cfg0.N) (r : Fin 256) (d : Fin 1024) : ((cfg0.win 7).blk t).view.emb (ix3 (0 : Fin 1) r d)
    = (ix3 (seqOf t) ⟨256 * (t.val % 16) + r.val, row_lt t r⟩ d : S4x4096x1024.Idx) := by
  have hi := (index t).2.2.2.2.2.2.2
  refine at3 _ _ _ _ ?_ ?_ ?_
  · show win0_7.index t 0 * 1 + 1 * 0 = t.val / 16
    rw [hi]; simp
  · show win0_7.index t 1 * 256 + 1 * r.val = 256 * (t.val % 16) + r.val
    rw [hi]; simp; omega
  · show win0_7.index t 2 * 1024 + 1 * d.val = d.val
    rw [hi]; simp

/-- A place of a step's block is given by its row and its column. -/
theorem in_block (y : (⟨3, ![1, 256, 1024]⟩ : Shape).Idx) : y = ix3 0 (y 1) (y 2) :=
  at3 y 0 (y 1) (y 2) (Nat.lt_one_iff.mp (show (y 0).val < 1 from (y 0).isLt)) rfl rfl

/-- The array that the convolution leaves. -/
theorem array : (dats m 0 c).arrAt 7 cfg0.N = fun y : S4x4096x1024.Idx =>
    value (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (y 0) (y 1) (y 2) := by
  have ha := after m c
  generalize value (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) = G at ha ⊢
  refine (dats m 0 c).arrAt_eq_of_covers 7 _ (by decide +kernel) (fun t hf y => ?_)
  blk_simp
  rw [after0_7]
  have key (z : (⟨3, ![1, 256, 1024]⟩ : Shape).Idx) (e : z = ix3 0 (z 1) (z 2)) : (outsAt0 m c t.val t.isLt : Vec Ideal S1x256x1024 .bf16) z
      = (fun w : S4x4096x1024.Idx => G (w 0) (w 1) (w 2)) (((cfg0.win 7).blk t).view.emb z) := by
    rw [e]
    exact (ha t _ _).trans (congrArg (fun w : S4x4096x1024.Idx => G (w 0) (w 1) (w 2)) (emb t (z 1) (z 2)).symm)
  exact key y (in_block y)

end Cert.ConvIdeal.Array
end
-- ==== Proof.ConvSums.lean ====
module

public import proofs.«01_k».proof.Proof.ConvRows
public import Idealize.ShloMosaic.Lib.Pipeline.Value

@[expose] public section
noncomputable section

/-!
The references' convolution as a sum of shifted sequences, each times the weights of its tap, for any number and length
of the sequences.
-/

namespace Cert.ConvSums

open Idealize.ShloMosaic Cert.Rows Cert.Shared Cert.ConvRows

variable {B L T : ℕ}

/-- The sequences from place `s` on. -/
def shifted (T : ℕ) (E : FVec Ideal ⟨3, ![B, L, 1024]⟩ .f32) (s : ℕ) : FVec Ideal ⟨3, ![B, T, 1024]⟩ .f32 := fun i =>
  if h : s + (i 1).val < L then E (ix3 (i 0) ⟨s + (i 1).val, h⟩ (i 2)) else 0

/-- A tap's weights at every place. -/
def spread (B T : ℕ) (W : FVec Ideal ⟨2, ![31, 1024]⟩ .f32) (w : ℕ) : FVec Ideal ⟨3, ![B, T, 1024]⟩ .f32 := fun i => weight W w (i 2)

/-- The weighted sum of the first `n` shifted sequences. -/
def sums (z : FVec Ideal ⟨3, ![B, T, 1024]⟩ .f32) (e k : ℕ → FVec Ideal ⟨3, ![B, T, 1024]⟩ .f32) : ℕ → FVec Ideal ⟨3, ![B, T, 1024]⟩ .f32
  | 0 => z
  | n + 1 => addf (sums z e k n) (mulf (e n) (k n))

/-- A slice of the sequences. -/
theorem slice (E : FVec Ideal ⟨3, ![B, L, 1024]⟩ .f32) (s : ℕ) (h : (⟨3, ![B, L, 1024]⟩ : Shape).Slices ![0, s, 0] ⟨3, ![B, T, 1024]⟩) :
    extractStridedSlice ⟨3, ![B, T, 1024]⟩ ![0, s, 0] E h = shifted T E s := by
  funext i
  have h1 : s + T ≤ L := h.2 1
  have hi : (i 1).val < T := (i 1).isLt
  unfold shifted
  rw [dif_pos (by omega)]
  refine extractStridedSlice_apply ![0, s, 0] E h i _ fun a => ?_
  match a with
  | ⟨0, _⟩ => exact (Nat.zero_add _).symm
  | ⟨1, _⟩ => rfl
  | ⟨2, _⟩ => exact (Nat.zero_add _).symm

/-- A tap's weights, spread. -/
theorem spread_eq (W : FVec Ideal ⟨2, ![31, 1024]⟩ .f32) (w : ℕ) (h : (⟨2, ![31, 1024]⟩ : Shape).Slices ![w, 0] ⟨2, ![1, 1024]⟩)
    (hs : (⟨2, ![1, 1024]⟩ : Shape).ShapeCasts ⟨1, ![1024]⟩) (hr : (⟨1, ![1024]⟩ : Shape).BroadcastsInDim ⟨3, ![1, 1, 1024]⟩ ![2])
    (hb : (⟨3, ![1, 1, 1024]⟩ : Shape).BroadcastsInDim ⟨3, ![B, T, 1024]⟩ ![0, 1, 2]) :
    broadcastInDim ⟨3, ![B, T, 1024]⟩ ![0, 1, 2] hb (broadcastInDim ⟨3, ![1, 1, 1024]⟩ ![2] hr
      (shapeCast ⟨1, ![1024]⟩ (extractStridedSlice ⟨2, ![1, 1024]⟩ ![w, 0] W h) hs)) = spread B T W w := by
  funext i
  have h0 : w + 1 ≤ 31 := h.2 0
  unfold spread weight
  rw [dif_pos (by omega)]
  rw [broadcastInDim_apply _ hb _ i (ix3 0 0 (i 2)) (fun a => match a with
    | ⟨0, _⟩ => by rfl
    | ⟨1, _⟩ => by rfl
    | ⟨2, _⟩ => by rfl)]
  rw [broadcastInDim_apply _ hr _ (ix3 0 0 (i 2)) (ix1 (i 2)) (fun a => match a with | ⟨0, _⟩ => by rfl)]
  rw [shapeCast_apply _ hs (ix1 (i 2)) (ix2 0 (i 2)) (by
    rewrite [Shape.rowMajor_val_two, Shape.rowMajor_val_one]; show 0 * 1024 + (i 2).val = (i 2).val; omega)]
  refine extractStridedSlice_apply ![w, 0] W h _ _ fun a => ?_
  match a with
  | ⟨0, _⟩ => rfl
  | ⟨1, _⟩ => exact (Nat.zero_add _).symm

/-- The sum place by place. -/
theorem sums_apply (z : FVec Ideal ⟨3, ![B, T, 1024]⟩ .f32) (e k : ℕ → FVec Ideal ⟨3, ![B, T, 1024]⟩ .f32) (n : ℕ) (i : (⟨3, ![B, T, 1024]⟩ : Shape).Idx)
    (hz : (z i : EReal) = 0) : sums z e k n i = ∑ w ∈ Finset.range n, (e w i : EReal) * k w i := by
  induction n with
  | zero => rw [Finset.sum_range_zero]; exact hz
  | succ n ih =>
    rw [Finset.sum_range_succ, ← ih]
    rfl

/-- The sequences with the state's rows before them. -/
theorem lines (x : FVec Ideal ⟨3, ![B, T, 1024]⟩ .f32) (st : FVec Ideal ⟨3, ![B, 30, 1024]⟩ .f32)
    (hc : Shape.Concatenates [⟨3, ![B, 30, 1024]⟩, ⟨3, ![B, T, 1024]⟩] ⟨3, ![B, L, 1024]⟩ 1) (hL : L = T + 30) (b : Fin B) (s : Fin L) (d : Fin 1024) :
    concatenate ⟨3, ![B, L, 1024]⟩ 1 [⟨⟨3, ![B, 30, 1024]⟩, st⟩, ⟨⟨3, ![B, T, 1024]⟩, x⟩] hc (ix3 b s d) = line x st b s.val d := by
  unfold line
  by_cases h : s.val < 30
  · rw [dif_pos h]
    exact concatenate_pair_apply_left (1 : Fin 3) st x hc (ix3 b s d) rfl (ix3 b ⟨s.val, h⟩ d)
      (fun a => match a with | ⟨0, _⟩ => rfl | ⟨1, _⟩ => rfl | ⟨2, _⟩ => rfl)
  · rw [dif_neg h, dif_pos (by omega)]
    refine concatenate_pair_apply_right (1 : Fin 3) st x hc (ix3 b s d) rfl rfl (ix3 b ⟨s.val - 30, by omega⟩ d)
      (fun a ha => match a with | ⟨0, _⟩ => rfl | ⟨1, _⟩ => absurd rfl ha | ⟨2, _⟩ => rfl) ?_
    show s.val - 30 + 30 = s.val
    omega

end Cert.ConvSums
end
-- ==== Proof.ConvReference.lean ====
module

public import proofs.«01_k».proof.Proof.ConvSums
public import proofs.«01_k».proof.Proof.Gen.ConvReferenceIdeal.Read
public import Idealize.ShloMosaic.Lib.Pipeline.ValueKit.Geometry

@[expose] public section
noncomputable section

/-!
The reference of the depthwise convolution: the sum of the shifted sequences, each with its tap's weights.
-/

namespace Cert.ConvReferenceIdeal.Array

open Cert.ConvReferenceIdeal Cert.ConvReferenceIdeal.Gen Cert.ConvReferenceIdeal.Read Idealize.ShloMosaic Cert.Rows Cert.Shared Cert.ConvRows Cert.ConvSums

variable (x0 : FVec Ideal S4x4096x1024 .f32) (x1 : FVec Ideal S4x30x1024 .f32) (x2 : FVec Ideal S31x1024 .f32) (x3 x4 x5 : FVec Ideal S1024 .f32)

/-- The zero that the reference's sum begins with. -/
def start : FVec Ideal S4x4096x1024 .f32 := broadcastInDim S4x4096x1024 ![] bcast_S_S4x4096x1024 (val_main_cst (F := Ideal))

/-- The reference's sum is the sum over all 31 taps. -/
theorem sum_eq : val_main_v218 (F := Ideal) x0 x1 x2 = sums start (shifted 4096 (val_main_v0 (F := Ideal) x0 x1)) (spread 4 4096 x2) 31 := by
  simp only [sums]
  iterate 31 refine congrArg₂ addf ?_ (congrArg₂ mulf (slice _ _ _) (spread_eq _ _ _ _ _ _))
  rfl

/-- The reference's convolution. -/
theorem conv (b : Fin 4) (t : Fin 4096) (d : Fin 1024) : val_main_v221 (F := Ideal) x0 x1 x2 x3 (ix3 b t d) = mixed x0 x1 x2 x3 b t.val d := by
  rw [val_main_v221_apply, val_main_v220_apply, val_main_v219_apply, sum_eq]
  unfold mixed
  refine congrArg₂ (· + ·) ((sums_apply _ _ _ _ _ ((broadcastInDim_apply _ bcast_S_S4x4096x1024 _ _ (fun a => a.elim0) (fun a => a.elim0)).trans zero_bits)).trans (Finset.sum_congr rfl fun w hw => ?_)) (congrArg x3 (at1 _ d rfl))
  have hw' : w < 31 := Finset.mem_range.mp hw
  refine congrArg₂ (· * ·) ?_ rfl
  unfold shifted
  refine (dif_pos (show w + t.val < 4126 by omega)).trans ?_
  exact (lines x0 x1 concatenates_S4x30x1024_S4x4096x1024_S4x4126x1024_d1 rfl b ⟨w + t.val, by omega⟩ d).trans (congrArg (fun s => line x0 x1 b s d) (Nat.add_comm _ _))

/-- The mean of a row. -/
theorem means (b : Fin 4) (t : Fin 4096) (d : Fin 1024) : val_main_v226 (F := Ideal) x0 x1 x2 x3 (ix3 b t d) = mean (mixed x0 x1 x2 x3 b t.val) := by
  rw [val_main_v226_apply, val_main_v225_apply, val_main_v223_apply, val_main_v222_apply, val_main_v224_apply, val_main_cst_0_apply, val_main_cst_1_apply]
  have h : ∀ k : Fin 1024, val_main_v221 (F := Ideal) x0 x1 x2 x3 (idx_main_v222 (idx_main_v223 (idx_main_v226 (ix3 b t d))) k) = mixed x0 x1 x2 x3 b t.val k := fun k =>
    (congrArg (val_main_v221 (F := Ideal) x0 x1 x2 x3) (at3 _ b t k rfl rfl rfl)).trans (conv x0 x1 x2 x3 b t k)
  rw [Finset.sum_congr rfl fun k _ => h k]
  show Ideal.div (Ideal.ofBits .f32 0#32 + _) _ = _
  rw [zero_bits, zero_add]
  rfl

/-- A number of a row without the row's mean. -/
theorem centred (b : Fin 4) (t : Fin 4096) (d : Fin 1024) :
    val_main_v227 (F := Ideal) x0 x1 x2 x3 (ix3 b t d) = mixed x0 x1 x2 x3 b t.val d - mean (mixed x0 x1 x2 x3 b t.val) := by
  rw [val_main_v227_apply, conv, means]
  rfl

/-- The reference's layer norm. -/
theorem normed (b : Fin 4) (t : Fin 4096) (d : Fin 1024) : val_main_v243 (F := Ideal) x0 x1 x2 x3 x4 x5 (ix3 b t d)
    = layerNorm (mixed x0 x1 x2 x3 b t.val) (fun k => x4 (ix1 k)) (fun k => x5 (ix1 k)) d := by
  rw [val_main_v243_apply, val_main_v240_apply, val_main_v237_apply, val_main_v236_apply, val_main_v235_apply, val_main_v234_apply, val_main_v232_apply,
    val_main_v230_apply, val_main_v229_apply, val_main_v231_apply, val_main_v233_apply, val_main_v239_apply, val_main_v238_apply, val_main_v242_apply,
    val_main_v241_apply, val_main_cst_2_apply, val_main_cst_3_apply, val_main_cst_4_apply, centred]
  have h : ∀ k : Fin 1024, val_main_v228 (F := Ideal) x0 x1 x2 x3 (idx_main_v229 (idx_main_v230 (idx_main_v236 (ix3 b t d))) k)
      = (mixed x0 x1 x2 x3 b t.val k - mean (mixed x0 x1 x2 x3 b t.val)) * (mixed x0 x1 x2 x3 b t.val k - mean (mixed x0 x1 x2 x3 b t.val)) := fun k => by
    rw [show idx_main_v229 (idx_main_v230 (idx_main_v236 (ix3 b t d))) k = ix3 b t k from at3 _ b t k rfl rfl rfl, val_main_v228_apply, centred]
    rfl
  rw [Finset.sum_congr rfl fun k _ => h k, show idx_main_v238 (idx_main_v239 (ix3 b t d)) = ix1 d from at1 _ d rfl,
    show idx_main_v241 (idx_main_v242 (ix3 b t d)) = ix1 d from at1 _ d rfl]
  show _ * Ideal.rsqrt (Ideal.div (Ideal.ofBits .f32 0#32 + _) _ + _) * _ + _ = _
  rw [zero_bits, zero_add]
  rfl

/-- The reference's result. -/
theorem array (b : Fin 4) (t : Fin 4096) (d : Fin 1024) : val_main_v245 (F := Ideal) x0 x1 x2 x3 x4 x5 (ix3 b t d) = value x0 x1 x2 x3 x4 x5 b t d := by
  rw [val_main_v245_apply, val_main_v244_apply, val_main_call0_v5_apply, val_main_call0_v4_apply, val_main_call0_v3_apply,
    val_main_call0_v2_apply, val_main_call0_v1_apply, val_main_call0_v0_apply, val_main_call0_cst_apply, val_main_call0_cst_0_apply, normed]
  show _ * Ideal.div (Ideal.ofBits .f32 1065353216#32) (Ideal.ofBits .f32 1065353216#32 + _) = _
  rw [one_bits]
  rfl

end Cert.ConvReferenceIdeal.Array
end
-- ==== Proof.Step.lean ====
module

public import proofs.«01_k».proof.Proof.ConvSums
public import proofs.«01_k».proof.Proof.Conv
public import proofs.«01_k».proof.Proof.Gen.StepIdeal.Frame
public import Idealize.ShloMosaic.Lib.StableHlo.ReadAt
public import Idealize.ShloMosaic.Lib.Pipeline.ValueKit.Geometry

@[expose] public section
noncomputable section

/-!
The convolution's single step: 128 sequences in four blocks of 32, each with its state's 30 rows and one new row.
-/

namespace Cert.StepIdeal.Array

open Cert.StepIdeal Cert.StepIdeal.Gen Idealize.ShloMosaic Idealize.ShloMosaic.TcCoe Cert.Rows Cert.Shared Cert.ConvRows
open Cert.ConvIdeal.Block (tap load_tap taps)
open Cert.ConvIdeal.Array (taps_apply)

/-- The rows at place `w` of the block's 32 sequences. -/
def slab (x : Vec Ideal S31x32x1024 .f32) (w : ℕ) : Vec Ideal S32x1024 .f32 := fun i => if h : w < 31 then x (ix3 ⟨w, h⟩ (i 0) (i 1)) else 0

/-- A load of these rows. -/
theorem load_slab (x : Vec Ideal S31x32x1024 .f32) (w : ℕ) (h : ∀ a, (![w, 0, 0] : Fin 3 → ℕ) a + (![1, 32, 1024] : Fin 3 → ℕ) a ≤ S31x32x1024.size a) :
    shapeCast S32x1024 (View.ld x (Rect.unit (s := S31x32x1024) ![w, 0, 0] ![1, 32, 1024] h)) shapeCasts_S1x32x1024_S32x1024 = slab x w := by
  funext i
  have h0 : w + 1 ≤ 31 := h 0
  have hi : (i 0).val < 32 := (i 0).isLt
  rw [shapeCast_apply _ shapeCasts_S1x32x1024_S32x1024 i (ix3 0 (i 0) (i 1)) (by
    rewrite [Shape.rowMajor_val_three, Shape.rowMajor_val_two]; show (0 * 32 + (i 0).val) * 1024 + (i 1).val = (i 0).val * 1024 + (i 1).val; omega)]
  unfold slab
  rw [dif_pos (show w < 31 by omega)]
  refine View.ld_unit_apply_of x _ _ _ _ _ fun a => ?_
  match a with
  | ⟨0, _⟩ => rfl
  | ⟨1, _⟩ => exact (Nat.zero_add _).symm
  | ⟨2, _⟩ => exact (Nat.zero_add _).symm

/-- The layer norm and the swish of the block's rows. -/
def finish (a : FVec Ideal S32x1024 .f32) (g n : Vec Ideal S1x1024 .f32) : FVec Ideal S32x1024 .bf16 :=
  k0_pay1 a (k0_pay10 g) (k0_pay11 n) (multiReduction .add [1] S32 a 0x00000000#32 reduces_S32x1024_S32 (.inl rfl) rfl)

/-- What a block's program leaves. -/
theorem left (x0 : Vec Ideal S31x32x1024 .f32) (x1 : Vec Ideal S31x1024 .f32) (x2 x3 x4 : Vec Ideal S1x1024 .f32) : out0_5 x0 x1 x2 x3 x4
    = finish (addf (taps (slab x0) (tap x1) 31) (broadcastTo S32x1024 (shapeCast S1x1024 x2 shapeCasts_S1x1024_S1x1024) broadcasts_S1x1024_S32x1024)) x3 x4 := by
  unfold out0_5
  simp only [View.canon_unit_zero (S := S32x1024) zeros2, View.ld_unit_zero (S := S1x1024) zeros2, k0_pay12]
  refine congrArg (fun a => finish a x3 x4) (a₁ := k0_pay9 _ _ _ _ _ _ _ _ _ _) ?_
  unfold k0_pay13
  simp only [taps, k0_pay2, k0_pay3, k0_pay4, k0_pay5, k0_pay6, k0_pay7, k0_pay8, k0_pay9]
  refine congrArg₂ addf ?_ rfl
  iterate 31 refine congrArg₂ addf ?_ (congrArg₂ mulf (load_slab x0 _ _) (congrArg (fun v => broadcastTo S32x1024 v broadcasts_S1x1024_S32x1024) (load_tap x1 _ _)))
  rfl

/-- The layer norm and the swish, place by place. -/
theorem finish_apply (a : FVec Ideal S32x1024 .f32) (g n : Vec Ideal S1x1024 .f32) (r : Fin 32) (d : Fin 1024) :
    finish a g n (ix2 r d) = activated (fun k => (a (ix2 r k) : EReal)) (fun k => g (ix2 0 k)) (fun k => n (ix2 0 k)) d := by
  pointwise [finish, k0_pay1, k0_pay10, k0_pay11]
  simp only [zero_sub]
  rfl

variable (m : (ℓ : Loc nD τ sig) → Buf (Elt Ideal) ℓ) (c : Dev nD)

/-- There are four blocks. -/
theorem lt_blocks (t : Fin cfg0.N) : t.val < 4 := lt_of_lt_of_eq t.isLt N_0

/-- The sequence that a block's row `r` belongs to. -/
def seqOf (t : Fin cfg0.N) (r : Fin 32) : Fin 128 := ⟨32 * t.val + r.val, by have := lt_blocks t; omega⟩

/-- Which block of each array a step of the grid reads or writes. -/
theorem index : ∀ t : Fin grid0.N, win0_0.index t = ![0, t.val, 0] ∧ win0_1.index t = ![0, 0] ∧ win0_2.index t = ![0, 0] ∧ win0_3.index t = ![0, 0]
    ∧ win0_4.index t = ![0, 0] ∧ win0_5.index t = ![t.val, 0] := by
  decide +kernel

/-- What the host prepares: the rows of all sequences, place by place. -/
theorem extended (w : Fin 31) (b : Fin 128) (d : Fin 1024) : V (F := Ideal) m c main_v1 (ix3 w b d)
    = line (m ((c : Thread nD τ).loc main_arg0)) (m ((c : Thread nD τ).loc main_arg1)) b w.val d := by
  refine Eq.trans ?_ (Cert.ConvSums.lines (B := 128) (L := 31) (T := 1) (m ((c : Thread nD τ).loc main_arg0)) (m ((c : Thread nD τ).loc main_arg1))
    concatenates_S128x30x1024_S128x1x1024_S128x31x1024_d1 rfl b w d)
  unfold V
  after_reads_at
  rfl

/-- The rows that a block reads. -/
theorem block0 (t : Fin cfg0.N) (w : Fin 31) (r : Fin 32) (d : Fin 1024) : (iblk m c 0 t : Vec Ideal S31x32x1024 .f32) (ix3 w r d)
    = line (m ((c : Thread nD τ).loc main_arg0)) (m ((c : Thread nD τ).loc main_arg1)) (seqOf t r) w.val d := by
  have hi := (index t).1
  refine Eq.trans ?_ (extended m c w (seqOf t r) d)
  unfold iblk
  rw [View.read_apply]
  refine congrArg (V (F := Ideal) m c main_v1) (at3 _ _ _ _ ?_ ?_ ?_)
  · show win0_0.index t 0 * 31 + 1 * w.val = w.val
    rw [hi]; simp
  · show win0_0.index t 1 * 32 + 1 * r.val = 32 * t.val + r.val
    rw [hi]; simp; omega
  · show win0_0.index t 2 * 1024 + 1 * d.val = d.val
    rw [hi]; simp

/-- The taps' weights. -/
theorem block1 (t : Fin cfg0.N) : (iblk m c 1 t : Vec Ideal S31x1024 .f32) = m ((c : Thread nD τ).loc main_arg2) := by
  have hi := (index t).2.1
  funext y
  unfold iblk
  rw [View.read_apply]
  refine (congrFun (V_main_arg2 m c) _).trans (congrArg (m ((c : Thread nD τ).loc main_arg2)) ((at2 _ (y 0) (y 1) ?_ ?_).trans (eq_ix2 y).symm))
  · show win0_1.index t 0 * 31 + 1 * (y 0).val = (y 0).val
    rw [hi]; simp
  · show win0_1.index t 1 * 1024 + 1 * (y 1).val = (y 1).val
    rw [hi]; simp

/-- The bias. -/
theorem block2 (t : Fin cfg0.N) (l : Fin 1024) : (iblk m c 2 t : Vec Ideal S1x1024 .f32) (ix2 0 l) = m ((c : Thread nD τ).loc main_arg3) (ix1 l) := by
  have hi := (index t).2.2.1
  have hs : V (F := Ideal) m c main_v2 (ix2 0 l) = m ((c : Thread nD τ).loc main_arg3) (ix1 l) := by
    unfold V
    after_reads_at
  refine Eq.trans ?_ hs
  unfold iblk
  rw [View.read_apply]
  refine congrArg (V (F := Ideal) m c main_v2) (at2 _ _ _ ?_ ?_)
  · show win0_2.index t 0 * 1 + 1 * 0 = 0
    rw [hi]; simp
  · show win0_2.index t 1 * 1024 + 1 * l.val = l.val
    rw [hi]; simp

/-- The norm's scale. -/
theorem block3 (t : Fin cfg0.N) (l : Fin 1024) : (iblk m c 3 t : Vec Ideal S1x1024 .f32) (ix2 0 l) = m ((c : Thread nD τ).loc main_arg4) (ix1 l) := by
  have hi := (index t).2.2.2.1
  have hs : V (F := Ideal) m c main_v3 (ix2 0 l) = m ((c : Thread nD τ).loc main_arg4) (ix1 l) := by
    unfold V
    after_reads_at
  refine Eq.trans ?_ hs
  unfold iblk
  rw [View.read_apply]
  refine congrArg (V (F := Ideal) m c main_v3) (at2 _ _ _ ?_ ?_)
  · show win0_3.index t 0 * 1 + 1 * 0 = 0
    rw [hi]; simp
  · show win0_3.index t 1 * 1024 + 1 * l.val = l.val
    rw [hi]; simp

/-- The norm's shift. -/
theorem block4 (t : Fin cfg0.N) (l : Fin 1024) : (iblk m c 4 t : Vec Ideal S1x1024 .f32) (ix2 0 l) = m ((c : Thread nD τ).loc main_arg5) (ix1 l) := by
  have hi := (index t).2.2.2.2.1
  have hs : V (F := Ideal) m c main_v4 (ix2 0 l) = m ((c : Thread nD τ).loc main_arg5) (ix1 l) := by
    unfold V
    after_reads_at
  refine Eq.trans ?_ hs
  unfold iblk
  rw [View.read_apply]
  refine congrArg (V (F := Ideal) m c main_v4) (at2 _ _ _ ?_ ?_)
  · show win0_4.index t 0 * 1 + 1 * 0 = 0
    rw [hi]; simp
  · show win0_4.index t 1 * 1024 + 1 * l.val = l.val
    rw [hi]; simp

/-- What a step of the grid leaves in its block of the result. -/
theorem after (t : Fin cfg0.N) (r : Fin 32) (d : Fin 1024) : ((dats m 0 c).after 5 t : Vec Ideal S32x1024 .bf16) (ix2 r d)
    = value (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (seqOf t r) 0 d := by
  rw [after0_5, left, block1]
  refine (finish_apply _ _ _ r d).trans ?_
  refine congrFun (congr (congr (congrArg activated (funext fun k => ?_)) (funext (block3 m c t))) (funext (block4 m c t))) d
  have hb : broadcastTo S32x1024 (shapeCast S1x1024 (iblk m c 2 t : Vec Ideal S1x1024 .f32) shapeCasts_S1x1024_S1x1024) broadcasts_S1x1024_S32x1024 (ix2 r k)
      = (iblk m c 2 t : Vec Ideal S1x1024 .f32) (ix2 0 k) := by
    generalize (iblk m c 2 t : Vec Ideal S1x1024 .f32) = y
    pointwise
  unfold mixed
  refine congrArg₂ (· + ·) ((taps_apply _ _ 31 r k).trans (Finset.sum_congr rfl fun w hw => ?_)) (hb.trans (block2 m c t k))
  have hw' : w < 31 := Finset.mem_range.mp hw
  refine congrArg₂ (· * ·) ?_ rfl
  unfold slab
  refine (dif_pos hw').trans ((block0 m c t ⟨w, hw'⟩ r k).trans ?_)
  exact congrArg (fun s => line (m ((c : Thread nD τ).loc main_arg0)) (m ((c : Thread nD τ).loc main_arg1)) (seqOf t r) s k) (Nat.zero_add w).symm

/-- Where a block lies in the result. -/
theorem emb (t : Fin cfg0.N) (r : Fin 32) (d : Fin 1024) : ((cfg0.win 5).blk t).view.emb (ix2 r d) = (ix2 (seqOf t r) d : S128x1024.Idx) := by
  have hi := (index t).2.2.2.2.2
  refine at2 _ _ _ ?_ ?_
  · show win0_5.index t 0 * 32 + 1 * r.val = 32 * t.val + r.val
    rw [hi]; simp; omega
  · show win0_5.index t 1 * 1024 + 1 * d.val = d.val
    rw [hi]; simp

/-- The array that the single step leaves. -/
theorem array : (dats m 0 c).arrAt 5 cfg0.N = fun y : S128x1024.Idx =>
    value (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (y 0) 0 (y 1) := by
  have ha := after m c
  generalize value (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) = G at ha ⊢
  refine (dats m 0 c).arrAt_eq_of_covers 5 _ (by decide +kernel) (fun t hf y => ?_)
  blk_simp
  have key (z : (⟨2, ![32, 1024]⟩ : Shape).Idx) (e : z = ix2 (z 0) (z 1)) : ((dats m 0 c).after 5 t : Vec Ideal S32x1024 .bf16) z
      = (fun w : S128x1024.Idx => G (w 0) 0 (w 1)) (((cfg0.win 5).blk t).view.emb z) := by
    rw [e]
    exact (ha t _ _).trans (congrArg (fun w : S128x1024.Idx => G (w 0) 0 (w 1)) (emb t (z 0) (z 1)).symm)
  exact key y (eq_ix2 y)

/-- The single step runs, leaves this array, and its arguments end unchanged. -/
theorem run (ρ : Dev nD → PrngReg) : θ_run defs (onTc (τ := τ) (main (F := Ideal))) ⟨m, fun _ => 0, ρ⟩ fun r => ∀ c : Dev nD,
    r.2.mem ((c : Thread nD τ).loc main_v5) = (dats m 0 c).arrAt 5 cfg0.N
    ∧ (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) := by
  refine (θ_run defs _ _).mono (fun r h c => ?_) (run_main m ρ)
  have kept (b : Ref sig .tc) (hb : b ∈ Pipeline.restRefs sig spec0) (hV : V (F := Ideal) m c b = m ((c : Thread nD τ).loc b)) :
      r.2.mem ((c : Thread nD τ).loc b) = m ((c : Thread nD τ).loc b) := ((h c).2 b hb).trans hV
  refine ⟨(h c).1 5, kept main_arg0 (Pipeline.mem_restRefs_of main_arg0 (by decide) (by decide)) (V_main_arg0 m c),
    kept main_arg1 (Pipeline.mem_restRefs_of main_arg1 (by decide) (by decide)) (V_main_arg1 m c),
    ((h c).1 1).trans (((dats m 0 c).arrAt_in 1 rfl _).trans ((A_eq m c 1).trans (V_main_arg2 m c))),
    kept main_arg3 (Pipeline.mem_restRefs_of main_arg3 (by decide) (by decide)) (V_main_arg3 m c),
    kept main_arg4 (Pipeline.mem_restRefs_of main_arg4 (by decide) (by decide)) (V_main_arg4 m c),
    kept main_arg5 (Pipeline.mem_restRefs_of main_arg5 (by decide) (by decide)) (V_main_arg5 m c)⟩

end Cert.StepIdeal.Array
end
-- ==== Proof.StepReference.lean ====
module

public import proofs.«01_k».proof.Proof.ConvSums
public import proofs.«01_k».proof.Proof.Gen.StepReferenceIdeal.Read
public import Idealize.ShloMosaic.Lib.Pipeline.ValueKit.Geometry

@[expose] public section
noncomputable section

/-!
The reference of the convolution's single step: the same function on 128 sequences of one place.
-/

namespace Cert.StepReferenceIdeal.Array

open Cert.StepReferenceIdeal Cert.StepReferenceIdeal.Gen Cert.StepReferenceIdeal.Read Idealize.ShloMosaic Cert.Rows Cert.Shared Cert.ConvRows Cert.ConvSums

variable (x0 : FVec Ideal S128x1x1024 .f32) (x1 : FVec Ideal S128x30x1024 .f32) (x2 : FVec Ideal S31x1024 .f32) (x3 x4 x5 : FVec Ideal S1024 .f32)

/-- The zero that the reference's sum begins with. -/
def start : FVec Ideal S128x1x1024 .f32 := broadcastInDim S128x1x1024 ![] bcast_S_S128x1x1024 (val_main_cst (F := Ideal))

/-- The reference's sum is the sum over all 31 taps. -/
theorem sum_eq : val_main_v218 (F := Ideal) x0 x1 x2 = sums start (shifted 1 (val_main_v0 (F := Ideal) x0 x1)) (spread 128 1 x2) 31 := by
  simp only [sums]
  iterate 31 refine congrArg₂ addf ?_ (congrArg₂ mulf (slice _ _ _) (spread_eq _ _ _ _ _ _))
  rfl

/-- The reference's convolution. -/
theorem conv (b : Fin 128) (t : Fin 1) (d : Fin 1024) : val_main_v221 (F := Ideal) x0 x1 x2 x3 (ix3 b t d) = mixed x0 x1 x2 x3 b t.val d := by
  rw [val_main_v221_apply, val_main_v220_apply, val_main_v219_apply, sum_eq]
  unfold mixed
  refine congrArg₂ (· + ·) ((sums_apply _ _ _ _ _ ((broadcastInDim_apply _ bcast_S_S128x1x1024 _ _ (fun a => a.elim0) (fun a => a.elim0)).trans zero_bits)).trans (Finset.sum_congr rfl fun w hw => ?_)) (congrArg x3 (at1 _ d rfl))
  have hw' : w < 31 := Finset.mem_range.mp hw
  refine congrArg₂ (· * ·) ?_ rfl
  unfold shifted
  refine (dif_pos (show w + t.val < 31 by omega)).trans ?_
  exact (lines x0 x1 concatenates_S128x30x1024_S128x1x1024_S128x31x1024_d1 rfl b ⟨w + t.val, by omega⟩ d).trans (congrArg (fun s => line x0 x1 b s d) (Nat.add_comm _ _))

/-- The mean of a row. -/
theorem means (b : Fin 128) (t : Fin 1) (d : Fin 1024) : val_main_v226 (F := Ideal) x0 x1 x2 x3 (ix3 b t d) = mean (mixed x0 x1 x2 x3 b t.val) := by
  rw [val_main_v226_apply, val_main_v225_apply, val_main_v223_apply, val_main_v222_apply, val_main_v224_apply, val_main_cst_0_apply, val_main_cst_1_apply]
  have h : ∀ k : Fin 1024, val_main_v221 (F := Ideal) x0 x1 x2 x3 (idx_main_v222 (idx_main_v223 (idx_main_v226 (ix3 b t d))) k) = mixed x0 x1 x2 x3 b t.val k := fun k =>
    (congrArg (val_main_v221 (F := Ideal) x0 x1 x2 x3) (at3 _ b t k rfl (Fin.val_eq_zero t).symm rfl)).trans (conv x0 x1 x2 x3 b t k)
  rw [Finset.sum_congr rfl fun k _ => h k]
  show Ideal.div (Ideal.ofBits .f32 0#32 + _) _ = _
  rw [zero_bits, zero_add]
  rfl

/-- A number of a row without the row's mean. -/
theorem centred (b : Fin 128) (t : Fin 1) (d : Fin 1024) :
    val_main_v227 (F := Ideal) x0 x1 x2 x3 (ix3 b t d) = mixed x0 x1 x2 x3 b t.val d - mean (mixed x0 x1 x2 x3 b t.val) := by
  rw [val_main_v227_apply, conv, means]
  rfl

/-- The reference's layer norm. -/
theorem normed (b : Fin 128) (t : Fin 1) (d : Fin 1024) : val_main_v243 (F := Ideal) x0 x1 x2 x3 x4 x5 (ix3 b t d)
    = layerNorm (mixed x0 x1 x2 x3 b t.val) (fun k => x4 (ix1 k)) (fun k => x5 (ix1 k)) d := by
  rw [val_main_v243_apply, val_main_v240_apply, val_main_v237_apply, val_main_v236_apply, val_main_v235_apply, val_main_v234_apply, val_main_v232_apply,
    val_main_v230_apply, val_main_v229_apply, val_main_v231_apply, val_main_v233_apply, val_main_v239_apply, val_main_v238_apply, val_main_v242_apply,
    val_main_v241_apply, val_main_cst_2_apply, val_main_cst_3_apply, val_main_cst_4_apply, centred]
  have h : ∀ k : Fin 1024, val_main_v228 (F := Ideal) x0 x1 x2 x3 (idx_main_v229 (idx_main_v230 (idx_main_v236 (ix3 b t d))) k)
      = (mixed x0 x1 x2 x3 b t.val k - mean (mixed x0 x1 x2 x3 b t.val)) * (mixed x0 x1 x2 x3 b t.val k - mean (mixed x0 x1 x2 x3 b t.val)) := fun k => by
    rw [show idx_main_v229 (idx_main_v230 (idx_main_v236 (ix3 b t d))) k = ix3 b t k from at3 _ b t k rfl (Fin.val_eq_zero t).symm rfl, val_main_v228_apply, centred]
    rfl
  rw [Finset.sum_congr rfl fun k _ => h k, show idx_main_v238 (idx_main_v239 (ix3 b t d)) = ix1 d from at1 _ d rfl,
    show idx_main_v241 (idx_main_v242 (ix3 b t d)) = ix1 d from at1 _ d rfl]
  show _ * Ideal.rsqrt (Ideal.div (Ideal.ofBits .f32 0#32 + _) _ + _) * _ + _ = _
  rw [zero_bits, zero_add]
  rfl

/-- The reference's result. -/
theorem array (b : Fin 128) (t : Fin 1) (d : Fin 1024) : val_main_v245 (F := Ideal) x0 x1 x2 x3 x4 x5 (ix3 b t d) = value x0 x1 x2 x3 x4 x5 b t d := by
  rw [val_main_v245_apply, val_main_v244_apply, val_main_call0_v5_apply, val_main_call0_v4_apply, val_main_call0_v3_apply,
    val_main_call0_v2_apply, val_main_call0_v1_apply, val_main_call0_v0_apply, val_main_call0_cst_apply, val_main_call0_cst_0_apply, normed]
  show _ * Ideal.div (Ideal.ofBits .f32 1065353216#32) (Ideal.ofBits .f32 1065353216#32 + _) = _
  rw [one_bits]
  rfl

/-- The reference's result without the time axis. -/
theorem result (b : Fin 128) (d : Fin 1024) : val_main_v246 (F := Ideal) x0 x1 x2 x3 x4 x5 (ix2 b d) = value x0 x1 x2 x3 x4 x5 b 0 d := by
  have hi : idx_main_v246 (ix2 b d) = ix3 b 0 d := at3 _ b 0 d (by show (b.val * 1024 + d.val) / 1024 = b.val; omega) rfl
    (by show (b.val * 1024 + d.val) % 1024 = d.val; omega)
  rw [val_main_v246_apply, hi]
  exact array x0 x1 x2 x3 x4 x5 b 0 d

end Cert.StepReferenceIdeal.Array
end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_router_finite
public import proofs.«01_k».proof.Proof.Gen.Pre_keys_finite
public import proofs.«01_k».proof.Proof.Gen.ReferenceIdeal.Run
public import proofs.«01_k».proof.Proof.Gen.ReferenceIdeal.Read
public import proofs.«01_k».proof.Proof.Gen.Glu.Frame
public import proofs.«01_k».proof.Proof.Gen.GluIdeal.Value
public import proofs.«01_k».proof.Proof.Gen.GluReferenceIdeal.Run
public import proofs.«01_k».proof.Proof.Gen.GluReferenceIdeal.Read
public import proofs.«01_k».proof.Proof.Gen.Hidden.Frame
public import proofs.«01_k».proof.Proof.Gen.HiddenIdeal.Value
public import proofs.«01_k».proof.Proof.Gen.HiddenReferenceIdeal.Run
public import proofs.«01_k».proof.Proof.Gen.HiddenReferenceIdeal.Read
public import proofs.«01_k».proof.Proof.Gen.Down.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.Embed.Frame
public import proofs.«01_k».proof.Proof.Gen.EmbedIdeal.Value
public import proofs.«01_k».proof.Proof.Gen.EmbedReferenceIdeal.Run
public import proofs.«01_k».proof.Proof.Gen.EmbedReferenceIdeal.Read
public import proofs.«01_k».proof.Proof.Gen.Values.Frame
public import proofs.«01_k».proof.Proof.Gen.ValuesIdeal.Value
public import proofs.«01_k».proof.Proof.Gen.ValuesReferenceIdeal.Run
public import proofs.«01_k».proof.Proof.Gen.ValuesReferenceIdeal.Read
public import proofs.«01_k».proof.Proof.Gen.Keys.Frame
public import proofs.«01_k».proof.Proof.Gen.KeysIdeal.Value
public import proofs.«01_k».proof.Proof.Gen.KeysReferenceIdeal.Run
public import proofs.«01_k».proof.Proof.Gen.KeysReferenceIdeal.Read
public import proofs.«01_k».proof.Proof.Gen.Queries.Frame
public import proofs.«01_k».proof.Proof.Gen.QueriesIdeal.Value
public import proofs.«01_k».proof.Proof.Gen.QueriesReferenceIdeal.Run
public import proofs.«01_k».proof.Proof.Gen.QueriesReferenceIdeal.Read
public import proofs.«01_k».proof.Proof.Gen.Back.Frame
public import proofs.«01_k».proof.Proof.Gen.BackIdeal.Value
public import proofs.«01_k».proof.Proof.Gen.BackReferenceIdeal.Run
public import proofs.«01_k».proof.Proof.Gen.BackReferenceIdeal.Read
public import proofs.«01_k».proof.Proof.Gen.Attn.Frame
public import proofs.«01_k».proof.Proof.Gen.AttnIdeal.Value
public import proofs.«01_k».proof.Proof.Gen.AttnReferenceIdeal.Run
public import proofs.«01_k».proof.Proof.Gen.AttnReferenceIdeal.Read
public import proofs.«01_k».proof.Proof.Gen.Pre_attn_finite
public import proofs.«01_k».proof.Proof.Gen.SampleGlu.Frame
public import proofs.«01_k».proof.Proof.Gen.SampleGluIdeal.Value
public import proofs.«01_k».proof.Proof.Gen.SampleGluReferenceIdeal.Run
public import proofs.«01_k».proof.Proof.Gen.SampleGluReferenceIdeal.Read
public import proofs.«01_k».proof.Proof.Gen.SampleEmbed.Frame
public import proofs.«01_k».proof.Proof.Gen.SampleEmbedIdeal.Value
public import proofs.«01_k».proof.Proof.Gen.SampleEmbedReferenceIdeal.Run
public import proofs.«01_k».proof.Proof.Gen.SampleEmbedReferenceIdeal.Read
public import proofs.«01_k».proof.Proof.Gen.SampleValues.Frame
public import proofs.«01_k».proof.Proof.Gen.SampleValuesIdeal.Value
public import proofs.«01_k».proof.Proof.Gen.SampleValuesReferenceIdeal.Run
public import proofs.«01_k».proof.Proof.Gen.SampleValuesReferenceIdeal.Read
public import proofs.«01_k».proof.Proof.Gen.SampleKeys.Frame
public import proofs.«01_k».proof.Proof.Gen.SampleKeysIdeal.Value
public import proofs.«01_k».proof.Proof.Gen.SampleKeysReferenceIdeal.Run
public import proofs.«01_k».proof.Proof.Gen.SampleKeysReferenceIdeal.Read
public import proofs.«01_k».proof.Proof.Gen.Pre_sample_keys_finite
public import proofs.«01_k».proof.Proof.Gen.Conv.Frame
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.Gen.Step.Frame
public import proofs.«01_k».proof.Proof.Gen.StepIdeal.Frame
public import proofs.«01_k».proof.Proof.Gen.StepReferenceIdeal.Run
public import proofs.«01_k».proof.Proof.Gen.StepReferenceIdeal.Read
public import Idealize.ShloMosaic.Adequacy
public import Idealize.ShloMosaic.Init
public import Idealize.ShloMosaic.Lib.Quiescent
public import proofs.«01_k».proof.Proof.Equation
public import proofs.«01_k».proof.Proof.Glu
public import proofs.«01_k».proof.Proof.Hidden
public import proofs.«01_k».proof.Proof.Down
public import proofs.«01_k».proof.Proof.Embed
public import proofs.«01_k».proof.Proof.Values
public import proofs.«01_k».proof.Proof.Keys
public import proofs.«01_k».proof.Proof.Queries
public import proofs.«01_k».proof.Proof.Back
public import proofs.«01_k».proof.Proof.AttnReference
public import proofs.«01_k».proof.Proof.SampleGlu
public import proofs.«01_k».proof.Proof.SampleEmbed
public import proofs.«01_k».proof.Proof.SampleValues
public import proofs.«01_k».proof.Proof.SampleKeys
public import proofs.«01_k».proof.Proof.Conv
public import proofs.«01_k».proof.Proof.ConvReference
public import proofs.«01_k».proof.Proof.Step
public import proofs.«01_k».proof.Proof.StepReference

@[expose] public section

noncomputable section

namespace Cert.Proof

open Idealize.ShloMosaic Idealize.SL.Sem

/-- The reference runs, its arguments end unchanged, and every counter ends at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre : quiescent_ReferenceIdeal_pre_router_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave the same result, where the norm's scale and the router's weights are finite. -/
theorem algebraic : algebraic_KernelIdeal_ReferenceIdeal_pre_router_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Read.val_main_v148_eq (StableHlo.launchContents m' c))).trans ?_
  obtain ⟨h0, h1, h2, h3, h4, h5⟩ := hagree c
  refine Eq.trans ?_ (Cert.Equation.result m c (hpre c)).symm
  unfold Cert.Equation.expected
  rw [← h0, ← h1, ← h2, ← h3, ← h4, ← h5]

/-- The reference of the gated unit runs, its arguments end unchanged, and every counter ends at zero. -/
theorem quiescent_GluReferenceIdeal : quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

/-- The kernel and the reference leave the same gated unit. -/
theorem algebraic_Glu : algebraic_GluIdeal_GluReferenceIdeal := by
  intro m ρ m' ρ' _ hagree
  refine ⟨_, Cert.GluIdeal.Value.run (F := Ideal) m ρ, ?_⟩
  refine (θ_run Cert.GluReferenceIdeal.defs _ _).mono (fun _ h c => ⟨?_, (h c).2⟩) (Cert.GluReferenceIdeal.Value.run (F := Ideal) m' ρ')
  refine ((h c).1.trans (Cert.GluReferenceIdeal.Read.val_main_v22_eq _ _ _)).trans (funext fun i => ?_)
  obtain ⟨h0, h1, h2⟩ := hagree c
  rw [eq_ix2 i]
  refine (Cert.GluReferenceIdeal.Array.array _ _ _ (i 0) (i 1)).trans (Eq.trans ?_ (Cert.GluIdeal.Array.array m c (i 0) (i 1)).symm)
  rw [← h0, ← h1, ← h2]

/-- The reference of the hidden units runs, its arguments end unchanged, and every counter ends at zero. -/
theorem quiescent_HiddenReferenceIdeal : quiescent_HiddenReferenceIdeal := fun m ρ _ =>
  (θ_run Cert.HiddenReferenceIdeal.defs _ _).mono (fun r h => ⟨fun c => (h c).2, sem_eq_zero_of_no_sems (by decide) r.2⟩)
    (Cert.HiddenReferenceIdeal.Value.run (F := Ideal) m ρ)

/-- The kernel and the reference leave the same hidden units. -/
theorem algebraic_Hidden : algebraic_HiddenIdeal_HiddenReferenceIdeal := by
  intro m ρ m' ρ' _ hagree
  refine ⟨_, Cert.HiddenIdeal.Value.run (F := Ideal) m ρ, ?_⟩
  refine (θ_run Cert.HiddenReferenceIdeal.defs _ _).mono (fun _ h c => ⟨?_, (h c).2⟩) (Cert.HiddenReferenceIdeal.Value.run (F := Ideal) m' ρ')
  refine ((h c).1.trans (Cert.HiddenReferenceIdeal.Read.val_main_v17_eq _ _ _ _)).trans (funext fun i => ?_)
  obtain ⟨h0, h1, h2, h3⟩ := hagree c
  rw [eq_ix2 i]
  refine (Cert.HiddenReferenceIdeal.Array.array _ _ _ _ (i 0) (i 1)).trans (Eq.trans ?_ (Cert.HiddenIdeal.Array.array m c (i 0) (i 1)).symm)
  rw [← h0, ← h1, ← h2, ← h3]

/-- The reference of the product back runs, its arguments end unchanged, and every counter ends at zero. -/
theorem quiescent_DownReferenceIdeal : quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The kernel and the reference leave the same product back. -/
theorem algebraic_Down : algebraic_DownIdeal_DownReferenceIdeal := by
  intro m ρ m' ρ' _ hagree
  refine ⟨_, Cert.DownIdeal.Value.run (F := Ideal) m ρ, ?_⟩
  refine (θ_run Cert.DownReferenceIdeal.defs _ _).mono (fun _ h c => ⟨?_, (h c).2⟩) (Cert.DownReferenceIdeal.Value.run (F := Ideal) m' ρ')
  refine ((h c).1.trans (Cert.DownReferenceIdeal.Read.val_main_v2_eq _ _ _)).trans (funext fun i => ?_)
  obtain ⟨h0, h1, h2⟩ := hagree c
  rw [eq_ix2 i]
  refine (Cert.DownReferenceIdeal.Array.array _ _ _ (i 0) (i 1)).trans (Eq.trans ?_ (Cert.DownIdeal.Array.array m c (i 0) (i 1)).symm)
  rw [← h0, ← h1, ← h2]

/-- The reference of the gated embedding runs, its arguments end unchanged, and every counter ends at zero. -/
theorem quiescent_EmbedReferenceIdeal : quiescent_EmbedReferenceIdeal := fun m ρ _ =>
  (θ_run Cert.EmbedReferenceIdeal.defs _ _).mono (fun r h => ⟨fun c => (h c).2, sem_eq_zero_of_no_sems (by decide) r.2⟩)
    (Cert.EmbedReferenceIdeal.Value.run (F := Ideal) m ρ)

/-- The kernel and the reference leave the same gated embedding. -/
theorem algebraic_Embed : algebraic_EmbedIdeal_EmbedReferenceIdeal := by
  intro m ρ m' ρ' _ hagree
  refine ⟨_, Cert.EmbedIdeal.Value.run (F := Ideal) m ρ, ?_⟩
  refine (θ_run Cert.EmbedReferenceIdeal.defs _ _).mono (fun _ h c => ⟨?_, (h c).2⟩) (Cert.EmbedReferenceIdeal.Value.run (F := Ideal) m' ρ')
  refine ((h c).1.trans (Cert.EmbedReferenceIdeal.Read.val_main_v22_eq _ _ _ _ _)).trans (funext fun i => ?_)
  obtain ⟨h0, h1, h2, h3, h4⟩ := hagree c
  rw [eq_ix2 i]
  refine (Cert.EmbedReferenceIdeal.Array.array _ _ _ _ _ (i 0) (i 1)).trans (Eq.trans ?_ (Cert.EmbedIdeal.Array.array m c (i 0) (i 1)).symm)
  rw [← h0, ← h1, ← h2, ← h3, ← h4]

/-- The reference of the values runs, its arguments end unchanged, and every counter ends at zero. -/
theorem quiescent_ValuesReferenceIdeal : quiescent_ValuesReferenceIdeal := fun m ρ _ =>
  (θ_run Cert.ValuesReferenceIdeal.defs _ _).mono (fun r h => ⟨fun c => (h c).2, sem_eq_zero_of_no_sems (by decide) r.2⟩)
    (Cert.ValuesReferenceIdeal.Value.run (F := Ideal) m ρ)

/-- The kernel and the reference leave the same values. -/
theorem algebraic_Values : algebraic_ValuesIdeal_ValuesReferenceIdeal := by
  intro m ρ m' ρ' _ hagree
  refine ⟨_, Cert.ValuesIdeal.Value.run (F := Ideal) m ρ, ?_⟩
  refine (θ_run Cert.ValuesReferenceIdeal.defs _ _).mono (fun _ h c => ⟨?_, (h c).2⟩) (Cert.ValuesReferenceIdeal.Value.run (F := Ideal) m' ρ')
  refine ((h c).1.trans (Cert.ValuesReferenceIdeal.Read.val_main_v13_eq _ _ _)).trans (funext fun i => ?_)
  obtain ⟨h0, h1, h2⟩ := hagree c
  rw [eq_ix2 i]
  refine (Cert.ValuesReferenceIdeal.Array.array _ _ _ (i 0) (i 1)).trans (Eq.trans ?_ (Cert.ValuesIdeal.Array.array m c (i 0) (i 1)).symm)
  rw [← h0, ← h1, ← h2]

/-- The reference of the keys runs, its arguments end unchanged, and every counter ends at zero. -/
theorem quiescent_KeysReferenceIdeal : quiescent_KeysReferenceIdeal := fun m ρ _ =>
  (θ_run Cert.KeysReferenceIdeal.defs _ _).mono (fun r h => ⟨fun c => (h c).2, sem_eq_zero_of_no_sems (by decide) r.2⟩)
    (Cert.KeysReferenceIdeal.Value.run (F := Ideal) m ρ)

/-- The same under the precondition. -/
theorem quiescent_KeysReferenceIdeal_pre : quiescent_KeysReferenceIdeal_pre_keys_finite := fun m ρ _ =>
  (θ_run Cert.KeysReferenceIdeal.defs _ _).mono (fun r h => ⟨fun c => (h c).2, sem_eq_zero_of_no_sems (by decide) r.2⟩)
    (Cert.KeysReferenceIdeal.Value.run (F := Ideal) m ρ)

/-- The kernel and the reference leave the same keys, where the norm's scale and the weights are finite. -/
theorem algebraic_Keys : algebraic_KeysIdeal_KeysReferenceIdeal_pre_keys_finite := by
  intro m ρ m' ρ' hpre hagree
  refine ⟨_, Cert.KeysIdeal.Value.run (F := Ideal) m ρ, ?_⟩
  refine (θ_run Cert.KeysReferenceIdeal.defs _ _).mono (fun _ h c => ⟨?_, (h c).2⟩) (Cert.KeysReferenceIdeal.Value.run (F := Ideal) m' ρ')
  refine ((h c).1.trans (Cert.KeysReferenceIdeal.Read.val_main_v28_eq _ _ _ _)).trans (funext fun i => ?_)
  obtain ⟨h0, h1, h2, h3⟩ := hagree c
  rw [eq_ix2 i]
  refine (Cert.KeysReferenceIdeal.Array.array _ _ _ _ (i 0) (i 1)).trans (Eq.trans ?_ (Cert.KeysIdeal.Array.array m c (fun k => Cert.KeysFinite.scale_real _ _ _ _ (hpre c) k) (fun k l => Cert.KeysFinite.weights_real _ _ _ _ (hpre c) k l) (i 0) (i 1)).symm)
  rw [← h0, ← h1, ← h2, ← h3]

/-- The reference of the queries runs, its arguments end unchanged, and every counter ends at zero. -/
theorem quiescent_QueriesReferenceIdeal : quiescent_QueriesReferenceIdeal := fun m ρ _ =>
  (θ_run Cert.QueriesReferenceIdeal.defs _ _).mono (fun r h => ⟨fun c => (h c).2, sem_eq_zero_of_no_sems (by decide) r.2⟩)
    (Cert.QueriesReferenceIdeal.Value.run (F := Ideal) m ρ)

/-- The same under the precondition. -/
theorem quiescent_QueriesReferenceIdeal_pre : quiescent_QueriesReferenceIdeal_pre_keys_finite := fun m ρ _ =>
  (θ_run Cert.QueriesReferenceIdeal.defs _ _).mono (fun r h => ⟨fun c => (h c).2, sem_eq_zero_of_no_sems (by decide) r.2⟩)
    (Cert.QueriesReferenceIdeal.Value.run (F := Ideal) m ρ)

/-- The kernel and the reference leave the same queries, where the norm's scale and the weights are finite. -/
theorem algebraic_Queries : algebraic_QueriesIdeal_QueriesReferenceIdeal_pre_keys_finite := by
  intro m ρ m' ρ' hpre hagree
  refine ⟨_, Cert.QueriesIdeal.Value.run (F := Ideal) m ρ, ?_⟩
  refine (θ_run Cert.QueriesReferenceIdeal.defs _ _).mono (fun _ h c => ⟨?_, (h c).2⟩) (Cert.QueriesReferenceIdeal.Value.run (F := Ideal) m' ρ')
  refine ((h c).1.trans (Cert.QueriesReferenceIdeal.Read.val_main_v29_eq _ _ _ _)).trans (funext fun i => ?_)
  obtain ⟨h0, h1, h2, h3⟩ := hagree c
  rw [eq_ix2 i]
  refine (Cert.QueriesReferenceIdeal.Array.array _ _ _ _ (i 0) (i 1)).trans (Eq.trans ?_ (Cert.QueriesIdeal.Array.array m c (fun k => Cert.KeysFinite.scale_real _ _ _ _ (hpre c) k) (fun k l => Cert.KeysFinite.weights_real _ _ _ _ (hpre c) k l) (i 0) (i 1)).symm)
  rw [← h0, ← h1, ← h2, ← h3]

/-- The reference of the second product back runs, its arguments end unchanged, and every counter ends at zero. -/
theorem quiescent_BackReferenceIdeal : quiescent_BackReferenceIdeal := fun m ρ _ =>
  (θ_run Cert.BackReferenceIdeal.defs _ _).mono (fun r h => ⟨fun c => (h c).2, sem_eq_zero_of_no_sems (by decide) r.2⟩)
    (Cert.BackReferenceIdeal.Value.run (F := Ideal) m ρ)

/-- The kernel and the reference leave the same second product back. -/
theorem algebraic_Back : algebraic_BackIdeal_BackReferenceIdeal := by
  intro m ρ m' ρ' _ hagree
  refine ⟨_, Cert.BackIdeal.Value.run (F := Ideal) m ρ, ?_⟩
  refine (θ_run Cert.BackReferenceIdeal.defs _ _).mono (fun _ h c => ⟨?_, (h c).2⟩) (Cert.BackReferenceIdeal.Value.run (F := Ideal) m' ρ')
  refine ((h c).1.trans (Cert.BackReferenceIdeal.Read.val_main_v2_eq _ _ _)).trans (funext fun i => ?_)
  obtain ⟨h0, h1, h2⟩ := hagree c
  rw [eq_ix2 i]
  refine (Cert.BackReferenceIdeal.Array.array _ _ _ (i 0) (i 1)).trans (Eq.trans ?_ (Cert.BackIdeal.Array.array m c (i 0) (i 1)).symm)
  rw [← h0, ← h1, ← h2]

/-- The reference of the attention runs, its arguments end unchanged, and every counter ends at zero. -/
theorem quiescent_AttnReferenceIdeal : quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

/-- The same under the precondition. -/
theorem quiescent_AttnReferenceIdeal_pre : quiescent_AttnReferenceIdeal_pre_attn_finite := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

/-- The kernel and the reference leave the same attention, where the queries, the keys and the biases are finite. -/
theorem algebraic_Attn : algebraic_AttnIdeal_AttnReferenceIdeal_pre_attn_finite := by
  intro m ρ m' ρ' hpre hagree
  refine ⟨_, Cert.AttnIdeal.Value.run_blocks (F := Ideal) m ρ, ?_⟩
  refine (θ_run Cert.AttnReferenceIdeal.defs _ _).mono (fun _ h c => ⟨?_, (h c).2⟩) (Cert.AttnReferenceIdeal.Value.run (F := Ideal) m' ρ')
  have hR := Cert.AttnFinite.finite _ _ _ _ (hpre c)
  refine ((h c).1.trans (Cert.AttnReferenceIdeal.Read.val_main_v23_eq _ _)).trans (Eq.trans (funext fun i => ?_) (Cert.AttnIdeal.Array.array m c hR).symm)
  obtain ⟨h0, h1, h2, h3⟩ := hagree c
  rw [h0, h1, h2, h3]
  refine (congrArg _ (Cert.AttnIdeal.Array.at4 i (i 0) (i 1) (i 2) (i 3) rfl rfl rfl rfl)).trans ?_
  exact Cert.AttnReferenceIdeal.Array.array _ _ _ _ hR (i 0) (i 1) (i 2) (i 3)

/-- The reference of the gated unit of the sample tokens runs, its arguments end unchanged, and every counter ends at zero. -/
theorem quiescent_SampleGluReferenceIdeal : quiescent_SampleGluReferenceIdeal := fun m ρ _ =>
  (θ_run Cert.SampleGluReferenceIdeal.defs _ _).mono (fun r h => ⟨fun c => (h c).2, sem_eq_zero_of_no_sems (by decide) r.2⟩)
    (Cert.SampleGluReferenceIdeal.Value.run (F := Ideal) m ρ)

/-- The kernel and the reference leave the same gated unit of the sample tokens. -/
theorem algebraic_SampleGlu : algebraic_SampleGluIdeal_SampleGluReferenceIdeal := by
  intro m ρ m' ρ' _ hagree
  refine ⟨_, Cert.SampleGluIdeal.Value.run (F := Ideal) m ρ, ?_⟩
  refine (θ_run Cert.SampleGluReferenceIdeal.defs _ _).mono (fun _ h c => ⟨?_, (h c).2⟩) (Cert.SampleGluReferenceIdeal.Value.run (F := Ideal) m' ρ')
  refine ((h c).1.trans (Cert.SampleGluReferenceIdeal.Read.val_main_v22_eq _ _ _)).trans (funext fun i => ?_)
  obtain ⟨h0, h1, h2⟩ := hagree c
  rw [eq_ix2 i]
  refine (Cert.SampleGluReferenceIdeal.Array.array _ _ _ (i 0) (i 1)).trans (Eq.trans ?_ (Cert.SampleGluIdeal.Array.array m c (i 0) (i 1)).symm)
  rw [← h0, ← h1, ← h2]

/-- The reference of the gated embedding of the sample tokens runs, its arguments end unchanged, and every counter ends at zero. -/
theorem quiescent_SampleEmbedReferenceIdeal : quiescent_SampleEmbedReferenceIdeal := fun m ρ _ =>
  (θ_run Cert.SampleEmbedReferenceIdeal.defs _ _).mono (fun r h => ⟨fun c => (h c).2, sem_eq_zero_of_no_sems (by decide) r.2⟩)
    (Cert.SampleEmbedReferenceIdeal.Value.run (F := Ideal) m ρ)

/-- The kernel and the reference leave the same gated embedding of the sample tokens. -/
theorem algebraic_SampleEmbed : algebraic_SampleEmbedIdeal_SampleEmbedReferenceIdeal := by
  intro m ρ m' ρ' _ hagree
  refine ⟨_, Cert.SampleEmbedIdeal.Value.run (F := Ideal) m ρ, ?_⟩
  refine (θ_run Cert.SampleEmbedReferenceIdeal.defs _ _).mono (fun _ h c => ⟨?_, (h c).2⟩) (Cert.SampleEmbedReferenceIdeal.Value.run (F := Ideal) m' ρ')
  refine ((h c).1.trans (Cert.SampleEmbedReferenceIdeal.Read.val_main_v22_eq _ _ _ _ _)).trans (funext fun i => ?_)
  obtain ⟨h0, h1, h2, h3, h4⟩ := hagree c
  rw [eq_ix2 i]
  refine (Cert.SampleEmbedReferenceIdeal.Array.array _ _ _ _ _ (i 0) (i 1)).trans (Eq.trans ?_ (Cert.SampleEmbedIdeal.Array.array m c (i 0) (i 1)).symm)
  rw [← h0, ← h1, ← h2, ← h3, ← h4]

/-- The reference of the values of the sample tokens runs, its arguments end unchanged, and every counter ends at zero. -/
theorem quiescent_SampleValuesReferenceIdeal : quiescent_SampleValuesReferenceIdeal := fun m ρ _ =>
  (θ_run Cert.SampleValuesReferenceIdeal.defs _ _).mono (fun r h => ⟨fun c => (h c).2, sem_eq_zero_of_no_sems (by decide) r.2⟩)
    (Cert.SampleValuesReferenceIdeal.Value.run (F := Ideal) m ρ)

/-- The kernel and the reference leave the same values of the sample tokens. -/
theorem algebraic_SampleValues : algebraic_SampleValuesIdeal_SampleValuesReferenceIdeal := by
  intro m ρ m' ρ' _ hagree
  refine ⟨_, Cert.SampleValuesIdeal.Value.run (F := Ideal) m ρ, ?_⟩
  refine (θ_run Cert.SampleValuesReferenceIdeal.defs _ _).mono (fun _ h c => ⟨?_, (h c).2⟩) (Cert.SampleValuesReferenceIdeal.Value.run (F := Ideal) m' ρ')
  refine ((h c).1.trans (Cert.SampleValuesReferenceIdeal.Read.val_main_v13_eq _ _ _)).trans (funext fun i => ?_)
  obtain ⟨h0, h1, h2⟩ := hagree c
  rw [eq_ix2 i]
  refine (Cert.SampleValuesReferenceIdeal.Array.array _ _ (i 0) _ (i 1)).trans (Eq.trans ?_ (Cert.SampleValuesIdeal.Array.array m c (i 0) (i 1)).symm)
  rw [← h0, ← h1, ← h2]

/-- The reference of the keys of the sample tokens runs, its arguments end unchanged, and every counter ends at zero. -/
theorem quiescent_SampleKeysReferenceIdeal : quiescent_SampleKeysReferenceIdeal := fun m ρ _ =>
  (θ_run Cert.SampleKeysReferenceIdeal.defs _ _).mono (fun r h => ⟨fun c => (h c).2, sem_eq_zero_of_no_sems (by decide) r.2⟩)
    (Cert.SampleKeysReferenceIdeal.Value.run (F := Ideal) m ρ)

/-- The same under the precondition. -/
theorem quiescent_SampleKeysReferenceIdeal_pre : quiescent_SampleKeysReferenceIdeal_pre_sample_keys_finite := fun m ρ _ =>
  (θ_run Cert.SampleKeysReferenceIdeal.defs _ _).mono (fun r h => ⟨fun c => (h c).2, sem_eq_zero_of_no_sems (by decide) r.2⟩)
    (Cert.SampleKeysReferenceIdeal.Value.run (F := Ideal) m ρ)

/-- The kernel and the reference leave the same keys of the sample tokens, where the norm's scale and the weights are finite. -/
theorem algebraic_SampleKeys : algebraic_SampleKeysIdeal_SampleKeysReferenceIdeal_pre_sample_keys_finite := by
  intro m ρ m' ρ' hpre hagree
  refine ⟨_, Cert.SampleKeysIdeal.Value.run (F := Ideal) m ρ, ?_⟩
  refine (θ_run Cert.SampleKeysReferenceIdeal.defs _ _).mono (fun _ h c => ⟨?_, (h c).2⟩) (Cert.SampleKeysReferenceIdeal.Value.run (F := Ideal) m' ρ')
  refine ((h c).1.trans (Cert.SampleKeysReferenceIdeal.Read.val_main_v28_eq _ _ _ _)).trans (funext fun i => ?_)
  obtain ⟨h0, h1, h2, h3⟩ := hagree c
  rw [eq_ix2 i]
  refine (Cert.SampleKeysReferenceIdeal.Array.array _ _ _ _ (i 0) (i 1)).trans (Eq.trans ?_ (Cert.SampleKeysIdeal.Array.array m c (fun k => Cert.SampleKeysFinite.scale_real _ _ _ _ (hpre c) k) (fun k l => Cert.SampleKeysFinite.weights_real _ _ _ _ (hpre c) k l) (i 0) (i 1)).symm)
  rw [← h0, ← h1, ← h2, ← h3]

/-- The reference of the depthwise convolution runs, its arguments end unchanged, and every counter ends at zero. -/
theorem quiescent_ConvReferenceIdeal : quiescent_ConvReferenceIdeal := fun m ρ _ =>
  (θ_run Cert.ConvReferenceIdeal.defs _ _).mono (fun r h => ⟨fun c => (h c).2, sem_eq_zero_of_no_sems (by decide) r.2⟩)
    (Cert.ConvReferenceIdeal.Value.run (F := Ideal) m ρ)

/-- The kernel and the reference leave the same convolution. -/
theorem algebraic_Conv : algebraic_ConvIdeal_ConvReferenceIdeal := by
  intro m ρ m' ρ' _ hagree
  refine ⟨_, Cert.ConvIdeal.Value.run_blocks (F := Ideal) m ρ, ?_⟩
  refine (θ_run Cert.ConvReferenceIdeal.defs _ _).mono (fun _ h c => ⟨?_, (h c).2⟩) (Cert.ConvReferenceIdeal.Value.run (F := Ideal) m' ρ')
  refine ((h c).1.trans (Cert.ConvReferenceIdeal.Read.val_main_v245_eq _)).trans (Eq.trans (funext fun i => ?_) (Cert.ConvIdeal.Array.array m c).symm)
  obtain ⟨h0, h1, h2, h3, h4, h5⟩ := hagree c
  refine (congrArg _ (Cert.ConvRows.at3 i (i 0) (i 1) (i 2) rfl rfl rfl)).trans ?_
  refine (Cert.ConvReferenceIdeal.Array.array _ _ _ _ _ _ (i 0) (i 1) (i 2)).trans ?_
  rw [← h0, ← h1, ← h2, ← h3, ← h4, ← h5]

/-- The reference of the single step runs, its arguments end unchanged, and every counter ends at zero. -/
theorem quiescent_StepReferenceIdeal : quiescent_StepReferenceIdeal := fun m ρ _ =>
  (θ_run Cert.StepReferenceIdeal.defs _ _).mono (fun r h => ⟨fun c => (h c).2, sem_eq_zero_of_no_sems (by decide) r.2⟩)
    (Cert.StepReferenceIdeal.Value.run (F := Ideal) m ρ)

/-- The kernel and the reference leave the same single step of the convolution. -/
theorem algebraic_Step : algebraic_StepIdeal_StepReferenceIdeal := by
  intro m ρ m' ρ' _ hagree
  refine ⟨_, Cert.StepIdeal.Array.run m ρ, ?_⟩
  refine (θ_run Cert.StepReferenceIdeal.defs _ _).mono (fun _ h c => ⟨?_, (h c).2⟩) (Cert.StepReferenceIdeal.Value.run (F := Ideal) m' ρ')
  refine ((h c).1.trans (Cert.StepReferenceIdeal.Read.val_main_v246_eq _)).trans (Eq.trans (funext fun i => ?_) (Cert.StepIdeal.Array.array m c).symm)
  obtain ⟨h0, h1, h2, h3, h4, h5⟩ := hagree c
  refine (congrArg _ (eq_ix2 i)).trans ?_
  refine (Cert.StepReferenceIdeal.Array.result _ _ _ _ _ _ (i 0) (i 1)).trans ?_
  rw [← h0, ← h1, ← h2, ← h3, ← h4, ← h5]

/-- All the claims. -/
theorem claim : Cert.Claim := ⟨
  Cert.Kernel.Gen.facts, Cert.KernelIdeal.Gen.facts, Cert.ReferenceIdeal.Gen.facts, Cert.Glu.Gen.facts, Cert.GluIdeal.Gen.facts,
  Cert.GluReferenceIdeal.Gen.facts, Cert.Hidden.Gen.facts, Cert.HiddenIdeal.Gen.facts, Cert.HiddenReferenceIdeal.Gen.facts, Cert.Down.Gen.facts,
  Cert.DownIdeal.Gen.facts, Cert.DownReferenceIdeal.Gen.facts, Cert.Embed.Gen.facts, Cert.EmbedIdeal.Gen.facts, Cert.EmbedReferenceIdeal.Gen.facts,
  Cert.Values.Gen.facts, Cert.ValuesIdeal.Gen.facts, Cert.ValuesReferenceIdeal.Gen.facts, Cert.Keys.Gen.facts, Cert.KeysIdeal.Gen.facts,
  Cert.KeysReferenceIdeal.Gen.facts, Cert.Queries.Gen.facts, Cert.QueriesIdeal.Gen.facts, Cert.QueriesReferenceIdeal.Gen.facts,
  Cert.Back.Gen.facts, Cert.BackIdeal.Gen.facts, Cert.BackReferenceIdeal.Gen.facts,
  Cert.Attn.Gen.facts, Cert.AttnIdeal.Gen.facts, Cert.AttnReferenceIdeal.Gen.facts,
  Cert.SampleGlu.Gen.facts, Cert.SampleGluIdeal.Gen.facts, Cert.SampleGluReferenceIdeal.Gen.facts,
  Cert.SampleEmbed.Gen.facts, Cert.SampleEmbedIdeal.Gen.facts, Cert.SampleEmbedReferenceIdeal.Gen.facts,
  Cert.SampleValues.Gen.facts, Cert.SampleValuesIdeal.Gen.facts, Cert.SampleValuesReferenceIdeal.Gen.facts,
  Cert.SampleKeys.Gen.facts, Cert.SampleKeysIdeal.Gen.facts, Cert.SampleKeysReferenceIdeal.Gen.facts,
  Cert.Conv.Gen.facts, Cert.ConvIdeal.Gen.facts, Cert.ConvReferenceIdeal.Gen.facts,
  Cert.Step.Gen.facts, Cert.StepIdeal.Gen.facts, Cert.StepReferenceIdeal.Gen.facts,
  Cert.Pre_router_finite.Gen.facts, Cert.Pre_keys_finite.Gen.facts, Cert.Pre_attn_finite.Gen.facts,
  Cert.Pre_sample_keys_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre,
  fun m ρ _ => Cert.Glu.Gen.frame m ρ, fun m ρ _ => Cert.GluIdeal.Gen.frame m ρ, quiescent_GluReferenceIdeal,
  fun m ρ _ => Cert.Hidden.Gen.frame m ρ, fun m ρ _ => Cert.HiddenIdeal.Gen.frame m ρ, quiescent_HiddenReferenceIdeal,
  fun m ρ _ => Cert.Down.Gen.frame m ρ, fun m ρ _ => Cert.DownIdeal.Gen.frame m ρ, quiescent_DownReferenceIdeal,
  fun m ρ _ => Cert.Embed.Gen.frame m ρ, fun m ρ _ => Cert.EmbedIdeal.Gen.frame m ρ, quiescent_EmbedReferenceIdeal,
  fun m ρ _ => Cert.Values.Gen.frame m ρ, fun m ρ _ => Cert.ValuesIdeal.Gen.frame m ρ, quiescent_ValuesReferenceIdeal,
  fun m ρ _ => Cert.Keys.Gen.frame m ρ, fun m ρ _ => Cert.KeysIdeal.Gen.frame m ρ, fun m ρ _ => Cert.KeysIdeal.Gen.frame m ρ,
  quiescent_KeysReferenceIdeal, quiescent_KeysReferenceIdeal_pre,
  fun m ρ _ => Cert.Queries.Gen.frame m ρ, fun m ρ _ => Cert.QueriesIdeal.Gen.frame m ρ, fun m ρ _ => Cert.QueriesIdeal.Gen.frame m ρ,
  quiescent_QueriesReferenceIdeal, quiescent_QueriesReferenceIdeal_pre,
  fun m ρ _ => Cert.Back.Gen.frame m ρ, fun m ρ _ => Cert.BackIdeal.Gen.frame m ρ, quiescent_BackReferenceIdeal,
  fun m ρ _ => Cert.Attn.Gen.frame m ρ, fun m ρ _ => Cert.AttnIdeal.Gen.frame m ρ, fun m ρ _ => Cert.AttnIdeal.Gen.frame m ρ,
  quiescent_AttnReferenceIdeal, quiescent_AttnReferenceIdeal_pre,
  fun m ρ _ => Cert.SampleGlu.Gen.frame m ρ, fun m ρ _ => Cert.SampleGluIdeal.Gen.frame m ρ, quiescent_SampleGluReferenceIdeal,
  fun m ρ _ => Cert.SampleEmbed.Gen.frame m ρ, fun m ρ _ => Cert.SampleEmbedIdeal.Gen.frame m ρ, quiescent_SampleEmbedReferenceIdeal,
  fun m ρ _ => Cert.SampleValues.Gen.frame m ρ, fun m ρ _ => Cert.SampleValuesIdeal.Gen.frame m ρ, quiescent_SampleValuesReferenceIdeal,
  fun m ρ _ => Cert.SampleKeys.Gen.frame m ρ, fun m ρ _ => Cert.SampleKeysIdeal.Gen.frame m ρ,
  fun m ρ _ => Cert.SampleKeysIdeal.Gen.frame m ρ, quiescent_SampleKeysReferenceIdeal,
  quiescent_SampleKeysReferenceIdeal_pre,
  fun m ρ _ => Cert.Conv.Gen.frame m ρ, fun m ρ _ => Cert.ConvIdeal.Gen.frame m ρ, quiescent_ConvReferenceIdeal,
  fun m ρ _ => Cert.Step.Gen.frame m ρ, fun m ρ _ => Cert.StepIdeal.Gen.frame m ρ, quiescent_StepReferenceIdeal,
  (trivial : preserves_Kernel_KernelIdeal), algebraic,
  (trivial : preserves_Glu_GluIdeal), algebraic_Glu,
  (trivial : preserves_Hidden_HiddenIdeal), algebraic_Hidden,
  (trivial : preserves_Down_DownIdeal), algebraic_Down,
  (trivial : preserves_Embed_EmbedIdeal), algebraic_Embed,
  (trivial : preserves_Values_ValuesIdeal), algebraic_Values,
  (trivial : preserves_Keys_KeysIdeal), algebraic_Keys,
  (trivial : preserves_Queries_QueriesIdeal), algebraic_Queries,
  (trivial : preserves_Back_BackIdeal), algebraic_Back,
  (trivial : preserves_Attn_AttnIdeal), algebraic_Attn,
  (trivial : preserves_SampleGlu_SampleGluIdeal), algebraic_SampleGlu,
  (trivial : preserves_SampleEmbed_SampleEmbedIdeal), algebraic_SampleEmbed,
  (trivial : preserves_SampleValues_SampleValuesIdeal), algebraic_SampleValues,
  (trivial : preserves_SampleKeys_SampleKeysIdeal), algebraic_SampleKeys,
  (trivial : preserves_Conv_ConvIdeal), algebraic_Conv,
  (trivial : preserves_Step_StepIdeal), algebraic_Step⟩

end Cert.Proof

end
